-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradIdeal_gate_finite [hPre_gate_finite : Cert.Pre_gate_finite.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2))) = (fun _ => 1#1)

def Pre_GateGradRefIdeal (m : (ℓ : Loc Cert.GateGradRefIdeal.nD Cert.GateGradRefIdeal.τ Cert.GateGradRefIdeal.sig) → Buf (Elt Ideal) ℓ) : Prop :=
  True

def Pre_GateGradRefIdeal_gate_finite [hPre_gate_finite : Cert.Pre_gate_finite.Facts] (m : (ℓ : Loc Cert.GateGradRefIdeal.nD Cert.GateGradRefIdeal.τ Cert.GateGradRefIdeal.sig) → Buf (Elt Ideal) ℓ) : Prop :=
  ∀ c : Dev Cert.GateGradRefIdeal.nD,
    (Cert.Pre_gate_finite.fn (F := Ideal) (m ((c.tc : Thread Cert.GateGradRefIdeal.nD Cert.GateGradRefIdeal.τ).loc Cert.GateGradRefIdeal.main_arg0)) (m ((c.tc : Thread Cert.GateGradRefIdeal.nD Cert.GateGradRefIdeal.τ).loc Cert.GateGradRefIdeal.main_arg1)) (m ((c.tc : Thread Cert.GateGradRefIdeal.nD Cert.GateGradRefIdeal.τ).loc Cert.GateGradRefIdeal.main_arg2))) = (fun _ => 1#1)

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_norm_finite [hPre_norm_finite : Cert.Pre_norm_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_norm_finite [hPre_norm_finite : Cert.Pre_norm_finite.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_norm_finite.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2)) (m ((c.tc : Thread Cert.NormGradRefIdeal.nD Cert.NormGradRefIdeal.τ).loc Cert.NormGradRefIdeal.main_arg3)) (m ((c.tc : Thread Cert.NormGradRefIdeal.nD Cert.NormGradRefIdeal.τ).loc Cert.NormGradRefIdeal.main_arg4))) = (fun _ => 1#1)

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_UpConv (m : (ℓ : Loc Cert.UpConv.nD Cert.UpConv.τ Cert.UpConv.sig) → Buf (Elt Bits) ℓ) : Prop :=
  True

def Pre_UpConvIdeal (m : (ℓ : Loc Cert.UpConvIdeal.nD Cert.UpConvIdeal.τ Cert.UpConvIdeal.sig) → Buf (Elt Ideal) ℓ) : Prop :=
  True

def Pre_UpConvRefIdeal (m : (ℓ : Loc Cert.UpConvRefIdeal.nD Cert.UpConvRefIdeal.τ Cert.UpConvRefIdeal.sig) → Buf (Elt Ideal) ℓ) : Prop :=
  True

def Pre_QueryGrad (m : (ℓ : Loc Cert.QueryGrad.nD Cert.QueryGrad.τ Cert.QueryGrad.sig) → Buf (Elt Bits) ℓ) : Prop :=
  True

def Pre_QueryGradIdeal (m : (ℓ : Loc Cert.QueryGradIdeal.nD Cert.QueryGradIdeal.τ Cert.QueryGradIdeal.sig) → Buf (Elt Ideal) ℓ) : Prop :=
  True

def Pre_QueryGradRefIdeal (m : (ℓ : Loc Cert.QueryGradRefIdeal.nD Cert.QueryGradRefIdeal.τ Cert.QueryGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_KvGradRefIdeal (m : (ℓ : Loc Cert.KvGradRefIdeal.nD Cert.KvGradRefIdeal.τ Cert.KvGradRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormIdeal_mix_norm_finite [hPre_mix_norm_finite : Cert.Pre_mix_norm_finite.Facts] (m : (ℓ : Loc Cert.MixNormIdeal.nD Cert.MixNormIdeal.τ Cert.MixNormIdeal.sig) → Buf (Elt Ideal) ℓ) : Prop :=
  ∀ c : Dev Cert.MixNormIdeal.nD,
    (Cert.Pre_mix_norm_finite.fn (F := Ideal) (m ((c.tc : Thread Cert.MixNormIdeal.nD Cert.MixNormIdeal.τ).loc Cert.MixNormIdeal.main_arg0)) (m ((c.tc : Thread Cert.MixNormIdeal.nD Cert.MixNormIdeal.τ).loc Cert.MixNormIdeal.main_arg1)) (m ((c.tc : Thread Cert.MixNormIdeal.nD Cert.MixNormIdeal.τ).loc Cert.MixNormIdeal.main_arg2)) (m ((c.tc : Thread Cert.MixNormIdeal.nD Cert.MixNormIdeal.τ).loc Cert.MixNormIdeal.main_arg3)) (m ((c.tc : Thread Cert.MixNormIdeal.nD Cert.MixNormIdeal.τ).loc Cert.MixNormIdeal.main_arg4)) (m ((c.tc : Thread Cert.MixNormIdeal.nD Cert.MixNormIdeal.τ).loc Cert.MixNormIdeal.main_arg5)) (m ((c.tc : Thread Cert.MixNormIdeal.nD Cert.MixNormIdeal.τ).loc Cert.MixNormIdeal.main_arg6)) (m ((c.tc : Thread Cert.MixNormIdeal.nD Cert.MixNormIdeal.τ).loc Cert.MixNormIdeal.main_arg7)) (m ((c.tc : Thread Cert.MixNormIdeal.nD Cert.MixNormIdeal.τ).loc Cert.MixNormIdeal.main_arg8))) = (fun _ => 1#1)

def Pre_MixNormRefIdeal (m : (ℓ : Loc Cert.MixNormRefIdeal.nD Cert.MixNormRefIdeal.τ Cert.MixNormRefIdeal.sig) → Buf (Elt Ideal) ℓ) : Prop :=
  True

def Pre_MixNormRefIdeal_mix_norm_finite [hPre_mix_norm_finite : Cert.Pre_mix_norm_finite.Facts] (m : (ℓ : Loc Cert.MixNormRefIdeal.nD Cert.MixNormRefIdeal.τ Cert.MixNormRefIdeal.sig) → Buf (Elt Ideal) ℓ) : Prop :=
  ∀ c : Dev Cert.MixNormRefIdeal.nD,
    (Cert.Pre_mix_norm_finite.fn (F := Ideal) (m ((c.tc : Thread Cert.MixNormRefIdeal.nD Cert.MixNormRefIdeal.τ).loc Cert.MixNormRefIdeal.main_arg0)) (m ((c.tc : Thread Cert.MixNormRefIdeal.nD Cert.MixNormRefIdeal.τ).loc Cert.MixNormRefIdeal.main_arg1)) (m ((c.tc : Thread Cert.MixNormRefIdeal.nD Cert.MixNormRefIdeal.τ).loc Cert.MixNormRefIdeal.main_arg2)) (m ((c.tc : Thread Cert.MixNormRefIdeal.nD Cert.MixNormRefIdeal.τ).loc Cert.MixNormRefIdeal.main_arg3)) (m ((c.tc : Thread Cert.MixNormRefIdeal.nD Cert.MixNormRefIdeal.τ).loc Cert.MixNormRefIdeal.main_arg4)) (m ((c.tc : Thread Cert.MixNormRefIdeal.nD Cert.MixNormRefIdeal.τ).loc Cert.MixNormRefIdeal.main_arg5)) (m ((c.tc : Thread Cert.MixNormRefIdeal.nD Cert.MixNormRefIdeal.τ).loc Cert.MixNormRefIdeal.main_arg6)) (m ((c.tc : Thread Cert.MixNormRefIdeal.nD Cert.MixNormRefIdeal.τ).loc Cert.MixNormRefIdeal.main_arg7)) (m ((c.tc : Thread Cert.MixNormRefIdeal.nD Cert.MixNormRefIdeal.τ).loc Cert.MixNormRefIdeal.main_arg8))) = (fun _ => 1#1)

def Pre_InNorm (m : (ℓ : Loc Cert.InNorm.nD Cert.InNorm.τ Cert.InNorm.sig) → Buf (Elt Bits) ℓ) : Prop :=
  True

def Pre_InNormIdeal (m : (ℓ : Loc Cert.InNormIdeal.nD Cert.InNormIdeal.τ Cert.InNormIdeal.sig) → Buf (Elt Ideal) ℓ) : Prop :=
  True

def Pre_InNormIdeal_in_norm_finite [hPre_in_norm_finite : Cert.Pre_in_norm_finite.Facts] (m : (ℓ : Loc Cert.InNormIdeal.nD Cert.InNormIdeal.τ Cert.InNormIdeal.sig) → Buf (Elt Ideal) ℓ) : Prop :=
  ∀ c : Dev Cert.InNormIdeal.nD,
    (Cert.Pre_in_norm_finite.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4))) = (fun _ => 1#1)

def Pre_InNormRefIdeal (m : (ℓ : Loc Cert.InNormRefIdeal.nD Cert.InNormRefIdeal.τ Cert.InNormRefIdeal.sig) → Buf (Elt Ideal) ℓ) : Prop :=
  True

def Pre_InNormRefIdeal_in_norm_finite [hPre_in_norm_finite : Cert.Pre_in_norm_finite.Facts] (m : (ℓ : Loc Cert.InNormRefIdeal.nD Cert.InNormRefIdeal.τ Cert.InNormRefIdeal.sig) → Buf (Elt Ideal) ℓ) : Prop :=
  ∀ c : Dev Cert.InNormRefIdeal.nD,
    (Cert.Pre_in_norm_finite.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Heads1 (m : (ℓ : Loc Cert.Heads1.nD Cert.Heads1.τ Cert.Heads1.sig) → Buf (Elt Bits) ℓ) : Prop :=
  True

def Pre_Heads1Ideal (m : (ℓ : Loc Cert.Heads1Ideal.nD Cert.Heads1Ideal.τ Cert.Heads1Ideal.sig) → Buf (Elt Ideal) ℓ) : Prop :=
  True

def Pre_Heads1RefIdeal (m : (ℓ : Loc Cert.Heads1RefIdeal.nD Cert.Heads1RefIdeal.τ Cert.Heads1RefIdeal.sig) → Buf (Elt Ideal) ℓ) : Prop :=
  True

def Pre_Heads4 (m : (ℓ : Loc Cert.Heads4.nD Cert.Heads4.τ Cert.Heads4.sig) → Buf (Elt Bits) ℓ) : Prop :=
  True

def Pre_Heads4Ideal (m : (ℓ : Loc Cert.Heads4Ideal.nD Cert.Heads4Ideal.τ Cert.Heads4Ideal.sig) → Buf (Elt Ideal) ℓ) : Prop :=
  True

def Pre_Heads4RefIdeal (m : (ℓ : Loc Cert.Heads4RefIdeal.nD Cert.Heads4RefIdeal.τ Cert.Heads4RefIdeal.sig) → Buf (Elt Ideal) ℓ) : Prop :=
  True

def Pre_Heads16 (m : (ℓ : Loc Cert.Heads16.nD Cert.Heads16.τ Cert.Heads16.sig) → Buf (Elt Bits) ℓ) : Prop :=
  True

def Pre_Heads16Ideal (m : (ℓ : Loc Cert.Heads16Ideal.nD Cert.Heads16Ideal.τ Cert.Heads16Ideal.sig) → Buf (Elt Ideal) ℓ) : Prop :=
  True

def Pre_Heads16RefIdeal (m : (ℓ : Loc Cert.Heads16RefIdeal.nD Cert.Heads16RefIdeal.τ Cert.Heads16RefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradIdeal_loss_finite [hPre_loss_finite : Cert.Pre_loss_finite.Facts] (m : (ℓ : Loc Cert.LossGradIdeal.nD Cert.LossGradIdeal.τ Cert.LossGradIdeal.sig) → Buf (Elt Ideal) ℓ) : Prop :=
  ∀ c : Dev Cert.LossGradIdeal.nD,
    (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2)) (m ((c.tc : Thread Cert.LossGradIdeal.nD Cert.LossGradIdeal.τ).loc Cert.LossGradIdeal.main_arg3)) (m ((c.tc : Thread Cert.LossGradIdeal.nD Cert.LossGradIdeal.τ).loc Cert.LossGradIdeal.main_arg4))) = (fun _ => 1#1)

def Pre_LossGradRefIdeal (m : (ℓ : Loc Cert.LossGradRefIdeal.nD Cert.LossGradRefIdeal.τ Cert.LossGradRefIdeal.sig) → Buf (Elt Ideal) ℓ) : Prop :=
  True

def Pre_LossGradRefIdeal_loss_finite [hPre_loss_finite : Cert.Pre_loss_finite.Facts] (m : (ℓ : Loc Cert.LossGradRefIdeal.nD Cert.LossGradRefIdeal.τ Cert.LossGradRefIdeal.sig) → Buf (Elt Ideal) ℓ) : Prop :=
  ∀ c : Dev Cert.LossGradRefIdeal.nD,
    (Cert.Pre_loss_finite.fn (F := Ideal) (m ((c.tc : Thread Cert.LossGradRefIdeal.nD Cert.LossGradRefIdeal.τ).loc Cert.LossGradRefIdeal.main_arg0)) (m ((c.tc : Thread Cert.LossGradRefIdeal.nD Cert.LossGradRefIdeal.τ).loc Cert.LossGradRefIdeal.main_arg1)) (m ((c.tc : Thread Cert.LossGradRefIdeal.nD Cert.LossGradRefIdeal.τ).loc Cert.LossGradRefIdeal.main_arg2)) (m ((c.tc : Thread Cert.LossGradRefIdeal.nD Cert.LossGradRefIdeal.τ).loc Cert.LossGradRefIdeal.main_arg3)) (m ((c.tc : Thread Cert.LossGradRefIdeal.nD Cert.LossGradRefIdeal.τ).loc Cert.LossGradRefIdeal.main_arg4))) = (fun _ => 1#1)

def Pre_HeadOut (m : (ℓ : Loc Cert.HeadOut.nD Cert.HeadOut.τ Cert.HeadOut.sig) → Buf (Elt Bits) ℓ) : Prop :=
  True

def Pre_HeadOutIdeal (m : (ℓ : Loc Cert.HeadOutIdeal.nD Cert.HeadOutIdeal.τ Cert.HeadOutIdeal.sig) → Buf (Elt Ideal) ℓ) : Prop :=
  True

def Pre_HeadOutRefIdeal (m : (ℓ : Loc Cert.HeadOutRefIdeal.nD Cert.HeadOutRefIdeal.τ Cert.HeadOutRefIdeal.sig) → Buf (Elt Ideal) ℓ) : Prop :=
  True

def Pre_AdamShards (m : (ℓ : Loc Cert.AdamShards.nD Cert.AdamShards.τ Cert.AdamShards.sig) → Buf (Elt Bits) ℓ) : Prop :=
  True

def Pre_AdamShardsIdeal (m : (ℓ : Loc Cert.AdamShardsIdeal.nD Cert.AdamShardsIdeal.τ Cert.AdamShardsIdeal.sig) → Buf (Elt Ideal) ℓ) : Prop :=
  True

def Pre_AdamShardsRefIdeal (m : (ℓ : Loc Cert.AdamShardsRefIdeal.nD Cert.AdamShardsRefIdeal.τ Cert.AdamShardsRefIdeal.sig) → Buf (Elt Ideal) ℓ) : Prop :=
  True

def Pre_AdamWhole (m : (ℓ : Loc Cert.AdamWhole.nD Cert.AdamWhole.τ Cert.AdamWhole.sig) → Buf (Elt Bits) ℓ) : Prop :=
  True

def Pre_AdamWholeIdeal (m : (ℓ : Loc Cert.AdamWholeIdeal.nD Cert.AdamWholeIdeal.τ Cert.AdamWholeIdeal.sig) → Buf (Elt Ideal) ℓ) : Prop :=
  True

def Pre_AdamWholeRefIdeal (m : (ℓ : Loc Cert.AdamWholeRefIdeal.nD Cert.AdamWholeRefIdeal.τ Cert.AdamWholeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ r.2.sem = fun _ => 0)

def quiescent_GateGradIdeal_pre_gate_finite [hGateGradIdeal : Cert.GateGradIdeal.Facts] [hPre_gate_finite : Cert.Pre_gate_finite.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_gate_finite m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2))
      ∧ r.2.sem = fun _ => 0)

def quiescent_GateGradRefIdeal_pre_gate_finite [hGateGradRefIdeal : Cert.GateGradRefIdeal.Facts] [hPre_gate_finite : Cert.Pre_gate_finite.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal_gate_finite m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradIdeal_pre_norm_finite [hNormGradIdeal : Cert.NormGradIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_norm_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_NormGradRefIdeal_pre_norm_finite [hNormGradRefIdeal : Cert.NormGradRefIdeal.Facts] [hPre_norm_finite : Cert.Pre_norm_finite.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_norm_finite m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_UpConv [hUpConv : Cert.UpConv.Facts] : Prop :=
  ∀ (m : (ℓ : Loc Cert.UpConv.nD Cert.UpConv.τ Cert.UpConv.sig) → Buf (Elt Bits) ℓ) (g : Dev Cert.UpConv.nD → PrngReg), Pre_UpConv m →
    θ_run (Cert.UpConv.defs (F := Bits)) (onTc (τ := Cert.UpConv.τ) (Cert.UpConv.main (F := Bits))) ⟨m, fun _ => 0, g⟩ (fun r => (∀ c : Dev Cert.UpConv.nD,
      r.2.mem ((c.tc : Thread Cert.UpConv.nD Cert.UpConv.τ).loc Cert.UpConv.main_arg0) = m ((c.tc : Thread Cert.UpConv.nD Cert.UpConv.τ).loc Cert.UpConv.main_arg0)
      ∧ r.2.mem ((c.tc : Thread Cert.UpConv.nD Cert.UpConv.τ).loc Cert.UpConv.main_arg1) = m ((c.tc : Thread Cert.UpConv.nD Cert.UpConv.τ).loc Cert.UpConv.main_arg1)
      ∧ r.2.mem ((c.tc : Thread Cert.UpConv.nD Cert.UpConv.τ).loc Cert.UpConv.main_arg2) = m ((c.tc : Thread Cert.UpConv.nD Cert.UpConv.τ).loc Cert.UpConv.main_arg2)
      ∧ r.2.mem ((c.tc : Thread Cert.UpConv.nD Cert.UpConv.τ).loc Cert.UpConv.main_arg3) = m ((c.tc : Thread Cert.UpConv.nD Cert.UpConv.τ).loc Cert.UpConv.main_arg3))
      ∧ r.2.sem = fun _ => 0)

def quiescent_UpConvIdeal [hUpConvIdeal : Cert.UpConvIdeal.Facts] : Prop :=
  ∀ (m : (ℓ : Loc Cert.UpConvIdeal.nD Cert.UpConvIdeal.τ Cert.UpConvIdeal.sig) → Buf (Elt Ideal) ℓ) (g : Dev Cert.UpConvIdeal.nD → PrngReg), Pre_UpConvIdeal m →
    θ_run (Cert.UpConvIdeal.defs (F := Ideal)) (onTc (τ := Cert.UpConvIdeal.τ) (Cert.UpConvIdeal.main (F := Ideal))) ⟨m, fun _ => 0, g⟩ (fun r => (∀ c : Dev Cert.UpConvIdeal.nD,
      r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
      ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
      ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
      ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ r.2.sem = fun _ => 0)

def quiescent_UpConvRefIdeal [hUpConvRefIdeal : Cert.UpConvRefIdeal.Facts] : Prop :=
  ∀ (m : (ℓ : Loc Cert.UpConvRefIdeal.nD Cert.UpConvRefIdeal.τ Cert.UpConvRefIdeal.sig) → Buf (Elt Ideal) ℓ) (g : Dev Cert.UpConvRefIdeal.nD → PrngReg), Pre_UpConvRefIdeal m →
    θ_run (Cert.UpConvRefIdeal.defs (F := Ideal)) (onTc (τ := Cert.UpConvRefIdeal.τ) (Cert.UpConvRefIdeal.main (F := Ideal))) ⟨m, fun _ => 0, g⟩ (fun r => (∀ c : Dev Cert.UpConvRefIdeal.nD,
      r.2.mem ((c.tc : Thread Cert.UpConvRefIdeal.nD Cert.UpConvRefIdeal.τ).loc Cert.UpConvRefIdeal.main_arg0) = m ((c.tc : Thread Cert.UpConvRefIdeal.nD Cert.UpConvRefIdeal.τ).loc Cert.UpConvRefIdeal.main_arg0)
      ∧ r.2.mem ((c.tc : Thread Cert.UpConvRefIdeal.nD Cert.UpConvRefIdeal.τ).loc Cert.UpConvRefIdeal.main_arg1) = m ((c.tc : Thread Cert.UpConvRefIdeal.nD Cert.UpConvRefIdeal.τ).loc Cert.UpConvRefIdeal.main_arg1)
      ∧ r.2.mem ((c.tc : Thread Cert.UpConvRefIdeal.nD Cert.UpConvRefIdeal.τ).loc Cert.UpConvRefIdeal.main_arg2) = m ((c.tc : Thread Cert.UpConvRefIdeal.nD Cert.UpConvRefIdeal.τ).loc Cert.UpConvRefIdeal.main_arg2)
      ∧ r.2.mem ((c.tc : Thread Cert.UpConvRefIdeal.nD Cert.UpConvRefIdeal.τ).loc Cert.UpConvRefIdeal.main_arg3) = m ((c.tc : Thread Cert.UpConvRefIdeal.nD Cert.UpConvRefIdeal.τ).loc Cert.UpConvRefIdeal.main_arg3))
      ∧ r.2.sem = fun _ => 0)

def quiescent_QueryGrad [hQueryGrad : Cert.QueryGrad.Facts] : Prop :=
  ∀ (m : (ℓ : Loc Cert.QueryGrad.nD Cert.QueryGrad.τ Cert.QueryGrad.sig) → Buf (Elt Bits) ℓ) (g : Dev Cert.QueryGrad.nD → PrngReg), Pre_QueryGrad m →
    θ_run (Cert.QueryGrad.defs (F := Bits)) (onTc (τ := Cert.QueryGrad.τ) (Cert.QueryGrad.main (F := Bits))) ⟨m, fun _ => 0, g⟩ (fun r => (∀ c : Dev Cert.QueryGrad.nD,
      r.2.mem ((c.tc : Thread Cert.QueryGrad.nD Cert.QueryGrad.τ).loc Cert.QueryGrad.main_arg0) = m ((c.tc : Thread Cert.QueryGrad.nD Cert.QueryGrad.τ).loc Cert.QueryGrad.main_arg0)
      ∧ r.2.mem ((c.tc : Thread Cert.QueryGrad.nD Cert.QueryGrad.τ).loc Cert.QueryGrad.main_arg1) = m ((c.tc : Thread Cert.QueryGrad.nD Cert.QueryGrad.τ).loc Cert.QueryGrad.main_arg1))
      ∧ r.2.sem = fun _ => 0)

def quiescent_QueryGradIdeal [hQueryGradIdeal : Cert.QueryGradIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg), Pre_QueryGradIdeal m →
    θ_run (Cert.QueryGradIdeal.defs (F := Ideal)) (onTc (τ := Cert.QueryGradIdeal.τ) (Cert.QueryGradIdeal.main (F := Ideal))) ⟨m, fun _ => 0, g⟩ (fun r => (∀ c : Dev Cert.QueryGradIdeal.nD,
      r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
      ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ r.2.sem = fun _ => 0)

def quiescent_QueryGradRefIdeal [hQueryGradRefIdeal : Cert.QueryGradRefIdeal.Facts] : Prop :=
  ∀ (m : (ℓ : Loc Cert.QueryGradRefIdeal.nD Cert.QueryGradRefIdeal.τ Cert.QueryGradRefIdeal.sig) → Buf (Elt Ideal) ℓ) (g : Dev Cert.QueryGradRefIdeal.nD → PrngReg), Pre_QueryGradRefIdeal m →
    θ_run (Cert.QueryGradRefIdeal.defs (F := Ideal)) (onTc (τ := Cert.QueryGradRefIdeal.τ) (Cert.QueryGradRefIdeal.main (F := Ideal))) ⟨m, fun _ => 0, g⟩ (fun r => (∀ c : Dev Cert.QueryGradRefIdeal.nD,
      r.2.mem ((c.tc : Thread Cert.QueryGradRefIdeal.nD Cert.QueryGradRefIdeal.τ).loc Cert.QueryGradRefIdeal.main_arg0) = m ((c.tc : Thread Cert.QueryGradRefIdeal.nD Cert.QueryGradRefIdeal.τ).loc Cert.QueryGradRefIdeal.main_arg0)
      ∧ r.2.mem ((c.tc : Thread Cert.QueryGradRefIdeal.nD Cert.QueryGradRefIdeal.τ).loc Cert.QueryGradRefIdeal.main_arg1) = m ((c.tc : Thread Cert.QueryGradRefIdeal.nD Cert.QueryGradRefIdeal.τ).loc Cert.QueryGradRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1)
      ∧ r.2.mem ((c.tc : Thread Cert.KvGrad.nD Cert.KvGrad.τ).loc Cert.KvGrad.main_arg2) = m ((c.tc : Thread Cert.KvGrad.nD Cert.KvGrad.τ).loc Cert.KvGrad.main_arg2)
      ∧ r.2.mem ((c.tc : Thread Cert.KvGrad.nD Cert.KvGrad.τ).loc Cert.KvGrad.main_arg3) = m ((c.tc : Thread Cert.KvGrad.nD Cert.KvGrad.τ).loc Cert.KvGrad.main_arg3)
      ∧ r.2.mem ((c.tc : Thread Cert.KvGrad.nD Cert.KvGrad.τ).loc Cert.KvGrad.main_arg4) = m ((c.tc : Thread Cert.KvGrad.nD Cert.KvGrad.τ).loc Cert.KvGrad.main_arg4)
      ∧ r.2.mem ((c.tc : Thread Cert.KvGrad.nD Cert.KvGrad.τ).loc Cert.KvGrad.main_arg5) = m ((c.tc : Thread Cert.KvGrad.nD Cert.KvGrad.τ).loc Cert.KvGrad.main_arg5)
      ∧ r.2.mem ((c.tc : Thread Cert.KvGrad.nD Cert.KvGrad.τ).loc Cert.KvGrad.main_arg6) = m ((c.tc : Thread Cert.KvGrad.nD Cert.KvGrad.τ).loc Cert.KvGrad.main_arg6))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
      ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
      ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3)
      ∧ r.2.mem ((c.tc : Thread Cert.KvGradIdeal.nD Cert.KvGradIdeal.τ).loc Cert.KvGradIdeal.main_arg4) = m ((c.tc : Thread Cert.KvGradIdeal.nD Cert.KvGradIdeal.τ).loc Cert.KvGradIdeal.main_arg4)
      ∧ r.2.mem ((c.tc : Thread Cert.KvGradIdeal.nD Cert.KvGradIdeal.τ).loc Cert.KvGradIdeal.main_arg5) = m ((c.tc : Thread Cert.KvGradIdeal.nD Cert.KvGradIdeal.τ).loc Cert.KvGradIdeal.main_arg5)
      ∧ r.2.mem ((c.tc : Thread Cert.KvGradIdeal.nD Cert.KvGradIdeal.τ).loc Cert.KvGradIdeal.main_arg6) = m ((c.tc : Thread Cert.KvGradIdeal.nD Cert.KvGradIdeal.τ).loc Cert.KvGradIdeal.main_arg6))
      ∧ r.2.sem = fun _ => 0)

def quiescent_KvGradRefIdeal [hKvGradRefIdeal : Cert.KvGradRefIdeal.Facts] : Prop :=
  ∀ (m : (ℓ : Loc Cert.KvGradRefIdeal.nD Cert.KvGradRefIdeal.τ Cert.KvGradRefIdeal.sig) → Buf (Elt Ideal) ℓ) (g : Dev Cert.KvGradRefIdeal.nD → PrngReg), Pre_KvGradRefIdeal m →
    θ_run (Cert.KvGradRefIdeal.defs (F := Ideal)) (onTc (τ := Cert.KvGradRefIdeal.τ) (Cert.KvGradRefIdeal.main (F := Ideal))) ⟨m, fun _ => 0, g⟩ (fun r => (∀ c : Dev Cert.KvGradRefIdeal.nD,
      r.2.mem ((c.tc : Thread Cert.KvGradRefIdeal.nD Cert.KvGradRefIdeal.τ).loc Cert.KvGradRefIdeal.main_arg0) = m ((c.tc : Thread Cert.KvGradRefIdeal.nD Cert.KvGradRefIdeal.τ).loc Cert.KvGradRefIdeal.main_arg0)
      ∧ r.2.mem ((c.tc : Thread Cert.KvGradRefIdeal.nD Cert.KvGradRefIdeal.τ).loc Cert.KvGradRefIdeal.main_arg1) = m ((c.tc : Thread Cert.KvGradRefIdeal.nD Cert.KvGradRefIdeal.τ).loc Cert.KvGradRefIdeal.main_arg1)
      ∧ r.2.mem ((c.tc : Thread Cert.KvGradRefIdeal.nD Cert.KvGradRefIdeal.τ).loc Cert.KvGradRefIdeal.main_arg2) = m ((c.tc : Thread Cert.KvGradRefIdeal.nD Cert.KvGradRefIdeal.τ).loc Cert.KvGradRefIdeal.main_arg2)
      ∧ r.2.mem ((c.tc : Thread Cert.KvGradRefIdeal.nD Cert.KvGradRefIdeal.τ).loc Cert.KvGradRefIdeal.main_arg3) = m ((c.tc : Thread Cert.KvGradRefIdeal.nD Cert.KvGradRefIdeal.τ).loc Cert.KvGradRefIdeal.main_arg3)
      ∧ r.2.mem ((c.tc : Thread Cert.KvGradRefIdeal.nD Cert.KvGradRefIdeal.τ).loc Cert.KvGradRefIdeal.main_arg4) = m ((c.tc : Thread Cert.KvGradRefIdeal.nD Cert.KvGradRefIdeal.τ).loc Cert.KvGradRefIdeal.main_arg4)
      ∧ r.2.mem ((c.tc : Thread Cert.KvGradRefIdeal.nD Cert.KvGradRefIdeal.τ).loc Cert.KvGradRefIdeal.main_arg5) = m ((c.tc : Thread Cert.KvGradRefIdeal.nD Cert.KvGradRefIdeal.τ).loc Cert.KvGradRefIdeal.main_arg5)
      ∧ r.2.mem ((c.tc : Thread Cert.KvGradRefIdeal.nD Cert.KvGradRefIdeal.τ).loc Cert.KvGradRefIdeal.main_arg6) = m ((c.tc : Thread Cert.KvGradRefIdeal.nD Cert.KvGradRefIdeal.τ).loc Cert.KvGradRefIdeal.main_arg6))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3)
      ∧ r.2.mem ((c.tc : Thread Cert.MixNorm.nD Cert.MixNorm.τ).loc Cert.MixNorm.main_arg4) = m ((c.tc : Thread Cert.MixNorm.nD Cert.MixNorm.τ).loc Cert.MixNorm.main_arg4)
      ∧ r.2.mem ((c.tc : Thread Cert.MixNorm.nD Cert.MixNorm.τ).loc Cert.MixNorm.main_arg5) = m ((c.tc : Thread Cert.MixNorm.nD Cert.MixNorm.τ).loc Cert.MixNorm.main_arg5)
      ∧ r.2.mem ((c.tc : Thread Cert.MixNorm.nD Cert.MixNorm.τ).loc Cert.MixNorm.main_arg6) = m ((c.tc : Thread Cert.MixNorm.nD Cert.MixNorm.τ).loc Cert.MixNorm.main_arg6)
      ∧ r.2.mem ((c.tc : Thread Cert.MixNorm.nD Cert.MixNorm.τ).loc Cert.MixNorm.main_arg7) = m ((c.tc : Thread Cert.MixNorm.nD Cert.MixNorm.τ).loc Cert.MixNorm.main_arg7)
      ∧ r.2.mem ((c.tc : Thread Cert.MixNorm.nD Cert.MixNorm.τ).loc Cert.MixNorm.main_arg8) = m ((c.tc : Thread Cert.MixNorm.nD Cert.MixNorm.τ).loc Cert.MixNorm.main_arg8))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
      ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
      ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6)
      ∧ r.2.mem ((c.tc : Thread Cert.MixNormIdeal.nD Cert.MixNormIdeal.τ).loc Cert.MixNormIdeal.main_arg7) = m ((c.tc : Thread Cert.MixNormIdeal.nD Cert.MixNormIdeal.τ).loc Cert.MixNormIdeal.main_arg7)
      ∧ r.2.mem ((c.tc : Thread Cert.MixNormIdeal.nD Cert.MixNormIdeal.τ).loc Cert.MixNormIdeal.main_arg8) = m ((c.tc : Thread Cert.MixNormIdeal.nD Cert.MixNormIdeal.τ).loc Cert.MixNormIdeal.main_arg8))
      ∧ r.2.sem = fun _ => 0)

def quiescent_MixNormIdeal_pre_mix_norm_finite [hMixNormIdeal : Cert.MixNormIdeal.Facts] [hPre_mix_norm_finite : Cert.Pre_mix_norm_finite.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal_mix_norm_finite m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
      ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
      ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6)
      ∧ r.2.mem ((c.tc : Thread Cert.MixNormIdeal.nD Cert.MixNormIdeal.τ).loc Cert.MixNormIdeal.main_arg7) = m ((c.tc : Thread Cert.MixNormIdeal.nD Cert.MixNormIdeal.τ).loc Cert.MixNormIdeal.main_arg7)
      ∧ r.2.mem ((c.tc : Thread Cert.MixNormIdeal.nD Cert.MixNormIdeal.τ).loc Cert.MixNormIdeal.main_arg8) = m ((c.tc : Thread Cert.MixNormIdeal.nD Cert.MixNormIdeal.τ).loc Cert.MixNormIdeal.main_arg8))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4)
      ∧ r.2.mem ((c.tc : Thread Cert.MixNormRefIdeal.nD Cert.MixNormRefIdeal.τ).loc Cert.MixNormRefIdeal.main_arg5) = m ((c.tc : Thread Cert.MixNormRefIdeal.nD Cert.MixNormRefIdeal.τ).loc Cert.MixNormRefIdeal.main_arg5)
      ∧ r.2.mem ((c.tc : Thread Cert.MixNormRefIdeal.nD Cert.MixNormRefIdeal.τ).loc Cert.MixNormRefIdeal.main_arg6) = m ((c.tc : Thread Cert.MixNormRefIdeal.nD Cert.MixNormRefIdeal.τ).loc Cert.MixNormRefIdeal.main_arg6)
      ∧ r.2.mem ((c.tc : Thread Cert.MixNormRefIdeal.nD Cert.MixNormRefIdeal.τ).loc Cert.MixNormRefIdeal.main_arg7) = m ((c.tc : Thread Cert.MixNormRefIdeal.nD Cert.MixNormRefIdeal.τ).loc Cert.MixNormRefIdeal.main_arg7)
      ∧ r.2.mem ((c.tc : Thread Cert.MixNormRefIdeal.nD Cert.MixNormRefIdeal.τ).loc Cert.MixNormRefIdeal.main_arg8) = m ((c.tc : Thread Cert.MixNormRefIdeal.nD Cert.MixNormRefIdeal.τ).loc Cert.MixNormRefIdeal.main_arg8))
      ∧ r.2.sem = fun _ => 0)

def quiescent_MixNormRefIdeal_pre_mix_norm_finite [hMixNormRefIdeal : Cert.MixNormRefIdeal.Facts] [hPre_mix_norm_finite : Cert.Pre_mix_norm_finite.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal_mix_norm_finite m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4)
      ∧ r.2.mem ((c.tc : Thread Cert.MixNormRefIdeal.nD Cert.MixNormRefIdeal.τ).loc Cert.MixNormRefIdeal.main_arg5) = m ((c.tc : Thread Cert.MixNormRefIdeal.nD Cert.MixNormRefIdeal.τ).loc Cert.MixNormRefIdeal.main_arg5)
      ∧ r.2.mem ((c.tc : Thread Cert.MixNormRefIdeal.nD Cert.MixNormRefIdeal.τ).loc Cert.MixNormRefIdeal.main_arg6) = m ((c.tc : Thread Cert.MixNormRefIdeal.nD Cert.MixNormRefIdeal.τ).loc Cert.MixNormRefIdeal.main_arg6)
      ∧ r.2.mem ((c.tc : Thread Cert.MixNormRefIdeal.nD Cert.MixNormRefIdeal.τ).loc Cert.MixNormRefIdeal.main_arg7) = m ((c.tc : Thread Cert.MixNormRefIdeal.nD Cert.MixNormRefIdeal.τ).loc Cert.MixNormRefIdeal.main_arg7)
      ∧ r.2.mem ((c.tc : Thread Cert.MixNormRefIdeal.nD Cert.MixNormRefIdeal.τ).loc Cert.MixNormRefIdeal.main_arg8) = m ((c.tc : Thread Cert.MixNormRefIdeal.nD Cert.MixNormRefIdeal.τ).loc Cert.MixNormRefIdeal.main_arg8))
      ∧ r.2.sem = fun _ => 0)

def quiescent_InNorm [hInNorm : Cert.InNorm.Facts] : Prop :=
  ∀ (m : (ℓ : Loc Cert.InNorm.nD Cert.InNorm.τ Cert.InNorm.sig) → Buf (Elt Bits) ℓ) (g : Dev Cert.InNorm.nD → PrngReg), Pre_InNorm m →
    θ_run (Cert.InNorm.defs (F := Bits)) (onTc (τ := Cert.InNorm.τ) (Cert.InNorm.main (F := Bits))) ⟨m, fun _ => 0, g⟩ (fun r => (∀ c : Dev Cert.InNorm.nD,
      r.2.mem ((c.tc : Thread Cert.InNorm.nD Cert.InNorm.τ).loc Cert.InNorm.main_arg0) = m ((c.tc : Thread Cert.InNorm.nD Cert.InNorm.τ).loc Cert.InNorm.main_arg0)
      ∧ r.2.mem ((c.tc : Thread Cert.InNorm.nD Cert.InNorm.τ).loc Cert.InNorm.main_arg1) = m ((c.tc : Thread Cert.InNorm.nD Cert.InNorm.τ).loc Cert.InNorm.main_arg1)
      ∧ r.2.mem ((c.tc : Thread Cert.InNorm.nD Cert.InNorm.τ).loc Cert.InNorm.main_arg2) = m ((c.tc : Thread Cert.InNorm.nD Cert.InNorm.τ).loc Cert.InNorm.main_arg2)
      ∧ r.2.mem ((c.tc : Thread Cert.InNorm.nD Cert.InNorm.τ).loc Cert.InNorm.main_arg3) = m ((c.tc : Thread Cert.InNorm.nD Cert.InNorm.τ).loc Cert.InNorm.main_arg3)
      ∧ r.2.mem ((c.tc : Thread Cert.InNorm.nD Cert.InNorm.τ).loc Cert.InNorm.main_arg4) = m ((c.tc : Thread Cert.InNorm.nD Cert.InNorm.τ).loc Cert.InNorm.main_arg4))
      ∧ r.2.sem = fun _ => 0)

def quiescent_InNormIdeal [hInNormIdeal : Cert.InNormIdeal.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ r.2.sem = fun _ => 0)

def quiescent_InNormIdeal_pre_in_norm_finite [hInNormIdeal : Cert.InNormIdeal.Facts] [hPre_in_norm_finite : Cert.Pre_in_norm_finite.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal_in_norm_finite m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ r.2.sem = fun _ => 0)

def quiescent_InNormRefIdeal [hInNormRefIdeal : Cert.InNormRefIdeal.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4))
      ∧ r.2.sem = fun _ => 0)

def quiescent_InNormRefIdeal_pre_in_norm_finite [hInNormRefIdeal : Cert.InNormRefIdeal.Facts] [hPre_in_norm_finite : Cert.Pre_in_norm_finite.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal_in_norm_finite m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Heads1 [hHeads1 : Cert.Heads1.Facts] : Prop :=
  ∀ (m : (ℓ : Loc Cert.Heads1.nD Cert.Heads1.τ Cert.Heads1.sig) → Buf (Elt Bits) ℓ) (g : Dev Cert.Heads1.nD → PrngReg), Pre_Heads1 m →
    θ_run (Cert.Heads1.defs (F := Bits)) (onTc (τ := Cert.Heads1.τ) (Cert.Heads1.main (F := Bits))) ⟨m, fun _ => 0, g⟩ (fun r => (∀ c : Dev Cert.Heads1.nD,
      r.2.mem ((c.tc : Thread Cert.Heads1.nD Cert.Heads1.τ).loc Cert.Heads1.main_arg0) = m ((c.tc : Thread Cert.Heads1.nD Cert.Heads1.τ).loc Cert.Heads1.main_arg0)
      ∧ r.2.mem ((c.tc : Thread Cert.Heads1.nD Cert.Heads1.τ).loc Cert.Heads1.main_arg1) = m ((c.tc : Thread Cert.Heads1.nD Cert.Heads1.τ).loc Cert.Heads1.main_arg1))
      ∧ r.2.sem = fun _ => 0)

def quiescent_Heads1Ideal [hHeads1Ideal : Cert.Heads1Ideal.Facts] : Prop :=
  ∀ (m : (ℓ : Loc Cert.Heads1Ideal.nD Cert.Heads1Ideal.τ Cert.Heads1Ideal.sig) → Buf (Elt Ideal) ℓ) (g : Dev Cert.Heads1Ideal.nD → PrngReg), Pre_Heads1Ideal m →
    θ_run (Cert.Heads1Ideal.defs (F := Ideal)) (onTc (τ := Cert.Heads1Ideal.τ) (Cert.Heads1Ideal.main (F := Ideal))) ⟨m, fun _ => 0, g⟩ (fun r => (∀ c : Dev Cert.Heads1Ideal.nD,
      r.2.mem ((c.tc : Thread Cert.Heads1Ideal.nD Cert.Heads1Ideal.τ).loc Cert.Heads1Ideal.main_arg0) = m ((c.tc : Thread Cert.Heads1Ideal.nD Cert.Heads1Ideal.τ).loc Cert.Heads1Ideal.main_arg0)
      ∧ r.2.mem ((c.tc : Thread Cert.Heads1Ideal.nD Cert.Heads1Ideal.τ).loc Cert.Heads1Ideal.main_arg1) = m ((c.tc : Thread Cert.Heads1Ideal.nD Cert.Heads1Ideal.τ).loc Cert.Heads1Ideal.main_arg1))
      ∧ r.2.sem = fun _ => 0)

def quiescent_Heads1RefIdeal [hHeads1RefIdeal : Cert.Heads1RefIdeal.Facts] : Prop :=
  ∀ (m : (ℓ : Loc Cert.Heads1RefIdeal.nD Cert.Heads1RefIdeal.τ Cert.Heads1RefIdeal.sig) → Buf (Elt Ideal) ℓ) (g : Dev Cert.Heads1RefIdeal.nD → PrngReg), Pre_Heads1RefIdeal m →
    θ_run (Cert.Heads1RefIdeal.defs (F := Ideal)) (onTc (τ := Cert.Heads1RefIdeal.τ) (Cert.Heads1RefIdeal.main (F := Ideal))) ⟨m, fun _ => 0, g⟩ (fun r => (∀ c : Dev Cert.Heads1RefIdeal.nD,
      r.2.mem ((c.tc : Thread Cert.Heads1RefIdeal.nD Cert.Heads1RefIdeal.τ).loc Cert.Heads1RefIdeal.main_arg0) = m ((c.tc : Thread Cert.Heads1RefIdeal.nD Cert.Heads1RefIdeal.τ).loc Cert.Heads1RefIdeal.main_arg0)
      ∧ r.2.mem ((c.tc : Thread Cert.Heads1RefIdeal.nD Cert.Heads1RefIdeal.τ).loc Cert.Heads1RefIdeal.main_arg1) = m ((c.tc : Thread Cert.Heads1RefIdeal.nD Cert.Heads1RefIdeal.τ).loc Cert.Heads1RefIdeal.main_arg1))
      ∧ r.2.sem = fun _ => 0)

def quiescent_Heads4 [hHeads4 : Cert.Heads4.Facts] : Prop :=
  ∀ (m : (ℓ : Loc Cert.Heads4.nD Cert.Heads4.τ Cert.Heads4.sig) → Buf (Elt Bits) ℓ) (g : Dev Cert.Heads4.nD → PrngReg), Pre_Heads4 m →
    θ_run (Cert.Heads4.defs (F := Bits)) (onTc (τ := Cert.Heads4.τ) (Cert.Heads4.main (F := Bits))) ⟨m, fun _ => 0, g⟩ (fun r => (∀ c : Dev Cert.Heads4.nD,
      r.2.mem ((c.tc : Thread Cert.Heads4.nD Cert.Heads4.τ).loc Cert.Heads4.main_arg0) = m ((c.tc : Thread Cert.Heads4.nD Cert.Heads4.τ).loc Cert.Heads4.main_arg0)
      ∧ r.2.mem ((c.tc : Thread Cert.Heads4.nD Cert.Heads4.τ).loc Cert.Heads4.main_arg1) = m ((c.tc : Thread Cert.Heads4.nD Cert.Heads4.τ).loc Cert.Heads4.main_arg1))
      ∧ r.2.sem = fun _ => 0)

def quiescent_Heads4Ideal [hHeads4Ideal : Cert.Heads4Ideal.Facts] : Prop :=
  ∀ (m : (ℓ : Loc Cert.Heads4Ideal.nD Cert.Heads4Ideal.τ Cert.Heads4Ideal.sig) → Buf (Elt Ideal) ℓ) (g : Dev Cert.Heads4Ideal.nD → PrngReg), Pre_Heads4Ideal m →
    θ_run (Cert.Heads4Ideal.defs (F := Ideal)) (onTc (τ := Cert.Heads4Ideal.τ) (Cert.Heads4Ideal.main (F := Ideal))) ⟨m, fun _ => 0, g⟩ (fun r => (∀ c : Dev Cert.Heads4Ideal.nD,
      r.2.mem ((c.tc : Thread Cert.Heads4Ideal.nD Cert.Heads4Ideal.τ).loc Cert.Heads4Ideal.main_arg0) = m ((c.tc : Thread Cert.Heads4Ideal.nD Cert.Heads4Ideal.τ).loc Cert.Heads4Ideal.main_arg0)
      ∧ r.2.mem ((c.tc : Thread Cert.Heads4Ideal.nD Cert.Heads4Ideal.τ).loc Cert.Heads4Ideal.main_arg1) = m ((c.tc : Thread Cert.Heads4Ideal.nD Cert.Heads4Ideal.τ).loc Cert.Heads4Ideal.main_arg1))
      ∧ r.2.sem = fun _ => 0)

def quiescent_Heads4RefIdeal [hHeads4RefIdeal : Cert.Heads4RefIdeal.Facts] : Prop :=
  ∀ (m : (ℓ : Loc Cert.Heads4RefIdeal.nD Cert.Heads4RefIdeal.τ Cert.Heads4RefIdeal.sig) → Buf (Elt Ideal) ℓ) (g : Dev Cert.Heads4RefIdeal.nD → PrngReg), Pre_Heads4RefIdeal m →
    θ_run (Cert.Heads4RefIdeal.defs (F := Ideal)) (onTc (τ := Cert.Heads4RefIdeal.τ) (Cert.Heads4RefIdeal.main (F := Ideal))) ⟨m, fun _ => 0, g⟩ (fun r => (∀ c : Dev Cert.Heads4RefIdeal.nD,
      r.2.mem ((c.tc : Thread Cert.Heads4RefIdeal.nD Cert.Heads4RefIdeal.τ).loc Cert.Heads4RefIdeal.main_arg0) = m ((c.tc : Thread Cert.Heads4RefIdeal.nD Cert.Heads4RefIdeal.τ).loc Cert.Heads4RefIdeal.main_arg0)
      ∧ r.2.mem ((c.tc : Thread Cert.Heads4RefIdeal.nD Cert.Heads4RefIdeal.τ).loc Cert.Heads4RefIdeal.main_arg1) = m ((c.tc : Thread Cert.Heads4RefIdeal.nD Cert.Heads4RefIdeal.τ).loc Cert.Heads4RefIdeal.main_arg1))
      ∧ r.2.sem = fun _ => 0)

def quiescent_Heads16 [hHeads16 : Cert.Heads16.Facts] : Prop :=
  ∀ (m : (ℓ : Loc Cert.Heads16.nD Cert.Heads16.τ Cert.Heads16.sig) → Buf (Elt Bits) ℓ) (g : Dev Cert.Heads16.nD → PrngReg), Pre_Heads16 m →
    θ_run (Cert.Heads16.defs (F := Bits)) (onTc (τ := Cert.Heads16.τ) (Cert.Heads16.main (F := Bits))) ⟨m, fun _ => 0, g⟩ (fun r => (∀ c : Dev Cert.Heads16.nD,
      r.2.mem ((c.tc : Thread Cert.Heads16.nD Cert.Heads16.τ).loc Cert.Heads16.main_arg0) = m ((c.tc : Thread Cert.Heads16.nD Cert.Heads16.τ).loc Cert.Heads16.main_arg0)
      ∧ r.2.mem ((c.tc : Thread Cert.Heads16.nD Cert.Heads16.τ).loc Cert.Heads16.main_arg1) = m ((c.tc : Thread Cert.Heads16.nD Cert.Heads16.τ).loc Cert.Heads16.main_arg1))
      ∧ r.2.sem = fun _ => 0)

def quiescent_Heads16Ideal [hHeads16Ideal : Cert.Heads16Ideal.Facts] : Prop :=
  ∀ (m : (ℓ : Loc Cert.Heads16Ideal.nD Cert.Heads16Ideal.τ Cert.Heads16Ideal.sig) → Buf (Elt Ideal) ℓ) (g : Dev Cert.Heads16Ideal.nD → PrngReg), Pre_Heads16Ideal m →
    θ_run (Cert.Heads16Ideal.defs (F := Ideal)) (onTc (τ := Cert.Heads16Ideal.τ) (Cert.Heads16Ideal.main (F := Ideal))) ⟨m, fun _ => 0, g⟩ (fun r => (∀ c : Dev Cert.Heads16Ideal.nD,
      r.2.mem ((c.tc : Thread Cert.Heads16Ideal.nD Cert.Heads16Ideal.τ).loc Cert.Heads16Ideal.main_arg0) = m ((c.tc : Thread Cert.Heads16Ideal.nD Cert.Heads16Ideal.τ).loc Cert.Heads16Ideal.main_arg0)
      ∧ r.2.mem ((c.tc : Thread Cert.Heads16Ideal.nD Cert.Heads16Ideal.τ).loc Cert.Heads16Ideal.main_arg1) = m ((c.tc : Thread Cert.Heads16Ideal.nD Cert.Heads16Ideal.τ).loc Cert.Heads16Ideal.main_arg1))
      ∧ r.2.sem = fun _ => 0)

def quiescent_Heads16RefIdeal [hHeads16RefIdeal : Cert.Heads16RefIdeal.Facts] : Prop :=
  ∀ (m : (ℓ : Loc Cert.Heads16RefIdeal.nD Cert.Heads16RefIdeal.τ Cert.Heads16RefIdeal.sig) → Buf (Elt Ideal) ℓ) (g : Dev Cert.Heads16RefIdeal.nD → PrngReg), Pre_Heads16RefIdeal m →
    θ_run (Cert.Heads16RefIdeal.defs (F := Ideal)) (onTc (τ := Cert.Heads16RefIdeal.τ) (Cert.Heads16RefIdeal.main (F := Ideal))) ⟨m, fun _ => 0, g⟩ (fun r => (∀ c : Dev Cert.Heads16RefIdeal.nD,
      r.2.mem ((c.tc : Thread Cert.Heads16RefIdeal.nD Cert.Heads16RefIdeal.τ).loc Cert.Heads16RefIdeal.main_arg0) = m ((c.tc : Thread Cert.Heads16RefIdeal.nD Cert.Heads16RefIdeal.τ).loc Cert.Heads16RefIdeal.main_arg0)
      ∧ r.2.mem ((c.tc : Thread Cert.Heads16RefIdeal.nD Cert.Heads16RefIdeal.τ).loc Cert.Heads16RefIdeal.main_arg1) = m ((c.tc : Thread Cert.Heads16RefIdeal.nD Cert.Heads16RefIdeal.τ).loc Cert.Heads16RefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3)
      ∧ r.2.mem ((c.tc : Thread Cert.DownProj.nD Cert.DownProj.τ).loc Cert.DownProj.main_arg4) = m ((c.tc : Thread Cert.DownProj.nD Cert.DownProj.τ).loc Cert.DownProj.main_arg4))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2)
      ∧ r.2.mem ((c.tc : Thread Cert.DownProjRefIdeal.nD Cert.DownProjRefIdeal.τ).loc Cert.DownProjRefIdeal.main_arg3) = m ((c.tc : Thread Cert.DownProjRefIdeal.nD Cert.DownProjRefIdeal.τ).loc Cert.DownProjRefIdeal.main_arg3)
      ∧ r.2.mem ((c.tc : Thread Cert.DownProjRefIdeal.nD Cert.DownProjRefIdeal.τ).loc Cert.DownProjRefIdeal.main_arg4) = m ((c.tc : Thread Cert.DownProjRefIdeal.nD Cert.DownProjRefIdeal.τ).loc Cert.DownProjRefIdeal.main_arg4))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1)
      ∧ r.2.mem ((c.tc : Thread Cert.LossGrad.nD Cert.LossGrad.τ).loc Cert.LossGrad.main_arg2) = m ((c.tc : Thread Cert.LossGrad.nD Cert.LossGrad.τ).loc Cert.LossGrad.main_arg2)
      ∧ r.2.mem ((c.tc : Thread Cert.LossGrad.nD Cert.LossGrad.τ).loc Cert.LossGrad.main_arg3) = m ((c.tc : Thread Cert.LossGrad.nD Cert.LossGrad.τ).loc Cert.LossGrad.main_arg3)
      ∧ r.2.mem ((c.tc : Thread Cert.LossGrad.nD Cert.LossGrad.τ).loc Cert.LossGrad.main_arg4) = m ((c.tc : Thread Cert.LossGrad.nD Cert.LossGrad.τ).loc Cert.LossGrad.main_arg4))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
      ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4))
      ∧ r.2.sem = fun _ => 0)

def quiescent_LossGradIdeal_pre_loss_finite [hLossGradIdeal : Cert.LossGradIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal_loss_finite m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
      ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1)
      ∧ r.2.mem ((c.tc : Thread Cert.LossGradRefIdeal.nD Cert.LossGradRefIdeal.τ).loc Cert.LossGradRefIdeal.main_arg2) = m ((c.tc : Thread Cert.LossGradRefIdeal.nD Cert.LossGradRefIdeal.τ).loc Cert.LossGradRefIdeal.main_arg2)
      ∧ r.2.mem ((c.tc : Thread Cert.LossGradRefIdeal.nD Cert.LossGradRefIdeal.τ).loc Cert.LossGradRefIdeal.main_arg3) = m ((c.tc : Thread Cert.LossGradRefIdeal.nD Cert.LossGradRefIdeal.τ).loc Cert.LossGradRefIdeal.main_arg3)
      ∧ r.2.mem ((c.tc : Thread Cert.LossGradRefIdeal.nD Cert.LossGradRefIdeal.τ).loc Cert.LossGradRefIdeal.main_arg4) = m ((c.tc : Thread Cert.LossGradRefIdeal.nD Cert.LossGradRefIdeal.τ).loc Cert.LossGradRefIdeal.main_arg4))
      ∧ r.2.sem = fun _ => 0)

def quiescent_LossGradRefIdeal_pre_loss_finite [hLossGradRefIdeal : Cert.LossGradRefIdeal.Facts] [hPre_loss_finite : Cert.Pre_loss_finite.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal_loss_finite m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1)
      ∧ r.2.mem ((c.tc : Thread Cert.LossGradRefIdeal.nD Cert.LossGradRefIdeal.τ).loc Cert.LossGradRefIdeal.main_arg2) = m ((c.tc : Thread Cert.LossGradRefIdeal.nD Cert.LossGradRefIdeal.τ).loc Cert.LossGradRefIdeal.main_arg2)
      ∧ r.2.mem ((c.tc : Thread Cert.LossGradRefIdeal.nD Cert.LossGradRefIdeal.τ).loc Cert.LossGradRefIdeal.main_arg3) = m ((c.tc : Thread Cert.LossGradRefIdeal.nD Cert.LossGradRefIdeal.τ).loc Cert.LossGradRefIdeal.main_arg3)
      ∧ r.2.mem ((c.tc : Thread Cert.LossGradRefIdeal.nD Cert.LossGradRefIdeal.τ).loc Cert.LossGradRefIdeal.main_arg4) = m ((c.tc : Thread Cert.LossGradRefIdeal.nD Cert.LossGradRefIdeal.τ).loc Cert.LossGradRefIdeal.main_arg4))
      ∧ r.2.sem = fun _ => 0)

def quiescent_HeadOut [hHeadOut : Cert.HeadOut.Facts] : Prop :=
  ∀ (m : (ℓ : Loc Cert.HeadOut.nD Cert.HeadOut.τ Cert.HeadOut.sig) → Buf (Elt Bits) ℓ) (g : Dev Cert.HeadOut.nD → PrngReg), Pre_HeadOut m →
    θ_run (Cert.HeadOut.defs (F := Bits)) (onTc (τ := Cert.HeadOut.τ) (Cert.HeadOut.main (F := Bits))) ⟨m, fun _ => 0, g⟩ (fun r => (∀ c : Dev Cert.HeadOut.nD,
      r.2.mem ((c.tc : Thread Cert.HeadOut.nD Cert.HeadOut.τ).loc Cert.HeadOut.main_arg0) = m ((c.tc : Thread Cert.HeadOut.nD Cert.HeadOut.τ).loc Cert.HeadOut.main_arg0)
      ∧ r.2.mem ((c.tc : Thread Cert.HeadOut.nD Cert.HeadOut.τ).loc Cert.HeadOut.main_arg1) = m ((c.tc : Thread Cert.HeadOut.nD Cert.HeadOut.τ).loc Cert.HeadOut.main_arg1)
      ∧ r.2.mem ((c.tc : Thread Cert.HeadOut.nD Cert.HeadOut.τ).loc Cert.HeadOut.main_arg2) = m ((c.tc : Thread Cert.HeadOut.nD Cert.HeadOut.τ).loc Cert.HeadOut.main_arg2)
      ∧ r.2.mem ((c.tc : Thread Cert.HeadOut.nD Cert.HeadOut.τ).loc Cert.HeadOut.main_arg3) = m ((c.tc : Thread Cert.HeadOut.nD Cert.HeadOut.τ).loc Cert.HeadOut.main_arg3)
      ∧ r.2.mem ((c.tc : Thread Cert.HeadOut.nD Cert.HeadOut.τ).loc Cert.HeadOut.main_arg4) = m ((c.tc : Thread Cert.HeadOut.nD Cert.HeadOut.τ).loc Cert.HeadOut.main_arg4)
      ∧ r.2.mem ((c.tc : Thread Cert.HeadOut.nD Cert.HeadOut.τ).loc Cert.HeadOut.main_arg5) = m ((c.tc : Thread Cert.HeadOut.nD Cert.HeadOut.τ).loc Cert.HeadOut.main_arg5))
      ∧ r.2.sem = fun _ => 0)

def quiescent_HeadOutIdeal [hHeadOutIdeal : Cert.HeadOutIdeal.Facts] : Prop :=
  ∀ (m : (ℓ : Loc Cert.HeadOutIdeal.nD Cert.HeadOutIdeal.τ Cert.HeadOutIdeal.sig) → Buf (Elt Ideal) ℓ) (g : Dev Cert.HeadOutIdeal.nD → PrngReg), Pre_HeadOutIdeal m →
    θ_run (Cert.HeadOutIdeal.defs (F := Ideal)) (onTc (τ := Cert.HeadOutIdeal.τ) (Cert.HeadOutIdeal.main (F := Ideal))) ⟨m, fun _ => 0, g⟩ (fun r => (∀ c : Dev Cert.HeadOutIdeal.nD,
      r.2.mem ((c.tc : Thread Cert.HeadOutIdeal.nD Cert.HeadOutIdeal.τ).loc Cert.HeadOutIdeal.main_arg0) = m ((c.tc : Thread Cert.HeadOutIdeal.nD Cert.HeadOutIdeal.τ).loc Cert.HeadOutIdeal.main_arg0)
      ∧ r.2.mem ((c.tc : Thread Cert.HeadOutIdeal.nD Cert.HeadOutIdeal.τ).loc Cert.HeadOutIdeal.main_arg1) = m ((c.tc : Thread Cert.HeadOutIdeal.nD Cert.HeadOutIdeal.τ).loc Cert.HeadOutIdeal.main_arg1)
      ∧ r.2.mem ((c.tc : Thread Cert.HeadOutIdeal.nD Cert.HeadOutIdeal.τ).loc Cert.HeadOutIdeal.main_arg2) = m ((c.tc : Thread Cert.HeadOutIdeal.nD Cert.HeadOutIdeal.τ).loc Cert.HeadOutIdeal.main_arg2)
      ∧ r.2.mem ((c.tc : Thread Cert.HeadOutIdeal.nD Cert.HeadOutIdeal.τ).loc Cert.HeadOutIdeal.main_arg3) = m ((c.tc : Thread Cert.HeadOutIdeal.nD Cert.HeadOutIdeal.τ).loc Cert.HeadOutIdeal.main_arg3)
      ∧ r.2.mem ((c.tc : Thread Cert.HeadOutIdeal.nD Cert.HeadOutIdeal.τ).loc Cert.HeadOutIdeal.main_arg4) = m ((c.tc : Thread Cert.HeadOutIdeal.nD Cert.HeadOutIdeal.τ).loc Cert.HeadOutIdeal.main_arg4)
      ∧ r.2.mem ((c.tc : Thread Cert.HeadOutIdeal.nD Cert.HeadOutIdeal.τ).loc Cert.HeadOutIdeal.main_arg5) = m ((c.tc : Thread Cert.HeadOutIdeal.nD Cert.HeadOutIdeal.τ).loc Cert.HeadOutIdeal.main_arg5))
      ∧ r.2.sem = fun _ => 0)

def quiescent_HeadOutRefIdeal [hHeadOutRefIdeal : Cert.HeadOutRefIdeal.Facts] : Prop :=
  ∀ (m : (ℓ : Loc Cert.HeadOutRefIdeal.nD Cert.HeadOutRefIdeal.τ Cert.HeadOutRefIdeal.sig) → Buf (Elt Ideal) ℓ) (g : Dev Cert.HeadOutRefIdeal.nD → PrngReg), Pre_HeadOutRefIdeal m →
    θ_run (Cert.HeadOutRefIdeal.defs (F := Ideal)) (onTc (τ := Cert.HeadOutRefIdeal.τ) (Cert.HeadOutRefIdeal.main (F := Ideal))) ⟨m, fun _ => 0, g⟩ (fun r => (∀ c : Dev Cert.HeadOutRefIdeal.nD,
      r.2.mem ((c.tc : Thread Cert.HeadOutRefIdeal.nD Cert.HeadOutRefIdeal.τ).loc Cert.HeadOutRefIdeal.main_arg0) = m ((c.tc : Thread Cert.HeadOutRefIdeal.nD Cert.HeadOutRefIdeal.τ).loc Cert.HeadOutRefIdeal.main_arg0)
      ∧ r.2.mem ((c.tc : Thread Cert.HeadOutRefIdeal.nD Cert.HeadOutRefIdeal.τ).loc Cert.HeadOutRefIdeal.main_arg1) = m ((c.tc : Thread Cert.HeadOutRefIdeal.nD Cert.HeadOutRefIdeal.τ).loc Cert.HeadOutRefIdeal.main_arg1)
      ∧ r.2.mem ((c.tc : Thread Cert.HeadOutRefIdeal.nD Cert.HeadOutRefIdeal.τ).loc Cert.HeadOutRefIdeal.main_arg2) = m ((c.tc : Thread Cert.HeadOutRefIdeal.nD Cert.HeadOutRefIdeal.τ).loc Cert.HeadOutRefIdeal.main_arg2)
      ∧ r.2.mem ((c.tc : Thread Cert.HeadOutRefIdeal.nD Cert.HeadOutRefIdeal.τ).loc Cert.HeadOutRefIdeal.main_arg3) = m ((c.tc : Thread Cert.HeadOutRefIdeal.nD Cert.HeadOutRefIdeal.τ).loc Cert.HeadOutRefIdeal.main_arg3)
      ∧ r.2.mem ((c.tc : Thread Cert.HeadOutRefIdeal.nD Cert.HeadOutRefIdeal.τ).loc Cert.HeadOutRefIdeal.main_arg4) = m ((c.tc : Thread Cert.HeadOutRefIdeal.nD Cert.HeadOutRefIdeal.τ).loc Cert.HeadOutRefIdeal.main_arg4)
      ∧ r.2.mem ((c.tc : Thread Cert.HeadOutRefIdeal.nD Cert.HeadOutRefIdeal.τ).loc Cert.HeadOutRefIdeal.main_arg5) = m ((c.tc : Thread Cert.HeadOutRefIdeal.nD Cert.HeadOutRefIdeal.τ).loc Cert.HeadOutRefIdeal.main_arg5))
      ∧ r.2.sem = fun _ => 0)

def quiescent_AdamShards [hAdamShards : Cert.AdamShards.Facts] : Prop :=
  ∀ (m : (ℓ : Loc Cert.AdamShards.nD Cert.AdamShards.τ Cert.AdamShards.sig) → Buf (Elt Bits) ℓ) (g : Dev Cert.AdamShards.nD → PrngReg), Pre_AdamShards m →
    θ_run (Cert.AdamShards.defs (F := Bits)) (onTc (τ := Cert.AdamShards.τ) (Cert.AdamShards.main (F := Bits))) ⟨m, fun _ => 0, g⟩ (fun r => (∀ c : Dev Cert.AdamShards.nD,
      r.2.mem ((c.tc : Thread Cert.AdamShards.nD Cert.AdamShards.τ).loc Cert.AdamShards.main_arg0) = m ((c.tc : Thread Cert.AdamShards.nD Cert.AdamShards.τ).loc Cert.AdamShards.main_arg0)
      ∧ r.2.mem ((c.tc : Thread Cert.AdamShards.nD Cert.AdamShards.τ).loc Cert.AdamShards.main_arg1) = m ((c.tc : Thread Cert.AdamShards.nD Cert.AdamShards.τ).loc Cert.AdamShards.main_arg1)
      ∧ r.2.mem ((c.tc : Thread Cert.AdamShards.nD Cert.AdamShards.τ).loc Cert.AdamShards.main_arg2) = m ((c.tc : Thread Cert.AdamShards.nD Cert.AdamShards.τ).loc Cert.AdamShards.main_arg2)
      ∧ r.2.mem ((c.tc : Thread Cert.AdamShards.nD Cert.AdamShards.τ).loc Cert.AdamShards.main_arg3) = m ((c.tc : Thread Cert.AdamShards.nD Cert.AdamShards.τ).loc Cert.AdamShards.main_arg3))
      ∧ r.2.sem = fun _ => 0)

def quiescent_AdamShardsIdeal [hAdamShardsIdeal : Cert.AdamShardsIdeal.Facts] : Prop :=
  ∀ (m : (ℓ : Loc Cert.AdamShardsIdeal.nD Cert.AdamShardsIdeal.τ Cert.AdamShardsIdeal.sig) → Buf (Elt Ideal) ℓ) (g : Dev Cert.AdamShardsIdeal.nD → PrngReg), Pre_AdamShardsIdeal m →
    θ_run (Cert.AdamShardsIdeal.defs (F := Ideal)) (onTc (τ := Cert.AdamShardsIdeal.τ) (Cert.AdamShardsIdeal.main (F := Ideal))) ⟨m, fun _ => 0, g⟩ (fun r => (∀ c : Dev Cert.AdamShardsIdeal.nD,
      r.2.mem ((c.tc : Thread Cert.AdamShardsIdeal.nD Cert.AdamShardsIdeal.τ).loc Cert.AdamShardsIdeal.main_arg0) = m ((c.tc : Thread Cert.AdamShardsIdeal.nD Cert.AdamShardsIdeal.τ).loc Cert.AdamShardsIdeal.main_arg0)
      ∧ r.2.mem ((c.tc : Thread Cert.AdamShardsIdeal.nD Cert.AdamShardsIdeal.τ).loc Cert.AdamShardsIdeal.main_arg1) = m ((c.tc : Thread Cert.AdamShardsIdeal.nD Cert.AdamShardsIdeal.τ).loc Cert.AdamShardsIdeal.main_arg1)
      ∧ r.2.mem ((c.tc : Thread Cert.AdamShardsIdeal.nD Cert.AdamShardsIdeal.τ).loc Cert.AdamShardsIdeal.main_arg2) = m ((c.tc : Thread Cert.AdamShardsIdeal.nD Cert.AdamShardsIdeal.τ).loc Cert.AdamShardsIdeal.main_arg2)
      ∧ r.2.mem ((c.tc : Thread Cert.AdamShardsIdeal.nD Cert.AdamShardsIdeal.τ).loc Cert.AdamShardsIdeal.main_arg3) = m ((c.tc : Thread Cert.AdamShardsIdeal.nD Cert.AdamShardsIdeal.τ).loc Cert.AdamShardsIdeal.main_arg3))
      ∧ r.2.sem = fun _ => 0)

def quiescent_AdamShardsRefIdeal [hAdamShardsRefIdeal : Cert.AdamShardsRefIdeal.Facts] : Prop :=
  ∀ (m : (ℓ : Loc Cert.AdamShardsRefIdeal.nD Cert.AdamShardsRefIdeal.τ Cert.AdamShardsRefIdeal.sig) → Buf (Elt Ideal) ℓ) (g : Dev Cert.AdamShardsRefIdeal.nD → PrngReg), Pre_AdamShardsRefIdeal m →
    θ_run (Cert.AdamShardsRefIdeal.defs (F := Ideal)) (onTc (τ := Cert.AdamShardsRefIdeal.τ) (Cert.AdamShardsRefIdeal.main (F := Ideal))) ⟨m, fun _ => 0, g⟩ (fun r => (∀ c : Dev Cert.AdamShardsRefIdeal.nD,
      r.2.mem ((c.tc : Thread Cert.AdamShardsRefIdeal.nD Cert.AdamShardsRefIdeal.τ).loc Cert.AdamShardsRefIdeal.main_arg0) = m ((c.tc : Thread Cert.AdamShardsRefIdeal.nD Cert.AdamShardsRefIdeal.τ).loc Cert.AdamShardsRefIdeal.main_arg0)
      ∧ r.2.mem ((c.tc : Thread Cert.AdamShardsRefIdeal.nD Cert.AdamShardsRefIdeal.τ).loc Cert.AdamShardsRefIdeal.main_arg1) = m ((c.tc : Thread Cert.AdamShardsRefIdeal.nD Cert.AdamShardsRefIdeal.τ).loc Cert.AdamShardsRefIdeal.main_arg1)
      ∧ r.2.mem ((c.tc : Thread Cert.AdamShardsRefIdeal.nD Cert.AdamShardsRefIdeal.τ).loc Cert.AdamShardsRefIdeal.main_arg2) = m ((c.tc : Thread Cert.AdamShardsRefIdeal.nD Cert.AdamShardsRefIdeal.τ).loc Cert.AdamShardsRefIdeal.main_arg2)
      ∧ r.2.mem ((c.tc : Thread Cert.AdamShardsRefIdeal.nD Cert.AdamShardsRefIdeal.τ).loc Cert.AdamShardsRefIdeal.main_arg3) = m ((c.tc : Thread Cert.AdamShardsRefIdeal.nD Cert.AdamShardsRefIdeal.τ).loc Cert.AdamShardsRefIdeal.main_arg3))
      ∧ r.2.sem = fun _ => 0)

def quiescent_AdamWhole [hAdamWhole : Cert.AdamWhole.Facts] : Prop :=
  ∀ (m : (ℓ : Loc Cert.AdamWhole.nD Cert.AdamWhole.τ Cert.AdamWhole.sig) → Buf (Elt Bits) ℓ) (g : Dev Cert.AdamWhole.nD → PrngReg), Pre_AdamWhole m →
    θ_run (Cert.AdamWhole.defs (F := Bits)) (onTc (τ := Cert.AdamWhole.τ) (Cert.AdamWhole.main (F := Bits))) ⟨m, fun _ => 0, g⟩ (fun r => (∀ c : Dev Cert.AdamWhole.nD,
      r.2.mem ((c.tc : Thread Cert.AdamWhole.nD Cert.AdamWhole.τ).loc Cert.AdamWhole.main_arg0) = m ((c.tc : Thread Cert.AdamWhole.nD Cert.AdamWhole.τ).loc Cert.AdamWhole.main_arg0)
      ∧ r.2.mem ((c.tc : Thread Cert.AdamWhole.nD Cert.AdamWhole.τ).loc Cert.AdamWhole.main_arg1) = m ((c.tc : Thread Cert.AdamWhole.nD Cert.AdamWhole.τ).loc Cert.AdamWhole.main_arg1)
      ∧ r.2.mem ((c.tc : Thread Cert.AdamWhole.nD Cert.AdamWhole.τ).loc Cert.AdamWhole.main_arg2) = m ((c.tc : Thread Cert.AdamWhole.nD Cert.AdamWhole.τ).loc Cert.AdamWhole.main_arg2)
      ∧ r.2.mem ((c.tc : Thread Cert.AdamWhole.nD Cert.AdamWhole.τ).loc Cert.AdamWhole.main_arg3) = m ((c.tc : Thread Cert.AdamWhole.nD Cert.AdamWhole.τ).loc Cert.AdamWhole.main_arg3))
      ∧ r.2.sem = fun _ => 0)

def quiescent_AdamWholeIdeal [hAdamWholeIdeal : Cert.AdamWholeIdeal.Facts] : Prop :=
  ∀ (m : (ℓ : Loc Cert.AdamWholeIdeal.nD Cert.AdamWholeIdeal.τ Cert.AdamWholeIdeal.sig) → Buf (Elt Ideal) ℓ) (g : Dev Cert.AdamWholeIdeal.nD → PrngReg), Pre_AdamWholeIdeal m →
    θ_run (Cert.AdamWholeIdeal.defs (F := Ideal)) (onTc (τ := Cert.AdamWholeIdeal.τ) (Cert.AdamWholeIdeal.main (F := Ideal))) ⟨m, fun _ => 0, g⟩ (fun r => (∀ c : Dev Cert.AdamWholeIdeal.nD,
      r.2.mem ((c.tc : Thread Cert.AdamWholeIdeal.nD Cert.AdamWholeIdeal.τ).loc Cert.AdamWholeIdeal.main_arg0) = m ((c.tc : Thread Cert.AdamWholeIdeal.nD Cert.AdamWholeIdeal.τ).loc Cert.AdamWholeIdeal.main_arg0)
      ∧ r.2.mem ((c.tc : Thread Cert.AdamWholeIdeal.nD Cert.AdamWholeIdeal.τ).loc Cert.AdamWholeIdeal.main_arg1) = m ((c.tc : Thread Cert.AdamWholeIdeal.nD Cert.AdamWholeIdeal.τ).loc Cert.AdamWholeIdeal.main_arg1)
      ∧ r.2.mem ((c.tc : Thread Cert.AdamWholeIdeal.nD Cert.AdamWholeIdeal.τ).loc Cert.AdamWholeIdeal.main_arg2) = m ((c.tc : Thread Cert.AdamWholeIdeal.nD Cert.AdamWholeIdeal.τ).loc Cert.AdamWholeIdeal.main_arg2)
      ∧ r.2.mem ((c.tc : Thread Cert.AdamWholeIdeal.nD Cert.AdamWholeIdeal.τ).loc Cert.AdamWholeIdeal.main_arg3) = m ((c.tc : Thread Cert.AdamWholeIdeal.nD Cert.AdamWholeIdeal.τ).loc Cert.AdamWholeIdeal.main_arg3))
      ∧ r.2.sem = fun _ => 0)

def quiescent_AdamWholeRefIdeal [hAdamWholeRefIdeal : Cert.AdamWholeRefIdeal.Facts] : Prop :=
  ∀ (m : (ℓ : Loc Cert.AdamWholeRefIdeal.nD Cert.AdamWholeRefIdeal.τ Cert.AdamWholeRefIdeal.sig) → Buf (Elt Ideal) ℓ) (g : Dev Cert.AdamWholeRefIdeal.nD → PrngReg), Pre_AdamWholeRefIdeal m →
    θ_run (Cert.AdamWholeRefIdeal.defs (F := Ideal)) (onTc (τ := Cert.AdamWholeRefIdeal.τ) (Cert.AdamWholeRefIdeal.main (F := Ideal))) ⟨m, fun _ => 0, g⟩ (fun r => (∀ c : Dev Cert.AdamWholeRefIdeal.nD,
      r.2.mem ((c.tc : Thread Cert.AdamWholeRefIdeal.nD Cert.AdamWholeRefIdeal.τ).loc Cert.AdamWholeRefIdeal.main_arg0) = m ((c.tc : Thread Cert.AdamWholeRefIdeal.nD Cert.AdamWholeRefIdeal.τ).loc Cert.AdamWholeRefIdeal.main_arg0)
      ∧ r.2.mem ((c.tc : Thread Cert.AdamWholeRefIdeal.nD Cert.AdamWholeRefIdeal.τ).loc Cert.AdamWholeRefIdeal.main_arg1) = m ((c.tc : Thread Cert.AdamWholeRefIdeal.nD Cert.AdamWholeRefIdeal.τ).loc Cert.AdamWholeRefIdeal.main_arg1)
      ∧ r.2.mem ((c.tc : Thread Cert.AdamWholeRefIdeal.nD Cert.AdamWholeRefIdeal.τ).loc Cert.AdamWholeRefIdeal.main_arg2) = m ((c.tc : Thread Cert.AdamWholeRefIdeal.nD Cert.AdamWholeRefIdeal.τ).loc Cert.AdamWholeRefIdeal.main_arg2)
      ∧ r.2.mem ((c.tc : Thread Cert.AdamWholeRefIdeal.nD Cert.AdamWholeRefIdeal.τ).loc Cert.AdamWholeRefIdeal.main_arg3) = m ((c.tc : Thread Cert.AdamWholeRefIdeal.nD Cert.AdamWholeRefIdeal.τ).loc Cert.AdamWholeRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateGrad_GateGradIdeal : Prop :=
  True

def algebraic_GateGradIdeal_GateGradRefIdeal_pre_gate_finite [hGateGradIdeal : Cert.GateGradIdeal.Facts] [hGateGradRefIdeal : Cert.GateGradRefIdeal.Facts] [hPre_gate_finite : Cert.Pre_gate_finite.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal_gate_finite m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)
      ∧ m' ((c.tc : Thread Cert.GateGradRefIdeal.nD Cert.GateGradRefIdeal.τ).loc Cert.GateGradRefIdeal.main_arg2) = m ((c.tc : Thread Cert.GateGradIdeal.nD Cert.GateGradIdeal.τ).loc Cert.GateGradIdeal.main_arg2)) →
    ∃ (v0 : (c : Dev Cert.GateGradIdeal.nD) → Buf (Elt Ideal) ((c.tc : Thread Cert.GateGradIdeal.nD Cert.GateGradIdeal.τ).loc Cert.GateGradIdeal.main_v1)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v1) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v26) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1)
          ∧ r.2.mem ((c.tc : Thread Cert.GateGradRefIdeal.nD Cert.GateGradRefIdeal.τ).loc Cert.GateGradRefIdeal.main_arg2) = m' ((c.tc : Thread Cert.GateGradRefIdeal.nD Cert.GateGradRefIdeal.τ).loc Cert.GateGradRefIdeal.main_arg2))

def preserves_NormGrad_NormGradIdeal : Prop :=
  True

def algebraic_NormGradIdeal_NormGradRefIdeal_pre_norm_finite [hNormGradIdeal : Cert.NormGradIdeal.Facts] [hNormGradRefIdeal : Cert.NormGradRefIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_norm_finite m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v38) = v0 c
          ∧ r.2.mem ((c.tc : Thread Cert.NormGradRefIdeal.nD Cert.NormGradRefIdeal.τ).loc Cert.NormGradRefIdeal.main_v21) = v1 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v4) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_UpConv_UpConvIdeal : Prop :=
  True

def algebraic_UpConvIdeal_UpConvRefIdeal [hUpConvIdeal : Cert.UpConvIdeal.Facts] [hUpConvRefIdeal : Cert.UpConvRefIdeal.Facts] : Prop :=
  ∀ (m : (ℓ : Loc Cert.UpConvIdeal.nD Cert.UpConvIdeal.τ Cert.UpConvIdeal.sig) → Buf (Elt Ideal) ℓ) (g : Dev Cert.UpConvIdeal.nD → PrngReg)
    (m' : (ℓ : Loc Cert.UpConvRefIdeal.nD Cert.UpConvRefIdeal.τ Cert.UpConvRefIdeal.sig) → Buf (Elt Ideal) ℓ) (g' : Dev Cert.UpConvRefIdeal.nD → PrngReg), Pre_UpConvIdeal m →
    (∀ c : Dev Cert.UpConvIdeal.nD,
      m' ((c.tc : Thread Cert.UpConvRefIdeal.nD Cert.UpConvRefIdeal.τ).loc Cert.UpConvRefIdeal.main_arg0) = m ((c.tc : Thread Cert.UpConvIdeal.nD Cert.UpConvIdeal.τ).loc Cert.UpConvIdeal.main_arg0)
      ∧ m' ((c.tc : Thread Cert.UpConvRefIdeal.nD Cert.UpConvRefIdeal.τ).loc Cert.UpConvRefIdeal.main_arg1) = m ((c.tc : Thread Cert.UpConvIdeal.nD Cert.UpConvIdeal.τ).loc Cert.UpConvIdeal.main_arg1)
      ∧ m' ((c.tc : Thread Cert.UpConvRefIdeal.nD Cert.UpConvRefIdeal.τ).loc Cert.UpConvRefIdeal.main_arg2) = m ((c.tc : Thread Cert.UpConvIdeal.nD Cert.UpConvIdeal.τ).loc Cert.UpConvIdeal.main_arg2)
      ∧ m' ((c.tc : Thread Cert.UpConvRefIdeal.nD Cert.UpConvRefIdeal.τ).loc Cert.UpConvRefIdeal.main_arg3) = m ((c.tc : Thread Cert.UpConvIdeal.nD Cert.UpConvIdeal.τ).loc Cert.UpConvIdeal.main_arg3)) →
    ∃ (v0 : (c : Dev Cert.UpConvIdeal.nD) → Buf (Elt Ideal) ((c.tc : Thread Cert.UpConvIdeal.nD Cert.UpConvIdeal.τ).loc Cert.UpConvIdeal.main_v15_0)) (v1 : (c : Dev Cert.UpConvIdeal.nD) → Buf (Elt Ideal) ((c.tc : Thread Cert.UpConvIdeal.nD Cert.UpConvIdeal.τ).loc Cert.UpConvIdeal.main_v15_1)) (v2 : (c : Dev Cert.UpConvIdeal.nD) → Buf (Elt Ideal) ((c.tc : Thread Cert.UpConvIdeal.nD Cert.UpConvIdeal.τ).loc Cert.UpConvIdeal.main_v15_2)),
      θ_run (Cert.UpConvIdeal.defs (F := Ideal)) (onTc (τ := Cert.UpConvIdeal.τ) (Cert.UpConvIdeal.main (F := Ideal))) ⟨m, fun _ => 0, g⟩ (fun r => ∀ c : Dev Cert.UpConvIdeal.nD,
          r.2.mem ((c.tc : Thread Cert.UpConvIdeal.nD Cert.UpConvIdeal.τ).loc Cert.UpConvIdeal.main_v15_0) = v0 c
          ∧ r.2.mem ((c.tc : Thread Cert.UpConvIdeal.nD Cert.UpConvIdeal.τ).loc Cert.UpConvIdeal.main_v15_1) = v1 c
          ∧ r.2.mem ((c.tc : Thread Cert.UpConvIdeal.nD Cert.UpConvIdeal.τ).loc Cert.UpConvIdeal.main_v15_2) = v2 c
          ∧ r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
          ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
          ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
          ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ θ_run (Cert.UpConvRefIdeal.defs (F := Ideal)) (onTc (τ := Cert.UpConvRefIdeal.τ) (Cert.UpConvRefIdeal.main (F := Ideal))) ⟨m', fun _ => 0, g'⟩ (fun r => ∀ c : Dev Cert.UpConvRefIdeal.nD,
          r.2.mem ((c.tc : Thread Cert.UpConvRefIdeal.nD Cert.UpConvRefIdeal.τ).loc Cert.UpConvRefIdeal.main_v34) = v0 c
          ∧ r.2.mem ((c.tc : Thread Cert.UpConvRefIdeal.nD Cert.UpConvRefIdeal.τ).loc Cert.UpConvRefIdeal.main_v40) = v1 c
          ∧ r.2.mem ((c.tc : Thread Cert.UpConvRefIdeal.nD Cert.UpConvRefIdeal.τ).loc Cert.UpConvRefIdeal.main_v43) = v2 c
          ∧ r.2.mem ((c.tc : Thread Cert.UpConvRefIdeal.nD Cert.UpConvRefIdeal.τ).loc Cert.UpConvRefIdeal.main_arg0) = m' ((c.tc : Thread Cert.UpConvRefIdeal.nD Cert.UpConvRefIdeal.τ).loc Cert.UpConvRefIdeal.main_arg0)
          ∧ r.2.mem ((c.tc : Thread Cert.UpConvRefIdeal.nD Cert.UpConvRefIdeal.τ).loc Cert.UpConvRefIdeal.main_arg1) = m' ((c.tc : Thread Cert.UpConvRefIdeal.nD Cert.UpConvRefIdeal.τ).loc Cert.UpConvRefIdeal.main_arg1)
          ∧ r.2.mem ((c.tc : Thread Cert.UpConvRefIdeal.nD Cert.UpConvRefIdeal.τ).loc Cert.UpConvRefIdeal.main_arg2) = m' ((c.tc : Thread Cert.UpConvRefIdeal.nD Cert.UpConvRefIdeal.τ).loc Cert.UpConvRefIdeal.main_arg2)
          ∧ r.2.mem ((c.tc : Thread Cert.UpConvRefIdeal.nD Cert.UpConvRefIdeal.τ).loc Cert.UpConvRefIdeal.main_arg3) = m' ((c.tc : Thread Cert.UpConvRefIdeal.nD Cert.UpConvRefIdeal.τ).loc Cert.UpConvRefIdeal.main_arg3))

def preserves_QueryGrad_QueryGradIdeal : Prop :=
  True

def algebraic_QueryGradIdeal_QueryGradRefIdeal [hQueryGradIdeal : Cert.QueryGradIdeal.Facts] [hQueryGradRefIdeal : Cert.QueryGradRefIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg)
    (m' : (ℓ : Loc Cert.QueryGradRefIdeal.nD Cert.QueryGradRefIdeal.τ Cert.QueryGradRefIdeal.sig) → Buf (Elt Ideal) ℓ) (g' : Dev Cert.QueryGradRefIdeal.nD → PrngReg), Pre_QueryGradIdeal m →
    (∀ c : Dev Cert.QueryGradIdeal.nD,
      m' ((c.tc : Thread Cert.QueryGradRefIdeal.nD Cert.QueryGradRefIdeal.τ).loc Cert.QueryGradRefIdeal.main_arg0) = m ((c.tc : Thread Cert.QueryGradIdeal.nD Cert.QueryGradIdeal.τ).loc Cert.QueryGradIdeal.main_arg0)
      ∧ m' ((c.tc : Thread Cert.QueryGradRefIdeal.nD Cert.QueryGradRefIdeal.τ).loc Cert.QueryGradRefIdeal.main_arg1) = m ((c.tc : Thread Cert.QueryGradIdeal.nD Cert.QueryGradIdeal.τ).loc Cert.QueryGradIdeal.main_arg1)) →
    ∃ (v0 : (c : Dev Cert.QueryGradIdeal.nD) → Buf (Elt Ideal) ((c.tc : Thread Cert.QueryGradIdeal.nD Cert.QueryGradIdeal.τ).loc Cert.QueryGradIdeal.main_v0)),
      θ_run (Cert.QueryGradIdeal.defs (F := Ideal)) (onTc (τ := Cert.QueryGradIdeal.τ) (Cert.QueryGradIdeal.main (F := Ideal))) ⟨m, fun _ => 0, g⟩ (fun r => ∀ c : Dev Cert.QueryGradIdeal.nD,
          r.2.mem ((c.tc : Thread Cert.QueryGradIdeal.nD Cert.QueryGradIdeal.τ).loc Cert.QueryGradIdeal.main_v0) = v0 c
          ∧ r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
          ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ θ_run (Cert.QueryGradRefIdeal.defs (F := Ideal)) (onTc (τ := Cert.QueryGradRefIdeal.τ) (Cert.QueryGradRefIdeal.main (F := Ideal))) ⟨m', fun _ => 0, g'⟩ (fun r => ∀ c : Dev Cert.QueryGradRefIdeal.nD,
          r.2.mem ((c.tc : Thread Cert.QueryGradRefIdeal.nD Cert.QueryGradRefIdeal.τ).loc Cert.QueryGradRefIdeal.main_v5) = v0 c
          ∧ r.2.mem ((c.tc : Thread Cert.QueryGradRefIdeal.nD Cert.QueryGradRefIdeal.τ).loc Cert.QueryGradRefIdeal.main_arg0) = m' ((c.tc : Thread Cert.QueryGradRefIdeal.nD Cert.QueryGradRefIdeal.τ).loc Cert.QueryGradRefIdeal.main_arg0)
          ∧ r.2.mem ((c.tc : Thread Cert.QueryGradRefIdeal.nD Cert.QueryGradRefIdeal.τ).loc Cert.QueryGradRefIdeal.main_arg1) = m' ((c.tc : Thread Cert.QueryGradRefIdeal.nD Cert.QueryGradRefIdeal.τ).loc Cert.QueryGradRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v4) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v5) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_KvGrad_KvGradIdeal : Prop :=
  True

def algebraic_KvGradIdeal_KvGradRefIdeal [hKvGradIdeal : Cert.KvGradIdeal.Facts] [hKvGradRefIdeal : Cert.KvGradRefIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.KvGradRefIdeal.nD Cert.KvGradRefIdeal.τ Cert.KvGradRefIdeal.sig) → Buf (Elt Ideal) ℓ) (g' : Dev Cert.KvGradRefIdeal.nD → PrngReg), Pre_KvGradIdeal m →
    (∀ c : Dev Cert.KvGradIdeal.nD,
      m' ((c.tc : Thread Cert.KvGradRefIdeal.nD Cert.KvGradRefIdeal.τ).loc Cert.KvGradRefIdeal.main_arg0) = m ((c.tc : Thread Cert.KvGradIdeal.nD Cert.KvGradIdeal.τ).loc Cert.KvGradIdeal.main_arg0)
      ∧ m' ((c.tc : Thread Cert.KvGradRefIdeal.nD Cert.KvGradRefIdeal.τ).loc Cert.KvGradRefIdeal.main_arg1) = m ((c.tc : Thread Cert.KvGradIdeal.nD Cert.KvGradIdeal.τ).loc Cert.KvGradIdeal.main_arg1)
      ∧ m' ((c.tc : Thread Cert.KvGradRefIdeal.nD Cert.KvGradRefIdeal.τ).loc Cert.KvGradRefIdeal.main_arg2) = m ((c.tc : Thread Cert.KvGradIdeal.nD Cert.KvGradIdeal.τ).loc Cert.KvGradIdeal.main_arg2)
      ∧ m' ((c.tc : Thread Cert.KvGradRefIdeal.nD Cert.KvGradRefIdeal.τ).loc Cert.KvGradRefIdeal.main_arg3) = m ((c.tc : Thread Cert.KvGradIdeal.nD Cert.KvGradIdeal.τ).loc Cert.KvGradIdeal.main_arg3)
      ∧ m' ((c.tc : Thread Cert.KvGradRefIdeal.nD Cert.KvGradRefIdeal.τ).loc Cert.KvGradRefIdeal.main_arg4) = m ((c.tc : Thread Cert.KvGradIdeal.nD Cert.KvGradIdeal.τ).loc Cert.KvGradIdeal.main_arg4)
      ∧ m' ((c.tc : Thread Cert.KvGradRefIdeal.nD Cert.KvGradRefIdeal.τ).loc Cert.KvGradRefIdeal.main_arg5) = m ((c.tc : Thread Cert.KvGradIdeal.nD Cert.KvGradIdeal.τ).loc Cert.KvGradIdeal.main_arg5)
      ∧ m' ((c.tc : Thread Cert.KvGradRefIdeal.nD Cert.KvGradRefIdeal.τ).loc Cert.KvGradRefIdeal.main_arg6) = m ((c.tc : Thread Cert.KvGradIdeal.nD Cert.KvGradIdeal.τ).loc Cert.KvGradIdeal.main_arg6)) →
    ∃ (v0 : (c : Dev Cert.KvGradIdeal.nD) → Buf (Elt Ideal) ((c.tc : Thread Cert.KvGradIdeal.nD Cert.KvGradIdeal.τ).loc Cert.KvGradIdeal.main_v7)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v7) = v0 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
          ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
          ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3)
          ∧ r.2.mem ((c.tc : Thread Cert.KvGradIdeal.nD Cert.KvGradIdeal.τ).loc Cert.KvGradIdeal.main_arg4) = m ((c.tc : Thread Cert.KvGradIdeal.nD Cert.KvGradIdeal.τ).loc Cert.KvGradIdeal.main_arg4)
          ∧ r.2.mem ((c.tc : Thread Cert.KvGradIdeal.nD Cert.KvGradIdeal.τ).loc Cert.KvGradIdeal.main_arg5) = m ((c.tc : Thread Cert.KvGradIdeal.nD Cert.KvGradIdeal.τ).loc Cert.KvGradIdeal.main_arg5)
          ∧ r.2.mem ((c.tc : Thread Cert.KvGradIdeal.nD Cert.KvGradIdeal.τ).loc Cert.KvGradIdeal.main_arg6) = m ((c.tc : Thread Cert.KvGradIdeal.nD Cert.KvGradIdeal.τ).loc Cert.KvGradIdeal.main_arg6))
      ∧ θ_run (Cert.KvGradRefIdeal.defs (F := Ideal)) (onTc (τ := Cert.KvGradRefIdeal.τ) (Cert.KvGradRefIdeal.main (F := Ideal))) ⟨m', fun _ => 0, g'⟩ (fun r => ∀ c : Dev Cert.KvGradRefIdeal.nD,
          r.2.mem ((c.tc : Thread Cert.KvGradRefIdeal.nD Cert.KvGradRefIdeal.τ).loc Cert.KvGradRefIdeal.main_v5) = v0 c
          ∧ r.2.mem ((c.tc : Thread Cert.KvGradRefIdeal.nD Cert.KvGradRefIdeal.τ).loc Cert.KvGradRefIdeal.main_arg0) = m' ((c.tc : Thread Cert.KvGradRefIdeal.nD Cert.KvGradRefIdeal.τ).loc Cert.KvGradRefIdeal.main_arg0)
          ∧ r.2.mem ((c.tc : Thread Cert.KvGradRefIdeal.nD Cert.KvGradRefIdeal.τ).loc Cert.KvGradRefIdeal.main_arg1) = m' ((c.tc : Thread Cert.KvGradRefIdeal.nD Cert.KvGradRefIdeal.τ).loc Cert.KvGradRefIdeal.main_arg1)
          ∧ r.2.mem ((c.tc : Thread Cert.KvGradRefIdeal.nD Cert.KvGradRefIdeal.τ).loc Cert.KvGradRefIdeal.main_arg2) = m' ((c.tc : Thread Cert.KvGradRefIdeal.nD Cert.KvGradRefIdeal.τ).loc Cert.KvGradRefIdeal.main_arg2)
          ∧ r.2.mem ((c.tc : Thread Cert.KvGradRefIdeal.nD Cert.KvGradRefIdeal.τ).loc Cert.KvGradRefIdeal.main_arg3) = m' ((c.tc : Thread Cert.KvGradRefIdeal.nD Cert.KvGradRefIdeal.τ).loc Cert.KvGradRefIdeal.main_arg3)
          ∧ r.2.mem ((c.tc : Thread Cert.KvGradRefIdeal.nD Cert.KvGradRefIdeal.τ).loc Cert.KvGradRefIdeal.main_arg4) = m' ((c.tc : Thread Cert.KvGradRefIdeal.nD Cert.KvGradRefIdeal.τ).loc Cert.KvGradRefIdeal.main_arg4)
          ∧ r.2.mem ((c.tc : Thread Cert.KvGradRefIdeal.nD Cert.KvGradRefIdeal.τ).loc Cert.KvGradRefIdeal.main_arg5) = m' ((c.tc : Thread Cert.KvGradRefIdeal.nD Cert.KvGradRefIdeal.τ).loc Cert.KvGradRefIdeal.main_arg5)
          ∧ r.2.mem ((c.tc : Thread Cert.KvGradRefIdeal.nD Cert.KvGradRefIdeal.τ).loc Cert.KvGradRefIdeal.main_arg6) = m' ((c.tc : Thread Cert.KvGradRefIdeal.nD Cert.KvGradRefIdeal.τ).loc Cert.KvGradRefIdeal.main_arg6))

def preserves_MixNorm_MixNormIdeal : Prop :=
  True

def algebraic_MixNormIdeal_MixNormRefIdeal_pre_mix_norm_finite [hMixNormIdeal : Cert.MixNormIdeal.Facts] [hMixNormRefIdeal : Cert.MixNormRefIdeal.Facts] [hPre_mix_norm_finite : Cert.Pre_mix_norm_finite.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal_mix_norm_finite m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)
      ∧ m' ((c.tc : Thread Cert.MixNormRefIdeal.nD Cert.MixNormRefIdeal.τ).loc Cert.MixNormRefIdeal.main_arg4) = m ((c.tc : Thread Cert.MixNormIdeal.nD Cert.MixNormIdeal.τ).loc Cert.MixNormIdeal.main_arg4)
      ∧ m' ((c.tc : Thread Cert.MixNormRefIdeal.nD Cert.MixNormRefIdeal.τ).loc Cert.MixNormRefIdeal.main_arg5) = m ((c.tc : Thread Cert.MixNormIdeal.nD Cert.MixNormIdeal.τ).loc Cert.MixNormIdeal.main_arg5)
      ∧ m' ((c.tc : Thread Cert.MixNormRefIdeal.nD Cert.MixNormRefIdeal.τ).loc Cert.MixNormRefIdeal.main_arg6) = m ((c.tc : Thread Cert.MixNormIdeal.nD Cert.MixNormIdeal.τ).loc Cert.MixNormIdeal.main_arg6)
      ∧ m' ((c.tc : Thread Cert.MixNormRefIdeal.nD Cert.MixNormRefIdeal.τ).loc Cert.MixNormRefIdeal.main_arg7) = m ((c.tc : Thread Cert.MixNormIdeal.nD Cert.MixNormIdeal.τ).loc Cert.MixNormIdeal.main_arg7)
      ∧ m' ((c.tc : Thread Cert.MixNormRefIdeal.nD Cert.MixNormRefIdeal.τ).loc Cert.MixNormRefIdeal.main_arg8) = m ((c.tc : Thread Cert.MixNormIdeal.nD Cert.MixNormIdeal.τ).loc Cert.MixNormIdeal.main_arg8)) →
    ∃ (v0 : (c : Dev Cert.MixNormIdeal.nD) → Buf (Elt Ideal) ((c.tc : Thread Cert.MixNormIdeal.nD Cert.MixNormIdeal.τ).loc Cert.MixNormIdeal.main_v4_0)) (v1 : (c : Dev Cert.MixNormIdeal.nD) → Buf (Elt Ideal) ((c.tc : Thread Cert.MixNormIdeal.nD Cert.MixNormIdeal.τ).loc Cert.MixNormIdeal.main_v4_1)) (v2 : (c : Dev Cert.MixNormIdeal.nD) → Buf (Elt Ideal) ((c.tc : Thread Cert.MixNormIdeal.nD Cert.MixNormIdeal.τ).loc Cert.MixNormIdeal.main_v4_2)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v4_0) = v0 c
          ∧ r.2.mem ((c.tc : Thread Cert.MixNormIdeal.nD Cert.MixNormIdeal.τ).loc Cert.MixNormIdeal.main_v4_1) = v1 c
          ∧ r.2.mem ((c.tc : Thread Cert.MixNormIdeal.nD Cert.MixNormIdeal.τ).loc Cert.MixNormIdeal.main_v4_2) = v2 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
          ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
          ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
          ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6)
          ∧ r.2.mem ((c.tc : Thread Cert.MixNormIdeal.nD Cert.MixNormIdeal.τ).loc Cert.MixNormIdeal.main_arg7) = m ((c.tc : Thread Cert.MixNormIdeal.nD Cert.MixNormIdeal.τ).loc Cert.MixNormIdeal.main_arg7)
          ∧ r.2.mem ((c.tc : Thread Cert.MixNormIdeal.nD Cert.MixNormIdeal.τ).loc Cert.MixNormIdeal.main_arg8) = m ((c.tc : Thread Cert.MixNormIdeal.nD Cert.MixNormIdeal.τ).loc Cert.MixNormIdeal.main_arg8))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v74) = v0 c
          ∧ r.2.mem ((c.tc : Thread Cert.MixNormRefIdeal.nD Cert.MixNormRefIdeal.τ).loc Cert.MixNormRefIdeal.main_v57) = v1 c
          ∧ r.2.mem ((c.tc : Thread Cert.MixNormRefIdeal.nD Cert.MixNormRefIdeal.τ).loc Cert.MixNormRefIdeal.main_v36) = v2 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3)
          ∧ r.2.mem ((c.tc : Thread Cert.MixNormRefIdeal.nD Cert.MixNormRefIdeal.τ).loc Cert.MixNormRefIdeal.main_arg4) = m' ((c.tc : Thread Cert.MixNormRefIdeal.nD Cert.MixNormRefIdeal.τ).loc Cert.MixNormRefIdeal.main_arg4)
          ∧ r.2.mem ((c.tc : Thread Cert.MixNormRefIdeal.nD Cert.MixNormRefIdeal.τ).loc Cert.MixNormRefIdeal.main_arg5) = m' ((c.tc : Thread Cert.MixNormRefIdeal.nD Cert.MixNormRefIdeal.τ).loc Cert.MixNormRefIdeal.main_arg5)
          ∧ r.2.mem ((c.tc : Thread Cert.MixNormRefIdeal.nD Cert.MixNormRefIdeal.τ).loc Cert.MixNormRefIdeal.main_arg6) = m' ((c.tc : Thread Cert.MixNormRefIdeal.nD Cert.MixNormRefIdeal.τ).loc Cert.MixNormRefIdeal.main_arg6)
          ∧ r.2.mem ((c.tc : Thread Cert.MixNormRefIdeal.nD Cert.MixNormRefIdeal.τ).loc Cert.MixNormRefIdeal.main_arg7) = m' ((c.tc : Thread Cert.MixNormRefIdeal.nD Cert.MixNormRefIdeal.τ).loc Cert.MixNormRefIdeal.main_arg7)
          ∧ r.2.mem ((c.tc : Thread Cert.MixNormRefIdeal.nD Cert.MixNormRefIdeal.τ).loc Cert.MixNormRefIdeal.main_arg8) = m' ((c.tc : Thread Cert.MixNormRefIdeal.nD Cert.MixNormRefIdeal.τ).loc Cert.MixNormRefIdeal.main_arg8))

def preserves_InNorm_InNormIdeal : Prop :=
  True

def algebraic_InNormIdeal_InNormRefIdeal_pre_in_norm_finite [hInNormIdeal : Cert.InNormIdeal.Facts] [hInNormRefIdeal : Cert.InNormRefIdeal.Facts] [hPre_in_norm_finite : Cert.Pre_in_norm_finite.Facts] : Prop :=
  ∀ (m : (ℓ : Loc Cert.InNormIdeal.nD Cert.InNormIdeal.τ Cert.InNormIdeal.sig) → Buf (Elt Ideal) ℓ) (g : Dev Cert.InNormIdeal.nD → PrngReg)
    (m' : (ℓ : Loc Cert.InNormRefIdeal.nD Cert.InNormRefIdeal.τ Cert.InNormRefIdeal.sig) → Buf (Elt Ideal) ℓ) (g' : Dev Cert.InNormRefIdeal.nD → PrngReg), Pre_InNormIdeal_in_norm_finite m →
    (∀ c : Dev Cert.InNormIdeal.nD,
      m' ((c.tc : Thread Cert.InNormRefIdeal.nD Cert.InNormRefIdeal.τ).loc Cert.InNormRefIdeal.main_arg0) = m ((c.tc : Thread Cert.InNormIdeal.nD Cert.InNormIdeal.τ).loc Cert.InNormIdeal.main_arg0)
      ∧ m' ((c.tc : Thread Cert.InNormRefIdeal.nD Cert.InNormRefIdeal.τ).loc Cert.InNormRefIdeal.main_arg1) = m ((c.tc : Thread Cert.InNormIdeal.nD Cert.InNormIdeal.τ).loc Cert.InNormIdeal.main_arg1)
      ∧ m' ((c.tc : Thread Cert.InNormRefIdeal.nD Cert.InNormRefIdeal.τ).loc Cert.InNormRefIdeal.main_arg2) = m ((c.tc : Thread Cert.InNormIdeal.nD Cert.InNormIdeal.τ).loc Cert.InNormIdeal.main_arg2)
      ∧ m' ((c.tc : Thread Cert.InNormRefIdeal.nD Cert.InNormRefIdeal.τ).loc Cert.InNormRefIdeal.main_arg3) = m ((c.tc : Thread Cert.InNormIdeal.nD Cert.InNormIdeal.τ).loc Cert.InNormIdeal.main_arg3)
      ∧ m' ((c.tc : Thread Cert.InNormRefIdeal.nD Cert.InNormRefIdeal.τ).loc Cert.InNormRefIdeal.main_arg4) = m ((c.tc : Thread Cert.InNormIdeal.nD Cert.InNormIdeal.τ).loc Cert.InNormIdeal.main_arg4)) →
    ∃ (v0 : (c : Dev Cert.InNormIdeal.nD) → Buf (Elt Ideal) ((c.tc : Thread Cert.InNormIdeal.nD Cert.InNormIdeal.τ).loc Cert.InNormIdeal.main_v5_0)) (v1 : (c : Dev Cert.InNormIdeal.nD) → Buf (Elt Ideal) ((c.tc : Thread Cert.InNormIdeal.nD Cert.InNormIdeal.τ).loc Cert.InNormIdeal.main_v5_1)),
      θ_run (Cert.InNormIdeal.defs (F := Ideal)) (onTc (τ := Cert.InNormIdeal.τ) (Cert.InNormIdeal.main (F := Ideal))) ⟨m, fun _ => 0, g⟩ (fun r => ∀ c : Dev Cert.InNormIdeal.nD,
          r.2.mem ((c.tc : Thread Cert.InNormIdeal.nD Cert.InNormIdeal.τ).loc Cert.InNormIdeal.main_v5_0) = v0 c
          ∧ r.2.mem ((c.tc : Thread Cert.InNormIdeal.nD Cert.InNormIdeal.τ).loc Cert.InNormIdeal.main_v5_1) = v1 c
          ∧ r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
          ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
          ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
          ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
          ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ θ_run (Cert.InNormRefIdeal.defs (F := Ideal)) (onTc (τ := Cert.InNormRefIdeal.τ) (Cert.InNormRefIdeal.main (F := Ideal))) ⟨m', fun _ => 0, g'⟩ (fun r => ∀ c : Dev Cert.InNormRefIdeal.nD,
          r.2.mem ((c.tc : Thread Cert.InNormRefIdeal.nD Cert.InNormRefIdeal.τ).loc Cert.InNormRefIdeal.main_v41) = v0 c
          ∧ r.2.mem ((c.tc : Thread Cert.InNormRefIdeal.nD Cert.InNormRefIdeal.τ).loc Cert.InNormRefIdeal.main_v24) = v1 c
          ∧ r.2.mem ((c.tc : Thread Cert.InNormRefIdeal.nD Cert.InNormRefIdeal.τ).loc Cert.InNormRefIdeal.main_arg0) = m' ((c.tc : Thread Cert.InNormRefIdeal.nD Cert.InNormRefIdeal.τ).loc Cert.InNormRefIdeal.main_arg0)
          ∧ r.2.mem ((c.tc : Thread Cert.InNormRefIdeal.nD Cert.InNormRefIdeal.τ).loc Cert.InNormRefIdeal.main_arg1) = m' ((c.tc : Thread Cert.InNormRefIdeal.nD Cert.InNormRefIdeal.τ).loc Cert.InNormRefIdeal.main_arg1)
          ∧ r.2.mem ((c.tc : Thread Cert.InNormRefIdeal.nD Cert.InNormRefIdeal.τ).loc Cert.InNormRefIdeal.main_arg2) = m' ((c.tc : Thread Cert.InNormRefIdeal.nD Cert.InNormRefIdeal.τ).loc Cert.InNormRefIdeal.main_arg2)
          ∧ r.2.mem ((c.tc : Thread Cert.InNormRefIdeal.nD Cert.InNormRefIdeal.τ).loc Cert.InNormRefIdeal.main_arg3) = m' ((c.tc : Thread Cert.InNormRefIdeal.nD Cert.InNormRefIdeal.τ).loc Cert.InNormRefIdeal.main_arg3)
          ∧ r.2.mem ((c.tc : Thread Cert.InNormRefIdeal.nD Cert.InNormRefIdeal.τ).loc Cert.InNormRefIdeal.main_arg4) = m' ((c.tc : Thread Cert.InNormRefIdeal.nD Cert.InNormRefIdeal.τ).loc Cert.InNormRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v6) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Heads1_Heads1Ideal : Prop :=
  True

def algebraic_Heads1Ideal_Heads1RefIdeal [hHeads1Ideal : Cert.Heads1Ideal.Facts] [hHeads1RefIdeal : Cert.Heads1RefIdeal.Facts] : Prop :=
  ∀ (m : (ℓ : Loc Cert.Heads1Ideal.nD Cert.Heads1Ideal.τ Cert.Heads1Ideal.sig) → Buf (Elt Ideal) ℓ) (g : Dev Cert.Heads1Ideal.nD → PrngReg)
    (m' : (ℓ : Loc Cert.Heads1RefIdeal.nD Cert.Heads1RefIdeal.τ Cert.Heads1RefIdeal.sig) → Buf (Elt Ideal) ℓ) (g' : Dev Cert.Heads1RefIdeal.nD → PrngReg), Pre_Heads1Ideal m →
    (∀ c : Dev Cert.Heads1Ideal.nD,
      m' ((c.tc : Thread Cert.Heads1RefIdeal.nD Cert.Heads1RefIdeal.τ).loc Cert.Heads1RefIdeal.main_arg0) = m ((c.tc : Thread Cert.Heads1Ideal.nD Cert.Heads1Ideal.τ).loc Cert.Heads1Ideal.main_arg0)
      ∧ m' ((c.tc : Thread Cert.Heads1RefIdeal.nD Cert.Heads1RefIdeal.τ).loc Cert.Heads1RefIdeal.main_arg1) = m ((c.tc : Thread Cert.Heads1Ideal.nD Cert.Heads1Ideal.τ).loc Cert.Heads1Ideal.main_arg1)) →
    ∃ (v0 : (c : Dev Cert.Heads1Ideal.nD) → Buf (Elt Ideal) ((c.tc : Thread Cert.Heads1Ideal.nD Cert.Heads1Ideal.τ).loc Cert.Heads1Ideal.main_v0)),
      θ_run (Cert.Heads1Ideal.defs (F := Ideal)) (onTc (τ := Cert.Heads1Ideal.τ) (Cert.Heads1Ideal.main (F := Ideal))) ⟨m, fun _ => 0, g⟩ (fun r => ∀ c : Dev Cert.Heads1Ideal.nD,
          r.2.mem ((c.tc : Thread Cert.Heads1Ideal.nD Cert.Heads1Ideal.τ).loc Cert.Heads1Ideal.main_v0) = v0 c
          ∧ r.2.mem ((c.tc : Thread Cert.Heads1Ideal.nD Cert.Heads1Ideal.τ).loc Cert.Heads1Ideal.main_arg0) = m ((c.tc : Thread Cert.Heads1Ideal.nD Cert.Heads1Ideal.τ).loc Cert.Heads1Ideal.main_arg0)
          ∧ r.2.mem ((c.tc : Thread Cert.Heads1Ideal.nD Cert.Heads1Ideal.τ).loc Cert.Heads1Ideal.main_arg1) = m ((c.tc : Thread Cert.Heads1Ideal.nD Cert.Heads1Ideal.τ).loc Cert.Heads1Ideal.main_arg1))
      ∧ θ_run (Cert.Heads1RefIdeal.defs (F := Ideal)) (onTc (τ := Cert.Heads1RefIdeal.τ) (Cert.Heads1RefIdeal.main (F := Ideal))) ⟨m', fun _ => 0, g'⟩ (fun r => ∀ c : Dev Cert.Heads1RefIdeal.nD,
          r.2.mem ((c.tc : Thread Cert.Heads1RefIdeal.nD Cert.Heads1RefIdeal.τ).loc Cert.Heads1RefIdeal.main_v3) = v0 c
          ∧ r.2.mem ((c.tc : Thread Cert.Heads1RefIdeal.nD Cert.Heads1RefIdeal.τ).loc Cert.Heads1RefIdeal.main_arg0) = m' ((c.tc : Thread Cert.Heads1RefIdeal.nD Cert.Heads1RefIdeal.τ).loc Cert.Heads1RefIdeal.main_arg0)
          ∧ r.2.mem ((c.tc : Thread Cert.Heads1RefIdeal.nD Cert.Heads1RefIdeal.τ).loc Cert.Heads1RefIdeal.main_arg1) = m' ((c.tc : Thread Cert.Heads1RefIdeal.nD Cert.Heads1RefIdeal.τ).loc Cert.Heads1RefIdeal.main_arg1))

def preserves_Heads4_Heads4Ideal : Prop :=
  True

def algebraic_Heads4Ideal_Heads4RefIdeal [hHeads4Ideal : Cert.Heads4Ideal.Facts] [hHeads4RefIdeal : Cert.Heads4RefIdeal.Facts] : Prop :=
  ∀ (m : (ℓ : Loc Cert.Heads4Ideal.nD Cert.Heads4Ideal.τ Cert.Heads4Ideal.sig) → Buf (Elt Ideal) ℓ) (g : Dev Cert.Heads4Ideal.nD → PrngReg)
    (m' : (ℓ : Loc Cert.Heads4RefIdeal.nD Cert.Heads4RefIdeal.τ Cert.Heads4RefIdeal.sig) → Buf (Elt Ideal) ℓ) (g' : Dev Cert.Heads4RefIdeal.nD → PrngReg), Pre_Heads4Ideal m →
    (∀ c : Dev Cert.Heads4Ideal.nD,
      m' ((c.tc : Thread Cert.Heads4RefIdeal.nD Cert.Heads4RefIdeal.τ).loc Cert.Heads4RefIdeal.main_arg0) = m ((c.tc : Thread Cert.Heads4Ideal.nD Cert.Heads4Ideal.τ).loc Cert.Heads4Ideal.main_arg0)
      ∧ m' ((c.tc : Thread Cert.Heads4RefIdeal.nD Cert.Heads4RefIdeal.τ).loc Cert.Heads4RefIdeal.main_arg1) = m ((c.tc : Thread Cert.Heads4Ideal.nD Cert.Heads4Ideal.τ).loc Cert.Heads4Ideal.main_arg1)) →
    ∃ (v0 : (c : Dev Cert.Heads4Ideal.nD) → Buf (Elt Ideal) ((c.tc : Thread Cert.Heads4Ideal.nD Cert.Heads4Ideal.τ).loc Cert.Heads4Ideal.main_v1)),
      θ_run (Cert.Heads4Ideal.defs (F := Ideal)) (onTc (τ := Cert.Heads4Ideal.τ) (Cert.Heads4Ideal.main (F := Ideal))) ⟨m, fun _ => 0, g⟩ (fun r => ∀ c : Dev Cert.Heads4Ideal.nD,
          r.2.mem ((c.tc : Thread Cert.Heads4Ideal.nD Cert.Heads4Ideal.τ).loc Cert.Heads4Ideal.main_v1) = v0 c
          ∧ r.2.mem ((c.tc : Thread Cert.Heads4Ideal.nD Cert.Heads4Ideal.τ).loc Cert.Heads4Ideal.main_arg0) = m ((c.tc : Thread Cert.Heads4Ideal.nD Cert.Heads4Ideal.τ).loc Cert.Heads4Ideal.main_arg0)
          ∧ r.2.mem ((c.tc : Thread Cert.Heads4Ideal.nD Cert.Heads4Ideal.τ).loc Cert.Heads4Ideal.main_arg1) = m ((c.tc : Thread Cert.Heads4Ideal.nD Cert.Heads4Ideal.τ).loc Cert.Heads4Ideal.main_arg1))
      ∧ θ_run (Cert.Heads4RefIdeal.defs (F := Ideal)) (onTc (τ := Cert.Heads4RefIdeal.τ) (Cert.Heads4RefIdeal.main (F := Ideal))) ⟨m', fun _ => 0, g'⟩ (fun r => ∀ c : Dev Cert.Heads4RefIdeal.nD,
          r.2.mem ((c.tc : Thread Cert.Heads4RefIdeal.nD Cert.Heads4RefIdeal.τ).loc Cert.Heads4RefIdeal.main_v4) = v0 c
          ∧ r.2.mem ((c.tc : Thread Cert.Heads4RefIdeal.nD Cert.Heads4RefIdeal.τ).loc Cert.Heads4RefIdeal.main_arg0) = m' ((c.tc : Thread Cert.Heads4RefIdeal.nD Cert.Heads4RefIdeal.τ).loc Cert.Heads4RefIdeal.main_arg0)
          ∧ r.2.mem ((c.tc : Thread Cert.Heads4RefIdeal.nD Cert.Heads4RefIdeal.τ).loc Cert.Heads4RefIdeal.main_arg1) = m' ((c.tc : Thread Cert.Heads4RefIdeal.nD Cert.Heads4RefIdeal.τ).loc Cert.Heads4RefIdeal.main_arg1))

def preserves_Heads16_Heads16Ideal : Prop :=
  True

def algebraic_Heads16Ideal_Heads16RefIdeal [hHeads16Ideal : Cert.Heads16Ideal.Facts] [hHeads16RefIdeal : Cert.Heads16RefIdeal.Facts] : Prop :=
  ∀ (m : (ℓ : Loc Cert.Heads16Ideal.nD Cert.Heads16Ideal.τ Cert.Heads16Ideal.sig) → Buf (Elt Ideal) ℓ) (g : Dev Cert.Heads16Ideal.nD → PrngReg)
    (m' : (ℓ : Loc Cert.Heads16RefIdeal.nD Cert.Heads16RefIdeal.τ Cert.Heads16RefIdeal.sig) → Buf (Elt Ideal) ℓ) (g' : Dev Cert.Heads16RefIdeal.nD → PrngReg), Pre_Heads16Ideal m →
    (∀ c : Dev Cert.Heads16Ideal.nD,
      m' ((c.tc : Thread Cert.Heads16RefIdeal.nD Cert.Heads16RefIdeal.τ).loc Cert.Heads16RefIdeal.main_arg0) = m ((c.tc : Thread Cert.Heads16Ideal.nD Cert.Heads16Ideal.τ).loc Cert.Heads16Ideal.main_arg0)
      ∧ m' ((c.tc : Thread Cert.Heads16RefIdeal.nD Cert.Heads16RefIdeal.τ).loc Cert.Heads16RefIdeal.main_arg1) = m ((c.tc : Thread Cert.Heads16Ideal.nD Cert.Heads16Ideal.τ).loc Cert.Heads16Ideal.main_arg1)) →
    ∃ (v0 : (c : Dev Cert.Heads16Ideal.nD) → Buf (Elt Ideal) ((c.tc : Thread Cert.Heads16Ideal.nD Cert.Heads16Ideal.τ).loc Cert.Heads16Ideal.main_v1)),
      θ_run (Cert.Heads16Ideal.defs (F := Ideal)) (onTc (τ := Cert.Heads16Ideal.τ) (Cert.Heads16Ideal.main (F := Ideal))) ⟨m, fun _ => 0, g⟩ (fun r => ∀ c : Dev Cert.Heads16Ideal.nD,
          r.2.mem ((c.tc : Thread Cert.Heads16Ideal.nD Cert.Heads16Ideal.τ).loc Cert.Heads16Ideal.main_v1) = v0 c
          ∧ r.2.mem ((c.tc : Thread Cert.Heads16Ideal.nD Cert.Heads16Ideal.τ).loc Cert.Heads16Ideal.main_arg0) = m ((c.tc : Thread Cert.Heads16Ideal.nD Cert.Heads16Ideal.τ).loc Cert.Heads16Ideal.main_arg0)
          ∧ r.2.mem ((c.tc : Thread Cert.Heads16Ideal.nD Cert.Heads16Ideal.τ).loc Cert.Heads16Ideal.main_arg1) = m ((c.tc : Thread Cert.Heads16Ideal.nD Cert.Heads16Ideal.τ).loc Cert.Heads16Ideal.main_arg1))
      ∧ θ_run (Cert.Heads16RefIdeal.defs (F := Ideal)) (onTc (τ := Cert.Heads16RefIdeal.τ) (Cert.Heads16RefIdeal.main (F := Ideal))) ⟨m', fun _ => 0, g'⟩ (fun r => ∀ c : Dev Cert.Heads16RefIdeal.nD,
          r.2.mem ((c.tc : Thread Cert.Heads16RefIdeal.nD Cert.Heads16RefIdeal.τ).loc Cert.Heads16RefIdeal.main_v4) = v0 c
          ∧ r.2.mem ((c.tc : Thread Cert.Heads16RefIdeal.nD Cert.Heads16RefIdeal.τ).loc Cert.Heads16RefIdeal.main_arg0) = m' ((c.tc : Thread Cert.Heads16RefIdeal.nD Cert.Heads16RefIdeal.τ).loc Cert.Heads16RefIdeal.main_arg0)
          ∧ r.2.mem ((c.tc : Thread Cert.Heads16RefIdeal.nD Cert.Heads16RefIdeal.τ).loc Cert.Heads16RefIdeal.main_arg1) = m' ((c.tc : Thread Cert.Heads16RefIdeal.nD Cert.Heads16RefIdeal.τ).loc Cert.Heads16RefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)
      ∧ m' ((c.tc : Thread Cert.DownProjRefIdeal.nD Cert.DownProjRefIdeal.τ).loc Cert.DownProjRefIdeal.main_arg3) = m ((c.tc : Thread Cert.DownProjIdeal.nD Cert.DownProjIdeal.τ).loc Cert.DownProjIdeal.main_arg3)
      ∧ m' ((c.tc : Thread Cert.DownProjRefIdeal.nD Cert.DownProjRefIdeal.τ).loc Cert.DownProjRefIdeal.main_arg4) = m ((c.tc : Thread Cert.DownProjIdeal.nD Cert.DownProjIdeal.τ).loc Cert.DownProjIdeal.main_arg4)) →
    ∃ (v0 : (c : Dev Cert.DownProjIdeal.nD) → Buf (Elt Ideal) ((c.tc : Thread Cert.DownProjIdeal.nD Cert.DownProjIdeal.τ).loc Cert.DownProjIdeal.main_v0_0)) (v1 : (c : Dev Cert.DownProjIdeal.nD) → Buf (Elt Ideal) ((c.tc : Thread Cert.DownProjIdeal.nD Cert.DownProjIdeal.τ).loc Cert.DownProjIdeal.main_v0_1)) (v2 : (c : Dev Cert.DownProjIdeal.nD) → Buf (Elt Ideal) ((c.tc : Thread Cert.DownProjIdeal.nD Cert.DownProjIdeal.τ).loc Cert.DownProjIdeal.main_v0_2)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0_0) = v0 c
          ∧ r.2.mem ((c.tc : Thread Cert.DownProjIdeal.nD Cert.DownProjIdeal.τ).loc Cert.DownProjIdeal.main_v0_1) = v1 c
          ∧ r.2.mem ((c.tc : Thread Cert.DownProjIdeal.nD Cert.DownProjIdeal.τ).loc Cert.DownProjIdeal.main_v0_2) = v2 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
          ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_v16) = v1 c
          ∧ r.2.mem ((c.tc : Thread Cert.DownProjRefIdeal.nD Cert.DownProjRefIdeal.τ).loc Cert.DownProjRefIdeal.main_v29) = v2 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2)
          ∧ r.2.mem ((c.tc : Thread Cert.DownProjRefIdeal.nD Cert.DownProjRefIdeal.τ).loc Cert.DownProjRefIdeal.main_arg3) = m' ((c.tc : Thread Cert.DownProjRefIdeal.nD Cert.DownProjRefIdeal.τ).loc Cert.DownProjRefIdeal.main_arg3)
          ∧ r.2.mem ((c.tc : Thread Cert.DownProjRefIdeal.nD Cert.DownProjRefIdeal.τ).loc Cert.DownProjRefIdeal.main_arg4) = m' ((c.tc : Thread Cert.DownProjRefIdeal.nD Cert.DownProjRefIdeal.τ).loc Cert.DownProjRefIdeal.main_arg4))

def preserves_LossGrad_LossGradIdeal : Prop :=
  True

def algebraic_LossGradIdeal_LossGradRefIdeal_pre_loss_finite [hLossGradIdeal : Cert.LossGradIdeal.Facts] [hLossGradRefIdeal : Cert.LossGradRefIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal_loss_finite m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)
      ∧ m' ((c.tc : Thread Cert.LossGradRefIdeal.nD Cert.LossGradRefIdeal.τ).loc Cert.LossGradRefIdeal.main_arg2) = m ((c.tc : Thread Cert.LossGradIdeal.nD Cert.LossGradIdeal.τ).loc Cert.LossGradIdeal.main_arg2)
      ∧ m' ((c.tc : Thread Cert.LossGradRefIdeal.nD Cert.LossGradRefIdeal.τ).loc Cert.LossGradRefIdeal.main_arg3) = m ((c.tc : Thread Cert.LossGradIdeal.nD Cert.LossGradIdeal.τ).loc Cert.LossGradIdeal.main_arg3)
      ∧ m' ((c.tc : Thread Cert.LossGradRefIdeal.nD Cert.LossGradRefIdeal.τ).loc Cert.LossGradRefIdeal.main_arg4) = m ((c.tc : Thread Cert.LossGradIdeal.nD Cert.LossGradIdeal.τ).loc Cert.LossGradIdeal.main_arg4)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)) (v2 : (c : Dev Cert.LossGradIdeal.nD) → Buf (Elt Ideal) ((c.tc : Thread Cert.LossGradIdeal.nD Cert.LossGradIdeal.τ).loc Cert.LossGradIdeal.main_v0_2)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_v0_2) = v2 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
          ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v52) = v0 c
          ∧ r.2.mem ((c.tc : Thread Cert.LossGradRefIdeal.nD Cert.LossGradRefIdeal.τ).loc Cert.LossGradRefIdeal.main_v36) = v1 c
          ∧ r.2.mem ((c.tc : Thread Cert.LossGradRefIdeal.nD Cert.LossGradRefIdeal.τ).loc Cert.LossGradRefIdeal.main_v53) = v2 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1)
          ∧ r.2.mem ((c.tc : Thread Cert.LossGradRefIdeal.nD Cert.LossGradRefIdeal.τ).loc Cert.LossGradRefIdeal.main_arg2) = m' ((c.tc : Thread Cert.LossGradRefIdeal.nD Cert.LossGradRefIdeal.τ).loc Cert.LossGradRefIdeal.main_arg2)
          ∧ r.2.mem ((c.tc : Thread Cert.LossGradRefIdeal.nD Cert.LossGradRefIdeal.τ).loc Cert.LossGradRefIdeal.main_arg3) = m' ((c.tc : Thread Cert.LossGradRefIdeal.nD Cert.LossGradRefIdeal.τ).loc Cert.LossGradRefIdeal.main_arg3)
          ∧ r.2.mem ((c.tc : Thread Cert.LossGradRefIdeal.nD Cert.LossGradRefIdeal.τ).loc Cert.LossGradRefIdeal.main_arg4) = m' ((c.tc : Thread Cert.LossGradRefIdeal.nD Cert.LossGradRefIdeal.τ).loc Cert.LossGradRefIdeal.main_arg4))

def preserves_HeadOut_HeadOutIdeal : Prop :=
  True

def algebraic_HeadOutIdeal_HeadOutRefIdeal [hHeadOutIdeal : Cert.HeadOutIdeal.Facts] [hHeadOutRefIdeal : Cert.HeadOutRefIdeal.Facts] : Prop :=
  ∀ (m : (ℓ : Loc Cert.HeadOutIdeal.nD Cert.HeadOutIdeal.τ Cert.HeadOutIdeal.sig) → Buf (Elt Ideal) ℓ) (g : Dev Cert.HeadOutIdeal.nD → PrngReg)
    (m' : (ℓ : Loc Cert.HeadOutRefIdeal.nD Cert.HeadOutRefIdeal.τ Cert.HeadOutRefIdeal.sig) → Buf (Elt Ideal) ℓ) (g' : Dev Cert.HeadOutRefIdeal.nD → PrngReg), Pre_HeadOutIdeal m →
    (∀ c : Dev Cert.HeadOutIdeal.nD,
      m' ((c.tc : Thread Cert.HeadOutRefIdeal.nD Cert.HeadOutRefIdeal.τ).loc Cert.HeadOutRefIdeal.main_arg0) = m ((c.tc : Thread Cert.HeadOutIdeal.nD Cert.HeadOutIdeal.τ).loc Cert.HeadOutIdeal.main_arg0)
      ∧ m' ((c.tc : Thread Cert.HeadOutRefIdeal.nD Cert.HeadOutRefIdeal.τ).loc Cert.HeadOutRefIdeal.main_arg1) = m ((c.tc : Thread Cert.HeadOutIdeal.nD Cert.HeadOutIdeal.τ).loc Cert.HeadOutIdeal.main_arg1)
      ∧ m' ((c.tc : Thread Cert.HeadOutRefIdeal.nD Cert.HeadOutRefIdeal.τ).loc Cert.HeadOutRefIdeal.main_arg2) = m ((c.tc : Thread Cert.HeadOutIdeal.nD Cert.HeadOutIdeal.τ).loc Cert.HeadOutIdeal.main_arg2)
      ∧ m' ((c.tc : Thread Cert.HeadOutRefIdeal.nD Cert.HeadOutRefIdeal.τ).loc Cert.HeadOutRefIdeal.main_arg3) = m ((c.tc : Thread Cert.HeadOutIdeal.nD Cert.HeadOutIdeal.τ).loc Cert.HeadOutIdeal.main_arg3)
      ∧ m' ((c.tc : Thread Cert.HeadOutRefIdeal.nD Cert.HeadOutRefIdeal.τ).loc Cert.HeadOutRefIdeal.main_arg4) = m ((c.tc : Thread Cert.HeadOutIdeal.nD Cert.HeadOutIdeal.τ).loc Cert.HeadOutIdeal.main_arg4)
      ∧ m' ((c.tc : Thread Cert.HeadOutRefIdeal.nD Cert.HeadOutRefIdeal.τ).loc Cert.HeadOutRefIdeal.main_arg5) = m ((c.tc : Thread Cert.HeadOutIdeal.nD Cert.HeadOutIdeal.τ).loc Cert.HeadOutIdeal.main_arg5)) →
    ∃ (v0 : (c : Dev Cert.HeadOutIdeal.nD) → Buf (Elt Ideal) ((c.tc : Thread Cert.HeadOutIdeal.nD Cert.HeadOutIdeal.τ).loc Cert.HeadOutIdeal.main_v0_0)) (v1 : (c : Dev Cert.HeadOutIdeal.nD) → Buf (Elt Ideal) ((c.tc : Thread Cert.HeadOutIdeal.nD Cert.HeadOutIdeal.τ).loc Cert.HeadOutIdeal.main_v0_1)) (v2 : (c : Dev Cert.HeadOutIdeal.nD) → Buf (Elt Ideal) ((c.tc : Thread Cert.HeadOutIdeal.nD Cert.HeadOutIdeal.τ).loc Cert.HeadOutIdeal.main_v0_2)),
      θ_run (Cert.HeadOutIdeal.defs (F := Ideal)) (onTc (τ := Cert.HeadOutIdeal.τ) (Cert.HeadOutIdeal.main (F := Ideal))) ⟨m, fun _ => 0, g⟩ (fun r => ∀ c : Dev Cert.HeadOutIdeal.nD,
          r.2.mem ((c.tc : Thread Cert.HeadOutIdeal.nD Cert.HeadOutIdeal.τ).loc Cert.HeadOutIdeal.main_v0_0) = v0 c
          ∧ r.2.mem ((c.tc : Thread Cert.HeadOutIdeal.nD Cert.HeadOutIdeal.τ).loc Cert.HeadOutIdeal.main_v0_1) = v1 c
          ∧ r.2.mem ((c.tc : Thread Cert.HeadOutIdeal.nD Cert.HeadOutIdeal.τ).loc Cert.HeadOutIdeal.main_v0_2) = v2 c
          ∧ r.2.mem ((c.tc : Thread Cert.HeadOutIdeal.nD Cert.HeadOutIdeal.τ).loc Cert.HeadOutIdeal.main_arg0) = m ((c.tc : Thread Cert.HeadOutIdeal.nD Cert.HeadOutIdeal.τ).loc Cert.HeadOutIdeal.main_arg0)
          ∧ r.2.mem ((c.tc : Thread Cert.HeadOutIdeal.nD Cert.HeadOutIdeal.τ).loc Cert.HeadOutIdeal.main_arg1) = m ((c.tc : Thread Cert.HeadOutIdeal.nD Cert.HeadOutIdeal.τ).loc Cert.HeadOutIdeal.main_arg1)
          ∧ r.2.mem ((c.tc : Thread Cert.HeadOutIdeal.nD Cert.HeadOutIdeal.τ).loc Cert.HeadOutIdeal.main_arg2) = m ((c.tc : Thread Cert.HeadOutIdeal.nD Cert.HeadOutIdeal.τ).loc Cert.HeadOutIdeal.main_arg2)
          ∧ r.2.mem ((c.tc : Thread Cert.HeadOutIdeal.nD Cert.HeadOutIdeal.τ).loc Cert.HeadOutIdeal.main_arg3) = m ((c.tc : Thread Cert.HeadOutIdeal.nD Cert.HeadOutIdeal.τ).loc Cert.HeadOutIdeal.main_arg3)
          ∧ r.2.mem ((c.tc : Thread Cert.HeadOutIdeal.nD Cert.HeadOutIdeal.τ).loc Cert.HeadOutIdeal.main_arg4) = m ((c.tc : Thread Cert.HeadOutIdeal.nD Cert.HeadOutIdeal.τ).loc Cert.HeadOutIdeal.main_arg4)
          ∧ r.2.mem ((c.tc : Thread Cert.HeadOutIdeal.nD Cert.HeadOutIdeal.τ).loc Cert.HeadOutIdeal.main_arg5) = m ((c.tc : Thread Cert.HeadOutIdeal.nD Cert.HeadOutIdeal.τ).loc Cert.HeadOutIdeal.main_arg5))
      ∧ θ_run (Cert.HeadOutRefIdeal.defs (F := Ideal)) (onTc (τ := Cert.HeadOutRefIdeal.τ) (Cert.HeadOutRefIdeal.main (F := Ideal))) ⟨m', fun _ => 0, g'⟩ (fun r => ∀ c : Dev Cert.HeadOutRefIdeal.nD,
          r.2.mem ((c.tc : Thread Cert.HeadOutRefIdeal.nD Cert.HeadOutRefIdeal.τ).loc Cert.HeadOutRefIdeal.main_v27) = v0 c
          ∧ r.2.mem ((c.tc : Thread Cert.HeadOutRefIdeal.nD Cert.HeadOutRefIdeal.τ).loc Cert.HeadOutRefIdeal.main_v28) = v1 c
          ∧ r.2.mem ((c.tc : Thread Cert.HeadOutRefIdeal.nD Cert.HeadOutRefIdeal.τ).loc Cert.HeadOutRefIdeal.main_v41) = v2 c
          ∧ r.2.mem ((c.tc : Thread Cert.HeadOutRefIdeal.nD Cert.HeadOutRefIdeal.τ).loc Cert.HeadOutRefIdeal.main_arg0) = m' ((c.tc : Thread Cert.HeadOutRefIdeal.nD Cert.HeadOutRefIdeal.τ).loc Cert.HeadOutRefIdeal.main_arg0)
          ∧ r.2.mem ((c.tc : Thread Cert.HeadOutRefIdeal.nD Cert.HeadOutRefIdeal.τ).loc Cert.HeadOutRefIdeal.main_arg1) = m' ((c.tc : Thread Cert.HeadOutRefIdeal.nD Cert.HeadOutRefIdeal.τ).loc Cert.HeadOutRefIdeal.main_arg1)
          ∧ r.2.mem ((c.tc : Thread Cert.HeadOutRefIdeal.nD Cert.HeadOutRefIdeal.τ).loc Cert.HeadOutRefIdeal.main_arg2) = m' ((c.tc : Thread Cert.HeadOutRefIdeal.nD Cert.HeadOutRefIdeal.τ).loc Cert.HeadOutRefIdeal.main_arg2)
          ∧ r.2.mem ((c.tc : Thread Cert.HeadOutRefIdeal.nD Cert.HeadOutRefIdeal.τ).loc Cert.HeadOutRefIdeal.main_arg3) = m' ((c.tc : Thread Cert.HeadOutRefIdeal.nD Cert.HeadOutRefIdeal.τ).loc Cert.HeadOutRefIdeal.main_arg3)
          ∧ r.2.mem ((c.tc : Thread Cert.HeadOutRefIdeal.nD Cert.HeadOutRefIdeal.τ).loc Cert.HeadOutRefIdeal.main_arg4) = m' ((c.tc : Thread Cert.HeadOutRefIdeal.nD Cert.HeadOutRefIdeal.τ).loc Cert.HeadOutRefIdeal.main_arg4)
          ∧ r.2.mem ((c.tc : Thread Cert.HeadOutRefIdeal.nD Cert.HeadOutRefIdeal.τ).loc Cert.HeadOutRefIdeal.main_arg5) = m' ((c.tc : Thread Cert.HeadOutRefIdeal.nD Cert.HeadOutRefIdeal.τ).loc Cert.HeadOutRefIdeal.main_arg5))

def preserves_AdamShards_AdamShardsIdeal : Prop :=
  True

def algebraic_AdamShardsIdeal_AdamShardsRefIdeal [hAdamShardsIdeal : Cert.AdamShardsIdeal.Facts] [hAdamShardsRefIdeal : Cert.AdamShardsRefIdeal.Facts] : Prop :=
  ∀ (m : (ℓ : Loc Cert.AdamShardsIdeal.nD Cert.AdamShardsIdeal.τ Cert.AdamShardsIdeal.sig) → Buf (Elt Ideal) ℓ) (g : Dev Cert.AdamShardsIdeal.nD → PrngReg)
    (m' : (ℓ : Loc Cert.AdamShardsRefIdeal.nD Cert.AdamShardsRefIdeal.τ Cert.AdamShardsRefIdeal.sig) → Buf (Elt Ideal) ℓ) (g' : Dev Cert.AdamShardsRefIdeal.nD → PrngReg), Pre_AdamShardsIdeal m →
    (∀ c : Dev Cert.AdamShardsIdeal.nD,
      m' ((c.tc : Thread Cert.AdamShardsRefIdeal.nD Cert.AdamShardsRefIdeal.τ).loc Cert.AdamShardsRefIdeal.main_arg0) = m ((c.tc : Thread Cert.AdamShardsIdeal.nD Cert.AdamShardsIdeal.τ).loc Cert.AdamShardsIdeal.main_arg0)
      ∧ m' ((c.tc : Thread Cert.AdamShardsRefIdeal.nD Cert.AdamShardsRefIdeal.τ).loc Cert.AdamShardsRefIdeal.main_arg1) = m ((c.tc : Thread Cert.AdamShardsIdeal.nD Cert.AdamShardsIdeal.τ).loc Cert.AdamShardsIdeal.main_arg1)
      ∧ m' ((c.tc : Thread Cert.AdamShardsRefIdeal.nD Cert.AdamShardsRefIdeal.τ).loc Cert.AdamShardsRefIdeal.main_arg2) = m ((c.tc : Thread Cert.AdamShardsIdeal.nD Cert.AdamShardsIdeal.τ).loc Cert.AdamShardsIdeal.main_arg2)
      ∧ m' ((c.tc : Thread Cert.AdamShardsRefIdeal.nD Cert.AdamShardsRefIdeal.τ).loc Cert.AdamShardsRefIdeal.main_arg3) = m ((c.tc : Thread Cert.AdamShardsIdeal.nD Cert.AdamShardsIdeal.τ).loc Cert.AdamShardsIdeal.main_arg3)) →
    ∃ (v0 : (c : Dev Cert.AdamShardsIdeal.nD) → Buf (Elt Ideal) ((c.tc : Thread Cert.AdamShardsIdeal.nD Cert.AdamShardsIdeal.τ).loc Cert.AdamShardsIdeal.main_v0_0)) (v1 : (c : Dev Cert.AdamShardsIdeal.nD) → Buf (Elt Ideal) ((c.tc : Thread Cert.AdamShardsIdeal.nD Cert.AdamShardsIdeal.τ).loc Cert.AdamShardsIdeal.main_v0_1)) (v2 : (c : Dev Cert.AdamShardsIdeal.nD) → Buf (Elt Ideal) ((c.tc : Thread Cert.AdamShardsIdeal.nD Cert.AdamShardsIdeal.τ).loc Cert.AdamShardsIdeal.main_v0_2)) (v3 : (c : Dev Cert.AdamShardsIdeal.nD) → Buf (Elt Ideal) ((c.tc : Thread Cert.AdamShardsIdeal.nD Cert.AdamShardsIdeal.τ).loc Cert.AdamShardsIdeal.main_v0_3)),
      θ_run (Cert.AdamShardsIdeal.defs (F := Ideal)) (onTc (τ := Cert.AdamShardsIdeal.τ) (Cert.AdamShardsIdeal.main (F := Ideal))) ⟨m, fun _ => 0, g⟩ (fun r => ∀ c : Dev Cert.AdamShardsIdeal.nD,
          r.2.mem ((c.tc : Thread Cert.AdamShardsIdeal.nD Cert.AdamShardsIdeal.τ).loc Cert.AdamShardsIdeal.main_v0_0) = v0 c
          ∧ r.2.mem ((c.tc : Thread Cert.AdamShardsIdeal.nD Cert.AdamShardsIdeal.τ).loc Cert.AdamShardsIdeal.main_v0_1) = v1 c
          ∧ r.2.mem ((c.tc : Thread Cert.AdamShardsIdeal.nD Cert.AdamShardsIdeal.τ).loc Cert.AdamShardsIdeal.main_v0_2) = v2 c
          ∧ r.2.mem ((c.tc : Thread Cert.AdamShardsIdeal.nD Cert.AdamShardsIdeal.τ).loc Cert.AdamShardsIdeal.main_v0_3) = v3 c
          ∧ r.2.mem ((c.tc : Thread Cert.AdamShardsIdeal.nD Cert.AdamShardsIdeal.τ).loc Cert.AdamShardsIdeal.main_arg0) = m ((c.tc : Thread Cert.AdamShardsIdeal.nD Cert.AdamShardsIdeal.τ).loc Cert.AdamShardsIdeal.main_arg0)
          ∧ r.2.mem ((c.tc : Thread Cert.AdamShardsIdeal.nD Cert.AdamShardsIdeal.τ).loc Cert.AdamShardsIdeal.main_arg1) = m ((c.tc : Thread Cert.AdamShardsIdeal.nD Cert.AdamShardsIdeal.τ).loc Cert.AdamShardsIdeal.main_arg1)
          ∧ r.2.mem ((c.tc : Thread Cert.AdamShardsIdeal.nD Cert.AdamShardsIdeal.τ).loc Cert.AdamShardsIdeal.main_arg2) = m ((c.tc : Thread Cert.AdamShardsIdeal.nD Cert.AdamShardsIdeal.τ).loc Cert.AdamShardsIdeal.main_arg2)
          ∧ r.2.mem ((c.tc : Thread Cert.AdamShardsIdeal.nD Cert.AdamShardsIdeal.τ).loc Cert.AdamShardsIdeal.main_arg3) = m ((c.tc : Thread Cert.AdamShardsIdeal.nD Cert.AdamShardsIdeal.τ).loc Cert.AdamShardsIdeal.main_arg3))
      ∧ θ_run (Cert.AdamShardsRefIdeal.defs (F := Ideal)) (onTc (τ := Cert.AdamShardsRefIdeal.τ) (Cert.AdamShardsRefIdeal.main (F := Ideal))) ⟨m', fun _ => 0, g'⟩ (fun r => ∀ c : Dev Cert.AdamShardsRefIdeal.nD,
          r.2.mem ((c.tc : Thread Cert.AdamShardsRefIdeal.nD Cert.AdamShardsRefIdeal.τ).loc Cert.AdamShardsRefIdeal.main_v1) = v0 c
          ∧ r.2.mem ((c.tc : Thread Cert.AdamShardsRefIdeal.nD Cert.AdamShardsRefIdeal.τ).loc Cert.AdamShardsRefIdeal.main_v25) = v1 c
          ∧ r.2.mem ((c.tc : Thread Cert.AdamShardsRefIdeal.nD Cert.AdamShardsRefIdeal.τ).loc Cert.AdamShardsRefIdeal.main_v6) = v2 c
          ∧ r.2.mem ((c.tc : Thread Cert.AdamShardsRefIdeal.nD Cert.AdamShardsRefIdeal.τ).loc Cert.AdamShardsRefIdeal.main_v12) = v3 c
          ∧ r.2.mem ((c.tc : Thread Cert.AdamShardsRefIdeal.nD Cert.AdamShardsRefIdeal.τ).loc Cert.AdamShardsRefIdeal.main_arg0) = m' ((c.tc : Thread Cert.AdamShardsRefIdeal.nD Cert.AdamShardsRefIdeal.τ).loc Cert.AdamShardsRefIdeal.main_arg0)
          ∧ r.2.mem ((c.tc : Thread Cert.AdamShardsRefIdeal.nD Cert.AdamShardsRefIdeal.τ).loc Cert.AdamShardsRefIdeal.main_arg1) = m' ((c.tc : Thread Cert.AdamShardsRefIdeal.nD Cert.AdamShardsRefIdeal.τ).loc Cert.AdamShardsRefIdeal.main_arg1)
          ∧ r.2.mem ((c.tc : Thread Cert.AdamShardsRefIdeal.nD Cert.AdamShardsRefIdeal.τ).loc Cert.AdamShardsRefIdeal.main_arg2) = m' ((c.tc : Thread Cert.AdamShardsRefIdeal.nD Cert.AdamShardsRefIdeal.τ).loc Cert.AdamShardsRefIdeal.main_arg2)
          ∧ r.2.mem ((c.tc : Thread Cert.AdamShardsRefIdeal.nD Cert.AdamShardsRefIdeal.τ).loc Cert.AdamShardsRefIdeal.main_arg3) = m' ((c.tc : Thread Cert.AdamShardsRefIdeal.nD Cert.AdamShardsRefIdeal.τ).loc Cert.AdamShardsRefIdeal.main_arg3))

def preserves_AdamWhole_AdamWholeIdeal : Prop :=
  True

def algebraic_AdamWholeIdeal_AdamWholeRefIdeal [hAdamWholeIdeal : Cert.AdamWholeIdeal.Facts] [hAdamWholeRefIdeal : Cert.AdamWholeRefIdeal.Facts] : Prop :=
  ∀ (m : (ℓ : Loc Cert.AdamWholeIdeal.nD Cert.AdamWholeIdeal.τ Cert.AdamWholeIdeal.sig) → Buf (Elt Ideal) ℓ) (g : Dev Cert.AdamWholeIdeal.nD → PrngReg)
    (m' : (ℓ : Loc Cert.AdamWholeRefIdeal.nD Cert.AdamWholeRefIdeal.τ Cert.AdamWholeRefIdeal.sig) → Buf (Elt Ideal) ℓ) (g' : Dev Cert.AdamWholeRefIdeal.nD → PrngReg), Pre_AdamWholeIdeal m →
    (∀ c : Dev Cert.AdamWholeIdeal.nD,
      m' ((c.tc : Thread Cert.AdamWholeRefIdeal.nD Cert.AdamWholeRefIdeal.τ).loc Cert.AdamWholeRefIdeal.main_arg0) = m ((c.tc : Thread Cert.AdamWholeIdeal.nD Cert.AdamWholeIdeal.τ).loc Cert.AdamWholeIdeal.main_arg0)
      ∧ m' ((c.tc : Thread Cert.AdamWholeRefIdeal.nD Cert.AdamWholeRefIdeal.τ).loc Cert.AdamWholeRefIdeal.main_arg1) = m ((c.tc : Thread Cert.AdamWholeIdeal.nD Cert.AdamWholeIdeal.τ).loc Cert.AdamWholeIdeal.main_arg1)
      ∧ m' ((c.tc : Thread Cert.AdamWholeRefIdeal.nD Cert.AdamWholeRefIdeal.τ).loc Cert.AdamWholeRefIdeal.main_arg2) = m ((c.tc : Thread Cert.AdamWholeIdeal.nD Cert.AdamWholeIdeal.τ).loc Cert.AdamWholeIdeal.main_arg2)
      ∧ m' ((c.tc : Thread Cert.AdamWholeRefIdeal.nD Cert.AdamWholeRefIdeal.τ).loc Cert.AdamWholeRefIdeal.main_arg3) = m ((c.tc : Thread Cert.AdamWholeIdeal.nD Cert.AdamWholeIdeal.τ).loc Cert.AdamWholeIdeal.main_arg3)) →
    ∃ (v0 : (c : Dev Cert.AdamWholeIdeal.nD) → Buf (Elt Ideal) ((c.tc : Thread Cert.AdamWholeIdeal.nD Cert.AdamWholeIdeal.τ).loc Cert.AdamWholeIdeal.main_v0_0)) (v1 : (c : Dev Cert.AdamWholeIdeal.nD) → Buf (Elt Ideal) ((c.tc : Thread Cert.AdamWholeIdeal.nD Cert.AdamWholeIdeal.τ).loc Cert.AdamWholeIdeal.main_v0_1)) (v2 : (c : Dev Cert.AdamWholeIdeal.nD) → Buf (Elt Ideal) ((c.tc : Thread Cert.AdamWholeIdeal.nD Cert.AdamWholeIdeal.τ).loc Cert.AdamWholeIdeal.main_v0_2)) (v3 : (c : Dev Cert.AdamWholeIdeal.nD) → Buf (Elt Ideal) ((c.tc : Thread Cert.AdamWholeIdeal.nD Cert.AdamWholeIdeal.τ).loc Cert.AdamWholeIdeal.main_v0_3)),
      θ_run (Cert.AdamWholeIdeal.defs (F := Ideal)) (onTc (τ := Cert.AdamWholeIdeal.τ) (Cert.AdamWholeIdeal.main (F := Ideal))) ⟨m, fun _ => 0, g⟩ (fun r => ∀ c : Dev Cert.AdamWholeIdeal.nD,
          r.2.mem ((c.tc : Thread Cert.AdamWholeIdeal.nD Cert.AdamWholeIdeal.τ).loc Cert.AdamWholeIdeal.main_v0_0) = v0 c
          ∧ r.2.mem ((c.tc : Thread Cert.AdamWholeIdeal.nD Cert.AdamWholeIdeal.τ).loc Cert.AdamWholeIdeal.main_v0_1) = v1 c
          ∧ r.2.mem ((c.tc : Thread Cert.AdamWholeIdeal.nD Cert.AdamWholeIdeal.τ).loc Cert.AdamWholeIdeal.main_v0_2) = v2 c
          ∧ r.2.mem ((c.tc : Thread Cert.AdamWholeIdeal.nD Cert.AdamWholeIdeal.τ).loc Cert.AdamWholeIdeal.main_v0_3) = v3 c
          ∧ r.2.mem ((c.tc : Thread Cert.AdamWholeIdeal.nD Cert.AdamWholeIdeal.τ).loc Cert.AdamWholeIdeal.main_arg0) = m ((c.tc : Thread Cert.AdamWholeIdeal.nD Cert.AdamWholeIdeal.τ).loc Cert.AdamWholeIdeal.main_arg0)
          ∧ r.2.mem ((c.tc : Thread Cert.AdamWholeIdeal.nD Cert.AdamWholeIdeal.τ).loc Cert.AdamWholeIdeal.main_arg1) = m ((c.tc : Thread Cert.AdamWholeIdeal.nD Cert.AdamWholeIdeal.τ).loc Cert.AdamWholeIdeal.main_arg1)
          ∧ r.2.mem ((c.tc : Thread Cert.AdamWholeIdeal.nD Cert.AdamWholeIdeal.τ).loc Cert.AdamWholeIdeal.main_arg2) = m ((c.tc : Thread Cert.AdamWholeIdeal.nD Cert.AdamWholeIdeal.τ).loc Cert.AdamWholeIdeal.main_arg2)
          ∧ r.2.mem ((c.tc : Thread Cert.AdamWholeIdeal.nD Cert.AdamWholeIdeal.τ).loc Cert.AdamWholeIdeal.main_arg3) = m ((c.tc : Thread Cert.AdamWholeIdeal.nD Cert.AdamWholeIdeal.τ).loc Cert.AdamWholeIdeal.main_arg3))
      ∧ θ_run (Cert.AdamWholeRefIdeal.defs (F := Ideal)) (onTc (τ := Cert.AdamWholeRefIdeal.τ) (Cert.AdamWholeRefIdeal.main (F := Ideal))) ⟨m', fun _ => 0, g'⟩ (fun r => ∀ c : Dev Cert.AdamWholeRefIdeal.nD,
          r.2.mem ((c.tc : Thread Cert.AdamWholeRefIdeal.nD Cert.AdamWholeRefIdeal.τ).loc Cert.AdamWholeRefIdeal.main_v0) = v0 c
          ∧ r.2.mem ((c.tc : Thread Cert.AdamWholeRefIdeal.nD Cert.AdamWholeRefIdeal.τ).loc Cert.AdamWholeRefIdeal.main_v24) = v1 c
          ∧ r.2.mem ((c.tc : Thread Cert.AdamWholeRefIdeal.nD Cert.AdamWholeRefIdeal.τ).loc Cert.AdamWholeRefIdeal.main_v5) = v2 c
          ∧ r.2.mem ((c.tc : Thread Cert.AdamWholeRefIdeal.nD Cert.AdamWholeRefIdeal.τ).loc Cert.AdamWholeRefIdeal.main_v11) = v3 c
          ∧ r.2.mem ((c.tc : Thread Cert.AdamWholeRefIdeal.nD Cert.AdamWholeRefIdeal.τ).loc Cert.AdamWholeRefIdeal.main_arg0) = m' ((c.tc : Thread Cert.AdamWholeRefIdeal.nD Cert.AdamWholeRefIdeal.τ).loc Cert.AdamWholeRefIdeal.main_arg0)
          ∧ r.2.mem ((c.tc : Thread Cert.AdamWholeRefIdeal.nD Cert.AdamWholeRefIdeal.τ).loc Cert.AdamWholeRefIdeal.main_arg1) = m' ((c.tc : Thread Cert.AdamWholeRefIdeal.nD Cert.AdamWholeRefIdeal.τ).loc Cert.AdamWholeRefIdeal.main_arg1)
          ∧ r.2.mem ((c.tc : Thread Cert.AdamWholeRefIdeal.nD Cert.AdamWholeRefIdeal.τ).loc Cert.AdamWholeRefIdeal.main_arg2) = m' ((c.tc : Thread Cert.AdamWholeRefIdeal.nD Cert.AdamWholeRefIdeal.τ).loc Cert.AdamWholeRefIdeal.main_arg2)
          ∧ r.2.mem ((c.tc : Thread Cert.AdamWholeRefIdeal.nD Cert.AdamWholeRefIdeal.τ).loc Cert.AdamWholeRefIdeal.main_arg3) = m' ((c.tc : Thread Cert.AdamWholeRefIdeal.nD Cert.AdamWholeRefIdeal.τ).loc Cert.AdamWholeRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def Claim : Prop :=
  ∃ (hKernel : Cert.Kernel.Facts) (hKernelIdeal : Cert.KernelIdeal.Facts) (hReferenceIdeal : Cert.ReferenceIdeal.Facts) (hGateGrad : Cert.GateGrad.Facts) (hGateGradIdeal : Cert.GateGradIdeal.Facts) (hGateGradRefIdeal : Cert.GateGradRefIdeal.Facts) (hNormGrad : Cert.NormGrad.Facts) (hNormGradIdeal : Cert.NormGradIdeal.Facts) (hNormGradRefIdeal : Cert.NormGradRefIdeal.Facts) (hDownGrad : Cert.DownGrad.Facts) (hDownGradIdeal : Cert.DownGradIdeal.Facts) (hDownGradRefIdeal : Cert.DownGradRefIdeal.Facts) (hUpConv : Cert.UpConv.Facts) (hUpConvIdeal : Cert.UpConvIdeal.Facts) (hUpConvRefIdeal : Cert.UpConvRefIdeal.Facts) (hQueryGrad : Cert.QueryGrad.Facts) (hQueryGradIdeal : Cert.QueryGradIdeal.Facts) (hQueryGradRefIdeal : Cert.QueryGradRefIdeal.Facts) (hOutGrad : Cert.OutGrad.Facts) (hOutGradIdeal : Cert.OutGradIdeal.Facts) (hOutGradRefIdeal : Cert.OutGradRefIdeal.Facts) (hInGrad : Cert.InGrad.Facts) (hInGradIdeal : Cert.InGradIdeal.Facts) (hInGradRefIdeal : Cert.InGradRefIdeal.Facts) (hKvGrad : Cert.KvGrad.Facts) (hKvGradIdeal : Cert.KvGradIdeal.Facts) (hKvGradRefIdeal : Cert.KvGradRefIdeal.Facts) (hMixNorm : Cert.MixNorm.Facts) (hMixNormIdeal : Cert.MixNormIdeal.Facts) (hMixNormRefIdeal : Cert.MixNormRefIdeal.Facts) (hInNorm : Cert.InNorm.Facts) (hInNormIdeal : Cert.InNormIdeal.Facts) (hInNormRefIdeal : Cert.InNormRefIdeal.Facts) (hInProj : Cert.InProj.Facts) (hInProjIdeal : Cert.InProjIdeal.Facts) (hInProjRefIdeal : Cert.InProjRefIdeal.Facts) (hHeads1 : Cert.Heads1.Facts) (hHeads1Ideal : Cert.Heads1Ideal.Facts) (hHeads1RefIdeal : Cert.Heads1RefIdeal.Facts) (hHeads4 : Cert.Heads4.Facts) (hHeads4Ideal : Cert.Heads4Ideal.Facts) (hHeads4RefIdeal : Cert.Heads4RefIdeal.Facts) (hHeads16 : Cert.Heads16.Facts) (hHeads16Ideal : Cert.Heads16Ideal.Facts) (hHeads16RefIdeal : Cert.Heads16RefIdeal.Facts) (hDownProj : Cert.DownProj.Facts) (hDownProjIdeal : Cert.DownProjIdeal.Facts) (hDownProjRefIdeal : Cert.DownProjRefIdeal.Facts) (hLossGrad : Cert.LossGrad.Facts) (hLossGradIdeal : Cert.LossGradIdeal.Facts) (hLossGradRefIdeal : Cert.LossGradRefIdeal.Facts) (hHeadOut : Cert.HeadOut.Facts) (hHeadOutIdeal : Cert.HeadOutIdeal.Facts) (hHeadOutRefIdeal : Cert.HeadOutRefIdeal.Facts) (hAdamShards : Cert.AdamShards.Facts) (hAdamShardsIdeal : Cert.AdamShardsIdeal.Facts) (hAdamShardsRefIdeal : Cert.AdamShardsRefIdeal.Facts) (hAdamWhole : Cert.AdamWhole.Facts) (hAdamWholeIdeal : Cert.AdamWholeIdeal.Facts) (hAdamWholeRefIdeal : Cert.AdamWholeRefIdeal.Facts) (hOutProj : Cert.OutProj.Facts) (hOutProjIdeal : Cert.OutProjIdeal.Facts) (hOutProjRefIdeal : Cert.OutProjRefIdeal.Facts) (hPre_gate_finite : Cert.Pre_gate_finite.Facts) (hPre_norm_finite : Cert.Pre_norm_finite.Facts) (hPre_mix_norm_finite : Cert.Pre_mix_norm_finite.Facts) (hPre_in_norm_finite : Cert.Pre_in_norm_finite.Facts) (hPre_loss_finite : Cert.Pre_loss_finite.Facts),
    quiescent_Kernel (hKernel := hKernel)
    ∧ quiescent_KernelIdeal (hKernelIdeal := hKernelIdeal)
    ∧ quiescent_ReferenceIdeal (hReferenceIdeal := hReferenceIdeal)
    ∧ quiescent_GateGrad (hGateGrad := hGateGrad)
    ∧ quiescent_GateGradIdeal (hGateGradIdeal := hGateGradIdeal)
    ∧ quiescent_GateGradIdeal_pre_gate_finite (hGateGradIdeal := hGateGradIdeal) (hPre_gate_finite := hPre_gate_finite)
    ∧ quiescent_GateGradRefIdeal (hGateGradRefIdeal := hGateGradRefIdeal)
    ∧ quiescent_GateGradRefIdeal_pre_gate_finite (hGateGradRefIdeal := hGateGradRefIdeal) (hPre_gate_finite := hPre_gate_finite)
    ∧ quiescent_NormGrad (hNormGrad := hNormGrad)
    ∧ quiescent_NormGradIdeal (hNormGradIdeal := hNormGradIdeal)
    ∧ quiescent_NormGradIdeal_pre_norm_finite (hNormGradIdeal := hNormGradIdeal) (hPre_norm_finite := hPre_norm_finite)
    ∧ quiescent_NormGradRefIdeal (hNormGradRefIdeal := hNormGradRefIdeal)
    ∧ quiescent_NormGradRefIdeal_pre_norm_finite (hNormGradRefIdeal := hNormGradRefIdeal) (hPre_norm_finite := hPre_norm_finite)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_UpConv (hUpConv := hUpConv)
    ∧ quiescent_UpConvIdeal (hUpConvIdeal := hUpConvIdeal)
    ∧ quiescent_UpConvRefIdeal (hUpConvRefIdeal := hUpConvRefIdeal)
    ∧ quiescent_QueryGrad (hQueryGrad := hQueryGrad)
    ∧ quiescent_QueryGradIdeal (hQueryGradIdeal := hQueryGradIdeal)
    ∧ quiescent_QueryGradRefIdeal (hQueryGradRefIdeal := hQueryGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_KvGrad (hKvGrad := hKvGrad)
    ∧ quiescent_KvGradIdeal (hKvGradIdeal := hKvGradIdeal)
    ∧ quiescent_KvGradRefIdeal (hKvGradRefIdeal := hKvGradRefIdeal)
    ∧ quiescent_MixNorm (hMixNorm := hMixNorm)
    ∧ quiescent_MixNormIdeal (hMixNormIdeal := hMixNormIdeal)
    ∧ quiescent_MixNormIdeal_pre_mix_norm_finite (hMixNormIdeal := hMixNormIdeal) (hPre_mix_norm_finite := hPre_mix_norm_finite)
    ∧ quiescent_MixNormRefIdeal (hMixNormRefIdeal := hMixNormRefIdeal)
    ∧ quiescent_MixNormRefIdeal_pre_mix_norm_finite (hMixNormRefIdeal := hMixNormRefIdeal) (hPre_mix_norm_finite := hPre_mix_norm_finite)
    ∧ quiescent_InNorm (hInNorm := hInNorm)
    ∧ quiescent_InNormIdeal (hInNormIdeal := hInNormIdeal)
    ∧ quiescent_InNormIdeal_pre_in_norm_finite (hInNormIdeal := hInNormIdeal) (hPre_in_norm_finite := hPre_in_norm_finite)
    ∧ quiescent_InNormRefIdeal (hInNormRefIdeal := hInNormRefIdeal)
    ∧ quiescent_InNormRefIdeal_pre_in_norm_finite (hInNormRefIdeal := hInNormRefIdeal) (hPre_in_norm_finite := hPre_in_norm_finite)
    ∧ quiescent_InProj (hInProj := hInProj)
    ∧ quiescent_InProjIdeal (hInProjIdeal := hInProjIdeal)
    ∧ quiescent_InProjRefIdeal (hInProjRefIdeal := hInProjRefIdeal)
    ∧ quiescent_Heads1 (hHeads1 := hHeads1)
    ∧ quiescent_Heads1Ideal (hHeads1Ideal := hHeads1Ideal)
    ∧ quiescent_Heads1RefIdeal (hHeads1RefIdeal := hHeads1RefIdeal)
    ∧ quiescent_Heads4 (hHeads4 := hHeads4)
    ∧ quiescent_Heads4Ideal (hHeads4Ideal := hHeads4Ideal)
    ∧ quiescent_Heads4RefIdeal (hHeads4RefIdeal := hHeads4RefIdeal)
    ∧ quiescent_Heads16 (hHeads16 := hHeads16)
    ∧ quiescent_Heads16Ideal (hHeads16Ideal := hHeads16Ideal)
    ∧ quiescent_Heads16RefIdeal (hHeads16RefIdeal := hHeads16RefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_LossGrad (hLossGrad := hLossGrad)
    ∧ quiescent_LossGradIdeal (hLossGradIdeal := hLossGradIdeal)
    ∧ quiescent_LossGradIdeal_pre_loss_finite (hLossGradIdeal := hLossGradIdeal) (hPre_loss_finite := hPre_loss_finite)
    ∧ quiescent_LossGradRefIdeal (hLossGradRefIdeal := hLossGradRefIdeal)
    ∧ quiescent_LossGradRefIdeal_pre_loss_finite (hLossGradRefIdeal := hLossGradRefIdeal) (hPre_loss_finite := hPre_loss_finite)
    ∧ quiescent_HeadOut (hHeadOut := hHeadOut)
    ∧ quiescent_HeadOutIdeal (hHeadOutIdeal := hHeadOutIdeal)
    ∧ quiescent_HeadOutRefIdeal (hHeadOutRefIdeal := hHeadOutRefIdeal)
    ∧ quiescent_AdamShards (hAdamShards := hAdamShards)
    ∧ quiescent_AdamShardsIdeal (hAdamShardsIdeal := hAdamShardsIdeal)
    ∧ quiescent_AdamShardsRefIdeal (hAdamShardsRefIdeal := hAdamShardsRefIdeal)
    ∧ quiescent_AdamWhole (hAdamWhole := hAdamWhole)
    ∧ quiescent_AdamWholeIdeal (hAdamWholeIdeal := hAdamWholeIdeal)
    ∧ quiescent_AdamWholeRefIdeal (hAdamWholeRefIdeal := hAdamWholeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Kernel_KernelIdeal
    ∧ algebraic_KernelIdeal_ReferenceIdeal (hKernelIdeal := hKernelIdeal) (hReferenceIdeal := hReferenceIdeal)
    ∧ preserves_GateGrad_GateGradIdeal
    ∧ algebraic_GateGradIdeal_GateGradRefIdeal_pre_gate_finite (hGateGradIdeal := hGateGradIdeal) (hGateGradRefIdeal := hGateGradRefIdeal) (hPre_gate_finite := hPre_gate_finite)
    ∧ preserves_NormGrad_NormGradIdeal
    ∧ algebraic_NormGradIdeal_NormGradRefIdeal_pre_norm_finite (hNormGradIdeal := hNormGradIdeal) (hNormGradRefIdeal := hNormGradRefIdeal) (hPre_norm_finite := hPre_norm_finite)
    ∧ preserves_DownGrad_DownGradIdeal
    ∧ algebraic_DownGradIdeal_DownGradRefIdeal (hDownGradIdeal := hDownGradIdeal) (hDownGradRefIdeal := hDownGradRefIdeal)
    ∧ preserves_UpConv_UpConvIdeal
    ∧ algebraic_UpConvIdeal_UpConvRefIdeal (hUpConvIdeal := hUpConvIdeal) (hUpConvRefIdeal := hUpConvRefIdeal)
    ∧ preserves_QueryGrad_QueryGradIdeal
    ∧ algebraic_QueryGradIdeal_QueryGradRefIdeal (hQueryGradIdeal := hQueryGradIdeal) (hQueryGradRefIdeal := hQueryGradRefIdeal)
    ∧ preserves_OutGrad_OutGradIdeal
    ∧ algebraic_OutGradIdeal_OutGradRefIdeal (hOutGradIdeal := hOutGradIdeal) (hOutGradRefIdeal := hOutGradRefIdeal)
    ∧ preserves_InGrad_InGradIdeal
    ∧ algebraic_InGradIdeal_InGradRefIdeal (hInGradIdeal := hInGradIdeal) (hInGradRefIdeal := hInGradRefIdeal)
    ∧ preserves_KvGrad_KvGradIdeal
    ∧ algebraic_KvGradIdeal_KvGradRefIdeal (hKvGradIdeal := hKvGradIdeal) (hKvGradRefIdeal := hKvGradRefIdeal)
    ∧ preserves_MixNorm_MixNormIdeal
    ∧ algebraic_MixNormIdeal_MixNormRefIdeal_pre_mix_norm_finite (hMixNormIdeal := hMixNormIdeal) (hMixNormRefIdeal := hMixNormRefIdeal) (hPre_mix_norm_finite := hPre_mix_norm_finite)
    ∧ preserves_InNorm_InNormIdeal
    ∧ algebraic_InNormIdeal_InNormRefIdeal_pre_in_norm_finite (hInNormIdeal := hInNormIdeal) (hInNormRefIdeal := hInNormRefIdeal) (hPre_in_norm_finite := hPre_in_norm_finite)
    ∧ preserves_InProj_InProjIdeal
    ∧ algebraic_InProjIdeal_InProjRefIdeal (hInProjIdeal := hInProjIdeal) (hInProjRefIdeal := hInProjRefIdeal)
    ∧ preserves_Heads1_Heads1Ideal
    ∧ algebraic_Heads1Ideal_Heads1RefIdeal (hHeads1Ideal := hHeads1Ideal) (hHeads1RefIdeal := hHeads1RefIdeal)
    ∧ preserves_Heads4_Heads4Ideal
    ∧ algebraic_Heads4Ideal_Heads4RefIdeal (hHeads4Ideal := hHeads4Ideal) (hHeads4RefIdeal := hHeads4RefIdeal)
    ∧ preserves_Heads16_Heads16Ideal
    ∧ algebraic_Heads16Ideal_Heads16RefIdeal (hHeads16Ideal := hHeads16Ideal) (hHeads16RefIdeal := hHeads16RefIdeal)
    ∧ preserves_DownProj_DownProjIdeal
    ∧ algebraic_DownProjIdeal_DownProjRefIdeal (hDownProjIdeal := hDownProjIdeal) (hDownProjRefIdeal := hDownProjRefIdeal)
    ∧ preserves_LossGrad_LossGradIdeal
    ∧ algebraic_LossGradIdeal_LossGradRefIdeal_pre_loss_finite (hLossGradIdeal := hLossGradIdeal) (hLossGradRefIdeal := hLossGradRefIdeal) (hPre_loss_finite := hPre_loss_finite)
    ∧ preserves_HeadOut_HeadOutIdeal
    ∧ algebraic_HeadOutIdeal_HeadOutRefIdeal (hHeadOutIdeal := hHeadOutIdeal) (hHeadOutRefIdeal := hHeadOutRefIdeal)
    ∧ preserves_AdamShards_AdamShardsIdeal
    ∧ algebraic_AdamShardsIdeal_AdamShardsRefIdeal (hAdamShardsIdeal := hAdamShardsIdeal) (hAdamShardsRefIdeal := hAdamShardsRefIdeal)
    ∧ preserves_AdamWhole_AdamWholeIdeal
    ∧ algebraic_AdamWholeIdeal_AdamWholeRefIdeal (hAdamWholeIdeal := hAdamWholeIdeal) (hAdamWholeRefIdeal := hAdamWholeRefIdeal)
    ∧ preserves_OutProj_OutProjIdeal
    ∧ algebraic_OutProjIdeal_OutProjRefIdeal (hOutProjIdeal := hOutProjIdeal) (hOutProjRefIdeal := hOutProjRefIdeal)
-- ==== Pre_gate_finite.lean ====
abbrev S16384x1024 : Shape := ⟨2, ![16384, 1024]⟩
abbrev S2816x1024 : Shape := ⟨2, ![2816, 1024]⟩
abbrev S16384x5632 : Shape := ⟨2, ![16384, 5632]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S16384x5632 : S_.BroadcastsInDim S16384x5632 (![] : Fin 0 → Fin S16384x5632.rank)
  reducesTo_S16384x5632_S_d0_1 : S16384x5632.ReducesTo [0, 1] S_

variable [Facts]

def fn {F : FTy → Type} [FloatOps F] (main_arg0 : FVec F S16384x1024 .f32) (main_arg1 : FVec F S2816x1024 .bf16) (main_arg2 : FVec F S16384x5632 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S16384x5632 .f32 := (extf .f32 · bitsLt_bf16_f32) main_arg2
  let main_v11 : FVec F S16384x5632 .f32 := Host.absf main_v10
  let main_cst_2 : FVec F S_ .f32 := constant S_ .f32 0x7F800000#32
  let main_v12 : FVec F S16384x5632 .f32 := broadcastInDim S16384x5632 ![] bcast_S_S16384x5632 main_cst_2
  let main_v13 : IVec S16384x5632 1 := cmpf .olt main_v11 main_v12
  let main_c_3 : IVec S_ 1 := constantI S_ 1 1#1
  let main_v14 : IVec S_ 1 := (fun x v => Host.reduce IntOp.andi x v reducesTo_S16384x5632_S_d0_1 h_S_) main_v13 main_c_3
  let main_v15 : IVec S_ 1 := andi main_v9 main_v14
  main_v15
-- ==== Pre_in_norm_finite.lean ====
abbrev S16384x3328 : Shape := ⟨2, ![16384, 3328]⟩
abbrev S1024x3080 : Shape := ⟨2, ![1024, 3080]⟩
abbrev S1x1024 : Shape := ⟨2, ![1, 1024]⟩
abbrev S16384x1024 : Shape := ⟨2, ![16384, 1024]⟩
abbrev S_ : Shape := ⟨0, ![]⟩

class Facts : Prop where
  bitsLt_bf16_f32 : FTy.bits .bf16 < FTy.bits .f32
  bcast_S_S16384x3328 : S_.BroadcastsInDim S16384x3328 (![] : Fin 0 → Fin S16384x3328.rank)
  reducesTo_S16384x3328_S_d0_1 : S16384x3328.ReducesTo [0, 1] S_
  h_S_ : 0 < S_.numel
  bcast_S_S1024x3080 : S_.BroadcastsInDim S1024x3080 (![] : Fin 0 → Fin S1024x3080.rank)
  reducesTo_S1024x3080_S_d0_1 : S1024x3080.ReducesTo [0, 1] S_
  bcast_S_S1x1024 : S_.BroadcastsInDim S1x1024 (![] : Fin 0 → Fin S1x1024.rank)
  reducesTo_S1x1024_S_d0_1 : S1x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v15 : IVec S_ 1) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : IVec S_ 1 := andi main_v15 main_v19
  main_v20

def fn {F : FTy → Type} [FloatOps F] (main_arg0 : FVec F S16384x3328 .bf16) (main_arg1 : FVec F S1024x3080 .bf16) (main_arg2 : FVec F S1x1024 .f32) (main_arg3 : FVec F S16384x1024 .f32) (main_arg4 : FVec F S16384x1024 .f32) : IVec S_ 1 :=
  let main_v0 : FVec F S16384x3328 .f32 := (extf .f32 · bitsLt_bf16_f32) main_arg0
  let main_v1 : FVec F S16384x3328 .f32 := Host.absf main_v0
  let main_cst : FVec F S_ .f32 := constant S_ .f32 0x7F800000#32
  let main_v2 : FVec F S16384x3328 .f32 := broadcastInDim S16384x3328 ![] bcast_S_S16384x3328 main_cst
  let main_v3 : IVec S16384x3328 1 := cmpf .olt main_v1 main_v2
  let main_c : IVec S_ 1 := constantI S_ 1 1#1
  let main_v4 : IVec S_ 1 := (fun x v => Host.reduce IntOp.andi x v reducesTo_S16384x3328_S_d0_1 h_S_) main_v3 main_c
  let main_v5 : FVec F S1024x3080 .f32 := (extf .f32 · bitsLt_bf16_f32) main_arg1
  let main_v6 : FVec F S1024x3080 .f32 := Host.absf main_v5
  let main_cst_0 : FVec F S_ .f32 := constant S_ .f32 0x7F800000#32
  let main_v7 : FVec F S1024x3080 .f32 := broadcastInDim S1024x3080 ![] bcast_S_S1024x3080 main_cst_0
  let main_v8 : IVec S1024x3080 1 := cmpf .olt main_v6 main_v7
  let main_c_1 : IVec S_ 1 := constantI S_ 1 1#1
  let main_v9 : IVec S_ 1 := (fun x v => Host.reduce IntOp.andi x v reducesTo_S1024x3080_S_d0_1 h_S_) main_v8 main_c_1
  let main_v10 : IVec S_ 1 := andi main_v4 main_v9
  let main_v11 : FVec F S1x1024 .f32 := Host.absf main_arg2
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  let main_v16 : FVec F S16384x1024 .f32 := Host.absf main_arg3
  let main_cst_4 : FVec F S_ .f32 := constant S_ .f32 0x7F800000#32
  fn_part1 (F := F) main_v15 main_v16 main_cst_4
-- ==== Pre_loss_finite.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S16384x2816 .bf16) (main_arg1 : FVec F S2816x1024 .bf16) (main_arg2 : FVec F S16384x1024 .f32) (main_arg3 : FVec F S16384x1024 .f32) (main_arg4 : FVec F S1x1024 .f32) : IVec S_ 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S16384x1024 .f32 := Host.absf main_arg2
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v10 main_v14
  let main_v16 : FVec F S16384x1024 .f32 := Host.absf main_arg3
  let main_cst_4 : FVec F S_ .f32 := constant S_ .f32 0x7F800000#32
  fn_part1 (F := F) main_arg4 main_v15 main_v16 main_cst_4
-- ==== Pre_mix_norm_finite.lean ====
abbrev S16384x1024 : Shape := ⟨2, ![16384, 1024]⟩
abbrev S1024x3072 : Shape := ⟨2, ![1024, 3072]⟩
abbrev S1x1024 : Shape := ⟨2, ![1, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_v32 : IVec S_ 1) (main_v33 : FVec F S16384x1024 .f32) (main_v34 : FVec F S16384x1024 .f32) : IVec S_ 1 :=
  let main_v35 : IVec S16384x1024 1 := cmpf .olt main_v33 main_v34
  let main_c_11 : IVec S_ 1 := constantI S_ 1 1#1
  let main_v36 : IVec S_ 1 := (fun x v => Host.reduce IntOp.andi x v reducesTo_S16384x1024_S_d0_1 h_S_) main_v35 main_c_11
  let main_v37 : IVec S_ 1 := andi main_v32 main_v36
  let main_v38 : FVec F S1x1024 .f32 := Host.absf main_arg8
  let main_cst_12 : FVec F S_ .f32 := constant S_ .f32 0x7F800000#32
  let main_v39 : FVec F S1x1024 .f32 := broadcastInDim S1x1024 ![] bcast_S_S1x1024 main_cst_12
  let main_v40 : IVec S1x1024 1 := cmpf .olt main_v38 main_v39
  let main_c_13 : IVec S_ 1 := constantI S_ 1 1#1
  let main_v41 : IVec S_ 1 := (fun x v => Host.reduce IntOp.andi x v reducesTo_S1x1024_S_d0_1 h_S_) main_v40 main_c_13
  let main_v42 : IVec S_ 1 := andi main_v37 main_v41
  main_v42

def fn_part1 {F : FTy → Type} [FloatOps F] (main_arg4 : FVec F S1x1024 .f32) (main_arg5 : FVec F S16384x1024 .f32) (main_arg7 : FVec F S16384x1024 .f32) (main_arg8 : FVec F S1x1024 .f32) (main_v16 : IVec S_ 1) (main_v17 : FVec F S1024x3072 .f32) : IVec S_ 1 :=
  let main_v18 : FVec F S1024x3072 .f32 := Host.absf main_v17
  let main_cst_4 : FVec F S_ .f32 := constant S_ .f32 0x7F800000#32
  let main_v19 : FVec F S1024x3072 .f32 := broadcastInDim S1024x3072 ![] bcast_S_S1024x3072 main_cst_4
  let main_v20 : IVec S1024x3072 1 := cmpf .olt main_v18 main_v19
  let main_c_5 : IVec S_ 1 := constantI S_ 1 1#1
  let main_v21 : IVec S_ 1 := (fun x v => Host.reduce IntOp.andi x v reducesTo_S1024x3072_S_d0_1 h_S_) main_v20 main_c_5
  let main_v22 : IVec S_ 1 := andi main_v16 main_v21
  let main_v23 : FVec F S1x1024 .f32 := Host.absf main_arg4
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  let main_c_7 : IVec S_ 1 := constantI S_ 1 1#1
  let main_v26 : IVec S_ 1 := (fun x v => Host.reduce IntOp.andi x v reducesTo_S1x1024_S_d0_1 h_S_) main_v25 main_c_7
  let main_v27 : IVec S_ 1 := andi main_v22 main_v26
  let main_v28 : FVec F S16384x1024 .f32 := Host.absf main_arg5
  let main_cst_8 : FVec F S_ .f32 := constant S_ .f32 0x7F800000#32
  let main_v29 : FVec F S16384x1024 .f32 := broadcastInDim S16384x1024 ![] bcast_S_S16384x1024 main_cst_8
  let main_v30 : IVec S16384x1024 1 := cmpf .olt main_v28 main_v29
  let main_c_9 : IVec S_ 1 := constantI S_ 1 1#1
  let main_v31 : IVec S_ 1 := (fun x v => Host.reduce IntOp.andi x v reducesTo_S16384x1024_S_d0_1 h_S_) main_v30 main_c_9
  let main_v32 : IVec S_ 1 := andi main_v27 main_v31
  let main_v33 : FVec F S16384x1024 .f32 := Host.absf main_arg7
  let main_cst_10 : FVec F S_ .f32 := constant S_ .f32 0x7F800000#32
  let main_v34 : FVec F S16384x1024 .f32 := broadcastInDim S16384x1024 ![] bcast_S_S16384x1024 main_cst_10
  fn_part2 (F := F) main_arg8 main_v32 main_v33 main_v34

def fn {F : FTy → Type} [FloatOps F] (main_arg0 : FVec F S16384x1024 .bf16) (main_arg1 : FVec F S16384x1024 .bf16) (main_arg2 : FVec F S16384x1024 .bf16) (main_arg3 : FVec F S1024x3072 .bf16) (main_arg4 : FVec F S1x1024 .f32) (main_arg5 : FVec F S16384x1024 .f32) (main_arg6 : FVec F S16384x1024 .f32) (main_arg7 : FVec F S16384x1024 .f32) (main_arg8 : FVec F S1x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x1024 .f32 := (extf .f32 · bitsLt_bf16_f32) main_arg2
  let main_v12 : FVec F S16384x1024 .f32 := Host.absf main_v11
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_c_3 : IVec S_ 1 := constantI S_ 1 1#1
  let main_v15 : IVec S_ 1 := (fun x v => Host.reduce IntOp.andi x v reducesTo_S16384x1024_S_d0_1 h_S_) main_v14 main_c_3
  let main_v16 : IVec S_ 1 := andi main_v10 main_v15
  let main_v17 : FVec F S1024x3072 .f32 := (extf .f32 · bitsLt_bf16_f32) main_arg3
  fn_part1 (F := F) main_arg4 main_arg5 main_arg7 main_arg8 main_v16 main_v17
-- ==== Pre_norm_finite.lean ====
abbrev S16384x5632 : Shape := ⟨2, ![16384, 5632]⟩
abbrev S1024x5632 : Shape := ⟨2, ![1024, 5632]⟩
abbrev S1x1024 : Shape := ⟨2, ![1, 1024]⟩
abbrev S16384x1024 : Shape := ⟨2, ![16384, 1024]⟩
abbrev S_ : Shape := ⟨0, ![]⟩

class Facts : Prop where
  bitsLt_bf16_f32 : FTy.bits .bf16 < FTy.bits .f32
  bcast_S_S16384x5632 : S_.BroadcastsInDim S16384x5632 (![] : Fin 0 → Fin S16384x5632.rank)
  reducesTo_S16384x5632_S_d0_1 : S16384x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S1x1024 : S_.BroadcastsInDim S1x1024 (![] : Fin 0 → Fin S1x1024.rank)
  reducesTo_S1x1024_S_d0_1 : S1x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v15 : IVec S_ 1) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : IVec S_ 1 := andi main_v15 main_v19
  main_v20

def fn {F : FTy → Type} [FloatOps F] (main_arg0 : FVec F S16384x5632 .bf16) (main_arg1 : FVec F S1024x5632 .bf16) (main_arg2 : FVec F S1x1024 .f32) (main_arg3 : FVec F S16384x1024 .f32) (main_arg4 : FVec F S16384x1024 .f32) : IVec S_ 1 :=
  let main_v0 : FVec F S16384x5632 .f32 := (extf .f32 · bitsLt_bf16_f32) main_arg0
  let main_v1 : FVec F S16384x5632 .f32 := Host.absf main_v0
  let main_cst : FVec F S_ .f32 := constant S_ .f32 0x7F800000#32
  let main_v2 : FVec F S16384x5632 .f32 := broadcastInDim S16384x5632 ![] bcast_S_S16384x5632 main_cst
  let main_v3 : IVec S16384x5632 1 := cmpf .olt main_v1 main_v2
  let main_c : IVec S_ 1 := constantI S_ 1 1#1
  let main_v4 : IVec S_ 1 := (fun x v => Host.reduce IntOp.andi x v reducesTo_S16384x5632_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S1x1024 .f32 := Host.absf main_arg2
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  let main_v16 : FVec F S16384x1024 .f32 := Host.absf main_arg3
  let main_cst_4 : FVec F S_ .f32 := constant S_ .f32 0x7F800000#32
  fn_part1 (F := F) main_v15 main_v16 main_cst_4
-- ==== Kernel.lean ====
abbrev S16384x1024 : Shape := ⟨2, ![16384, 1024]⟩
abbrev S1024x5632 : Shape := ⟨2, ![1024, 5632]⟩
abbrev S3x5632 : Shape := ⟨2, ![3, 5632]⟩
abbrev S16384x5632 : Shape := ⟨2, ![16384, 5632]⟩
abbrev S8x5632 : Shape := ⟨2, ![8, 5632]⟩
abbrev S1024x1024 : Shape := ⟨2, ![1024, 1024]⟩
abbrev S1024x1408 : Shape := ⟨2, ![1024, 1408]⟩
abbrev S16x1408 : Shape := ⟨2, ![16, 1408]⟩
abbrev S3x1408 : Shape := ⟨2, ![3, 1408]⟩
abbrev S8x1408 : Shape := ⟨2, ![8, 1408]⟩
abbrev S1x1408 : Shape := ⟨2, ![1, 1408]⟩
abbrev S1408 : Shape := ⟨1, ![1408]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S3x5632, .f32⟩
  | .hbm, ⟨3, _⟩ => ⟨S16384x5632, .bf16⟩
  | .hbm, ⟨4, _⟩ => ⟨S16384x5632, .f32⟩
  | .hbm, ⟨5, _⟩ => ⟨S16384x5632, .bf16⟩
  | .hbm, ⟨6, _⟩ => ⟨S1024x5632, .f32⟩
  | .hbm, ⟨7, _⟩ => ⟨S16384x5632, .bf16⟩
  | .hbm, ⟨8, _⟩ => ⟨S8x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S16x1408, .bf16⟩
  | .local _ .vmem, ⟨5, _⟩ => ⟨S16x1408, .bf16⟩
  | .local _ .vmem, ⟨6, _⟩ => ⟨S1024x1408, .bf16⟩
  | .local _ .vmem, ⟨7, _⟩ => ⟨S1024x1408, .bf16⟩
  | .local _ .vmem, ⟨8, _⟩ => ⟨S3x1408, .f32⟩
  | .local _ .vmem, ⟨9, _⟩ => ⟨S3x1408, .f32⟩
  | .local _ .vmem, ⟨10, _⟩ => ⟨S1024x1408, .f32⟩
  | .local _ .vmem, ⟨11, _⟩ => ⟨S1024x1408, .f32⟩
  | .local _ .vmem, ⟨12, _⟩ => ⟨S1024x1408, .bf16⟩
  | .local _ .vmem, ⟨13, _⟩ => ⟨S1024x1408, .bf16⟩
  | .local _ .vmem, ⟨14, _⟩ => ⟨S8x1408, .f32⟩
  | .local _ .vmem, ⟨15, _⟩ => ⟨S8x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x1024 : Shape := ⟨2, ![16384, 1024]⟩
abbrev S1024x5632 : Shape := ⟨2, ![1024, 5632]⟩
abbrev S3x5632 : Shape := ⟨2, ![3, 5632]⟩
abbrev S16384x5632 : Shape := ⟨2, ![16384, 5632]⟩
abbrev S_ : Shape := ⟨0, ![]⟩
abbrev S5632 : Shape := ⟨1, ![5632]⟩
abbrev S2x5632 : Shape := ⟨2, ![2, 5632]⟩
abbrev S16386x5632 : Shape := ⟨2, ![16386, 5632]⟩
abbrev S1x5632 : Shape := ⟨2, ![1, 5632]⟩
abbrev S5632x1024 : Shape := ⟨2, ![5632, 1024]⟩
abbrev S4x5632 : Shape := ⟨2, ![4, 5632]⟩
abbrev S8x5632 : Shape := ⟨2, ![8, 5632]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S3x5632, .f32⟩
  | .hbm, ⟨3, _⟩ => ⟨S16384x5632, .bf16⟩
  | .hbm, ⟨4, _⟩ => ⟨S1024x5632, .f32⟩
  | .hbm, ⟨5, _⟩ => ⟨S16384x1024, .f32⟩
  | .hbm, ⟨6, _⟩ => ⟨S16384x5632, .f32⟩
  | .hbm, ⟨7, _⟩ => ⟨S_, .f32⟩
  | .hbm, ⟨8, _⟩ => ⟨S5632, .f32⟩
  | .hbm, ⟨9, _⟩ => ⟨S_, .f32⟩
  | .hbm, ⟨10, _⟩ => ⟨S2x5632, .f32⟩
  | .hbm, ⟨11, _⟩ => ⟨S16386x5632, .f32⟩
  | .hbm, ⟨12, _⟩ => ⟨S_, .f32⟩
  | .hbm, ⟨13, _⟩ => ⟨S2x5632, .f32⟩
  | .hbm, ⟨14, _⟩ => ⟨S16384x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S_, .f32⟩
  | .hbm, ⟨39, _⟩ => ⟨S5632, .f32⟩
  | .hbm, ⟨40, _⟩ => ⟨S1x5632, .f32⟩
  | .hbm, ⟨41, _⟩ => ⟨S_, .f32⟩
  | .hbm, ⟨42, _⟩ => ⟨S5632, .f32⟩
  | .hbm, ⟨43, _⟩ => ⟨S16384x5632, .f32⟩
  | .hbm, ⟨44, _⟩ => ⟨S_, .f32⟩
  | .hbm, ⟨45, _⟩ => ⟨S5632, .f32⟩
  | .hbm, ⟨46, _⟩ => ⟨S1x5632, .f32⟩
  | .hbm, ⟨47, _⟩ => ⟨S16384x5632, .f32⟩
  | .hbm, ⟨48, _⟩ => ⟨S16384x5632, .f32⟩
  | .hbm, ⟨49, _⟩ => ⟨S_, .f32⟩
  | .hbm, ⟨50, _⟩ => ⟨S5632, .f32⟩
  | .hbm, ⟨51, _⟩ => ⟨S1x5632, .f32⟩
  | .hbm, ⟨52, _⟩ => ⟨S_, .f32⟩
  | .hbm, ⟨53, _⟩ => ⟨S3x5632, .f32⟩
  | .hbm, ⟨54, _⟩ => ⟨S_, .f32⟩
  | .hbm, ⟨55, _⟩ => ⟨S16386x5632, .f32⟩
  | .hbm, ⟨56, _⟩ => ⟨S16384x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S16384x5632, .f32⟩
  | .hbm, ⟨61, _⟩ => ⟨S16384x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S3x5632, .f32⟩
  | .hbm, ⟨67, _⟩ => ⟨S3x5632, .f32⟩
  | .hbm, ⟨68, _⟩ => ⟨S_, .f32⟩
  | .hbm, ⟨69, _⟩ => ⟨S16386x5632, .f32⟩
  | .hbm, ⟨70, _⟩ => ⟨S16386x5632, .f32⟩
  | .hbm, ⟨71, _⟩ => ⟨S16384x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S16384x5632, .f32⟩
  | .hbm, ⟨76, _⟩ => ⟨S16384x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S_, .f32⟩
  | .hbm, ⟨81, _⟩ => ⟨S3x5632, .f32⟩
  | .hbm, ⟨82, _⟩ => ⟨S3x5632, .f32⟩
  | .hbm, ⟨83, _⟩ => ⟨S_, .f32⟩
  | .hbm, ⟨84, _⟩ => ⟨S16386x5632, .f32⟩
  | .hbm, ⟨85, _⟩ => ⟨S16386x5632, .f32⟩
  | .hbm, ⟨86, _⟩ => ⟨S2x5632, .f32⟩
  | .hbm, ⟨87, _⟩ => ⟨S16384x5632, .f32⟩
  | .hbm, ⟨88, _⟩ => ⟨S5632x1024, .f32⟩
  | .hbm, ⟨89, _⟩ => ⟨S1024x5632, .f32⟩
  | .hbm, ⟨90, _⟩ => ⟨S16384x5632, .bf16⟩
  | .hbm, ⟨91, _⟩ => ⟨S1x5632, .f32⟩
  | .hbm, ⟨92, _⟩ => ⟨S_, .f32⟩
  | .hbm, ⟨93, _⟩ => ⟨S4x5632, .f32⟩
  | .hbm, ⟨94, _⟩ => ⟨S8x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== GateGrad.lean ====
abbrev S16384x1024 : Shape := ⟨2, ![16384, 1024]⟩
abbrev S2816x1024 : Shape := ⟨2, ![2816, 1024]⟩
abbrev S16384x5632 : Shape := ⟨2, ![16384, 5632]⟩
abbrev S1024x2816 : Shape := ⟨2, ![1024, 2816]⟩
abbrev S512x1024 : Shape := ⟨2, ![512, 1024]⟩
abbrev S1024x1408 : Shape := ⟨2, ![1024, 1408]⟩
abbrev S512x2816 : Shape := ⟨2, ![512, 2816]⟩
abbrev S512x1408 : Shape := ⟨2, ![512, 1408]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x5632, .bf16⟩
  | .hbm, ⟨3, _⟩ => ⟨S1024x2816, .bf16⟩
  | .hbm, ⟨4, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateGradRefIdeal.lean ====
abbrev S16384x1024 : Shape := ⟨2, ![16384, 1024]⟩
abbrev S2816x1024 : Shape := ⟨2, ![2816, 1024]⟩
abbrev S16384x5632 : Shape := ⟨2, ![16384, 5632]⟩
abbrev S16384x1408 : Shape := ⟨2, ![16384, 1408]⟩
abbrev S16384x2816 : Shape := ⟨2, ![16384, 2816]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x5632, .bf16⟩
  | .hbm, ⟨3, _⟩ => ⟨S16384x5632, .f32⟩
  | .hbm, ⟨4, _⟩ => ⟨S16384x1408, .f32⟩
  | .hbm, ⟨5, _⟩ => ⟨S16384x1408, .f32⟩
  | .hbm, ⟨6, _⟩ => ⟨S16384x2816, .f32⟩
  | .hbm, ⟨7, _⟩ => ⟨S16384x1408, .f32⟩
  | .hbm, ⟨8, _⟩ => ⟨S16384x1408, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S2816x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1408, .f32⟩
  | .hbm, ⟨34, _⟩ => ⟨S16384x1408, .f32⟩
  | .hbm, ⟨35, _⟩ => ⟨S_, .f32⟩
  | .hbm, ⟨36, _⟩ => ⟨S16384x5632, .f32⟩
  | .hbm, ⟨37, _⟩ => ⟨S_, .f32⟩
  | .hbm, ⟨38, _⟩ => ⟨S16384x5632, .f32⟩
  | .hbm, ⟨39, _⟩ => ⟨S16384x5632, .f32⟩
  | .hbm, ⟨40, _⟩ => ⟨S16384x1408, .f32⟩
  | .hbm, ⟨41, _⟩ => ⟨S16384x1408, .f32⟩
  | .hbm, ⟨42, _⟩ => ⟨S_, .f32⟩
  | .hbm, ⟨43, _⟩ => ⟨S16384x5632, .f32⟩
  | .hbm, ⟨44, _⟩ => ⟨S16384x5632, .f32⟩
  | .hbm, ⟨45, _⟩ => ⟨S_, .f32⟩
  | .hbm, ⟨46, _⟩ => ⟨S16384x5632, .f32⟩
  | .hbm, ⟨47, _⟩ => ⟨S16384x5632, .f32⟩
  | .hbm, ⟨48, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== NormGrad.lean ====
abbrev S16384x5632 : Shape := ⟨2, ![16384, 5632]⟩
abbrev S1024x5632 : Shape := ⟨2, ![1024, 5632]⟩
abbrev S1x1024 : Shape := ⟨2, ![1, 1024]⟩
abbrev S16384x1024 : Shape := ⟨2, ![16384, 1024]⟩
abbrev S5632x1024 : Shape := ⟨2, ![5632, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S5632x1024, .bf16⟩
  | .hbm, ⟨6, _⟩ => ⟨S16384x1024, .f32⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradRefIdeal.lean ====
abbrev S16384x5632 : Shape := ⟨2, ![16384, 5632]⟩
abbrev S1024x5632 : Shape := ⟨2, ![1024, 5632]⟩
abbrev S1x1024 : Shape := ⟨2, ![1, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x5632, .f32⟩
  | .hbm, ⟨25, _⟩ => ⟨S16384x5632, .f32⟩
  | .hbm, ⟨26, _⟩ => ⟨S16384x5632, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DownGrad.lean ====
abbrev S16384x2816 : Shape := ⟨2, ![16384, 2816]⟩
abbrev S16384x1024 : Shape := ⟨2, ![16384, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DownGradRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpConv.lean ====
abbrev S16384x1024 : Shape := ⟨2, ![16384, 1024]⟩
abbrev S1024x5632 : Shape := ⟨2, ![1024, 5632]⟩
abbrev S3x5632 : Shape := ⟨2, ![3, 5632]⟩
abbrev S1x5632 : Shape := ⟨2, ![1, 5632]⟩
abbrev S1024x1408 : Shape := ⟨2, ![1024, 1408]⟩
abbrev S3x1408 : Shape := ⟨2, ![3, 1408]⟩
abbrev S1x1408 : Shape := ⟨2, ![1, 1408]⟩
abbrev S16384x5632 : Shape := ⟨2, ![16384, 5632]⟩
abbrev S16384x2816 : Shape := ⟨2, ![16384, 2816]⟩
abbrev S512x1024 : Shape := ⟨2, ![512, 1024]⟩
abbrev S1024x2816 : Shape := ⟨2, ![1024, 2816]⟩
abbrev S3x2816 : Shape := ⟨2, ![3, 2816]⟩
abbrev S1x2816 : Shape := ⟨2, ![1, 2816]⟩
abbrev S512x2816 : Shape := ⟨2, ![512, 2816]⟩
abbrev S512x1408 : Shape := ⟨2, ![512, 1408]⟩
abbrev S8x2816 : Shape := ⟨2, ![8, 2816]⟩

abbrev nBuf : Space → Nat
  | .hbm => 22
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S3x5632, .f32⟩
  | .hbm, ⟨3, _⟩ => ⟨S1x5632, .f32⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x1408, .bf16⟩
  | .hbm, ⟨8, _⟩ => ⟨S1024x5632, .bf16⟩
  | .hbm, ⟨9, _⟩ => ⟨S3x1408, .f32⟩
  | .hbm, ⟨10, _⟩ => ⟨S3x1408, .f32⟩
  | .hbm, ⟨11, _⟩ => ⟨S3x1408, .f32⟩
  | .hbm, ⟨12, _⟩ => ⟨S3x1408, .f32⟩
  | .hbm, ⟨13, _⟩ => ⟨S3x5632, .f32⟩
  | .hbm, ⟨14, _⟩ => ⟨S1x1408, .f32⟩
  | .hbm, ⟨15, _⟩ => ⟨S1x1408, .f32⟩
  | .hbm, ⟨16, _⟩ => ⟨S1x1408, .f32⟩
  | .hbm, ⟨17, _⟩ => ⟨S1x1408, .f32⟩
  | .hbm, ⟨18, _⟩ => ⟨S1x5632, .f32⟩
  | .hbm, ⟨19, _⟩ => ⟨S16384x5632, .bf16⟩
  | .hbm, ⟨20, _⟩ => ⟨S16384x5632, .bf16⟩
  | .hbm, ⟨21, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S3x2816, .f32⟩
  | .local _ .vmem, ⟨5, _⟩ => ⟨S3x2816, .f32⟩
  | .local _ .vmem, ⟨6, _⟩ => ⟨S1x2816, .f32⟩
  | .local _ .vmem, ⟨7, _⟩ => ⟨S1x2816, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1408, .bf16⟩
  | .local _ .vmem, ⟨13, _⟩ => ⟨S512x1408, .bf16⟩
  | .local _ .vmem, ⟨14, _⟩ => ⟨S8x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpConvRefIdeal.lean ====
abbrev S16384x1024 : Shape := ⟨2, ![16384, 1024]⟩
abbrev S1024x5632 : Shape := ⟨2, ![1024, 5632]⟩
abbrev S3x5632 : Shape := ⟨2, ![3, 5632]⟩
abbrev S1x5632 : Shape := ⟨2, ![1, 5632]⟩
abbrev S16384x5632 : Shape := ⟨2, ![16384, 5632]⟩
abbrev S_ : Shape := ⟨0, ![]⟩
abbrev S2x5632 : Shape := ⟨2, ![2, 5632]⟩
abbrev S16386x5632 : Shape := ⟨2, ![16386, 5632]⟩
abbrev S5632 : Shape := ⟨1, ![5632]⟩
abbrev S16384x2816 : Shape := ⟨2, ![16384, 2816]⟩
abbrev S16384x1408 : Shape := ⟨2, ![16384, 1408]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S3x5632, .f32⟩
  | .hbm, ⟨3, _⟩ => ⟨S1x5632, .f32⟩
  | .hbm, ⟨4, _⟩ => ⟨S16384x1024, .f32⟩
  | .hbm, ⟨5, _⟩ => ⟨S1024x5632, .f32⟩
  | .hbm, ⟨6, _⟩ => ⟨S16384x5632, .f32⟩
  | .hbm, ⟨7, _⟩ => ⟨S_, .f32⟩
  | .hbm, ⟨8, _⟩ => ⟨S2x5632, .f32⟩
  | .hbm, ⟨9, _⟩ => ⟨S16386x5632, .f32⟩
  | .hbm, ⟨10, _⟩ => ⟨S16384x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x2816, .f32⟩
  | .hbm, ⟨33, _⟩ => ⟨S16384x2816, .f32⟩
  | .hbm, ⟨34, _⟩ => ⟨S16384x1408, .f32⟩
  | .hbm, ⟨35, _⟩ => ⟨S16384x1408, .f32⟩
  | .hbm, ⟨36, _⟩ => ⟨S16384x1408, .f32⟩
  | .hbm, ⟨37, _⟩ => ⟨S16384x1408, .f32⟩
  | .hbm, ⟨38, _⟩ => ⟨S16384x5632, .f32⟩
  | .hbm, ⟨39, _⟩ => ⟨S16384x5632, .bf16⟩
  | .hbm, ⟨40, _⟩ => ⟨S16384x1408, .f32⟩
  | .hbm, ⟨41, _⟩ => ⟨S16384x1408, .f32⟩
  | .hbm, ⟨42, _⟩ => ⟨S16384x1408, .f32⟩
  | .hbm, ⟨43, _⟩ => ⟨S16384x1408, .f32⟩
  | .hbm, ⟨44, _⟩ => ⟨S16384x5632, .f32⟩
  | .hbm, ⟨45, _⟩ => ⟨S16384x5632, .bf16⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== QueryGrad.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== QueryGradRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutGradRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InGrad.lean ====
abbrev S16384x1024 : Shape := ⟨2, ![16384, 1024]⟩
abbrev S16384x3328 : Shape := ⟨2, ![16384, 3328]⟩
abbrev S1024x3328 : Shape := ⟨2, ![1024, 3328]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x3328, .bf16⟩
  | .hbm, ⟨2, _⟩ => ⟨S1024x3328, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InGradRefIdeal.lean ====
abbrev S16384x1024 : Shape := ⟨2, ![16384, 1024]⟩
abbrev S16384x3328 : Shape := ⟨2, ![16384, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3328, .bf16⟩
  | .hbm, ⟨2, _⟩ => ⟨S_, .f32⟩
  | .hbm, ⟨3, _⟩ => ⟨S1024x3328, .f32⟩
  | .hbm, ⟨4, _⟩ => ⟨S16384x1024, .f32⟩
  | .hbm, ⟨5, _⟩ => ⟨S16384x3328, .f32⟩
  | .hbm, ⟨6, _⟩ => ⟨S16384x3328, .f32⟩
  | .hbm, ⟨7, _⟩ => ⟨S3328x1024, .f32⟩
  | .hbm, ⟨8, _⟩ => ⟨S1024x3328, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvGrad.lean ====
abbrev S16384x1024 : Shape := ⟨2, ![16384, 1024]⟩
abbrev S1024x6144 : Shape := ⟨2, ![1024, 6144]⟩
abbrev S6144x1024 : Shape := ⟨2, ![6144, 1024]⟩
abbrev S1024x1024 : Shape := ⟨2, ![1024, 1024]⟩
abbrev S512x1024 : Shape := ⟨2, ![512, 1024]⟩

abbrev nBuf : Space → Nat
  | .hbm => 15
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S1024x6144, .bf16⟩
  | .hbm, ⟨7, _⟩ => ⟨S6144x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KvGradRefIdeal.lean ====
abbrev S16384x1024 : Shape := ⟨2, ![16384, 1024]⟩
abbrev S1024x6144 : Shape := ⟨2, ![1024, 6144]⟩
abbrev S16384x6144 : Shape := ⟨2, ![16384, 6144]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S1024x6144, .bf16⟩
  | .hbm, ⟨7, _⟩ => ⟨S16384x6144, .bf16⟩
  | .hbm, ⟨8, _⟩ => ⟨S16384x6144, .f32⟩
  | .hbm, ⟨9, _⟩ => ⟨S_, .f32⟩
  | .hbm, ⟨10, _⟩ => ⟨S16384x1024, .f32⟩
  | .hbm, ⟨11, _⟩ => ⟨S1024x6144, .f32⟩
  | .hbm, ⟨12, _⟩ => ⟨S16384x6144, .f32⟩
  | .hbm, ⟨13, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== MixNorm.lean ====
abbrev S16384x1024 : Shape := ⟨2, ![16384, 1024]⟩
abbrev S1024x3072 : Shape := ⟨2, ![1024, 3072]⟩
abbrev S1x1024 : Shape := ⟨2, ![1, 1024]⟩
abbrev S3072x1024 : Shape := ⟨2, ![3072, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x3072, .bf16⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1x1024, .f32⟩
  | .hbm, ⟨9, _⟩ => ⟨S3072x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S16384x1024, .f32⟩
  | .hbm, ⟨14, _⟩ => ⟨S1x1024, .f32⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixNormRefIdeal.lean ====
abbrev S16384x1024 : Shape := ⟨2, ![16384, 1024]⟩
abbrev S1024x3072 : Shape := ⟨2, ![1024, 3072]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x3072, .bf16⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x3072, .f32⟩
  | .hbm, ⟨29, _⟩ => ⟨S16384x3072, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x3072, .bf16⟩
  | .hbm, ⟨50, _⟩ => ⟨S16384x3072, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S_, .f32⟩
  | .hbm, ⟨94, _⟩ => ⟨S16384, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== InNorm.lean ====
abbrev S16384x3328 : Shape := ⟨2, ![16384, 3328]⟩
abbrev S1024x3080 : Shape := ⟨2, ![1024, 3080]⟩
abbrev S1x1024 : Shape := ⟨2, ![1, 1024]⟩
abbrev S16384x1024 : Shape := ⟨2, ![16384, 1024]⟩
abbrev S_ : Shape := ⟨0, ![]⟩
abbrev S1024x124 : Shape := ⟨2, ![1024, 124]⟩
abbrev S1024x3076 : Shape := ⟨2, ![1024, 3076]⟩
abbrev S1024x4 : Shape := ⟨2, ![1024, 4]⟩
abbrev S1024x3328 : Shape := ⟨2, ![1024, 3328]⟩
abbrev S3328x1024 : Shape := ⟨2, ![3328, 1024]⟩
abbrev S512x3328 : Shape := ⟨2, ![512, 3328]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x3328, .bf16⟩
  | .hbm, ⟨1, _⟩ => ⟨S1024x3080, .bf16⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S_, .bf16⟩
  | .hbm, ⟨6, _⟩ => ⟨S1024x124, .bf16⟩
  | .hbm, ⟨7, _⟩ => ⟨S1024x3076, .bf16⟩
  | .hbm, ⟨8, _⟩ => ⟨S1024x4, .bf16⟩
  | .hbm, ⟨9, _⟩ => ⟨S1024x3328, .bf16⟩
  | .hbm, ⟨10, _⟩ => ⟨S3328x1024, .bf16⟩
  | .hbm, ⟨11, _⟩ => ⟨S16384x1024, .f32⟩
  | .hbm, ⟨12, _⟩ => ⟨S1x1024, .f32⟩
  | .local _ .vmem, ⟨0, _⟩ => ⟨S512x3328, .bf16⟩
  | .local _ .vmem, ⟨1, _⟩ => ⟨S512x3328, .bf16⟩
  | .local _ .vmem, ⟨2, _⟩ => ⟨S3328x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3328x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InNormRefIdeal.lean ====
abbrev S16384x3328 : Shape := ⟨2, ![16384, 3328]⟩
abbrev S1024x3080 : Shape := ⟨2, ![1024, 3080]⟩
abbrev S1x1024 : Shape := ⟨2, ![1, 1024]⟩
abbrev S16384x1024 : Shape := ⟨2, ![16384, 1024]⟩
abbrev S16384x3076 : Shape := ⟨2, ![16384, 3076]⟩
abbrev S16384x4 : Shape := ⟨2, ![16384, 4]⟩
abbrev S16384x3080 : Shape := ⟨2, ![16384, 3080]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x3328, .bf16⟩
  | .hbm, ⟨1, _⟩ => ⟨S1024x3080, .bf16⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x3076, .bf16⟩
  | .hbm, ⟨6, _⟩ => ⟨S16384x4, .bf16⟩
  | .hbm, ⟨7, _⟩ => ⟨S16384x3080, .bf16⟩
  | .hbm, ⟨8, _⟩ => ⟨S16384x3080, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x3080, .f32⟩
  | .hbm, ⟨29, _⟩ => ⟨S16384x3080, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== InProj.lean ====
abbrev S16384x1024 : Shape := ⟨2, ![16384, 1024]⟩
abbrev S1024x3080 : Shape := ⟨2, ![1024, 3080]⟩
abbrev S_ : Shape := ⟨0, ![]⟩
abbrev S1024x124 : Shape := ⟨2, ![1024, 124]⟩
abbrev S1024x3076 : Shape := ⟨2, ![1024, 3076]⟩
abbrev S1024x4 : Shape := ⟨2, ![1024, 4]⟩
abbrev S1024x3328 : Shape := ⟨2, ![1024, 3328]⟩
abbrev S16384x3328 : Shape := ⟨2, ![16384, 3328]⟩
abbrev S1024x1024 : Shape := ⟨2, ![1024, 1024]⟩
abbrev S1024x1664 : Shape := ⟨2, ![1024, 1664]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3080, .bf16⟩
  | .hbm, ⟨2, _⟩ => ⟨S_, .bf16⟩
  | .hbm, ⟨3, _⟩ => ⟨S1024x124, .bf16⟩
  | .hbm, ⟨4, _⟩ => ⟨S1024x3076, .bf16⟩
  | .hbm, ⟨5, _⟩ => ⟨S1024x4, .bf16⟩
  | .hbm, ⟨6, _⟩ => ⟨S1024x3328, .bf16⟩
  | .hbm, ⟨7, _⟩ => ⟨S16384x3328, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x1024 : Shape := ⟨2, ![16384, 1024]⟩
abbrev S1024x3080 : Shape := ⟨2, ![1024, 3080]⟩
abbrev S16384x3080 : Shape := ⟨2, ![16384, 3080]⟩
abbrev S_ : Shape := ⟨0, ![]⟩
abbrev S16384x124 : Shape := ⟨2, ![16384, 124]⟩
abbrev S16384x3076 : Shape := ⟨2, ![16384, 3076]⟩
abbrev S16384x4 : Shape := ⟨2, ![16384, 4]⟩
abbrev S16384x3328 : Shape := ⟨2, ![16384, 3328]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3080, .bf16⟩
  | .hbm, ⟨2, _⟩ => ⟨S16384x1024, .f32⟩
  | .hbm, ⟨3, _⟩ => ⟨S1024x3080, .f32⟩
  | .hbm, ⟨4, _⟩ => ⟨S16384x3080, .f32⟩
  | .hbm, ⟨5, _⟩ => ⟨S_, .f32⟩
  | .hbm, ⟨6, _⟩ => ⟨S16384x124, .f32⟩
  | .hbm, ⟨7, _⟩ => ⟨S16384x3076, .f32⟩
  | .hbm, ⟨8, _⟩ => ⟨S16384x4, .f32⟩
  | .hbm, ⟨9, _⟩ => ⟨S16384x3328, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Heads1.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Heads1RefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Heads4.lean ====
abbrev S16384x1024 : Shape := ⟨2, ![16384, 1024]⟩
abbrev S1024x1024 : Shape := ⟨2, ![1024, 1024]⟩
abbrev S4096x4096 : Shape := ⟨2, ![4096, 4096]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Heads4RefIdeal.lean ====
abbrev S16384x1024 : Shape := ⟨2, ![16384, 1024]⟩
abbrev S1024x1024 : Shape := ⟨2, ![1024, 1024]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S4096x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Heads16.lean ====
abbrev S16384x1024 : Shape := ⟨2, ![16384, 1024]⟩
abbrev S1024x1024 : Shape := ⟨2, ![1024, 1024]⟩
abbrev S1024x16384 : Shape := ⟨2, ![1024, 16384]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x16384, .bf16⟩
  | .hbm, ⟨3, _⟩ => ⟨S1024x16384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Heads16RefIdeal.lean ====
abbrev S16384x1024 : Shape := ⟨2, ![16384, 1024]⟩
abbrev S1024x1024 : Shape := ⟨2, ![1024, 1024]⟩
abbrev S1024x16384 : Shape := ⟨2, ![1024, 16384]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S1024x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownProj.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownProjRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x2816, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== LossGrad.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossGradRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x2816, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S1x128, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== HeadOut.lean ====
abbrev S16384x1024 : Shape := ⟨2, ![16384, 1024]⟩
abbrev S16384x3328 : Shape := ⟨2, ![16384, 3328]⟩
abbrev S1x1024 : Shape := ⟨2, ![1, 1024]⟩
abbrev S1024x1024 : Shape := ⟨2, ![1024, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 9
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x3328, .f32⟩
  | .hbm, ⟨2, _⟩ => ⟨S1x1024, .f32⟩
  | .hbm, ⟨3, _⟩ => ⟨S1024x1024, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HeadOutRefIdeal.lean ====
abbrev S16384x1024 : Shape := ⟨2, ![16384, 1024]⟩
abbrev S16384x3328 : Shape := ⟨2, ![16384, 3328]⟩
abbrev S1x1024 : Shape := ⟨2, ![1, 1024]⟩
abbrev S1024x1024 : Shape := ⟨2, ![1024, 1024]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S4x256 : Shape := ⟨2, ![4, 256]⟩
abbrev S1x4x256 : Shape := ⟨3, ![1, 4, 256]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3328, .f32⟩
  | .hbm, ⟨2, _⟩ => ⟨S1x1024, .f32⟩
  | .hbm, ⟨3, _⟩ => ⟨S1024x1024, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x4x256, .f32⟩
  | .hbm, ⟨8, _⟩ => ⟨S16384x4x256, .f32⟩
  | .hbm, ⟨9, _⟩ => ⟨S_, .f32⟩
  | .hbm, ⟨10, _⟩ => ⟨S16384x4, .f32⟩
  | .hbm, ⟨11, _⟩ => ⟨S16384x4x1, .f32⟩
  | .hbm, ⟨12, _⟩ => ⟨S_, .f32⟩
  | .hbm, ⟨13, _⟩ => ⟨S16384x4x1, .f32⟩
  | .hbm, ⟨14, _⟩ => ⟨S16384x4x1, .f32⟩
  | .hbm, ⟨15, _⟩ => ⟨S_, .f32⟩
  | .hbm, ⟨16, _⟩ => ⟨S16384x4x1, .f32⟩
  | .hbm, ⟨17, _⟩ => ⟨S16384x4x1, .f32⟩
  | .hbm, ⟨18, _⟩ => ⟨S16384x4x1, .f32⟩
  | .hbm, ⟨19, _⟩ => ⟨S16384x4x256, .f32⟩
  | .hbm, ⟨20, _⟩ => ⟨S16384x4x256, .f32⟩
  | .hbm, ⟨21, _⟩ => ⟨S4x256, .f32⟩
  | .hbm, ⟨22, _⟩ => ⟨S1x4x256, .f32⟩
  | .hbm, ⟨23, _⟩ => ⟨S16384x4x256, .f32⟩
  | .hbm, ⟨24, _⟩ => ⟨S16384x4x256, .f32⟩
  | .hbm, ⟨25, _⟩ => ⟨S16384x4x256, .f32⟩
  | .hbm, ⟨26, _⟩ => ⟨S16384x4x256, .f32⟩
  | .hbm, ⟨27, _⟩ => ⟨S16384x4x256, .f32⟩
  | .hbm, ⟨28, _⟩ => ⟨S_, .f32⟩
  | .hbm, ⟨29, _⟩ => ⟨S16384x4x256, .f32⟩
  | .hbm, ⟨30, _⟩ => ⟨S16384x4x256, .f32⟩
  | .hbm, ⟨31, _⟩ => ⟨S_, .f32⟩
  | .hbm, ⟨32, _⟩ => ⟨S16384x4x256, .f32⟩
  | .hbm, ⟨33, _⟩ => ⟨S16384x4x256, .f32⟩
  | .hbm, ⟨34, _⟩ => ⟨S16384x4x256, .f32⟩
  | .hbm, ⟨35, _⟩ => ⟨S16384x1024, .f32⟩
  | .hbm, ⟨36, _⟩ => ⟨S1024x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== AdamShards.lean ====
abbrev S4x3968x1024 : Shape := ⟨3, ![4, 3968, 1024]⟩
abbrev S3968x1024 : Shape := ⟨2, ![3968, 1024]⟩
abbrev S4x496x1024 : Shape := ⟨3, ![4, 496, 1024]⟩
abbrev S496x1024 : Shape := ⟨2, ![496, 1024]⟩
abbrev S1x496x1024 : Shape := ⟨3, ![1, 496, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x3968x1024, .bf16⟩
  | .hbm, ⟨1, _⟩ => ⟨S3968x1024, .f32⟩
  | .hbm, ⟨2, _⟩ => ⟨S3968x1024, .f32⟩
  | .hbm, ⟨3, _⟩ => ⟨S3968x1024, .f32⟩
  | .hbm, ⟨4, _⟩ => ⟨S3968x1024, .f32⟩
  | .hbm, ⟨5, _⟩ => ⟨S3968x1024, .f32⟩
  | .hbm, ⟨6, _⟩ => ⟨S3968x1024, .f32⟩
  | .hbm, ⟨7, _⟩ => ⟨S3968x1024, .f32⟩
  | .local _ .vmem, ⟨0, _⟩ => ⟨S4x496x1024, .bf16⟩
  | .local _ .vmem, ⟨1, _⟩ => ⟨S4x496x1024, .bf16⟩
  | .local _ .vmem, ⟨2, _⟩ => ⟨S496x1024, .f32⟩
  | .local _ .vmem, ⟨3, _⟩ => ⟨S496x1024, .f32⟩
  | .local _ .vmem, ⟨4, _⟩ => ⟨S496x1024, .f32⟩
  | .local _ .vmem, ⟨5, _⟩ => ⟨S496x1024, .f32⟩
  | .local _ .vmem, ⟨6, _⟩ => ⟨S496x1024, .f32⟩
  | .local _ .vmem, ⟨7, _⟩ => ⟨S496x1024, .f32⟩
  | .local _ .vmem, ⟨8, _⟩ => ⟨S496x1024, .f32⟩
  | .local _ .vmem, ⟨9, _⟩ => ⟨S496x1024, .f32⟩
  | .local _ .vmem, ⟨10, _⟩ => ⟨S496x1024, .f32⟩
  | .local _ .vmem, ⟨11, _⟩ => ⟨S496x1024, .f32⟩
  | .local _ .vmem, ⟨12, _⟩ => ⟨S496x1024, .f32⟩
  | .local _ .vmem, ⟨13, _⟩ => ⟨S496x1024, .f32⟩
  | .local _ .vmem, ⟨14, _⟩ => ⟨S496x1024, .f32⟩
  | .local _ .vmem, ⟨15, _⟩ => ⟨S496x1024, .f32⟩
  | _, _ => ⟨S4x3968x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x496x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S496x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S496x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S496x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S496x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S496x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S496x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S496x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamShardsRefIdeal.lean ====
abbrev S4x3968x1024 : Shape := ⟨3, ![4, 3968, 1024]⟩
abbrev S3968x1024 : Shape := ⟨2, ![3968, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x3968x1024, .bf16⟩
  | .hbm, ⟨1, _⟩ => ⟨S3968x1024, .f32⟩
  | .hbm, ⟨2, _⟩ => ⟨S3968x1024, .f32⟩
  | .hbm, ⟨3, _⟩ => ⟨S3968x1024, .f32⟩
  | .hbm, ⟨4, _⟩ => ⟨S4x3968x1024, .f32⟩
  | .hbm, ⟨5, _⟩ => ⟨S_, .f32⟩
  | .hbm, ⟨6, _⟩ => ⟨S3968x1024, .f32⟩
  | .hbm, ⟨7, _⟩ => ⟨S_, .f32⟩
  | .hbm, ⟨8, _⟩ => ⟨S3968x1024, .f32⟩
  | .hbm, ⟨9, _⟩ => ⟨S3968x1024, .f32⟩
  | .hbm, ⟨10, _⟩ => ⟨S_, .f32⟩
  | .hbm, ⟨11, _⟩ => ⟨S3968x1024, .f32⟩
  | .hbm, ⟨12, _⟩ => ⟨S3968x1024, .f32⟩
  | .hbm, ⟨13, _⟩ => ⟨S3968x1024, .f32⟩
  | .hbm, ⟨14, _⟩ => ⟨S_, .f32⟩
  | .hbm, ⟨15, _⟩ => ⟨S3968x1024, .f32⟩
  | .hbm, ⟨16, _⟩ => ⟨S3968x1024, .f32⟩
  | .hbm, ⟨17, _⟩ => ⟨S3968x1024, .f32⟩
  | .hbm, ⟨18, _⟩ => ⟨S_, .f32⟩
  | .hbm, ⟨19, _⟩ => ⟨S3968x1024, .f32⟩
  | .hbm, ⟨20, _⟩ => ⟨S3968x1024, .f32⟩
  | .hbm, ⟨21, _⟩ => ⟨S3968x1024, .f32⟩
  | .hbm, ⟨22, _⟩ => ⟨S_, .f32⟩
  | .hbm, ⟨23, _⟩ => ⟨S3968x1024, .f32⟩
  | .hbm, ⟨24, _⟩ => ⟨S3968x1024, .f32⟩
  | .hbm, ⟨25, _⟩ => ⟨S_, .f32⟩
  | .hbm, ⟨26, _⟩ => ⟨S3968x1024, .f32⟩
  | .hbm, ⟨27, _⟩ => ⟨S3968x1024, .f32⟩
  | .hbm, ⟨28, _⟩ => ⟨S3968x1024, .f32⟩
  | .hbm, ⟨29, _⟩ => ⟨S_, .f32⟩
  | .hbm, ⟨30, _⟩ => ⟨S3968x1024, .f32⟩
  | .hbm, ⟨31, _⟩ => ⟨S3968x1024, .f32⟩
  | .hbm, ⟨32, _⟩ => ⟨S3968x1024, .f32⟩
  | .hbm, ⟨33, _⟩ => ⟨S_, .f32⟩
  | .hbm, ⟨34, _⟩ => ⟨S3968x1024, .f32⟩
  | .hbm, ⟨35, _⟩ => ⟨S3968x1024, .f32⟩
  | .hbm, ⟨36, _⟩ => ⟨S3968x1024, .f32⟩
  | .hbm, ⟨37, _⟩ => ⟨S_, .f32⟩
  | .hbm, ⟨38, _⟩ => ⟨S3968x1024, .f32⟩
  | .hbm, ⟨39, _⟩ => ⟨S3968x1024, .f32⟩
  | _, _ => ⟨S4x3968x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWhole.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWholeRefIdeal.lean ====
abbrev S8x24x1024 : Shape := ⟨3, ![8, 24, 1024]⟩
abbrev S24x1024 : Shape := ⟨2, ![24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.ConvGrad.lean ====
/- The gradient of the causal depthwise convolution of width three, and the sums it enters, stated over plain arrays:
   what a row sees of the rows after it (`ahead`), the gradient of the convolution's operand (`grad`), of the up-projection's
   weight (`gradUp`) and of the convolution's own coefficients (`gradTaps`).  The kernel and the reference are each shown
   elsewhere to compute these. -/
module

public import Idealize.ShloMosaic.Lib.Pipeline.ValueKit
public import Idealize.ShloMosaic.Lib.Pointwise

@[expose] public section

set_option maxRecDepth 16384

noncomputable section

namespace Cert.ConvGrad

open Idealize.ShloMosaic

/-- Rows by columns of the sequence's activations, and the other arrays' shapes. -/
abbrev Acts : Shape := ⟨2, ![16384, 5632]⟩
abbrev Ins : Shape := ⟨2, ![16384, 1024]⟩
abbrev Weight : Shape := ⟨2, ![1024, 5632]⟩
abbrev Taps : Shape := ⟨2, ![3, 5632]⟩

/-- Row `r + s` of `D` in column `n`, and zero past the last row. -/
def ahead (D : Acts.Idx → EReal) (s : ℕ) (r : ℕ) (n : Fin 5632) : EReal :=
  if h : r + s < 16384 then D (ix2 ⟨r + s, h⟩ n) else 0

theorem ahead_of_lt (D : Acts.Idx → EReal) (s r : ℕ) (n : Fin 5632) (h : r + s < 16384) : ahead D s r n = D (ix2 ⟨r + s, h⟩ n) :=
  dif_pos h

theorem ahead_of_le (D : Acts.Idx → EReal) (s r : ℕ) (n : Fin 5632) (h : 16384 ≤ r + s) : ahead D s r n = 0 :=
  dif_neg (by omega)

/-- The gradient of the convolution's operand at row `r`, column `n`: the cotangent of this row and of the two after it,
    each times the coefficient that carried this row to it. -/
def grad (D : Acts.Idx → EReal) (C : Taps.Idx → EReal) (r : Fin 16384) (n : Fin 5632) : EReal :=
  ahead D 0 r.val n * C (ix2 2 n) + ahead D 1 r.val n * C (ix2 1 n) + ahead D 2 r.val n * C (ix2 0 n)

/-- The gradient of the up-projection's weight: the inputs, transposed, times the gradient of the product. -/
def gradUp (X : Ins.Idx → EReal) (D : Acts.Idx → EReal) (C : Taps.Idx → EReal) (k : Fin 1024) (n : Fin 5632) : EReal :=
  ∑ r : Fin 16384, X (ix2 r k) * grad D C r n

/-- The up-projection's product at row `r`, column `n`. -/
def up (X : Ins.Idx → EReal) (W : Weight.Idx → EReal) (r : Fin 16384) (n : Fin 5632) : EReal :=
  ∑ k : Fin 1024, X (ix2 r k) * W (ix2 k n)

/-- The gradient of the coefficient that carries a row to the `s`-th after it: the product's rows against the cotangent
    `s` rows later. -/
def gradTap (X : Ins.Idx → EReal) (W : Weight.Idx → EReal) (D : Acts.Idx → EReal) (s : ℕ) (n : Fin 5632) : EReal :=
  ∑ r : Fin 16384, up X W r n * ahead D s r.val n

/-- The gradients of the convolution's three coefficients, of its bias, and four rows of zeros. -/
def gradTaps (X : Ins.Idx → EReal) (W : Weight.Idx → EReal) (D : Acts.Idx → EReal) (i : Fin 8) (n : Fin 5632) : EReal :=
  if i.val = 0 then gradTap X W D 2 n
  else if i.val = 1 then gradTap X W D 1 n
  else if i.val = 2 then gradTap X W D 0 n
  else if i.val = 3 then ∑ r : Fin 16384, D (ix2 r n)
  else 0

/-- A sum over `n` terms that are zero from `k` on is the sum of the same terms moved up by `n - k` places: shown for a
    function `g` of the number of the term. -/
theorem sum_shift {M : Type} [AddCommMonoid M] (g : ℕ → M) (s k : ℕ) :
    (∑ r ∈ Finset.range (k + s), if r + s < k + s then g r else 0) = ∑ r ∈ Finset.range (k + s), if s ≤ r then g (r - s) else 0 := by
  have hl : (∑ r ∈ Finset.range (k + s), if r + s < k + s then g r else 0) = ∑ r ∈ Finset.range k, g r := by
    rw [Finset.sum_range_add, Finset.sum_eq_zero (s := Finset.range s), add_zero]
    · exact Finset.sum_congr rfl fun r hr => if_pos (by have := Finset.mem_range.mp hr; omega)
    · intro r _; exact if_neg (by omega)
  have hr : (∑ r ∈ Finset.range (k + s), if s ≤ r then g (r - s) else 0) = ∑ r ∈ Finset.range k, g r := by
    rw [add_comm k s, Finset.sum_range_add, Finset.sum_eq_zero (s := Finset.range s), zero_add]
    · exact Finset.sum_congr rfl fun r _ => by rw [if_pos (by omega), Nat.add_sub_cancel_left]
    · intro r hr; exact if_neg (by have := Finset.mem_range.mp hr; omega)
  rw [hl, hr]

/-- The coefficient's gradient with the rows counted the other way: each row's cotangent against the product `s` rows before,
    which is zero before the first row. -/
theorem gradTap_eq (X : Ins.Idx → EReal) (W : Weight.Idx → EReal) (D : Acts.Idx → EReal) (s : ℕ) (hs : s ≤ 16384) (n : Fin 5632) :
    gradTap X W D s n = ∑ r : Fin 16384, (if h : s ≤ r.val then up X W ⟨r.val - s, by omega⟩ n else 0) * D (ix2 r n) := by
  obtain ⟨k, hk⟩ : ∃ k, 16384 = k + s := ⟨16384 - s, by omega⟩
  let g : ℕ → EReal := fun r => if h : r + s < 16384 then up X W ⟨r, by omega⟩ n * D (ix2 ⟨r + s, h⟩ n) else 0
  have e := sum_shift g s k
  rw [← hk, Finset.sum_range, Finset.sum_range] at e
  unfold gradTap
  refine (Finset.sum_congr rfl fun r _ => ?_).trans (e.trans (Finset.sum_congr rfl fun r _ => ?_))
  · by_cases h : r.val + s < 16384
    · rw [ahead_of_lt D s r n h, if_pos h]; symm; exact dif_pos (c := r.val + s < 16384) h
    · rw [ahead_of_le D s r n (by omega), if_neg h, mul_zero]
  · by_cases h : s ≤ r.val
    · rw [if_pos h, dif_pos h]
      have hr : r.val - s + s = r.val := by omega
      have hlt : r.val - s + s < 16384 := by omega
      have e : (⟨r.val - s + s, hlt⟩ : Fin 16384) = r := Fin.ext hr
      refine (dif_pos (c := r.val - s + s < 16384) hlt).trans ?_
      rw [e]
    · rw [if_neg h, dif_neg h, zero_mul]

/-- For two rows later: the rows that have a row two later, and the last two, whose terms are zero. -/
theorem gradTap_two (X : Ins.Idx → EReal) (W : Weight.Idx → EReal) (D : Acts.Idx → EReal) (n : Fin 5632) :
    gradTap X W D 2 n = ∑ r : Fin 16382, up X W ⟨r.val, by omega⟩ n * D (ix2 ⟨2 + r.val, by omega⟩ n) := by
  refine (Fin.sum_univ_add (a := 16382) (b := 2) fun r : Fin 16384 => up X W r n * ahead D 2 r.val n).trans ?_
  rw [Finset.sum_eq_zero (s := (Finset.univ : Finset (Fin 2))), add_zero]
  · refine Finset.sum_congr rfl fun r _ => congrArg₂ (· * ·) rfl ?_
    have h : r.val + 2 < 16384 := by omega
    exact (ahead_of_lt D 2 r.val n h).trans (congrArg (fun a => D (ix2 a n)) (Fin.ext (by show r.val + 2 = 2 + r.val; omega)))
  · intro r _
    rw [ahead_of_le D 2 _ n (by show 16384 ≤ 16382 + r.val + 2; omega), mul_zero]

end Cert.ConvGrad

end
-- ==== Proof.ConvKernel.lean ====
/- The kernel's three outputs as arrays: the gradient of the convolution's operand, of the up-projection's weight and of the
   convolution's coefficients. -/
module

public import proofs.«01_k».proof.Proof.ConvGrad
public import proofs.«01_k».proof.Proof.Gen.KernelIdeal.Value
public import Idealize.ShloMosaic.Lib.Pipeline.ReadBack
public import Idealize.ShloMosaic.Lib.WritesUnit

@[expose] public section

set_option maxRecDepth 16384

noncomputable section

namespace Cert.ConvKernel

open Cert.KernelIdeal Cert.KernelIdeal.Gen Cert.ConvGrad Idealize.ShloMosaic Idealize.ShloMosaic.TcCoe

variable (m : (ℓ : Loc nD τ sig) → Buf (Elt Ideal) ℓ)

/-! ## Reading rows stored one at a time -/

/-- Where the newest store is row `a` of an eight-row array, row `i` reads that store or, elsewhere, the older ones. -/
theorem canon_row (a : ℕ) (inb : ∀ x, (![a, 0] : Fin 2 → ℕ) x + (![1, 1408] : Fin 2 → ℕ) x ≤ S8x1408.size x) (w : S1x1408.Idx → Elt Ideal .f32)
    (L : List (View.Piece (Elt Ideal) S8x1408 .f32)) (i : Fin 8) (n : Fin 1408) :
    View.canon (⟨Rect.unit ![a, 0] ![1, 1408] inb, w⟩ :: L) (ix2 i n) = if i.val = a then w (ix2 0 n) else View.canon L (ix2 i n) := by
  split
  · next h =>
    have e : (Rect.unit (s := S8x1408) ![a, 0] ![1, 1408] inb).emb (ix2 (0 : Fin 1) n) = ix2 i n := by
      funext x; apply Fin.ext
      fin_cases x
      · show a + 1 * 0 = i.val; omega
      · show 0 + 1 * n.val = n.val; omega
    rw [← e]
    exact View.canon_cons_emb (Rect.unit (s := S8x1408) ![a, 0] ![1, 1408] inb) w L (ix2 (0 : Fin 1) n)
  · next h =>
    refine View.canon_cons_of_not_mem _ L fun hm => h ?_
    obtain ⟨j, hj, he⟩ := (LoadRect.mem_set _).mp hm (0 : Fin 2)
    have hj1 : j < 1 := hj
    have he' : i.val = a + 1 * j := he
    omega

/-- The same over whatever the buffer held before. -/
theorem writes_row {κ : Kind} {sp : Space} (v : View sig κ sp S8x1408 .f32) (f : v.ty.Contents (Elt Ideal)) (a : ℕ)
    (inb : ∀ x, (![a, 0] : Fin 2 → ℕ) x + (![1, 1408] : Fin 2 → ℕ) x ≤ S8x1408.size x) (w : S1x1408.Idx → Elt Ideal .f32)
    (L : List (View.Piece (Elt Ideal) S8x1408 .f32)) (i : Fin 8) (n : Fin 1408) :
    v.read (Elt Ideal) (v.writes (Elt Ideal) f (⟨Rect.unit ![a, 0] ![1, 1408] inb, w⟩ :: L)) (ix2 i n)
      = if i.val = a then w (ix2 0 n) else v.read (Elt Ideal) (v.writes (Elt Ideal) f L) (ix2 i n) := by
  split
  · next h =>
    refine View.read_writes_cons_unit_of_mem v f inb w L (ix2 i n) (ix2 (0 : Fin 1) n) rfl fun x => ?_
    fin_cases x
    · show i.val = a + 0; omega
    · show n.val = 0 + n.val; omega
  · next h =>
    exact View.read_writes_cons_unit_of_not_mem v f inb w L (ix2 i n) rfl 0 (by show i.val < a ∨ a + 1 ≤ i.val; omega)

/-! ## Where each window's block lies -/

-- Windows 0 to 4 are the inputs, their gradient-of-the-output operand twice (a row block and the rows after it); 5 to 7 the outputs.
theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)
theorem idx2 : ∀ t : Fin cfg0.N, win0_2.index t = ![min ((t.val % 16 + 1) * 64) 1023, t.val / 16] :=
  (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![0, t.val / 16] := (by decide +kernel : ∀ t : Fin grid0.N, _)
theorem idx5 : ∀ t : Fin cfg0.N, win0_5.index t = ![0, t.val / 16] := (by decide +kernel : ∀ t : Fin grid0.N, _)
theorem idx6 : ∀ t : Fin cfg0.N, win0_6.index t = ![t.val % 16, t.val / 16] := (by decide +kernel : ∀ t : Fin grid0.N, _)
theorem idx7 : ∀ t : Fin cfg0.N, win0_7.index t = ![0, t.val / 16] := (by decide +kernel : ∀ t : Fin grid0.N, _)
/-- The grid's second coordinate. -/
theorem coord1 : ∀ t : Fin cfg0.N, (grid0.coords t 1).val = t.val % 16 := (by decide +kernel : ∀ t : Fin grid0.N, _)

/-- The four arguments, on device `c`. -/
abbrev xs (c : Dev nD) : Ins.Idx → EReal := m ((c.tc : Thread nD τ).loc main_arg0)
abbrev ws (c : Dev nD) : Weight.Idx → EReal := m ((c.tc : Thread nD τ).loc main_arg1)
abbrev taps (c : Dev nD) : Taps.Idx → EReal := m ((c.tc : Thread nD τ).loc main_arg2)
abbrev cts (c : Dev nD) : Acts.Idx → EReal := m ((c.tc : Thread nD τ).loc main_arg3)

/-- A point's column in the whole array, and its row. -/
def col (t : Fin cfg0.N) (n : Fin 1408) : Fin 5632 := ⟨t.val / 16 * 1408 + n.val, by have : t.val < 64 := t.isLt; omega⟩
def row (t : Fin cfg0.N) (r : Fin 1024) : Fin 16384 := ⟨t.val % 16 * 1024 + r.val, by omega⟩

/-- The columns and the rows of the points that one column block runs through. -/
theorem run_col (t : Fin cfg0.N) (s : Fin 16) (h : 16 * (t.val / 16) + s.val < cfg0.N) (n : Fin 1408) :
    col ⟨16 * (t.val / 16) + s.val, h⟩ n = col t n :=
  Fin.ext (by show (16 * (t.val / 16) + s.val) / 16 * 1408 + n.val = t.val / 16 * 1408 + n.val; omega)
theorem run_row (t : Fin cfg0.N) (s : Fin 16) (h : 16 * (t.val / 16) + s.val < cfg0.N) (r : Fin 1024) (hl : s.val * 1024 + r.val < 16384) :
    row ⟨16 * (t.val / 16) + s.val, h⟩ r = ⟨s.val * 1024 + r.val, hl⟩ :=
  Fin.ext (by show (16 * (t.val / 16) + s.val) % 16 * 1024 + r.val = s.val * 1024 + r.val; omega)

/-- The cotangent's block. -/
theorem block1 (c : Dev nD) (t : Fin cfg0.N) (r : Fin 1024) (n : Fin 1408) :
    (iblk m c 1 t : Vec Ideal S1024x1408 .bf16) (ix2 r n) = cts m c (ix2 (row t r) (col t n)) := by
  blk_point [iblk, V, idx1 t, row, col]

theorem block2 (c : Dev nD) (t : Fin cfg0.N) (r : Fin 16) (n : Fin 1408) :
    (iblk m c 2 t : Vec Ideal S16x1408 .bf16) (ix2 r n) = cts m c (ix2 ⟨min ((t.val % 16 + 1) * 64) 1023 * 16 + r.val, by omega⟩ (col t n)) := by
  blk_point [iblk, V, idx2 t, row, col]

/-- What the host hands the kernel as the product of the up-projection. -/
theorem entry3 (c : Dev nD) : (V m c main_v1 : Acts.Idx → EReal) = fun y => up (xs m c) (ws m c) (y 0) (y 1) := by
  funext y
  entry_read
  pointwise [up]

theorem block3 (c : Dev nD) (t : Fin cfg0.N) (r : Fin 1024) (n : Fin 1408) :
    (iblk m c 3 t : Vec Ideal S1024x1408 .bf16) (ix2 r n) = up (xs m c) (ws m c) (row t r) (col t n) := by
  have e : (win0_3.blk t).view.emb (ix2 r n) = ix2 (row t r) (col t n) := by
    blk_ext [idx3 t, row, col]
  exact (congrArg (V m c main_v1 : Acts.Idx → EReal) e).trans (congrFun (entry3 m c) _)

theorem block4 (c : Dev nD) (t : Fin cfg0.N) (r : Fin 3) (n : Fin 1408) :
    (iblk m c 4 t : Vec Ideal S3x1408 .f32) (ix2 r n) = taps m c (ix2 r (col t n)) := by
  blk_point [iblk, V, idx4 t, row, col]

theorem block0 (c : Dev nD) (t : Fin cfg0.N) (r : Fin 1024) (k : Fin 1024) :
    (iblk m c 0 t : Vec Ideal S1024x1024 .bf16) (ix2 r k) = xs m c (ix2 (row t r) k) := by
  blk_point [iblk, V, idx0 t, row, col]

/-! ## The cotangent's rows one and two below -/

theorem pay4 (c : Dev nD) (t : Fin cfg0.N) (r : Fin 1024) (n : Fin 1408) :
    k0_pay4 (iblk m c 1 t) (ix2 r n) = ahead (cts m c) 0 (row t r).val (col t n) := by
  rw [ahead_of_lt _ _ _ _ (by exact (row t r).isLt)]
  exact block1 m c t r n

/-- A row of the halo block, which is zero in the last row block. -/
theorem halo (c : Dev nD) (t : Fin cfg0.N) (i : Fin 16) (s : ℕ) (hs : s = i.val) (n : Fin 1408) :
    Scalar.select (Scalar.cmpi .eq (BitVec.ofNat 32 (grid0.coords t 1).val) 15#32) (0 : EReal) ((iblk m c 2 t : Vec Ideal S16x1408 .bf16) (ix2 i n))
      = ahead (cts m c) (s + 1) (t.val % 16 * 1024 + 1023) (col t n) := by
  have hk : t.val % 16 < 16 := Nat.mod_lt _ (by omega)
  have hi := i.isLt
  show Scalar.select (IntOp.cmpi _ _ _) _ _ = _
  rw [coord1 t]
  simp (disch := omega) only [hlo_ix]
  split
  · rw [ahead_of_le _ _ _ _ (by omega)]
  · rw [ahead_of_lt _ _ _ _ (by omega)]
    refine (block2 m c t i n).trans ?_
    have e : (⟨min ((t.val % 16 + 1) * 64) 1023 * 16 + i.val, by omega⟩ : Fin 16384) = ⟨t.val % 16 * 1024 + 1023 + (s + 1), by omega⟩ :=
      Fin.ext (by show min ((t.val % 16 + 1) * 64) 1023 * 16 + i.val = t.val % 16 * 1024 + 1023 + (s + 1); omega)
    rw [e]

theorem ahead_congr (D : Acts.Idx → EReal) (s s' r r' : ℕ) (n : Fin 5632) (h : r + s = r' + s') : ahead D s r n = ahead D s' r' n := by
  unfold ahead
  simp only [h]

theorem pay6 (c : Dev nD) (t : Fin cfg0.N) (r : Fin 1024) (n : Fin 1408) :
    k0_pay6 (grid0.coords t) (iblk m c 1 t) (iblk m c 2 t) (ix2 r n) = ahead (cts m c) 1 (row t r).val (col t n) := by
  pointwise [k0_pay6, k0_pay5, k0_pay4]
  rw [halo m c t 0 0 rfl n]
  have hr := r.isLt
  simp (disch := omega) only [hlo_ix]
  split
  · exact ahead_congr _ _ _ _ _ _ (by show _ = t.val % 16 * 1024 + r.val + 1; omega)
  · refine (block1 m c t _ n).trans ?_
    rw [ahead_of_lt _ _ _ _ (by show t.val % 16 * 1024 + r.val + 1 < 16384; omega)]
    congr 2
    exact Fin.ext (by show t.val % 16 * 1024 + (r.val + 1024 - 1023) % 1024 = t.val % 16 * 1024 + r.val + 1; omega)

theorem pay7 (c : Dev nD) (t : Fin cfg0.N) (r : Fin 1024) (n : Fin 1408) :
    k0_pay7 (grid0.coords t) (iblk m c 1 t) (iblk m c 2 t) (ix2 r n) = ahead (cts m c) 2 (row t r).val (col t n) := by
  pointwise [k0_pay7, k0_pay5, k0_pay4]
  rw [halo m c t 0 0 rfl n, halo m c t 1 1 rfl n]
  have hr := r.isLt
  simp (disch := omega) only [hlo_ix]
  split
  · exact ahead_congr _ _ _ _ _ _ (by show _ = t.val % 16 * 1024 + r.val + 2; omega)
  · split
    · exact ahead_congr _ _ _ _ _ _ (by show _ = t.val % 16 * 1024 + r.val + 2; omega)
    · refine (block1 m c t _ n).trans ?_
      rw [ahead_of_lt _ _ _ _ (by show t.val % 16 * 1024 + r.val + 2 < 16384; omega)]
      congr 2
      exact Fin.ext (by show t.val % 16 * 1024 + (r.val + 1024 - 1022) % 1024 = t.val % 16 * 1024 + r.val + 2; omega)

/-- A point's block of the convolution's gradient. -/
theorem gradBlock (c : Dev nD) (t : Fin cfg0.N) (r : Fin 1024) (n : Fin 1408) :
    k0_pay8 (grid0.coords t) (iblk m c 1 t) (iblk m c 2 t) (iblk m c 4 t) (ix2 r n)
        + k0_pay9 (grid0.coords t) (iblk m c 1 t) (iblk m c 2 t) (iblk m c 4 t) (ix2 r n)
      = grad (cts m c) (taps m c) (row t r) (col t n) := by
  pointwise [k0_pay8, k0_pay9]
  rw [pay4 m c t r n, pay6 m c t r n, pay7 m c t r n, block4 m c t 0 n, block4 m c t 1 n, block4 m c t 2 n]
  rfl

/-! ## The three outputs -/

/-- What a point leaves in output 6's buffer. -/
theorem out6 (c : Dev nD) (t : Fin cfg0.N) (r : Fin 1024) (n : Fin 1408) :
    (outsAt0 m c t.val t.isLt).2.1 (ix2 r n) = grad (cts m c) (taps m c) (row t r) (col t n) := by
  rw [← gradBlock m c t r n]
  rcases Decidable.em (t.val % 16 = 0) with h | h
  · rw [outsAt0_A m c t h]; frame_out; pointwise [k0_pay10]
  · rw [outsAt0_B m c t h]; frame_out; pointwise [k0_pay10]

/-- Output 6: the gradient of the convolution's operand. -/
theorem final6 (c : Dev nD) : (dats m 0 c).arrAt 6 cfg0.N = fun y : Acts.Idx => grad (cts m c) (taps m c) (y 0) (y 1) := by
  refine (dats m 0 c).arrAt_eq_of_covers 6 _ (by decide +kernel) fun t hf y => ?_
  blk_simp
  rw [after0_6]
  refine (congrArg (outsAt0 m c t.val t.isLt).2.1 (eq_ix2 y)).trans ((out6 m c t (y 0) (y 1)).trans ?_)
  have e : (win0_6.blk t).view.emb y = ix2 (row t (y 0)) (col t (y 1)) := by
    blk_ext [idx6 t, row, col]
  exact (congrArg (fun z : Acts.Idx => grad (cts m c) (taps m c) (z 0) (z 1)) e).symm

/-- The product of a point's blocks: its rows' share of the up-projection's gradient. -/
def part5 (c : Dev nD) (t : Fin cfg0.N) (y : S1024x1408.Idx) : EReal :=
  ∑ r : Fin 1024, xs m c (ix2 (row t r) (y 0)) * grad (cts m c) (taps m c) (row t r) (col t (y 1))

theorem pay11 (c : Dev nD) (t : Fin cfg0.N) (prev : Vec Ideal S1024x1408 .f32) (y : S1024x1408.Idx) :
    k0_pay11 (k0_pay8 (grid0.coords t) (iblk m c 1 t) (iblk m c 2 t) (iblk m c 4 t)) (k0_pay9 (grid0.coords t) (iblk m c 1 t) (iblk m c 2 t) (iblk m c 4 t))
      prev (iblk m c 0 t) y = prev y + part5 m c t y := by
  pointwise [k0_pay11, k0_pay10]
  refine congrArg _ (Finset.sum_congr rfl fun r _ => ?_)
  rw [gradBlock m c t r (y 1)]
  exact congrArg (· * _) (block0 m c t r (y 0))

theorem zero5 (y : S1024x1408.Idx) : (k0_pay2 (F := Ideal)) y = 0 := by
  pointwise [k0_pay2]

theorem final5 (c : Dev nD) : (dats m 0 c).arrAt 5 cfg0.N = fun y : Weight.Idx => gradUp (xs m c) (cts m c) (taps m c) (y 0) (y 1) := by
  refine (dats m 0 c).arrAt_eq_of_covers 5 _ (by decide +kernel) fun t hf y => ?_
  blk_simp
  rw [after0_5, Pipeline.eq_sum_fin_of_reset_step_apply_of_flush (fun n h => (outsAt0 m c n h).1) 16 (fun _ => (0 : EReal)) (part5 m c)
    (fun t h j => by rw [outsAt0_A m c t h]; frame_out; rw [pay11, zero5])
    (fun t h j => by rw [outsAt0_B m c t h]; frame_out; rw [pay11]) t ((flush0_5 t).mp hf) _, zero_add]
  refine Eq.trans ?_ (congrArg (fun z : Weight.Idx => gradUp (xs m c) (cts m c) (taps m c) (z 0) (z 1)) (?_ : ix2 (y 0) (col t (y 1)) = _))
  · unfold part5 gradUp
    refine Fin.sum_mul_add_congr fun s k hl => ?_
    exact congrArg₂ (fun (a : Fin 16384) (b : Fin 5632) => xs m c (ix2 a (y 0)) * grad (cts m c) (taps m c) a b) (run_row t s _ k hl) (run_col t s _ (y 1))
  · blk_ext [idx5 t, col]

/-- A point's share of the coefficients' gradients: its own rows of each sum. -/
def part7 (c : Dev nD) (t : Fin cfg0.N) (i : Fin 8) (n : Fin 1408) : EReal :=
  if i.val = 3 then ∑ r : Fin 1024, cts m c (ix2 (row t r) (col t n))
  else if i.val = 2 then ∑ r : Fin 1024, up (xs m c) (ws m c) (row t r) (col t n) * ahead (cts m c) 0 (row t r).val (col t n)
  else if i.val = 1 then ∑ r : Fin 1024, up (xs m c) (ws m c) (row t r) (col t n) * ahead (cts m c) 1 (row t r).val (col t n)
  else if i.val = 0 then ∑ r : Fin 1024, up (xs m c) (ws m c) (row t r) (col t n) * ahead (cts m c) 2 (row t r).val (col t n)
  else 0

theorem pay1 (c : Dev nD) (t : Fin cfg0.N) (prev : Vec Ideal S1x1408 .f32) (n : Fin 1408) :
    k0_pay1 (k0_pay4 (iblk m c 1 t)) prev (ix2 0 n) = prev (ix2 0 n) + ∑ r : Fin 1024, cts m c (ix2 (row t r) (col t n)) := by
  pointwise [k0_pay1, k0_pay4]
  exact congrArg _ (Finset.sum_congr rfl fun r _ => block1 m c t r n)

theorem pay15 (c : Dev nD) (t : Fin cfg0.N) (prev : Vec Ideal S1x1408 .f32) (n : Fin 1408) :
    k0_pay15 (k0_pay4 (iblk m c 1 t)) (iblk m c 3 t) prev (ix2 0 n)
      = prev (ix2 0 n) + ∑ r : Fin 1024, up (xs m c) (ws m c) (row t r) (col t n) * ahead (cts m c) 0 (row t r).val (col t n) := by
  pointwise [k0_pay15, k0_pay12]
  exact congrArg _ (Finset.sum_congr rfl fun r _ => congrArg₂ _ (block3 m c t r n) (pay4 m c t r n))

theorem pay14 (c : Dev nD) (t : Fin cfg0.N) (prev : Vec Ideal S1x1408 .f32) (n : Fin 1408) :
    k0_pay14 (k0_pay6 (grid0.coords t) (iblk m c 1 t) (iblk m c 2 t)) (iblk m c 3 t) prev (ix2 0 n)
      = prev (ix2 0 n) + ∑ r : Fin 1024, up (xs m c) (ws m c) (row t r) (col t n) * ahead (cts m c) 1 (row t r).val (col t n) := by
  pointwise [k0_pay14, k0_pay12]
  exact congrArg _ (Finset.sum_congr rfl fun r _ => congrArg₂ _ (block3 m c t r n) (pay6 m c t r n))

theorem pay13 (c : Dev nD) (t : Fin cfg0.N) (prev : Vec Ideal S1x1408 .f32) (n : Fin 1408) :
    k0_pay13 (k0_pay7 (grid0.coords t) (iblk m c 1 t) (iblk m c 2 t)) (iblk m c 3 t) prev (ix2 0 n)
      = prev (ix2 0 n) + ∑ r : Fin 1024, up (xs m c) (ws m c) (row t r) (col t n) * ahead (cts m c) 2 (row t r).val (col t n) := by
  pointwise [k0_pay13, k0_pay12]
  exact congrArg _ (Finset.sum_congr rfl fun r _ => congrArg₂ _ (block3 m c t r n) (pay7 m c t r n))

/-- A load of row `a` of an eight-row array. -/
theorem ld_row (a : ℕ) (ha : a < 8) (inb : ∀ x, (![a, 0] : Fin 2 → ℕ) x + (![1, 1408] : Fin 2 → ℕ) x ≤ S8x1408.size x) (X : Vec Ideal S8x1408 .f32) (n : Fin 1408) :
    View.ld X (Rect.unit ![a, 0] ![1, 1408] inb) (ix2 (0 : Fin 1) n) = X (ix2 ⟨a, ha⟩ n) := by
  refine congrArg X (funext fun x => Fin.ext ?_)
  fin_cases x
  · show a + 1 * 0 = a; omega
  · show 0 + 1 * n.val = n.val; omega

theorem zero7 (y : S8x1408.Idx) : (k0_pay3 (F := Ideal)) y = 0 := by
  pointwise [k0_pay3]

theorem out7_A (c : Dev nD) (t : Fin cfg0.N) (h : t.val % 16 = 0) (i : Fin 8) (n : Fin 1408) :
    (outsAt0 m c t.val t.isLt).2.2 (ix2 i n) = 0 + part7 m c t i n := by
  rw [outsAt0_A m c t h]
  frame_open
  simp (disch := decide) only [↓ View.readCov_skip, ↓ View.readCov_cons_toLoadRect, ↓ View.readCov_fill]
  frame_out
  unfold part7
  refine (canon_row 3 _ _ _ i n).trans ?_
  by_cases h3 : i.val = 3
  · rw [if_pos h3, if_pos h3]
    exact (pay1 m c t _ n).trans (congrArg (· + _) ((ld_row 3 (by decide) _ _ n).trans (zero7 _)))
  rw [if_neg h3, if_neg h3]
  refine (canon_row 2 _ _ _ i n).trans ?_
  by_cases h2 : i.val = 2
  · rw [if_pos h2, if_pos h2]
    exact (pay15 m c t _ n).trans (congrArg (· + _) ((ld_row 2 (by decide) _ _ n).trans (zero7 _)))
  rw [if_neg h2, if_neg h2]
  refine (canon_row 1 _ _ _ i n).trans ?_
  by_cases h1 : i.val = 1
  · rw [if_pos h1, if_pos h1]
    exact (pay14 m c t _ n).trans (congrArg (· + _) ((ld_row 1 (by decide) _ _ n).trans (zero7 _)))
  rw [if_neg h1, if_neg h1]
  refine (canon_row 0 _ _ _ i n).trans ?_
  by_cases h0 : i.val = 0
  · rw [if_pos h0, if_pos h0]
    exact (pay13 m c t _ n).trans (congrArg (· + _) ((ld_row 0 (by decide) _ _ n).trans (zero7 _)))
  rw [if_neg h0, if_neg h0]
  rw [add_zero]
  exact (congrFun (View.canon_cons_unit_lit _ _ _ (by decide)) _).trans (zero7 _)

theorem out7_B (c : Dev nD) (t : Fin cfg0.N) (h : ¬t.val % 16 = 0) (i : Fin 8) (n : Fin 1408) :
    (outsAt0 m c t.val t.isLt).2.2 (ix2 i n)
      = (outsAt0 m c (t.val - 1) (Nat.lt_of_le_of_lt (Nat.sub_le _ _) t.isLt)).2.2 (ix2 i n) + part7 m c t i n := by
  rw [outsAt0_B m c t h]
  frame_out
  unfold part7
  refine (writes_row _ _ 3 _ _ _ i n).trans ?_
  by_cases h3 : i.val = 3
  · rw [if_pos h3, if_pos h3]
    exact (pay1 m c t _ n).trans (congrArg (· + _) ((ld_row 3 (by decide) _ _ n).trans (congrArg (fun a => (outsAt0 m c (t.val - 1) (Nat.lt_of_le_of_lt (Nat.sub_le _ _) t.isLt)).2.2 (ix2 a n)) (Fin.ext h3.symm))))
  rw [if_neg h3, if_neg h3]
  refine (writes_row _ _ 2 _ _ _ i n).trans ?_
  by_cases h2 : i.val = 2
  · rw [if_pos h2, if_pos h2]
    exact (pay15 m c t _ n).trans (congrArg (· + _) ((ld_row 2 (by decide) _ _ n).trans (congrArg (fun a => (outsAt0 m c (t.val - 1) (Nat.lt_of_le_of_lt (Nat.sub_le _ _) t.isLt)).2.2 (ix2 a n)) (Fin.ext h2.symm))))
  rw [if_neg h2, if_neg h2]
  refine (writes_row _ _ 1 _ _ _ i n).trans ?_
  by_cases h1 : i.val = 1
  · rw [if_pos h1, if_pos h1]
    exact (pay14 m c t _ n).trans (congrArg (· + _) ((ld_row 1 (by decide) _ _ n).trans (congrArg (fun a => (outsAt0 m c (t.val - 1) (Nat.lt_of_le_of_lt (Nat.sub_le _ _) t.isLt)).2.2 (ix2 a n)) (Fin.ext h1.symm))))
  rw [if_neg h1, if_neg h1]
  refine (writes_row _ _ 0 _ _ _ i n).trans ?_
  by_cases h0 : i.val = 0
  · rw [if_pos h0, if_pos h0]
    exact (pay13 m c t _ n).trans (congrArg (· + _) ((ld_row 0 (by decide) _ _ n).trans (congrArg (fun a => (outsAt0 m c (t.val - 1) (Nat.lt_of_le_of_lt (Nat.sub_le _ _) t.isLt)).2.2 (ix2 a n)) (Fin.ext h0.symm))))
  rw [if_neg h0, if_neg h0]
  rw [View.writes_nil, Memref.IsWhole.read_unread, add_zero]

/-- The sixteen points of a column block run through all the rows. -/
theorem sums_run (t : Fin cfg0.N) (n : Fin 1408) (f : Fin 16384 → Fin 5632 → EReal) (h : ∀ s : Fin 16, 16 * (t.val / 16) + s.val < cfg0.N) :
    (∑ s : Fin 16, ∑ r : Fin 1024, f (row ⟨16 * (t.val / 16) + s.val, h s⟩ r) (col ⟨16 * (t.val / 16) + s.val, h s⟩ n)) = ∑ r, f r (col t n) :=
  Fin.sum_mul_add_congr fun s k hl => congrArg₂ f (run_row t s (h s) k hl) (run_col t s (h s) n)

theorem part7_run (c : Dev nD) (t : Fin cfg0.N) (i : Fin 8) (n : Fin 1408) (h : ∀ s : Fin 16, 16 * (t.val / 16) + s.val < cfg0.N) :
    (∑ s : Fin 16, part7 m c ⟨16 * (t.val / 16) + s.val, h s⟩ i n) = gradTaps (xs m c) (ws m c) (cts m c) i (col t n) := by
  have hi := i.isLt
  rcases (by omega : i.val = 3 ∨ i.val = 2 ∨ i.val = 1 ∨ i.val = 0 ∨ 3 < i.val) with e | e | e | e | e
  · simp only [part7, gradTaps, e, reduceIte, Nat.reduceEqDiff]
    exact sums_run t n (fun r n => cts m c (ix2 r n)) h
  · simp only [part7, gradTaps, gradTap, e, reduceIte, Nat.reduceEqDiff]
    exact sums_run t n (fun r n => up (xs m c) (ws m c) r n * ahead (cts m c) 0 r.val n) h
  · simp only [part7, gradTaps, gradTap, e, reduceIte, Nat.reduceEqDiff]
    exact sums_run t n (fun r n => up (xs m c) (ws m c) r n * ahead (cts m c) 1 r.val n) h
  · simp only [part7, gradTaps, gradTap, e, reduceIte, Nat.reduceEqDiff]
    exact sums_run t n (fun r n => up (xs m c) (ws m c) r n * ahead (cts m c) 2 r.val n) h
  · simp only [part7, gradTaps, if_neg (show ¬i.val = 3 by omega), if_neg (show ¬i.val = 2 by omega), if_neg (show ¬i.val = 1 by omega),
      if_neg (show ¬i.val = 0 by omega)]
    exact Finset.sum_const_zero

theorem final7 (c : Dev nD) : (dats m 0 c).arrAt 7 cfg0.N = fun y : (⟨2, ![8, 5632]⟩ : Shape).Idx => gradTaps (xs m c) (ws m c) (cts m c) (y 0) (y 1) := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => (0 : EReal)) (fun t y => part7 m c t (y 0) (y 1))
    (fun t h j => (congrArg (outsAt0 m c t.val t.isLt).2.2 (eq_ix2 j)).trans (out7_A m c t h (j 0) (j 1)))
    (fun t h j => by rw [eq_ix2 j]; exact out7_B m c t h (j 0) (j 1)) t ((flush0_7 t).mp hf) _, zero_add]
  refine Eq.trans ?_ (congrArg (fun z : (⟨2, ![8, 5632]⟩ : Shape).Idx => gradTaps (xs m c) (ws m c) (cts m c) (z 0) (z 1)) (?_ : ix2 (y 0) (col t (y 1)) = _))
  · show (∑ s : Fin 16, part7 m c ⟨16 * (t.val / 16) + s.val, _⟩ (y 0) (y 1)) = gradTaps (xs m c) (ws m c) (cts m c) (y 0) (col t (y 1))
    exact part7_run m c t (y 0) (y 1) _
  · blk_ext [idx7 t, col]

end Cert.ConvKernel

end
-- ==== Proof.ConvReference.lean ====
/- The reference's three results as arrays. -/
module

public import proofs.«01_k».proof.Proof.ConvGrad
public import proofs.«01_k».proof.Proof.Gen.ReferenceIdeal.Run

@[expose] public section

set_option maxRecDepth 16384

noncomputable section

namespace Cert.ConvReference

open Cert.ReferenceIdeal Cert.ReferenceIdeal.Gen Cert.ConvGrad Idealize.ShloMosaic Idealize.ShloMosaic.TcCoe Idealize.SL.Sem

variable (m : (ℓ : Loc nD τ sig) → Buf (Elt Ideal) ℓ)

/-- The arguments: the normalised activations, the up-projection, the convolution's coefficients, the cotangent. -/
abbrev xs (c : Dev nD) : Ins.Idx → EReal := m (c.tc.loc main_arg0)
abbrev ws (c : Dev nD) : Weight.Idx → EReal := m (c.tc.loc main_arg1)
abbrev taps (c : Dev nD) : Taps.Idx → EReal := m (c.tc.loc main_arg2)
abbrev cts (c : Dev nD) : Acts.Idx → EReal := m (c.tc.loc main_arg3)

/-- Row `2 + r` of a padding that puts `lo` rows before an array of 16384 is one of the array's rows, row `r + s` for
    `s = 2 - lo`, when that is below 16384. -/
theorem pad_row (lo s r : ℕ) (n : Fin 5632) (hs : lo + s = 2) (hr : 2 + r < 16386) :
    (∀ a : Fin S16384x5632.rank, (![lo, 0] : Fin 2 → ℕ) a ≤ (ix2 (⟨2 + r, hr⟩ : Fin 16386) n a).val ∧
        ((ix2 (⟨2 + r, hr⟩ : Fin 16386) n a).val - (![lo, 0] : Fin 2 → ℕ) a) % ((![0, 0] : Fin 2 → ℕ) a + 1) = 0 ∧
        ((ix2 (⟨2 + r, hr⟩ : Fin 16386) n a).val - (![lo, 0] : Fin 2 → ℕ) a) / ((![0, 0] : Fin 2 → ℕ) a + 1) < S16384x5632.size a)
      ↔ r + s < 16384 := by
  constructor
  · intro h
    have h0 : (2 + r - lo) / (0 + 1) < 16384 := (h 0).2.2
    omega
  · intro h a
    fin_cases a
    · show lo ≤ 2 + r ∧ (2 + r - lo) % (0 + 1) = 0 ∧ (2 + r - lo) / (0 + 1) < 16384
      omega
    · show 0 ≤ n.val ∧ (n.val - 0) % (0 + 1) = 0 ∧ (n.val - 0) / (0 + 1) < 5632
      omega

/-- A conditional of that form is the cotangent some rows ahead, times its factor. -/
theorem pick {p : Prop} [Decidable p] (D : Acts.Idx → EReal) (s r : ℕ) (n : Fin 5632) (C : EReal) (f : p → EReal) (hp : p ↔ r + s < 16384)
    (hf : ∀ (h : p) (hl : r + s < 16384), f h = D (ix2 ⟨r + s, hl⟩ n) * C) : (if h : p then f h else 0) = ahead D s r n * C := by
  by_cases h : p
  · rw [dif_pos h, hf h (hp.mp h), ahead_of_lt D s r n (hp.mp h)]
  · rw [dif_neg h, ahead_of_le D s r n (by have := mt hp.mpr h; omega), zero_mul]

set_option maxHeartbeats 1600000 in
/-- Every execution of the reference ends with the three gradients in its results and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v68) = (fun y : Weight.Idx => gradUp (xs m c) (cts m c) (taps m c) (y 0) (y 1))
      ∧ r.2.mem ((c.tc : Thread nD τ).loc main_v69) = (fun y : Acts.Idx => grad (cts m c) (taps m c) (y 0) (y 1))
      ∧ r.2.mem ((c.tc : Thread nD τ).loc main_v72)
          = (fun y : (⟨2, ![8, 5632]⟩ : Shape).Idx => gradTaps (xs m c) (ws m c) (cts m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2⟩)
    (Cert.ReferenceIdeal.Value.run m ρ)
  · funext y
    pointwise
    refine Finset.sum_congr rfl fun r _ => (mul_comm _ _).trans (congrArg (xs m c (ix2 r (y 0)) * ·) ?_)
    refine congrArg₂ (· + ·) (congrArg₂ (· + ·) ?_ ?_) ?_
    · exact pick (cts m c) 0 r.val (y 1) _ _ (pad_row 2 0 r.val (y 1) rfl _) fun _ _ => rfl
    · exact pick (cts m c) 1 r.val (y 1) _ _ (pad_row 1 1 r.val (y 1) rfl _) fun _ hl =>
        congrArg (fun a => cts m c (ix2 a (y 1)) * taps m c (ix2 1 (y 1))) (Fin.ext (by show 2 + r.val - 1 = r.val + 1; omega))
    · exact pick (cts m c) 2 r.val (y 1) _ _ (pad_row 0 2 r.val (y 1) rfl _) fun _ hl =>
        congrArg (fun a => cts m c (ix2 a (y 1)) * taps m c (ix2 0 (y 1))) (Fin.ext (by show 2 + r.val = r.val + 2; omega))
  · funext y
    pointwise
    refine congrArg₂ (· + ·) (congrArg₂ (· + ·) ?_ ?_) ?_
    · exact pick (cts m c) 0 (y 0).val (y 1) _ _ (pad_row 2 0 (y 0).val (y 1) rfl _) fun _ hl =>
        congrArg (fun a => cts m c a * taps m c (ix2 2 (y 1))) (eq_ix2 y)
    · exact pick (cts m c) 1 (y 0).val (y 1) _ _ (pad_row 1 1 (y 0).val (y 1) rfl _) fun _ hl =>
        congrArg (fun a => cts m c (ix2 a (y 1)) * taps m c (ix2 1 (y 1))) (Fin.ext (by show 2 + (y 0).val - 1 = (y 0).val + 1; omega))
    · exact pick (cts m c) 2 (y 0).val (y 1) _ _ (pad_row 0 2 (y 0).val (y 1) rfl _) fun _ hl =>
        congrArg (fun a => cts m c (ix2 a (y 1)) * taps m c (ix2 0 (y 1))) (Fin.ext (by show 2 + (y 0).val = (y 0).val + 2; omega))
  · funext y
    pointwise
    clear h
    have hy := (y 0).isLt
    unfold gradTaps
    rcases (by have : (y 0).val < 8 := hy; omega : (y 0).val = 0 ∨ (y 0).val = 1 ∨ (y 0).val = 2 ∨ (y 0).val = 3 ∨ 3 < (y 0).val) with e | e | e | e | e
    · rw [dif_pos (by omega), dif_neg (by omega), dif_neg (by omega), dif_pos (by omega), if_pos e, zero_add, zero_add]
      rw [Fin.sum_univ_one, Finset.sum_eq_zero fun _ _ => zero_mul _, zero_add]
      exact (gradTap_two (xs m c) (ws m c) (cts m c) (y 1)).symm
    · rw [dif_pos (by omega), dif_neg (by omega), dif_pos (by omega), dif_neg (by omega), if_neg (by omega), if_pos e, zero_add, add_zero]
      rw [Fin.sum_univ_one]
      refine Eq.trans ?_ (gradTap_eq (xs m c) (ws m c) (cts m c) 1 (by decide) (y 1)).symm
      refine Finset.sum_congr rfl fun r _ => congrArg (· * cts m c (ix2 r (y 1))) ?_
      by_cases h : 1 ≤ r.val
      · rw [dif_neg (by omega), dif_pos h]
        exact congrArg (fun a => up (xs m c) (ws m c) a (y 1)) (Fin.ext (by show 1 + r.val - 2 = r.val - 1; omega))
      · rw [dif_pos (by omega), dif_neg h]
    · rw [dif_pos (by omega), dif_pos (by omega), dif_neg (by omega), dif_neg (by omega), if_neg (by omega), if_neg (by omega), if_pos e, add_zero, add_zero]
      rw [Fin.sum_univ_one]
      refine Eq.trans ?_ (gradTap_eq (xs m c) (ws m c) (cts m c) 0 (by decide) (y 1)).symm
      exact Finset.sum_congr rfl fun r _ => congrArg (· * cts m c (ix2 r (y 1))) (by symm; exact dif_pos (c := 0 ≤ r.val) (Nat.zero_le _))
    · rw [dif_neg (by omega), dif_pos (by omega), if_neg (by omega), if_neg (by omega), if_neg (by omega), if_pos e]
      rw [Fin.sum_univ_one]
    · rw [dif_neg (by omega), dif_neg (by omega), if_neg (by omega), if_neg (by omega), if_neg (by omega), if_neg (by omega)]

end Cert.ConvReference
-- ==== Proof.Conv.lean ====
/- The claims about the gradient of the up-projection and the causal convolution. -/
module

public import proofs.«01_k».proof.Defs
public import proofs.«01_k».proof.Proof.ConvKernel
public import proofs.«01_k».proof.Proof.ConvReference
public import proofs.«01_k».proof.Proof.Gen.Kernel.Frame
public import proofs.«01_k».proof.Proof.Gen.KernelIdeal.Frame

@[expose] public section

set_option maxRecDepth 16384

noncomputable section

namespace Cert.Conv

open Cert.ConvGrad Idealize.ShloMosaic Idealize.ShloMosaic.TcCoe

/-- The reference's run ends with its arguments unchanged and every counter at zero: it has none. -/
theorem reference_frame : Cert.quiescent_ReferenceIdeal := fun m g _ =>
  θ_run_mono (Cert.ConvReference.run m g) fun r h => ⟨fun c => (h c).2.2.2, sem_eq_zero_of_no_sems rfl r.2⟩

/-- The kernel's three outputs are the reference's three results, over the extended reals. -/
theorem algebraic : Cert.algebraic_KernelIdeal_ReferenceIdeal := by
  pair_intro
  · run_from Cert.KernelIdeal.Gen.run_main m g
  · refine θ_run_mono (Cert.ConvReference.run m' g') fun r h c => ⟨(h c).1.trans ?_, (h c).2.1.trans ?_, (h c).2.2.1.trans ?_, (h c).2.2.2⟩
    all_goals
      clear h
      obtain ⟨ex, ew, et, ed⟩ : Cert.ConvReference.xs m' c = Cert.ConvKernel.xs m c ∧ Cert.ConvReference.ws m' c = Cert.ConvKernel.ws m c
          ∧ Cert.ConvReference.taps m' c = Cert.ConvKernel.taps m c ∧ Cert.ConvReference.cts m' c = Cert.ConvKernel.cts m c := hagree c
    · refine Eq.trans ?_ (Cert.ConvKernel.final5 m c).symm
      rw [ex, et, ed]
    · refine Eq.trans ?_ (Cert.ConvKernel.final6 m c).symm
      rw [et, ed]
    · refine Eq.trans ?_ (Cert.ConvKernel.final7 m c).symm
      rw [ex, ew, ed]

end Cert.Conv

end
-- ==== Proof.Reals.lean ====
/- Extended reals that are real numbers: what keeps them so, the constants of the programs among them, and the two identities of
   the backward pass that hold of real numbers only. -/
module

public import Idealize.ShloMosaic.Lib.Pipeline.ValueKit
public import Idealize.ShloMosaic.Lib.Pointwise

@[expose] public section

noncomputable section

namespace Cert.Reals

open Idealize.ShloMosaic

/-- `x` is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- The pattern of the infinity, and those of 1024, of a half with its sign, and of the small number under the root. -/
theorem ofBits_inf : Ideal.ofBits FTy.f32 2139095040#32 = ⊤ := by
  simp [Ideal.ofBits, Ideal.ieee]
theorem ofBits_width : Ideal.ofBits FTy.f32 1149239296#32 = ((1024 : ℝ) : EReal) := by
  simp [Ideal.ofBits, Ideal.ieee]
  norm_num
  rw [← EReal.coe_mul]
  exact congrArg _ (by norm_num)
theorem ofBits_half : Ideal.ofBits FTy.f32 3204448256#32 = ((-1 / 2 : ℝ) : EReal) := by
  simp [Ideal.ofBits, Ideal.ieee]
  norm_num
  rw [← EReal.coe_mul]
  exact congrArg _ (by norm_num)
theorem ofBits_eps : ∃ e : ℝ, 0 < e ∧ Ideal.ofBits FTy.f32 897988541#32 = (e : EReal) := by
  refine ⟨8796093 / 2 ^ 43, by norm_num, ?_⟩
  simp [Ideal.ofBits, Ideal.ieee]
  norm_num
  rw [← EReal.coe_mul]
  exact congrArg _ (by norm_num)

/-- A number whose absolute value is below the infinity is real. -/
theorem isReal_of_abs {x : EReal} (h : max x (-x) < ⊤) : IsReal x := by
  induction x with
  | bot => simp at h
  | top => simp at h
  | coe r => exact ⟨r, rfl⟩

/-- A conjunction of words over all indices that is 1 has every word 1. -/
theorem all_one {ι : Type} [Fintype ι] (f : ι → BitVec 1) (h : Finset.univ.fold IntOp.andi (1#1) f = 1#1) (i : ι) : f i = 1#1 := by
  classical
  rw [← Finset.insert_erase (Finset.mem_univ i), Finset.fold_insert (Finset.notMem_erase i _)] at h
  exact (by decide : ∀ a b : BitVec 1, IntOp.andi a b = 1#1 → a = 1#1) _ _ h

theorem both_one : ∀ a b : BitVec 1, IntOp.andi a b = 1#1 → a = 1#1 ∧ b = 1#1 := by decide

/-- What the printed test of one number says. -/
theorem isReal_of_test {x : EReal} (h : BitVec.ofBool (decide (max x (-x) < Ideal.ofBits FTy.f32 2139095040#32)) = 1#1) : IsReal x := by
  refine isReal_of_abs ?_
  rw [ofBits_inf] at h
  by_contra hn
  simp [hn] at h

/-- The logistic of a real number is a real number. -/
theorem isReal_sig {g : EReal} (hg : IsReal g) : IsReal (Ideal.div 1 (1 + Ideal.exp (-g))) := by
  obtain ⟨a, rfl⟩ := hg
  have e : 1 + Ideal.exp (-(a : EReal)) = ((1 + Real.exp (-a) : ℝ) : EReal) := by
    rw [EReal.coe_add, ← EReal.coe_neg]; rfl
  have hp : (1 + Real.exp (-a) : ℝ) ≠ 0 := by have := Real.exp_pos (-a); positivity
  refine ⟨(1 + Real.exp (-a))⁻¹, ?_⟩
  rw [e, Ideal.div, if_neg (by exact_mod_cast hp), one_mul, EReal.coe_inv]

/-- The derivative of `g · s` in `g`, for `s` the logistic of `g`, times `t`: taken out of the sum, or left in it. -/
theorem silu_grad {t g s : EReal} (ht : IsReal t) (hg : IsReal g) (hs : IsReal s) :
    t * s + g * t * (s * (1 - s)) = t * (s + g * s * (1 - s)) := by
  obtain ⟨t, rfl⟩ := ht
  obtain ⟨g, rfl⟩ := hg
  obtain ⟨s, rfl⟩ := hs
  norm_cast
  ring

theorem div_coe (a b : ℝ) (hb : b ≠ 0) : Ideal.div (a : EReal) (b : EReal) = ((a * b⁻¹ : ℝ) : EReal) := by
  rw [Ideal.div, if_neg (by exact_mod_cast hb), EReal.coe_mul, EReal.coe_inv]

theorem rsqrt_coe (q : ℝ) (hq : 0 < q) : Ideal.rsqrt (q : EReal) = (((Real.sqrt q)⁻¹ : ℝ) : EReal) := by
  show (if q < 0 then (⊥ : EReal) else if q = 0 then ⊤ else (((Real.sqrt q)⁻¹ : ℝ) : EReal)) = _
  rw [if_neg (by linarith), if_neg (by linarith)]

/-- The mean square of a row, and the small number added to it. -/
def meanSq {n : ℕ} (x : Fin n → EReal) : EReal :=
  Ideal.div (∑ j, x j * x j) (Ideal.ofBits FTy.f32 1149239296#32) + Ideal.ofBits FTy.f32 897988541#32

/-- The gradient of a row's normalisation, gain `g`, cotangent `y`: the mean square's own term in either form.  Whatever `d` is added. -/
theorem norm_grad_row {n : ℕ} (d : EReal) (x y g : Fin n → EReal) (hx : ∀ j, IsReal (x j)) (hy : ∀ j, IsReal (y j)) (hg : ∀ j, IsReal (g j))
    (i : Fin n) :
    d + y i * g i * Ideal.rsqrt (meanSq x)
        + x i * Ideal.div ((∑ j, x j * (y j * g j)) * (Ideal.ofBits FTy.f32 3204448256#32 * Ideal.div (Ideal.rsqrt (meanSq x)) (meanSq x)))
            (Ideal.ofBits FTy.f32 1149239296#32)
        + Ideal.div ((∑ j, x j * (y j * g j)) * (Ideal.ofBits FTy.f32 3204448256#32 * Ideal.div (Ideal.rsqrt (meanSq x)) (meanSq x)))
            (Ideal.ofBits FTy.f32 1149239296#32) * x i
      = d + Ideal.rsqrt (meanSq x) * (y i * g i - x i * Ideal.rsqrt (meanSq x)
            * Ideal.div (∑ j, y j * g j * (x j * Ideal.rsqrt (meanSq x))) (Ideal.ofBits FTy.f32 1149239296#32)) := by
  choose x' hx using hx
  choose y' hy using hy
  choose g' hg using hg
  obtain ⟨e, he, hb⟩ := ofBits_eps
  have hq : meanSq x = (((∑ j, x' j * x' j) * 1024⁻¹ + e : ℝ) : EReal) := by
    unfold meanSq
    simp only [hx, ← EReal.coe_mul, coe_sum]
    rw [ofBits_width, hb, div_coe _ _ (by norm_num), EReal.coe_add]
  have hpos : 0 < (∑ j, x' j * x' j) * 1024⁻¹ + e := by
    have : 0 ≤ ∑ j, x' j * x' j := Finset.sum_nonneg fun j _ => mul_self_nonneg _
    positivity
  generalize (∑ j, x' j * x' j) * 1024⁻¹ + e = q at hq hpos
  have hr : (Real.sqrt q)⁻¹ * (Real.sqrt q)⁻¹ = q⁻¹ := by
    rw [← mul_inv, Real.mul_self_sqrt hpos.le]
  rw [hq, rsqrt_coe q hpos, div_coe _ _ hpos.ne', ofBits_width, ofBits_half]
  generalize (Real.sqrt q)⁻¹ = r at hr
  simp only [hx, hy, hg, ← EReal.coe_mul, coe_sum]
  rw [div_coe _ _ (by norm_num), div_coe _ _ (by norm_num)]
  simp only [← EReal.coe_mul, ← EReal.coe_sub, add_assoc, ← EReal.coe_add]
  refine congrArg (fun z : ℝ => d + (z : EReal)) ?_
  have hs : ∑ j, y' j * g' j * (x' j * r) = (∑ j, x' j * (y' j * g' j)) * r := by
    rw [Finset.sum_mul]
    exact Finset.sum_congr rfl fun j _ => by ring
  rw [hs, ← hr]
  ring

end Cert.Reals

end
-- ==== Proof.Gate.lean ====
/- The gradient through the gate `silu g · v` and the down-projection after it.  The activations' gate and value columns come in
   tiles of 1408, a tile of gates before the tile of the values they multiply. -/
module

public import proofs.«01_k».proof.Defs
public import proofs.«01_k».proof.Proof.Reals
public import proofs.«01_k».proof.Proof.Gen.GateGradIdeal.Frame
public import proofs.«01_k».proof.Proof.Gen.GateGradIdeal.Value
public import proofs.«01_k».proof.Proof.Gen.GateGradRefIdeal.Run
public import proofs.«01_k».proof.Proof.Gen.Pre_gate_finite

@[expose] public section

set_option maxRecDepth 16384

noncomputable section

namespace Cert.GateSum

open Idealize.ShloMosaic Cert.Reals

/-- The shapes of the output's cotangent, of the down-projection and of the gates and values. -/
abbrev Outs : Shape := ⟨2, ![16384, 1024]⟩
abbrev Weight : Shape := ⟨2, ![2816, 1024]⟩
abbrev Pairs : Shape := ⟨2, ![16384, 5632]⟩

variable (D : Outs.Idx → EReal) (W : Weight.Idx → EReal) (C : Pairs.Idx → EReal)

/-- The gradient of the gated activation at row `r`, column `a`. -/
def gradAct (r : Fin 16384) (a : Fin 2816) : EReal := ∑ k : Fin 1024, D (ix2 r k) * W (ix2 a k)

/-- The logistic function. -/
def sig (g : EReal) : EReal := Ideal.div 1 (1 + Ideal.exp (-g))

/-- The gradient of a gate whose own value is `g` and whose partner's is `v`; and of the partner. -/
def gradGate (da g v : EReal) : EReal := da * v * (sig g + g * sig g * (1 - sig g))
def gradVal (da g : EReal) : EReal := da * (g * sig g)

/-- The columns: tile `j`'s column `p` of the activations, of the gates and of the values. -/
def actCol (j : Fin 2) (p : Fin 1408) : Fin 2816 := ⟨j.val * 1408 + p.val, by omega⟩
def gateCol (j : Fin 2) (p : Fin 1408) : Fin 5632 := ⟨j.val * 2816 + p.val, by omega⟩
def valCol (j : Fin 2) (p : Fin 1408) : Fin 5632 := ⟨j.val * 2816 + 1408 + p.val, by omega⟩

/-- The tile of a column of the pairs, and the column's place among the gates or the values of its tile. -/
def tile (n : Fin 5632) : Fin 2 := ⟨n.val / 2816, by omega⟩
def place (n : Fin 5632) : Fin 1408 := ⟨n.val % 1408, by omega⟩

/-- The gradient of the gates and values at row `r`, column `n`. -/
def gradPair (r : Fin 16384) (n : Fin 5632) : EReal :=
  if n.val % 2816 < 1408 then
    gradGate (gradAct D W r (actCol (tile n) (place n))) (C (ix2 r (gateCol (tile n) (place n)))) (C (ix2 r (valCol (tile n) (place n))))
  else gradVal (gradAct D W r (actCol (tile n) (place n))) (C (ix2 r (gateCol (tile n) (place n))))

theorem gradPair_gate (r : Fin 16384) (j : Fin 2) (p : Fin 1408) (n : Fin 5632) (h : n.val = j.val * 2816 + p.val) :
    gradPair D W C r n = gradGate (gradAct D W r (actCol j p)) (C (ix2 r (gateCol j p))) (C (ix2 r (valCol j p))) := by
  have ht : tile n = j := Fin.ext (by show n.val / 2816 = j.val; omega)
  have hp : place n = p := Fin.ext (by show n.val % 1408 = p.val; omega)
  rw [gradPair, if_pos (by omega), ht, hp]

theorem gradPair_val (r : Fin 16384) (j : Fin 2) (p : Fin 1408) (n : Fin 5632) (h : n.val = j.val * 2816 + 1408 + p.val) :
    gradPair D W C r n = gradVal (gradAct D W r (actCol j p)) (C (ix2 r (gateCol j p))) := by
  have ht : tile n = j := Fin.ext (by show n.val / 2816 = j.val; omega)
  have hp : place n = p := Fin.ext (by show n.val % 1408 = p.val; omega)
  rw [gradPair, if_neg (by omega), ht, hp]

/-- The arguments are real numbers throughout. -/
def Finite : Prop := (∀ i, IsReal (D i)) ∧ (∀ i, IsReal (W i)) ∧ ∀ i, IsReal (C i)

/-- Of real numbers the gate's gradient is also the sum that the derivative of a product gives. -/
theorem gradGate_eq (h : Finite D W C) (r : Fin 16384) (a : Fin 2816) (g v : Fin 5632) :
    gradAct D W r a * C (ix2 r v) * sig (C (ix2 r g)) + C (ix2 r g) * (gradAct D W r a * C (ix2 r v)) * (sig (C (ix2 r g)) * (1 - sig (C (ix2 r g))))
      = gradGate (gradAct D W r a) (C (ix2 r g)) (C (ix2 r v)) :=
  silu_grad (.mul (.sum _ _ fun _ => .mul (h.1 _) (h.2.1 _)) (h.2.2 _)) (h.2.2 _) (isReal_sig (h.2.2 _))

end Cert.GateSum

namespace Cert.GateKernel

open Cert.GateGradIdeal Cert.GateGradIdeal.Gen Cert.GateSum Cert.Reals Idealize.ShloMosaic Idealize.ShloMosaic.TcCoe

variable (m : (ℓ : Loc nD τ sig) → Buf (Elt Ideal) ℓ)

theorem idx0 : ∀ t : Fin cfg0.N, win0_0.index t = ![t.val % 32, 0] := (by decide +kernel : ∀ t : Fin grid0.N, _)
theorem idx1 : ∀ t : Fin cfg0.N, win0_1.index t = ![0, t.val / 32] := (by decide +kernel : ∀ t : Fin grid0.N, _)
theorem idx2 : ∀ t : Fin cfg0.N, win0_2.index t = ![t.val % 32, t.val / 32] := (by decide +kernel : ∀ t : Fin grid0.N, _)
theorem idx3 : ∀ t : Fin cfg0.N, win0_3.index t = ![t.val % 32, t.val / 32] := (by decide +kernel : ∀ t : Fin grid0.N, _)

/-- The three arguments, on device `c`. -/
abbrev cts (c : Dev nD) : Outs.Idx → EReal := m ((c.tc : Thread nD τ).loc main_arg0)
abbrev ws (c : Dev nD) : Weight.Idx → EReal := m ((c.tc : Thread nD τ).loc main_arg1)
abbrev pairs (c : Dev nD) : Pairs.Idx → EReal := m ((c.tc : Thread nD τ).loc main_arg2)

/-- The precondition's meaning. -/
theorem finite (h : Cert.Pre_GateGradIdeal_gate_finite m) (c : Dev nD) : Finite (cts m c) (ws m c) (pairs m c) := by
  have e := congrFun (h c) (fun a => a.elim0)
  revert e
  pointwise [Cert.Pre_gate_finite.fn]
  intro e
  obtain ⟨e, e2⟩ := both_one _ _ e
  obtain ⟨e0, e1⟩ := both_one _ _ e
  exact ⟨fun i => by have := isReal_of_test (all_one _ e0 (i 0, i 1)); rwa [← eq_ix2 i] at this,
    fun i => by have := isReal_of_test (all_one _ e1 (i 0, i 1)); rwa [← eq_ix2 i] at this,
    fun i => by have := isReal_of_test (all_one _ e2 (i 0, i 1)); rwa [← eq_ix2 i] at this⟩

/-- A point's tile and its row in the whole array. -/
def tileOf (t : Fin cfg0.N) : Fin 2 := ⟨t.val / 32, by have : t.val < 64 := t.isLt; omega⟩
def row (t : Fin cfg0.N) (r : Fin 512) : Fin 16384 := ⟨t.val % 32 * 512 + r.val, by omega⟩

theorem block0 (c : Dev nD) (t : Fin cfg0.N) (r : Fin 512) (k : Fin 1024) :
    (iblk m c 0 t : Vec Ideal S512x1024 .f32) (ix2 r k) = cts m c (ix2 (row t r) k) := by
  blk_point [iblk, V, idx0 t, row]

/-- What the host hands the kernel as the down-projection: the weight, transposed. -/
theorem entry1 (c : Dev nD) : (V m c main_v0 : (⟨2, ![1024, 2816]⟩ : Shape).Idx → EReal) = fun y => ws m c (ix2 (y 1) (y 0)) := by
  funext y
  entry_read
  pointwise

theorem block1 (c : Dev nD) (t : Fin cfg0.N) (k : Fin 1024) (p : Fin 1408) :
    (iblk m c 1 t : Vec Ideal S1024x1408 .bf16) (ix2 k p) = ws m c (ix2 (actCol (tileOf t) p) k) := by
  have e : (win0_1.blk t).view.emb (ix2 k p) = ix2 k (actCol (tileOf t) p) := by
    blk_ext [idx1 t, actCol, tileOf]
  exact (congrArg (V m c main_v0 : (⟨2, ![1024, 2816]⟩ : Shape).Idx → EReal) e).trans (congrFun (entry1 m c) _)

theorem block2 (c : Dev nD) (t : Fin cfg0.N) (r : Fin 512) (n : Fin 2816) :
    (iblk m c 2 t : Vec Ideal S512x2816 .bf16) (ix2 r n)
      = pairs m c (ix2 (row t r) ⟨t.val / 32 * 2816 + n.val, by have : t.val < 64 := t.isLt; omega⟩) := by
  blk_point [iblk, V, idx2 t, row]

/-- The gates and the values of a point's block. -/
theorem gates (c : Dev nD) (t : Fin cfg0.N) (r : Fin 512) (p : Fin 1408) :
    View.ld (iblk m c 2 t : Vec Ideal S512x2816 .bf16) r0_2 (ix2 r p) = pairs m c (ix2 (row t r) (gateCol (tileOf t) p)) := by
  refine Eq.trans ?_ ((block2 m c t r ⟨p.val, by omega⟩).trans rfl)
  refine congrArg (iblk m c 2 t : Vec Ideal S512x2816 .bf16) (funext fun x => Fin.ext ?_)
  fin_cases x
  · show 0 + 1 * r.val = r.val; omega
  · show 0 + 1 * p.val = p.val; omega
theorem values (c : Dev nD) (t : Fin cfg0.N) (r : Fin 512) (p : Fin 1408) :
    View.ld (iblk m c 2 t : Vec Ideal S512x2816 .bf16) r0_3 (ix2 r p) = pairs m c (ix2 (row t r) (valCol (tileOf t) p)) := by
  refine Eq.trans ?_ ((block2 m c t r ⟨1408 + p.val, by omega⟩).trans (congrArg (fun a => pairs m c (ix2 (row t r) a)) (Fin.ext ?_)))
  · refine congrArg (iblk m c 2 t : Vec Ideal S512x2816 .bf16) (funext fun x => Fin.ext ?_)
    fin_cases x
    · show 0 + 1 * r.val = r.val; omega
    · show 1408 + 1 * p.val = 1408 + p.val; omega
  · show t.val / 32 * 2816 + (1408 + p.val) = t.val / 32 * 2816 + 1408 + p.val; omega

/-- A point's product: the gradient of the gated activation. -/
theorem pay1 (c : Dev nD) (t : Fin cfg0.N) (r : Fin 512) (p : Fin 1408) :
    k0_pay1 (iblk m c 0 t) (iblk m c 1 t) (ix2 r p) = gradAct (cts m c) (ws m c) (row t r) (actCol (tileOf t) p) := by
  pointwise [k0_pay1]
  exact Finset.sum_congr rfl fun k _ => congrArg₂ (· * ·) (block0 m c t r k) (block1 m c t k p)

/-- The stored halves in terms of the product, the gates and the values. -/
theorem pay5_eq (x0 : Vec Ideal S512x1024 .f32) (x1 : Vec Ideal S1024x1408 .bf16) (g v : Vec Ideal S512x1408 .bf16) (i : S512x1408.Idx) :
    k0_pay5 x0 x1 g v i = gradGate (k0_pay1 x0 x1 i) (g i) (v i) := by
  pointwise [k0_pay5, k0_pay4, k0_pay3, k0_pay2]
  rw [zero_sub]
  rfl
theorem pay6_eq (x0 : Vec Ideal S512x1024 .f32) (x1 : Vec Ideal S1024x1408 .bf16) (g : Vec Ideal S512x1408 .bf16) (i : S512x1408.Idx) :
    k0_pay6 x0 x1 g i = gradVal (k0_pay1 x0 x1 i) (g i) := by
  pointwise [k0_pay6, k0_pay4, k0_pay3, k0_pay2]
  rw [zero_sub]
  rfl

theorem pay5 (c : Dev nD) (t : Fin cfg0.N) (r : Fin 512) (p : Fin 1408) :
    k0_pay5 (iblk m c 0 t) (iblk m c 1 t) (View.ld (iblk m c 2 t) r0_2) (View.ld (iblk m c 2 t) r0_3) (ix2 r p)
      = gradPair (cts m c) (ws m c) (pairs m c) (row t r) (gateCol (tileOf t) p) := by
  rw [pay5_eq, pay1, gates, values, gradPair_gate _ _ _ _ (tileOf t) p _ rfl]

theorem pay6 (c : Dev nD) (t : Fin cfg0.N) (r : Fin 512) (p : Fin 1408) :
    k0_pay6 (iblk m c 0 t) (iblk m c 1 t) (View.ld (iblk m c 2 t) r0_2) (ix2 r p)
      = gradPair (cts m c) (ws m c) (pairs m c) (row t r) (valCol (tileOf t) p) := by
  rw [pay6_eq, pay1, gates, gradPair_val _ _ _ _ (tileOf t) p _ rfl]

/-- A store of 1408 columns over the stores `L`: it holds in its columns, and they elsewhere. -/
theorem canon_cols (a : ℕ) (inb : ∀ x, (![0, a] : Fin 2 → ℕ) x + (![512, 1408] : Fin 2 → ℕ) x ≤ S512x2816.size x) (w : S512x1408.Idx → Elt Ideal .bf16)
    (L : List (View.Piece (Elt Ideal) S512x2816 .bf16)) (r : Fin 512) (n : Fin 2816) :
    View.canon (⟨Rect.unit ![0, a] ![512, 1408] inb, w⟩ :: L) (ix2 r n)
      = if h : a ≤ n.val ∧ n.val - a < 1408 then w (ix2 r ⟨n.val - a, h.2⟩) else View.canon L (ix2 r n) := by
  split
  · next h =>
    have e : (Rect.unit (s := S512x2816) ![0, a] ![512, 1408] inb).emb (ix2 r (⟨n.val - a, h.2⟩ : Fin 1408)) = ix2 r n := by
      funext x; apply Fin.ext
      fin_cases x
      · show 0 + 1 * r.val = r.val; omega
      · show a + 1 * (n.val - a) = n.val; omega
    rw [← e]
    exact View.canon_cons_emb (Rect.unit (s := S512x2816) ![0, a] ![512, 1408] inb) w L (ix2 r (⟨n.val - a, h.2⟩ : Fin 1408))
  · next h =>
    refine View.canon_cons_of_not_mem _ L fun hm => h ?_
    obtain ⟨j, hj, he⟩ := (LoadRect.mem_set _).mp hm (1 : Fin 2)
    have hj1 : j < 1408 := hj
    have he' : n.val = a + 1 * j := he
    omega

/-- What a point leaves in the output's buffer. -/
theorem out3 (c : Dev nD) (t : Fin cfg0.N) (r : Fin 512) (n : Fin 2816) :
    out0_3 (iblk m c 0 t) (iblk m c 1 t) (iblk m c 2 t) (ix2 r n)
      = gradPair (cts m c) (ws m c) (pairs m c) (row t r) ⟨t.val / 32 * 2816 + n.val, by have : t.val < 64 := t.isLt; omega⟩ := by
  frame_out
  refine (canon_cols 1408 _ _ _ r n).trans ?_
  by_cases h : 1408 ≤ n.val
  · rw [dif_pos ⟨h, by omega⟩]
    refine (pay6 m c t r _).trans (congrArg _ (Fin.ext ?_))
    show t.val / 32 * 2816 + 1408 + (n.val - 1408) = t.val / 32 * 2816 + n.val
    omega
  · rw [dif_neg fun h' => h h'.1]
    refine (canon_cols 0 _ _ _ r n).trans ?_
    rw [dif_pos ⟨Nat.zero_le _, by omega⟩]
    exact pay5 m c t r _

/-- The kernel's output is the gradient of the gates and values. -/
theorem final3 (c : Dev nD) :
    (dats m 0 c).arrAt 3 cfg0.N = fun y : Pairs.Idx => gradPair (cts m c) (ws m c) (pairs m c) (y 0) (y 1) := by
  refine (dats m 0 c).arrAt_eq_of_covers 3 _ (by decide +kernel) fun t hf y => ?_
  blk_simp
  rw [after0_3]
  refine (congrArg (out0_3 (iblk m c 0 t) (iblk m c 1 t) (iblk m c 2 t)) (eq_ix2 y)).trans ((out3 m c t (y 0) (y 1)).trans ?_)
  have e : (win0_3.blk t).view.emb y
      = ix2 (row t (y 0)) ⟨t.val / 32 * 2816 + (y 1).val, by have : t.val < 64 := t.isLt; have : (y 1).val < 2816 := (y 1).isLt; omega⟩ := by
    blk_ext [idx3 t, row]
  exact (congrArg (fun z : Pairs.Idx => gradPair (cts m c) (ws m c) (pairs m c) (z 0) (z 1)) e).symm

end Cert.GateKernel

namespace Cert.GateReference

open Cert.GateGradRefIdeal Cert.GateSum Cert.Reals Idealize.ShloMosaic Idealize.ShloMosaic.TcCoe Idealize.SL.Sem

variable (m : (ℓ : Loc nD τ sig) → Buf (Elt Ideal) ℓ)

abbrev cts (c : Dev nD) : Outs.Idx → EReal := m (c.tc.loc main_arg0)
abbrev ws (c : Dev nD) : Weight.Idx → EReal := m (c.tc.loc main_arg1)
abbrev pairs (c : Dev nD) : Pairs.Idx → EReal := m (c.tc.loc main_arg2)

/-- Rewriting inside the gate's gradient as the derivative of a product, and inside the value's. -/
theorem form_congr {da da' g g' v v' : EReal} (hd : da = da') (hg : g = g') (hv : v = v') :
    da * v * sig g + g * (da * v) * (sig g * (1 - sig g)) = da' * v' * sig g' + g' * (da' * v') * (sig g' * (1 - sig g')) := by
  rw [hd, hg, hv]
theorem val_congr {da da' g g' : EReal} (hd : da = da') (hg : g = g') : g * sig g * da = gradVal da' g' := by
  rw [hd, hg]
  exact mul_comm _ _

/-- Equal columns: of the down-projection, of the pairs, and at an index of the pairs. -/
theorem sum_row (c : Dev nD) (r : Fin 16384) (a a' : Fin 2816) (h : a.val = a'.val) :
    ∑ k : Fin 1024, cts m c (ix2 r k) * ws m c (ix2 a k) = gradAct (cts m c) (ws m c) r a' := by
  rw [show a = a' from Fin.ext h]
  rfl
theorem col_eq (c : Dev nD) (r : Fin 16384) {n n' : Fin 5632} (h : n.val = n'.val) : pairs m c (ix2 r n) = pairs m c (ix2 r n') := by
  rw [show n = n' from Fin.ext h]
theorem at_col (c : Dev nD) (y : Pairs.Idx) {n : Fin 5632} (h : (y 1).val = n.val) : pairs m c y = pairs m c (ix2 (y 0) n) := by
  rw [← show (y 1 : Fin 5632) = n from Fin.ext h]
  exact congrArg (pairs m c) (eq_ix2 y)

set_option maxHeartbeats 4000000 in
/-- The result, where the arguments are real numbers. -/
theorem result (c : Dev nD) (hr : Finite (cts m c) (ws m c) (pairs m c)) :
    Cert.GateGradRefIdeal.Value.res_main_v26 m c = (fun y : Pairs.Idx => gradPair (cts m c) (ws m c) (pairs m c) (y 0) (y 1)) := by
  funext y
  have hy : (y 1).val < 5632 := (y 1).isLt
  pointwise [Cert.GateGradRefIdeal.Value.res_main_v26]
  rcases (by omega : (y 1).val < 1408 ∨ (1408 ≤ (y 1).val ∧ (y 1).val < 2816) ∨ (2816 ≤ (y 1).val ∧ (y 1).val < 4224) ∨ 4224 ≤ (y 1).val) with h | h | h | h
  · rw [dif_neg (by omega), dif_neg (by omega), dif_neg (by omega), dif_pos h, zero_add, zero_add, zero_add]
    simp only [dif_pos h]
    refine Eq.trans ?_ (gradPair_gate _ _ _ (y 0) 0 ⟨(y 1).val, h⟩ (y 1) (by show _ = 0 * 2816 + (y 1).val; omega)).symm
    refine Eq.trans ?_ (gradGate_eq _ _ _ hr (y 0) _ _ _)
    exact form_congr (sum_row m c _ _ _ (by show (y 1).val = 0 * 1408 + (y 1).val; omega))
      (at_col m c y (by show (y 1).val = 0 * 2816 + (y 1).val; omega)) (col_eq m c _ (by show 1408 + (y 1).val = 0 * 2816 + 1408 + (y 1).val; omega))
  · have h1 : (y 1).val - 1408 < 1408 := by omega
    have n4 : ¬(4224 ≤ (y 1).val ∧ (y 1).val - 4224 < 1408) := by omega
    have n2 : ¬(2816 ≤ (y 1).val ∧ (y 1).val - 2816 < 1408) := by omega
    have n0 : ¬(y 1).val < 1408 := by omega
    have p1 : 1408 ≤ (y 1).val ∧ (y 1).val - 1408 < 1408 := ⟨h.1, h1⟩
    simp only [dif_neg n4, dif_neg n2, dif_neg n0, dif_pos p1, dif_pos h1, zero_add, add_zero]
    refine Eq.trans ?_ (gradPair_val _ _ _ (y 0) 0 ⟨(y 1).val - 1408, h1⟩ (y 1) (by show _ = 0 * 2816 + 1408 + ((y 1).val - 1408); omega)).symm
    exact val_congr (sum_row m c _ _ _ (by show (y 1).val - 1408 = 0 * 1408 + ((y 1).val - 1408); omega))
      (col_eq m c _ (by show (y 1).val - 1408 = 0 * 2816 + ((y 1).val - 1408); omega))
  · have h1 : (y 1).val - 2816 < 1408 := by omega
    have n4 : ¬(4224 ≤ (y 1).val ∧ (y 1).val - 4224 < 1408) := by omega
    have n1 : ¬(1408 ≤ (y 1).val ∧ (y 1).val - 1408 < 1408) := by omega
    have n0 : ¬(y 1).val < 1408 := by omega
    have p2 : 2816 ≤ (y 1).val ∧ (y 1).val - 2816 < 1408 := ⟨h.1, h1⟩
    simp only [dif_neg n4, dif_neg n1, dif_neg n0, dif_pos p2, zero_add, add_zero]
    refine Eq.trans ?_ (gradPair_gate _ _ _ (y 0) 1 ⟨(y 1).val - 2816, h1⟩ (y 1) (by show _ = 1 * 2816 + ((y 1).val - 2816); omega)).symm
    refine Eq.trans ?_ (gradGate_eq _ _ _ hr (y 0) _ _ _)
    exact form_congr (sum_row m c _ _ _ (by show 1408 + ((y 1).val - 2816) = 1 * 1408 + ((y 1).val - 2816); omega))
      (col_eq m c _ (by show 2816 + ((y 1).val - 2816) = 1 * 2816 + ((y 1).val - 2816); omega))
      (col_eq m c _ (by show 4224 + ((y 1).val - 2816) = 1 * 2816 + 1408 + ((y 1).val - 2816); omega))
  · have h1 : (y 1).val - 4224 < 1408 := by omega
    have n2 : ¬(2816 ≤ (y 1).val ∧ (y 1).val - 2816 < 1408) := by omega
    have n1 : ¬(1408 ≤ (y 1).val ∧ (y 1).val - 1408 < 1408) := by omega
    have n0 : ¬(y 1).val < 1408 := by omega
    have p4 : 4224 ≤ (y 1).val ∧ (y 1).val - 4224 < 1408 := ⟨h, h1⟩
    simp only [dif_neg n2, dif_neg n1, dif_neg n0, dif_pos p4, add_zero]
    refine Eq.trans ?_ (gradPair_val _ _ _ (y 0) 1 ⟨(y 1).val - 4224, h1⟩ (y 1) (by show _ = 1 * 2816 + 1408 + ((y 1).val - 4224); omega)).symm
    exact val_congr (sum_row m c _ _ _ (by show 1408 + ((y 1).val - 4224) = 1 * 1408 + ((y 1).val - 4224); omega))
      (col_eq m c _ (by show 2816 + ((y 1).val - 4224) = 1 * 2816 + ((y 1).val - 4224); omega))

end Cert.GateReference

namespace Cert.Gate

open Idealize.ShloMosaic Idealize.ShloMosaic.TcCoe

/-- The reference's run ends with its arguments unchanged and every counter at zero: it has none. -/
theorem reference_frame : Cert.quiescent_GateGradRefIdeal := fun m g _ =>
  θ_run_mono (Cert.GateGradRefIdeal.Value.run m g) fun r h => ⟨fun c => (h c).2, sem_eq_zero_of_no_sems rfl r.2⟩
theorem reference_frame_pre : Cert.quiescent_GateGradRefIdeal_pre_gate_finite := fun m g _ =>
  θ_run_mono (Cert.GateGradRefIdeal.Value.run m g) fun r h => ⟨fun c => (h c).2, sem_eq_zero_of_no_sems rfl r.2⟩

/-- The kernel's output is the reference's result, over the extended reals, where the arguments are real numbers. -/
theorem algebraic : Cert.algebraic_GateGradIdeal_GateGradRefIdeal_pre_gate_finite := by
  pair_intro
  · run_from Cert.GateGradIdeal.Gen.run_main m g
  · refine θ_run_mono (Cert.GateGradRefIdeal.Value.run m' g') fun r h c => ⟨(h c).1.trans ?_, (h c).2⟩
    clear h
    obtain ⟨ed, ew, ec⟩ : Cert.GateReference.cts m' c = Cert.GateKernel.cts m c ∧ Cert.GateReference.ws m' c = Cert.GateKernel.ws m c
      ∧ Cert.GateReference.pairs m' c = Cert.GateKernel.pairs m c := hagree c
    refine (Cert.GateReference.result m' c (by rw [ed, ew, ec]; exact Cert.GateKernel.finite m hpre c)).trans ?_
    refine Eq.trans ?_ (Cert.GateKernel.final3 m c).symm
    rw [ed, ew, ec]

end Cert.Gate

end
-- ==== Proof.Norm.lean ====
/- The gradient through a product and the row normalisation (divide by the root of the mean square, times a gain) before it, added
   to the gradient that comes past them; and the gradient of the gain. -/
module

public import proofs.«01_k».proof.Defs
public import proofs.«01_k».proof.Proof.Reals
public import proofs.«01_k».proof.Proof.Gen.NormGradIdeal.Frame
public import proofs.«01_k».proof.Proof.Gen.NormGradIdeal.Value
public import proofs.«01_k».proof.Proof.Gen.NormGradRefIdeal.Run
public import proofs.«01_k».proof.Proof.Gen.Pre_norm_finite

@[expose] public section

set_option maxRecDepth 16384

noncomputable section

namespace Cert.NormSum

open Idealize.ShloMosaic Cert.Reals

/-- The shapes of the product's cotangent, of its weight, of the gain, and of the rows. -/
abbrev Cts : Shape := ⟨2, ![16384, 5632]⟩
abbrev Weight : Shape := ⟨2, ![1024, 5632]⟩
abbrev Gain : Shape := ⟨2, ![1, 1024]⟩
abbrev Rows : Shape := ⟨2, ![16384, 1024]⟩

variable (D : Cts.Idx → EReal) (W : Weight.Idx → EReal) (G : Gain.Idx → EReal) (X : Rows.Idx → EReal) (P : Rows.Idx → EReal)

/-- The cotangent of the normalised row `r`, at column `n`. -/
def ct (r : Fin 16384) (n : Fin 1024) : EReal := ∑ k : Fin 5632, D (ix2 r k) * W (ix2 n k)

/-- The row's gradient at column `i`: `d` comes past the normalisation, `y` is the normalised row's cotangent, `g` the gain. -/
def gradRow {n : ℕ} (d : EReal) (x y g : Fin n → EReal) (i : Fin n) : EReal :=
  d + Ideal.rsqrt (meanSq x) * (y i * g i - x i * Ideal.rsqrt (meanSq x)
    * Ideal.div (∑ j, y j * g j * (x j * Ideal.rsqrt (meanSq x))) (Ideal.ofBits FTy.f32 1149239296#32))

/-- The gradient of the rows. -/
def gradX (r : Fin 16384) (n : Fin 1024) : EReal :=
  gradRow (P (ix2 r n)) (fun j => X (ix2 r j)) (ct D W r) (fun j => G (ix2 0 j)) n

/-- The gradient of the gain. -/
def gradG (n : Fin 1024) : EReal := ∑ r : Fin 16384, ct D W r n * (X (ix2 r n) * Ideal.rsqrt (meanSq fun j => X (ix2 r j)))

/-- The arguments are real numbers throughout; what comes past the normalisation may be anything. -/
def Finite : Prop := (∀ i, IsReal (D i)) ∧ (∀ i, IsReal (W i)) ∧ (∀ i, IsReal (G i)) ∧ ∀ i, IsReal (X i)

end Cert.NormSum

namespace Cert.NormKernel

open Cert.NormGradIdeal Cert.NormGradIdeal.Gen Cert.NormSum Cert.Reals Idealize.ShloMosaic Idealize.ShloMosaic.TcCoe

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The five arguments, on device `c`. -/
abbrev cts (c : Dev nD) : Cts.Idx → EReal := m ((c.tc : Thread nD τ).loc main_arg0)
abbrev ws (c : Dev nD) : Weight.Idx → EReal := m ((c.tc : Thread nD τ).loc main_arg1)
abbrev gain (c : Dev nD) : Gain.Idx → EReal := m ((c.tc : Thread nD τ).loc main_arg2)
abbrev rows (c : Dev nD) : Rows.Idx → EReal := m ((c.tc : Thread nD τ).loc main_arg3)
abbrev past (c : Dev nD) : Rows.Idx → EReal := m ((c.tc : Thread nD τ).loc main_arg4)

/-- The precondition's meaning. -/
theorem finite (h : Cert.Pre_NormGradIdeal_norm_finite m) (c : Dev nD) : Finite (cts m c) (ws m c) (gain m c) (rows m c) := by
  have e := congrFun (h c) (fun a => a.elim0)
  revert e
  pointwise [Cert.Pre_norm_finite.fn, Cert.Pre_norm_finite.fn_part1]
  intro e
  obtain ⟨e, e3⟩ := both_one _ _ e
  obtain ⟨e, e2⟩ := both_one _ _ e
  obtain ⟨e0, e1⟩ := both_one _ _ e
  exact ⟨fun i => by have := isReal_of_test (all_one _ e0 (i 0, i 1)); rwa [← eq_ix2 i] at this,
    fun i => by have := isReal_of_test (all_one _ e1 (i 0, i 1)); rwa [← eq_ix2 i] at this,
    fun i => by have := isReal_of_test (all_one _ e2 (i 0, i 1)); rwa [← eq_ix2 i] at this,
    fun i => by have := isReal_of_test (all_one _ e3 (i 0, i 1)); rwa [← eq_ix2 i] at this⟩

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 5632) :
    (iblk m c 0 t : Vec Ideal S512x5632 .bf16) (ix2 r k) = cts m c (ix2 (row t r) k) := by
  blk_point [iblk, V, idx0 t, row]

/-- What the host hands the kernel as the weight: the weight, transposed. -/
theorem entry1 (c : Dev nD) : (V m c main_v0 : (⟨2, ![5632, 1024]⟩ : Shape).Idx → EReal) = fun y => ws m c (ix2 (y 1) (y 0)) := by
  funext y
  entry_read
  pointwise

theorem block1 (c : Dev nD) (t : Fin cfg0.N) (k : Fin 5632) (n : Fin 1024) :
    (iblk m c 1 t : Vec Ideal S5632x1024 .bf16) (ix2 k n) = ws m c (ix2 n k) := by
  have e : (win0_1.blk t).view.emb (ix2 k n) = ix2 k n := by
    blk_ext [idx1 t]
  exact (congrArg (V m c main_v0 : (⟨2, ![5632, 1024]⟩ : Shape).Idx → EReal) e).trans (congrFun (entry1 m c) _)

theorem block2 (c : Dev nD) (t : Fin cfg0.N) (n : Fin 1024) : (iblk m c 2 t : Vec Ideal S1x1024 .f32) (ix2 0 n) = gain m c (ix2 0 n) := by
  blk_point [iblk, V, idx2 t]

theorem block3 (c : Dev nD) (t : Fin cfg0.N) (r : Fin 512) (n : Fin 1024) :
    (iblk m c 3 t : Vec Ideal S512x1024 .f32) (ix2 r n) = rows m c (ix2 (row t r) n) := by
  blk_point [iblk, V, idx3 t, row]

theorem block4 (c : Dev nD) (t : Fin cfg0.N) (r : Fin 512) (n : Fin 1024) :
    (iblk m c 4 t : Vec Ideal S512x1024 .f32) (ix2 r n) = past m c (ix2 (row t r) n) := by
  blk_point [iblk, V, idx4 t, row]

/-- The product of two blocks. -/
abbrev prod (d : Vec Ideal S512x5632 .bf16) (w : Vec Ideal S5632x1024 .bf16) (r : Fin 512) (n : Fin 1024) : EReal :=
  ∑ k : Fin 5632, d (ix2 r k) * w (ix2 k n)

/-- The stores in terms of the blocks: the rows' gradient, and the gain's accumulated over the rows of a block. -/
theorem pay1_eq (d : Vec Ideal S512x5632 .bf16) (w : Vec Ideal S5632x1024 .bf16) (g : Vec Ideal S1x1024 .f32) (x p : Vec Ideal S512x1024 .f32)
    (r : Fin 512) (n : Fin 1024) :
    k0_pay1 (k0_pay4 x) (k0_pay5 x) p (k0_pay7 d w g) (k0_pay8 d w x g) (ix2 r n)
      = gradRow (p (ix2 r n)) (fun j => x (ix2 r j)) (prod d w r) (fun j => g (ix2 0 j)) n := by
  pointwise [k0_pay1, k0_pay8, k0_pay7, k0_pay5, k0_pay4, k0_pay3]
  rfl
theorem pay6_eq (d : Vec Ideal S512x5632 .bf16) (w : Vec Ideal S5632x1024 .bf16) (x : Vec Ideal S512x1024 .f32) (prev : Vec Ideal S1x1024 .f32)
    (n : Fin 1024) :
    k0_pay6 d w x prev (ix2 0 n)
      = prev (ix2 0 n) + ∑ r : Fin 512, prod d w r n * (x (ix2 r n) * Ideal.rsqrt (meanSq fun j => x (ix2 r j))) := by
  pointwise [k0_pay6, k0_pay5, k0_pay4, k0_pay3]
  rfl

/-- A point's product is its rows' cotangent. -/
theorem ct_block (c : Dev nD) (t : Fin cfg0.N) (r : Fin 512) (n : Fin 1024) :
    prod (iblk m c 0 t) (iblk m c 1 t) r n = ct (cts m c) (ws m c) (row t r) n :=
  Finset.sum_congr rfl fun k _ => congrArg₂ (· * ·) (block0 m c t r k) (block1 m c t k n)

/-- What a point leaves in the buffer of the rows' gradient. -/
theorem out5 (c : Dev nD) (t : Fin cfg0.N) (r : Fin 512) (n : Fin 1024) :
    (outsAt0 m c t.val t.isLt).1 (ix2 r n) = gradX (cts m c) (ws m c) (gain m c) (rows m c) (past m c) (row t r) n := by
  have e : k0_pay1 (k0_pay4 (iblk m c 3 t)) (k0_pay5 (iblk m c 3 t)) (iblk m c 4 t) (k0_pay7 (iblk m c 0 t) (iblk m c 1 t) (iblk m c 2 t))
      (k0_pay8 (iblk m c 0 t) (iblk m c 1 t) (iblk m c 3 t) (iblk m c 2 t)) (ix2 r n)
      = gradX (cts m c) (ws m c) (gain m c) (rows m c) (past m c) (row t r) n := by
    refine (pay1_eq _ _ _ _ _ r n).trans ?_
    unfold gradX
    rw [block4, funext fun j => block3 m c t r j, show prod (iblk m c 0 t) (iblk m c 1 t) r = ct (cts m c) (ws m c) (row t r) from funext fun j => ct_block m c t r j, funext fun j => block2 m c t j]
  by_cases h : t.val % 32 = 0
  · rw [outsAt0_A m c t h]
    frame_out
    exact e
  · rw [outsAt0_B m c t h]
    frame_out
    exact e

/-- The kernel's first output is the rows' gradient. -/
theorem final5 (c : Dev nD) :
    (dats m 0 c).arrAt 5 cfg0.N = fun y : Rows.Idx => gradX (cts m c) (ws m c) (gain m c) (rows m c) (past m c) (y 0) (y 1) := by
  refine (dats m 0 c).arrAt_eq_of_covers 5 _ (by decide +kernel) fun t hf y => ?_
  blk_simp
  rw [after0_5]
  refine (congrArg (outsAt0 m c t.val t.isLt).1 (eq_ix2 y)).trans ((out5 m c t (y 0) (y 1)).trans ?_)
  have e : (win0_5.blk t).view.emb y = ix2 (row t (y 0)) (y 1) := by
    blk_ext [idx5 t, row]
  exact (congrArg (fun z : Rows.Idx => gradX (cts m c) (ws m c) (gain m c) (rows m c) (past m c) (z 0) (z 1)) e).symm

/-- The rows of the points of the one run. -/
theorem run_row (t : Fin cfg0.N) (s : Fin 32) (h : 32 * (t.val / 32) + s.val < cfg0.N) (r : Fin 512) (hl : s.val * 512 + r.val < 16384) :
    row ⟨32 * (t.val / 32) + s.val, h⟩ r = ⟨s.val * 512 + r.val, hl⟩ :=
  Fin.ext (by have : t.val < 32 := t.isLt; show (32 * (t.val / 32) + s.val) * 512 + r.val = s.val * 512 + r.val; omega)

/-- A point's rows' share of the gain's gradient. -/
def part (c : Dev nD) (t : Fin cfg0.N) (y : Gain.Idx) : EReal :=
  ∑ r : Fin 512, ct (cts m c) (ws m c) (row t r) (y 1)
    * (rows m c (ix2 (row t r) (y 1)) * Ideal.rsqrt (meanSq fun j => rows m c (ix2 (row t r) j)))

theorem at_gain (y : Gain.Idx) : y = ix2 0 (y 1) := by
  have h : y 0 = (0 : Fin 1) := Subsingleton.elim (α := Fin 1) _ _
  exact (eq_ix2 y).trans (congrArg (fun a : Fin 1 => ix2 a (y 1)) h)

theorem pay6 (c : Dev nD) (t : Fin cfg0.N) (prev : Vec Ideal S1x1024 .f32) (y : Gain.Idx) :
    k0_pay6 (iblk m c 0 t) (iblk m c 1 t) (iblk m c 3 t) prev y = prev y + part m c t y := by
  rw [at_gain y]
  refine (pay6_eq _ _ _ _ _).trans (congrArg _ (Finset.sum_congr rfl fun r _ => ?_))
  exact congrArg₂ (· * ·) (ct_block m c t r _) (congrArg₂ (· * ·) (block3 m c t r _) (by rw [funext fun j => block3 m c t r j]))

theorem pay2 (y : Gain.Idx) : (k0_pay2 (F := Ideal)) y = 0 := by
  pointwise [k0_pay2]

/-- The kernel's second output is the gain's gradient. -/
theorem final6 (c : Dev nD) :
    (dats m 0 c).arrAt 6 cfg0.N = fun y : Gain.Idx => gradG (cts m c) (ws m c) (rows m c) (y 1) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => (0 : EReal)) (part m c)
    (fun t h j => by rw [outsAt0_A m c t h]; frame_out; rw [pay6, pay2])
    (fun t h j => by rw [outsAt0_B m c t h]; frame_out; rw [pay6]) t ((flush0_6 t).mp hf) _, zero_add]
  refine Eq.trans ?_ (congrArg (fun z : Gain.Idx => gradG (cts m c) (ws m c) (rows m c) (z 1)) (?_ : ix2 (y 0) (y 1) = _))
  · unfold part gradG
    refine Fin.sum_mul_add_congr fun s k hl => ?_
    exact congrArg (fun a : Fin 16384 => ct (cts m c) (ws m c) a (y 1) * (rows m c (ix2 a (y 1)) * Ideal.rsqrt (meanSq fun j => rows m c (ix2 a j))))
      (run_row t s _ k hl)
  · blk_ext [idx6 t]

end Cert.NormKernel

namespace Cert.NormReference

open Cert.NormGradRefIdeal Cert.NormSum Cert.Reals Idealize.ShloMosaic Idealize.ShloMosaic.TcCoe Idealize.SL.Sem

variable (m : (ℓ : Loc nD τ sig) → Buf (Elt Ideal) ℓ)

abbrev cts (c : Dev nD) : Cts.Idx → EReal := m (c.tc.loc main_arg0)
abbrev ws (c : Dev nD) : Weight.Idx → EReal := m (c.tc.loc main_arg1)
abbrev gain (c : Dev nD) : Gain.Idx → EReal := m (c.tc.loc main_arg2)
abbrev rows (c : Dev nD) : Rows.Idx → EReal := m (c.tc.loc main_arg3)
abbrev past (c : Dev nD) : Rows.Idx → EReal := m (c.tc.loc main_arg4)

set_option maxHeartbeats 4000000 in
/-- The first result, where the arguments are real numbers. -/
theorem result (c : Dev nD) (hr : Finite (cts m c) (ws m c) (gain m c) (rows m c)) :
    Cert.NormGradRefIdeal.Value.res_main_v38 m c
      = (fun y : Rows.Idx => gradX (cts m c) (ws m c) (gain m c) (rows m c) (past m c) (y 0) (y 1)) := by
  funext y
  obtain ⟨r, n, rfl⟩ : ∃ (r : Fin 16384) (n : Fin 1024), y = ix2 r n := ⟨y 0, y 1, eq_ix2 y⟩
  pointwise [Cert.NormGradRefIdeal.Value.res_main_v38]
  refine Eq.trans ?_ (norm_grad_row (past m c (ix2 r n)) (fun j => rows m c (ix2 r j)) (ct (cts m c) (ws m c) r) (fun j => gain m c (ix2 0 j))
    (fun _ => hr.2.2.2 _) (fun _ => .sum _ _ fun _ => .mul (hr.1 _) (hr.2.1 _)) (fun _ => hr.2.2.1 _) n)
  simp only [Fin.sum_univ_one]
  rfl

set_option maxHeartbeats 4000000 in
/-- Every execution of the reference ends with its results those of the arguments, which it leaves unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v38) = Cert.NormGradRefIdeal.Value.res_main_v38 m c
      ∧ r.2.mem ((c.tc : Thread nD τ).loc main_v21) = (fun y : Gain.Idx => gradG (cts m c) (ws m c) (rows m c) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1, (h c).2.1.trans ?_, (h c).2.2⟩) (Cert.NormGradRefIdeal.Value.run m ρ)
  funext y
  pointwise
  exact Finset.sum_congr rfl fun r _ => mul_comm _ _

end Cert.NormReference

namespace Cert.Norm

open Idealize.ShloMosaic Idealize.ShloMosaic.TcCoe

/-- The reference's run ends with its arguments unchanged and every counter at zero: it has none. -/
theorem reference_frame : Cert.quiescent_NormGradRefIdeal := fun m g _ =>
  θ_run_mono (Cert.NormReference.run m g) fun r h => ⟨fun c => (h c).2.2, sem_eq_zero_of_no_sems rfl r.2⟩
theorem reference_frame_pre : Cert.quiescent_NormGradRefIdeal_pre_norm_finite := fun m g _ =>
  θ_run_mono (Cert.NormReference.run m g) fun r h => ⟨fun c => (h c).2.2, sem_eq_zero_of_no_sems rfl r.2⟩

/-- The kernel's outputs are the reference's results, over the extended reals, where the arguments are real numbers. -/
theorem algebraic : Cert.algebraic_NormGradIdeal_NormGradRefIdeal_pre_norm_finite := by
  pair_intro
  · run_from Cert.NormGradIdeal.Gen.run_main m g
  · refine θ_run_mono (Cert.NormReference.run m' g') fun r h c => ⟨(h c).1.trans ?_, (h c).2.1.trans ?_, (h c).2.2⟩
    all_goals
      clear h
      obtain ⟨ed, ew, eg, ex, ep⟩ : Cert.NormReference.cts m' c = Cert.NormKernel.cts m c ∧ Cert.NormReference.ws m' c = Cert.NormKernel.ws m c
        ∧ Cert.NormReference.gain m' c = Cert.NormKernel.gain m c ∧ Cert.NormReference.rows m' c = Cert.NormKernel.rows m c
        ∧ Cert.NormReference.past m' c = Cert.NormKernel.past m c := hagree c
    · refine (Cert.NormReference.result m' c (by rw [ed, ew, eg, ex]; exact Cert.NormKernel.finite m hpre c)).trans ?_
      refine Eq.trans ?_ (Cert.NormKernel.final5 m c).symm
      rw [ed, ew, eg, ex, ep]
    · refine Eq.trans ?_ (Cert.NormKernel.final6 m c).symm
      rw [ed, ew, ex]

end Cert.Norm

end
-- ==== Proof.Down.lean ====
/- The gradient of the down-projection's weight: the activations, transposed, times the output's cotangent.  The kernel sums
   it over runs of 512 rows; the reference is one product. -/
module

public import proofs.«01_k».proof.Defs
public import proofs.«01_k».proof.Proof.Gen.DownGradIdeal.Frame
public import proofs.«01_k».proof.Proof.Gen.DownGradIdeal.Value
public import proofs.«01_k».proof.Proof.Gen.DownGradRefIdeal.Run
public import Idealize.ShloMosaic.Lib.Pipeline.ValueKit
public import Idealize.ShloMosaic.Lib.Pointwise

@[expose] public section

set_option maxRecDepth 16384

noncomputable section

namespace Cert.DownKernel

open Cert.DownGradIdeal Cert.DownGradIdeal.Gen Idealize.ShloMosaic Idealize.ShloMosaic.TcCoe

/-- The shapes of the activations, of the cotangent and of the weight. -/
abbrev Acts : Shape := ⟨2, ![16384, 2816]⟩
abbrev Outs : Shape := ⟨2, ![16384, 1024]⟩
abbrev Weight : Shape := ⟨2, ![2816, 1024]⟩

/-- The weight's gradient at row `k`, column `n`. -/
def gradDown (A : Acts.Idx → EReal) (D : Outs.Idx → EReal) (k : Fin 2816) (n : Fin 1024) : EReal :=
  ∑ r : Fin 16384, A (ix2 r k) * D (ix2 r n)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The two arguments, on device `c`. -/
abbrev acts (c : Dev nD) : Acts.Idx → EReal := m ((c.tc : Thread nD τ).loc main_arg0)
abbrev cts (c : Dev nD) : Outs.Idx → EReal := m ((c.tc : Thread nD τ).loc main_arg1)

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 2816) :
    (iblk m c 0 t : Vec Ideal S512x2816 .bf16) (ix2 r k) = acts m c (ix2 (row t r) k) := by
  blk_point [iblk, V, idx0 t, row]

theorem block1 (c : Dev nD) (t : Fin cfg0.N) (r : Fin 512) (n : Fin 1024) :
    (iblk m c 1 t : Vec Ideal S512x1024 .f32) (ix2 r n) = cts m c (ix2 (row t r) n) := by
  blk_point [iblk, V, idx1 t, row]

/-- The rows of the points of the one run. -/
theorem run_row (t : Fin cfg0.N) (s : Fin 32) (h : 32 * (t.val / 32) + s.val < cfg0.N) (r : Fin 512) (hl : s.val * 512 + r.val < 16384) :
    row ⟨32 * (t.val / 32) + s.val, h⟩ r = ⟨s.val * 512 + r.val, hl⟩ :=
  Fin.ext (by have : t.val < 32 := t.isLt; show (32 * (t.val / 32) + s.val) * 512 + r.val = s.val * 512 + r.val; omega)

/-- The product of a point's blocks: its rows' share of the gradient. -/
def part (c : Dev nD) (t : Fin cfg0.N) (y : Weight.Idx) : EReal :=
  ∑ r : Fin 512, acts m c (ix2 (row t r) (y 0)) * cts m c (ix2 (row t r) (y 1))

/-- What a point adds to the block it accumulates. -/
theorem pay2 (c : Dev nD) (t : Fin cfg0.N) (prev : Vec Ideal S2816x1024 .f32) (y : Weight.Idx) :
    k0_pay2 prev (iblk m c 0 t) (iblk m c 1 t) y = prev y + part m c t y := by
  pointwise [k0_pay2]
  exact congrArg _ (Finset.sum_congr rfl fun r _ => congrArg₂ (· * ·) (block0 m c t r (y 0)) (block1 m c t r (y 1)))

theorem pay1 (y : Weight.Idx) : (k0_pay1 (F := Ideal)) y = 0 := by
  pointwise [k0_pay1]

/-- The kernel's output is the weight's gradient. -/
theorem final2 (c : Dev nD) : (dats m 0 c).arrAt 2 cfg0.N = fun y : Weight.Idx => gradDown (acts m c) (cts m c) (y 0) (y 1) := by
  refine (dats m 0 c).arrAt_eq_of_covers 2 _ (by decide +kernel) fun t hf y => ?_
  blk_simp
  rw [after0_2, Pipeline.eq_sum_fin_of_reset_step_apply_of_flush (fun n h => outsAt0 m c n h) 32 (fun _ => (0 : EReal)) (part m c)
    (fun t h j => by rw [outsAt0_A m c t h]; frame_out; rw [pay2, pay1])
    (fun t h j => by rw [outsAt0_B m c t h]; frame_out; rw [pay2]) t ((flush0_2 t).mp hf) _, zero_add]
  refine Eq.trans ?_ (congrArg (fun z : Weight.Idx => gradDown (acts m c) (cts m c) (z 0) (z 1)) (?_ : ix2 (y 0) (y 1) = _))
  · unfold part gradDown
    refine Fin.sum_mul_add_congr fun s k hl => ?_
    exact congrArg (fun a : Fin 16384 => acts m c (ix2 a (y 0)) * cts m c (ix2 a (y 1))) (run_row t s _ k hl)
  · blk_ext [idx2 t]

end Cert.DownKernel

namespace Cert.DownReference

open Cert.DownGradRefIdeal Cert.DownKernel Idealize.ShloMosaic Idealize.ShloMosaic.TcCoe Idealize.SL.Sem

variable (m : (ℓ : Loc nD τ sig) → Buf (Elt Ideal) ℓ)

abbrev acts (c : Dev nD) : Acts.Idx → EReal := m (c.tc.loc main_arg0)
abbrev cts (c : Dev nD) : Outs.Idx → EReal := m (c.tc.loc main_arg1)

/-- Every execution of the reference ends with the weight's gradient in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = (fun y : Weight.Idx => gradDown (acts m c) (cts m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.DownGradRefIdeal.Value.run m ρ)
  funext y
  pointwise
  exact Finset.sum_congr rfl fun r _ => mul_comm _ _

end Cert.DownReference

namespace Cert.Down

open Idealize.ShloMosaic Idealize.ShloMosaic.TcCoe

/-- The reference's run ends with its arguments unchanged and every counter at zero: it has none. -/
theorem reference_frame : Cert.quiescent_DownGradRefIdeal := fun m g _ =>
  θ_run_mono (Cert.DownReference.run m g) fun r h => ⟨fun c => (h c).2, sem_eq_zero_of_no_sems rfl r.2⟩

/-- The kernel's output is the reference's result, over the extended reals. -/
theorem algebraic : Cert.algebraic_DownGradIdeal_DownGradRefIdeal := by
  pair_intro
  · run_from Cert.DownGradIdeal.Gen.run_main m g
  · refine θ_run_mono (Cert.DownReference.run m' g') fun r h c => ⟨(h c).1.trans ?_, (h c).2⟩
    clear h
    obtain ⟨ea, ed⟩ : Cert.DownReference.acts m' c = Cert.DownKernel.acts m c ∧ Cert.DownReference.cts m' c = Cert.DownKernel.cts m c := hagree c
    refine Eq.trans ?_ (Cert.DownKernel.final2 m c).symm
    rw [ea, ed]

end Cert.Down

end
-- ==== Proof.UpSum.lean ====
/- The up-projection, the convolution of its columns with the two rows before each, and the gated activation.  The kernel's columns
   come in tiles of 1408, a tile of gates before the tile of the values they multiply; the weights' come gates first. -/
module

public import proofs.«01_k».proof.Defs
public import Idealize.ShloMosaic.Lib.Pipeline.ValueKit
public import Idealize.ShloMosaic.Lib.Pointwise

@[expose] public section

set_option maxRecDepth 16384

noncomputable section

namespace Cert.UpConvSum

open Idealize.ShloMosaic

/-- The shapes of the rows, of the up-projection, of the convolution's coefficients and its constant, and of the two results. -/
abbrev Ins : Shape := ⟨2, ![16384, 1024]⟩
abbrev Weight : Shape := ⟨2, ![1024, 5632]⟩
abbrev Taps : Shape := ⟨2, ![3, 5632]⟩
abbrev Bias : Shape := ⟨2, ![1, 5632]⟩
abbrev Pairs : Shape := ⟨2, ![16384, 5632]⟩
abbrev Acts : Shape := ⟨2, ![16384, 2816]⟩

variable (X : Ins.Idx → EReal) (W : Weight.Idx → EReal) (T : Taps.Idx → EReal) (B : Bias.Idx → EReal)

/-- The weights' column that is column `n` in tiles. -/
def src (n : Fin 5632) : Fin 5632 :=
  if n.val % 2816 < 1408 then ⟨n.val / 2816 * 1408 + n.val % 1408, by omega⟩ else ⟨2816 + n.val / 2816 * 1408 + n.val % 1408, by omega⟩

theorem src_val (n : Fin 5632) : (src n).val
    = if n.val < 1408 then n.val else if n.val < 2816 then n.val + 1408 else if n.val < 4224 then n.val - 1408 else n.val := by
  unfold src
  split <;> (repeat' split) <;> simp only [] <;> omega

/-- The weights' column, tile by tile. -/
theorem src0 (n : Fin 5632) (h : n.val < 1408) : (src n).val = n.val := by
  rw [src_val, if_pos h]
theorem src1 (n : Fin 5632) (g : ¬n.val < 1408) (h : n.val - 1408 < 1408) : (src n).val = 2816 + (n.val - 1408) := by
  rw [src_val, if_neg g, if_pos (by omega)]
  omega
theorem src2 (n : Fin 5632) (g : ¬n.val - 1408 < 1408) (h : n.val - 1408 - 1408 < 1408) : (src n).val = 1408 + (n.val - 1408 - 1408) := by
  rw [src_val, if_neg (by omega), if_neg (by omega), if_pos (by omega)]
  omega
theorem src3 (n : Fin 5632) (g : ¬n.val - 1408 - 1408 < 1408) : (src n).val = 4224 + (n.val - 1408 - 1408 - 1408) := by
  rw [src_val, if_neg (by omega), if_neg (by omega), if_neg (by omega)]
  omega

/-- The up-projection at row `r`, weights' column `n`, and `s` rows before: zero before the first. -/
def up (r : Fin 16384) (n : Fin 5632) : EReal := ∑ k : Fin 1024, X (ix2 r k) * W (ix2 k n)
def behind (s : ℕ) (r : Fin 16384) (n : Fin 5632) : EReal :=
  if s ≤ r.val then up X W ⟨r.val - s, by omega⟩ n else 0

/-- The convolution. -/
def conv (r : Fin 16384) (n : Fin 5632) : EReal :=
  up X W r n * T (ix2 2 n) + behind X W 1 r n * T (ix2 1 n) + behind X W 2 r n * T (ix2 0 n) + B (ix2 0 n)

/-- The convolution as the reference sums it. -/
theorem conv_of (r : Fin 16384) {n n' : Fin 5632} (h : n.val = n'.val) :
    (if h : r.val < 2 then 0 else ∑ k : Fin 1024, X (ix2 ⟨r.val - 2, by omega⟩ k) * W (ix2 k n)) * T (ix2 0 n)
        + (if h : 1 + r.val < 2 then 0 else ∑ k : Fin 1024, X (ix2 ⟨1 + r.val - 2, by omega⟩ k) * W (ix2 k n)) * T (ix2 1 n)
        + (∑ k : Fin 1024, X (ix2 r k) * W (ix2 k n)) * T (ix2 2 n) + B (ix2 0 n)
      = conv X W T B r n' := by
  obtain rfl : n = n' := Fin.ext h
  have h2 : (if h : r.val < 2 then 0 else ∑ k : Fin 1024, X (ix2 ⟨r.val - 2, by omega⟩ k) * W (ix2 k n)) = behind X W 2 r n := by
    unfold behind
    by_cases h : r.val < 2
    · rw [dif_pos h, if_neg (by omega)]
    · rw [dif_neg h, if_pos (by omega)]
      rfl
  have h1 : (if h : 1 + r.val < 2 then 0 else ∑ k : Fin 1024, X (ix2 ⟨1 + r.val - 2, by omega⟩ k) * W (ix2 k n)) = behind X W 1 r n := by
    unfold behind
    by_cases h : 1 + r.val < 2
    · rw [dif_pos h, if_neg (by omega)]
    · rw [dif_neg h, if_pos (by omega)]
      exact congrArg (fun a => up X W a n) (Fin.ext (by show 1 + r.val - 2 = r.val - 1; omega))
  rw [h1, h2, conv, up]
  exact congrArg (· + _) (by rw [add_comm (behind X W 2 r n * _), add_assoc, add_comm (behind X W 2 r n * _), ← add_assoc, add_comm (behind X W 1 r n * _)])

/-- The activation of a gate `g` and a value `v`. -/
def gated (g v : EReal) : EReal := g * Ideal.div 1 (1 + Ideal.exp (-g)) * v

/-- The gated activation at row `r`, column `p`. -/
def act (r : Fin 16384) (p : Fin 2816) : EReal := gated (conv X W T B r ⟨p.val, by omega⟩) (conv X W T B r ⟨2816 + p.val, by omega⟩)

end Cert.UpConvSum

end
-- ==== Proof.UpKernel.lean ====
/- The kernel's three results, block by block. -/
module

public import proofs.«01_k».proof.Proof.UpSum
public import proofs.«01_k».proof.Proof.Gen.UpConvIdeal.Frame
public import proofs.«01_k».proof.Proof.Gen.UpConvIdeal.Value

@[expose] public section

set_option maxRecDepth 16384

noncomputable section

namespace Cert.UpConvKernel

open Cert.UpConvIdeal Cert.UpConvIdeal.Gen Cert.UpConvSum Idealize.ShloMosaic Idealize.ShloMosaic.TcCoe

variable (m : (ℓ : Loc nD τ sig) → Buf (Elt Ideal) ℓ)

theorem idx0 : ∀ t : Fin cfg0.N, win0_0.index t = ![t.val % 32, 0] := (by decide +kernel : ∀ t : Fin grid0.N, _)
theorem idx1 : ∀ t : Fin cfg0.N, win0_1.index t = ![0, t.val / 32] := (by decide +kernel : ∀ t : Fin grid0.N, _)
theorem idx2 : ∀ t : Fin cfg0.N, win0_2.index t = ![0, t.val / 32] := (by decide +kernel : ∀ t : Fin grid0.N, _)
theorem idx3 : ∀ t : Fin cfg0.N, win0_3.index t = ![0, t.val / 32] := (by decide +kernel : ∀ t : Fin grid0.N, _)
theorem idx4 : ∀ t : Fin cfg0.N, win0_4.index t = ![t.val % 32, t.val / 32] := (by decide +kernel : ∀ t : Fin grid0.N, _)
theorem idx5 : ∀ t : Fin cfg0.N, win0_5.index t = ![t.val % 32, t.val / 32] := (by decide +kernel : ∀ t : Fin grid0.N, _)
theorem idx6 : ∀ t : Fin cfg0.N, win0_6.index t = ![t.val % 32, t.val / 32] := (by decide +kernel : ∀ t : Fin grid0.N, _)

/-- The four arguments, on device `c`. -/
abbrev xs (c : Dev nD) : Ins.Idx → EReal := m ((c.tc : Thread nD τ).loc main_arg0)
abbrev ws (c : Dev nD) : Weight.Idx → EReal := m ((c.tc : Thread nD τ).loc main_arg1)
abbrev taps (c : Dev nD) : Taps.Idx → EReal := m ((c.tc : Thread nD τ).loc main_arg2)
abbrev bias (c : Dev nD) : Bias.Idx → EReal := m ((c.tc : Thread nD τ).loc main_arg3)

/-- A point's rows and columns in the whole arrays. -/
def row (t : Fin cfg0.N) (r : Fin 512) : Fin 16384 := ⟨t.val % 32 * 512 + r.val, by omega⟩
def col (t : Fin cfg0.N) (n : Fin 2816) : Fin 5632 := ⟨t.val / 32 * 2816 + n.val, by have : t.val < 64 := t.isLt; omega⟩

theorem block0 (c : Dev nD) (t : Fin cfg0.N) (r : Fin 512) (k : Fin 1024) :
    (iblk m c 0 t : Vec Ideal S512x1024 .bf16) (ix2 r k) = xs m c (ix2 (row t r) k) := by
  blk_point [iblk, V, idx0 t, row]

/-- Columns in tiles, for 1024 rows. -/
abbrev tiled1 (D : Vec Ideal S1024x5632 .bf16) : Vec Ideal S1024x5632 .bf16 :=
  concatenate S1024x5632 1 [⟨S1024x1408, (extractStridedSlice S1024x1408 ![0, 0] D slices_S1024x5632_S1024x1408_0_0 : Vec Ideal S1024x1408 .bf16)⟩, ⟨S1024x1408, (extractStridedSlice S1024x1408 ![0, 2816] D slices_S1024x5632_S1024x1408_0_2816 : Vec Ideal S1024x1408 .bf16)⟩, ⟨S1024x1408, (extractStridedSlice S1024x1408 ![0, 1408] D slices_S1024x5632_S1024x1408_0_1408 : Vec Ideal S1024x1408 .bf16)⟩, ⟨S1024x1408, (extractStridedSlice S1024x1408 ![0, 4224] D slices_S1024x5632_S1024x1408_0_4224 : Vec Ideal S1024x1408 .bf16)⟩] concatenates_S1024x1408_S1024x1408_S1024x1408_S1024x1408_S1024x5632_d1

theorem tiled1_eq (D : Vec Ideal S1024x5632 .bf16) (r : Fin 1024) (n : Fin 5632) : tiled1 D (ix2 r n) = D (ix2 r (src n)) := by
  pointwise [tiled1]
  by_cases h0 : n.val < 1408
  · rw [dif_pos h0]
    exact congrArg (fun a => D (ix2 r a)) (Fin.ext (src0 n h0).symm)
  rw [dif_neg h0]
  by_cases h1 : n.val - 1408 < 1408
  · rw [dif_pos h1]
    exact congrArg (fun a => D (ix2 r a)) (Fin.ext (src1 n h0 h1).symm)
  rw [dif_neg h1]
  by_cases h2 : n.val - 1408 - 1408 < 1408
  · rw [dif_pos h2]
    exact congrArg (fun a => D (ix2 r a)) (Fin.ext (src2 n h1 h2).symm)
  · rw [dif_neg h2]
    exact congrArg (fun a => D (ix2 r a)) (Fin.ext (src3 n h2).symm)

/-- What the host hands the kernel in window 1. -/
theorem entry1 (c : Dev nD) : (V m c main_v4 : Weight.Idx → EReal) = tiled1 (ws m c) := rfl

theorem block1 (c : Dev nD) (t : Fin cfg0.N) (k : Fin 1024) (n : Fin 2816) :
    (iblk m c 1 t : Vec Ideal S1024x2816 .bf16) (ix2 k n) = ws m c (ix2 k (src (col t n))) := by
  have e : (win0_1.blk t).view.emb (ix2 k n) = ix2 k (col t n) := by
    blk_ext [idx1 t, col]
  exact (congrArg (V m c main_v4 : Weight.Idx → EReal) e).trans ((congrFun (entry1 m c) _).trans (tiled1_eq (ws m c) k (col t n)))

/-- Columns in tiles, for 3 rows. -/
abbrev tiled2 (D : Vec Ideal S3x5632 .f32) : Vec Ideal S3x5632 .f32 :=
  concatenate S3x5632 1 [⟨S3x1408, (extractStridedSlice S3x1408 ![0, 0] D slices_S3x5632_S3x1408_0_0 : Vec Ideal S3x1408 .f32)⟩, ⟨S3x1408, (extractStridedSlice S3x1408 ![0, 2816] D slices_S3x5632_S3x1408_0_2816 : Vec Ideal S3x1408 .f32)⟩, ⟨S3x1408, (extractStridedSlice S3x1408 ![0, 1408] D slices_S3x5632_S3x1408_0_1408 : Vec Ideal S3x1408 .f32)⟩, ⟨S3x1408, (extractStridedSlice S3x1408 ![0, 4224] D slices_S3x5632_S3x1408_0_4224 : Vec Ideal S3x1408 .f32)⟩] concatenates_S3x1408_S3x1408_S3x1408_S3x1408_S3x5632_d1

theorem tiled2_eq (D : Vec Ideal S3x5632 .f32) (r : Fin 3) (n : Fin 5632) : tiled2 D (ix2 r n) = D (ix2 r (src n)) := by
  pointwise [tiled2]
  by_cases h0 : n.val < 1408
  · rw [dif_pos h0]
    exact congrArg (fun a => D (ix2 r a)) (Fin.ext (src0 n h0).symm)
  rw [dif_neg h0]
  by_cases h1 : n.val - 1408 < 1408
  · rw [dif_pos h1]
    exact congrArg (fun a => D (ix2 r a)) (Fin.ext (src1 n h0 h1).symm)
  rw [dif_neg h1]
  by_cases h2 : n.val - 1408 - 1408 < 1408
  · rw [dif_pos h2]
    exact congrArg (fun a => D (ix2 r a)) (Fin.ext (src2 n h1 h2).symm)
  · rw [dif_neg h2]
    exact congrArg (fun a => D (ix2 r a)) (Fin.ext (src3 n h2).symm)

/-- What the host hands the kernel in window 2. -/
theorem entry2 (c : Dev nD) : (V m c main_v9 : Taps.Idx → EReal) = tiled2 (taps m c) := rfl

theorem block2 (c : Dev nD) (t : Fin cfg0.N) (k : Fin 3) (n : Fin 2816) :
    (iblk m c 2 t : Vec Ideal S3x2816 .f32) (ix2 k n) = taps m c (ix2 k (src (col t n))) := by
  have e : (win0_2.blk t).view.emb (ix2 k n) = ix2 k (col t n) := by
    blk_ext [idx2 t, col]
  exact (congrArg (V m c main_v9 : Taps.Idx → EReal) e).trans ((congrFun (entry2 m c) _).trans (tiled2_eq (taps m c) k (col t n)))

/-- Columns in tiles, for 1 rows. -/
abbrev tiled3 (D : Vec Ideal S1x5632 .f32) : Vec Ideal S1x5632 .f32 :=
  concatenate S1x5632 1 [⟨S1x1408, (extractStridedSlice S1x1408 ![0, 0] D slices_S1x5632_S1x1408_0_0 : Vec Ideal S1x1408 .f32)⟩, ⟨S1x1408, (extractStridedSlice S1x1408 ![0, 2816] D slices_S1x5632_S1x1408_0_2816 : Vec Ideal S1x1408 .f32)⟩, ⟨S1x1408, (extractStridedSlice S1x1408 ![0, 1408] D slices_S1x5632_S1x1408_0_1408 : Vec Ideal S1x1408 .f32)⟩, ⟨S1x1408, (extractStridedSlice S1x1408 ![0, 4224] D slices_S1x5632_S1x1408_0_4224 : Vec Ideal S1x1408 .f32)⟩] concatenates_S1x1408_S1x1408_S1x1408_S1x1408_S1x5632_d1

theorem tiled3_eq (D : Vec Ideal S1x5632 .f32) (r : Fin 1) (n : Fin 5632) : tiled3 D (ix2 r n) = D (ix2 r (src n)) := by
  obtain rfl : r = 0 := Subsingleton.elim _ _
  pointwise [tiled3]
  by_cases h0 : n.val < 1408
  · rw [dif_pos h0]
    exact congrArg (fun a => D (ix2 0 a)) (Fin.ext (src0 n h0).symm)
  rw [dif_neg h0]
  by_cases h1 : n.val - 1408 < 1408
  · rw [dif_pos h1]
    exact congrArg (fun a => D (ix2 0 a)) (Fin.ext (src1 n h0 h1).symm)
  rw [dif_neg h1]
  by_cases h2 : n.val - 1408 - 1408 < 1408
  · rw [dif_pos h2]
    exact congrArg (fun a => D (ix2 0 a)) (Fin.ext (src2 n h1 h2).symm)
  · rw [dif_neg h2]
    exact congrArg (fun a => D (ix2 0 a)) (Fin.ext (src3 n h2).symm)

/-- What the host hands the kernel in window 3. -/
theorem entry3 (c : Dev nD) : (V m c main_v14 : Bias.Idx → EReal) = tiled3 (bias m c) := rfl

theorem block3 (c : Dev nD) (t : Fin cfg0.N) (k : Fin 1) (n : Fin 2816) :
    (iblk m c 3 t : Vec Ideal S1x2816 .f32) (ix2 k n) = bias m c (ix2 k (src (col t n))) := by
  have e : (win0_3.blk t).view.emb (ix2 k n) = ix2 k (col t n) := by
    blk_ext [idx3 t, col]
  exact (congrArg (V m c main_v14 : Bias.Idx → EReal) e).trans ((congrFun (entry3 m c) _).trans (tiled3_eq (bias m c) k (col t n)))

/-- The body's steps, at one entry: the product, its rows one and two before, what is kept, the convolution, the activation. -/
theorem pay5_eq (x : Vec Ideal S512x1024 .bf16) (w : Vec Ideal S1024x2816 .bf16) (r : Fin 512) (n : Fin 2816) :
    k0_pay5 x w (ix2 r n) = ∑ k : Fin 1024, x (ix2 r k) * w (ix2 k n) := by
  pointwise [k0_pay5]

/-- A choice by the number of a row. -/
theorem choose (r : Fin 512) (q : Nat) (hq : q < 512) (a b : EReal) :
    Scalar.select (IntOp.cmpi CmpIPredicate.eq (BitVec.ofNat 32 r.val) (BitVec.ofNat 32 q)) a b = if r.val = q then a else b := by
  by_cases h : r.val = q
  · rw [if_pos h, h]
    simp [IntOp.cmpi, Scalar.select]
  · have e : ¬ BitVec.ofNat 32 r.val = BitVec.ofNat 32 q := fun e => h (by
      have := congrArg BitVec.toNat e
      rw [BitVec.toNat_ofNat, BitVec.toNat_ofNat] at this
      omega)
    rw [if_neg h]
    have f : (BitVec.ofNat 32 r.val == BitVec.ofNat 32 q) = false := beq_false_of_ne e
    simp [IntOp.cmpi, Scalar.select, f]

theorem pay6_eq (x : Vec Ideal S512x1024 .bf16) (w : Vec Ideal S1024x2816 .bf16) (r : Fin 512) (n : Fin 2816) :
    k0_pay6 x w (ix2 r n) = ∑ k : Fin 1024, x (ix2 r k) * w (ix2 k n) := by
  pointwise [k0_pay6]
  exact pay5_eq x w r n

theorem pay4_eq (q : Fin 8) (n : Fin 2816) : k0_pay4 (F := Ideal) (ix2 q n) = (0 : EReal) := by
  pointwise [k0_pay4]

theorem pay7_eq (x : Vec Ideal S512x1024 .bf16) (w : Vec Ideal S1024x2816 .bf16) (p : Vec Ideal S8x2816 .f32) (r : Fin 512) (n : Fin 2816) :
    k0_pay7 x w p (ix2 r n) = if r.val = 0 then p (ix2 7 n) else k0_pay5 x w (ix2 ⟨(r.val + 512 - 1) % 512, by omega⟩ n) := by
  pointwise [k0_pay7, k0_pay6]
  exact choose r 0 (by omega) _ _

theorem pay8_eq (x : Vec Ideal S512x1024 .bf16) (w : Vec Ideal S1024x2816 .bf16) (p : Vec Ideal S8x2816 .f32) (r : Fin 512) (n : Fin 2816) :
    k0_pay8 x w p (ix2 r n) = if r.val = 0 then p (ix2 6 n) else if r.val = 1 then p (ix2 7 n)
      else k0_pay5 x w (ix2 ⟨(r.val + 512 - 2) % 512, by omega⟩ n) := by
  pointwise [k0_pay8, k0_pay6]
  exact (choose r 0 (by omega) _ _).trans (congrArg (fun a => if r.val = 0 then p (ix2 6 n) else a) (choose r 1 (by omega) _ _))

theorem pay9_eq (x : Vec Ideal S512x1024 .bf16) (w : Vec Ideal S1024x2816 .bf16) (r : Fin 8) (n : Fin 2816) :
    k0_pay9 x w (ix2 r n) = k0_pay5 x w (ix2 ⟨504 + r.val, by omega⟩ n) := by
  pointwise [k0_pay9, k0_pay6]

theorem pay1_eq (u u1 u2 : Vec Ideal S512x2816 .f32) (w : Vec Ideal S3x2816 .f32) (b : Vec Ideal S1x2816 .f32) (r : Fin 512) (n : Fin 2816) :
    k0_pay1 u u1 u2 w b (ix2 r n) = u (ix2 r n) * w (ix2 2 n) + u1 (ix2 r n) * w (ix2 1 n) + u2 (ix2 r n) * w (ix2 0 n) + b (ix2 0 n) := by
  pointwise [k0_pay1]

theorem pay2_eq (u u1 u2 : Vec Ideal S512x2816 .f32) (w : Vec Ideal S3x2816 .f32) (b : Vec Ideal S1x2816 .f32) (r : Fin 512) (n : Fin 2816) :
    k0_pay2 u u1 u2 w b (ix2 r n) = k0_pay1 u u1 u2 w b (ix2 r n) := by
  pointwise [k0_pay2]

theorem pay3_eq (u u1 u2 : Vec Ideal S512x2816 .f32) (w : Vec Ideal S3x2816 .f32) (b : Vec Ideal S1x2816 .f32) (r : Fin 512) (p : Fin 1408) :
    k0_pay3 u u1 u2 w b (ix2 r p)
      = gated (k0_pay1 u u1 u2 w b (ix2 r ⟨p.val, by omega⟩)) (k0_pay1 u u1 u2 w b (ix2 r ⟨1408 + p.val, by omega⟩)) := by
  pointwise [k0_pay3]
  rw [zero_sub]
  rfl

/-- What a point leaves in the four buffers, from its blocks and the eight rows `p` the point before it kept. -/
def leaves (x : Vec Ideal S512x1024 .bf16) (w : Vec Ideal S1024x2816 .bf16) (s : Vec Ideal S3x2816 .f32) (b : Vec Ideal S1x2816 .f32)
    (p : Vec Ideal S8x2816 .f32) :=
  (k0_pay5 x w, k0_pay2 (k0_pay6 x w) (k0_pay7 x w p) (k0_pay8 x w p) s b, k0_pay3 (k0_pay6 x w) (k0_pay7 x w p) (k0_pay8 x w p) s b,
    k0_pay9 x w)

/-- A first point of a tile finds zeros kept; any other finds what the point before it left. -/
theorem state_A (c : Dev nD) (t : Fin cfg0.N) (h : t.val % 32 = 0) :
    outsAt0 m c t.val t.isLt = leaves (iblk m c 0 t) (iblk m c 1 t) (iblk m c 2 t) (iblk m c 3 t) (k0_pay4 (F := Ideal)) := by
  rw [outsAt0_A m c t h]
  frame_out
  rfl

theorem state_B (c : Dev nD) (t : Fin cfg0.N) (h : ¬t.val % 32 = 0) :
    outsAt0 m c t.val t.isLt
      = leaves (iblk m c 0 t) (iblk m c 1 t) (iblk m c 2 t) (iblk m c 3 t) (outsAt0 m c (t.val - 1) (by have := t.isLt; omega)).2.2.2 := by
  rw [outsAt0_B m c t h]
  frame_out
  exact congrArg (leaves (iblk m c 0 t) (iblk m c 1 t) (iblk m c 2 t) (iblk m c 3 t)) (Memref.IsWhole.read_unread _ _)

/-- The eight rows a point finds kept. -/
def prev (c : Dev nD) (t : Fin cfg0.N) : Vec Ideal S8x2816 .f32 :=
  if h : t.val % 32 = 0 then k0_pay4 (F := Ideal) else (outsAt0 m c (t.val - 1) (by have := t.isLt; omega)).2.2.2

theorem state (c : Dev nD) (t : Fin cfg0.N) :
    outsAt0 m c t.val t.isLt = leaves (iblk m c 0 t) (iblk m c 1 t) (iblk m c 2 t) (iblk m c 3 t) (prev m c t) := by
  unfold prev
  by_cases h : t.val % 32 = 0
  · rw [dif_pos h]
    exact state_A m c t h
  · rw [dif_neg h]
    exact state_B m c t h

/-- A point's product. -/
theorem point_up (c : Dev nD) (t : Fin cfg0.N) (r : Fin 512) (n : Fin 2816) :
    k0_pay5 (iblk m c 0 t) (iblk m c 1 t) (ix2 r n) = up (xs m c) (ws m c) (row t r) (src (col t n)) := by
  refine (pay5_eq _ _ r n).trans (Finset.sum_congr rfl fun k _ => ?_)
  rw [block0, block1]

/-- What a point keeps: its last eight rows. -/
theorem kept (c : Dev nD) (t : Fin cfg0.N) (q : Fin 8) (n : Fin 2816) :
    (outsAt0 m c t.val t.isLt).2.2.2 (ix2 q n) = up (xs m c) (ws m c) (row t ⟨504 + q.val, by omega⟩) (src (col t n)) := by
  rw [state]
  exact (pay9_eq _ _ q n).trans (point_up m c t _ n)

/-- A kept row is the row `s` before row `r` of the point. -/
theorem found (c : Dev nD) (t : Fin cfg0.N) (q : Fin 8) (n : Fin 2816) (s : ℕ) (r : Fin 512) (h : r.val + 8 = q.val + s) (hs : s ≤ 8) :
    prev m c t (ix2 q n) = behind (xs m c) (ws m c) s (row t r) (src (col t n)) := by
  unfold prev behind
  by_cases h0 : t.val % 32 = 0
  · rw [dif_pos h0, pay4_eq, if_neg (by show ¬s ≤ t.val % 32 * 512 + r.val; omega)]
  · have h64 : t.val < 64 := t.isLt
    rw [dif_neg h0, if_pos (by show s ≤ t.val % 32 * 512 + r.val; omega)]
    refine (kept m c ⟨t.val - 1, by have := t.isLt; omega⟩ q n).trans ?_
    exact congrArg₂ (up (xs m c) (ws m c))
      (Fin.ext (by show (t.val - 1) % 32 * 512 + (504 + q.val) = t.val % 32 * 512 + r.val - s; omega))
      (congrArg src (Fin.ext (by show (t.val - 1) / 32 * 2816 + n.val = t.val / 32 * 2816 + n.val; omega)))

/-- A row of the point's own product, `s` before row `r`. -/
theorem back (c : Dev nD) (t : Fin cfg0.N) (n : Fin 2816) (s : ℕ) (r : Fin 512) (h : s ≤ r.val) :
    k0_pay5 (iblk m c 0 t) (iblk m c 1 t) (ix2 ⟨(r.val + 512 - s) % 512, by omega⟩ n)
      = behind (xs m c) (ws m c) s (row t r) (src (col t n)) := by
  rw [point_up, behind, if_pos (by show s ≤ t.val % 32 * 512 + r.val; omega)]
  exact congrArg (fun a => up (xs m c) (ws m c) a (src (col t n)))
    (Fin.ext (by show t.val % 32 * 512 + (r.val + 512 - s) % 512 = t.val % 32 * 512 + r.val - s; omega))

theorem one_back (c : Dev nD) (t : Fin cfg0.N) (r : Fin 512) (n : Fin 2816) :
    k0_pay7 (iblk m c 0 t) (iblk m c 1 t) (prev m c t) (ix2 r n) = behind (xs m c) (ws m c) 1 (row t r) (src (col t n)) := by
  rw [pay7_eq]
  by_cases h : r.val = 0
  · rw [if_pos h]
    exact found m c t 7 n 1 r (by show r.val + 8 = 7 + 1; omega) (by omega)
  · rw [if_neg h]
    exact back m c t n 1 r (by omega)

theorem two_back (c : Dev nD) (t : Fin cfg0.N) (r : Fin 512) (n : Fin 2816) :
    k0_pay8 (iblk m c 0 t) (iblk m c 1 t) (prev m c t) (ix2 r n) = behind (xs m c) (ws m c) 2 (row t r) (src (col t n)) := by
  rw [pay8_eq]
  by_cases h : r.val = 0
  · rw [if_pos h]
    exact found m c t 6 n 2 r (by show r.val + 8 = 6 + 2; omega) (by omega)
  rw [if_neg h]
  by_cases h1 : r.val = 1
  · rw [if_pos h1]
    exact found m c t 7 n 2 r (by show r.val + 8 = 7 + 2; omega) (by omega)
  · rw [if_neg h1]
    exact back m c t n 2 r (by omega)

/-- A point's convolution. -/
theorem point_conv (c : Dev nD) (t : Fin cfg0.N) (r : Fin 512) (n : Fin 2816) :
    k0_pay1 (k0_pay6 (iblk m c 0 t) (iblk m c 1 t)) (k0_pay7 (iblk m c 0 t) (iblk m c 1 t) (prev m c t))
        (k0_pay8 (iblk m c 0 t) (iblk m c 1 t) (prev m c t)) (iblk m c 2 t) (iblk m c 3 t) (ix2 r n)
      = conv (xs m c) (ws m c) (taps m c) (bias m c) (row t r) (src (col t n)) := by
  rw [pay1_eq, one_back, two_back, block2, block2, block2, block3, pay6_eq, ← pay5_eq, point_up]
  rfl

/-- The columns of an activation's tile: its gates', and its values'. -/
def acol (t : Fin cfg0.N) (p : Fin 1408) : Fin 2816 := ⟨t.val / 32 * 1408 + p.val, by have : t.val < 64 := t.isLt; omega⟩
theorem gate_col (t : Fin cfg0.N) (p : Fin 1408) : src (col t ⟨p.val, by omega⟩) = ⟨(acol t p).val, by omega⟩ := by
  have h64 : t.val < 64 := t.isLt
  have e : (col t ⟨p.val, by omega⟩).val = t.val / 32 * 2816 + p.val := rfl
  refine Fin.ext ?_
  show _ = t.val / 32 * 1408 + p.val
  rw [src_val, e]
  split <;> (repeat' split) <;> omega
theorem value_col (t : Fin cfg0.N) (p : Fin 1408) : src (col t ⟨1408 + p.val, by omega⟩) = ⟨2816 + (acol t p).val, by omega⟩ := by
  have h64 : t.val < 64 := t.isLt
  have e : (col t ⟨1408 + p.val, by omega⟩).val = t.val / 32 * 2816 + (1408 + p.val) := rfl
  refine Fin.ext ?_
  show _ = 2816 + (t.val / 32 * 1408 + p.val)
  rw [src_val, e]
  split <;> (repeat' split) <;> omega

/-- A point's activation. -/
theorem point_act (c : Dev nD) (t : Fin cfg0.N) (r : Fin 512) (p : Fin 1408) :
    k0_pay3 (k0_pay6 (iblk m c 0 t) (iblk m c 1 t)) (k0_pay7 (iblk m c 0 t) (iblk m c 1 t) (prev m c t))
        (k0_pay8 (iblk m c 0 t) (iblk m c 1 t) (prev m c t)) (iblk m c 2 t) (iblk m c 3 t) (ix2 r p)
      = act (xs m c) (ws m c) (taps m c) (bias m c) (row t r) (acol t p) := by
  rw [pay3_eq, point_conv, point_conv, gate_col, value_col]
  rfl

/-- The first output is the up-projection, its columns in tiles. -/
theorem final4 (c : Dev nD) :
    (dats m 0 c).arrAt 4 cfg0.N = fun y : Pairs.Idx => up (xs m c) (ws m c) (y 0) (src (y 1)) := by
  refine (dats m 0 c).arrAt_eq_of_covers 4 _ (by decide +kernel) fun t hf y => ?_
  blk_simp
  rw [after0_4, state]
  refine (congrArg (k0_pay5 (iblk m c 0 t) (iblk m c 1 t)) (eq_ix2 y)).trans ((point_up m c t (y 0) (y 1)).trans ?_)
  have e : (win0_4.blk t).view.emb y = ix2 (row t (y 0)) (col t (y 1)) := by
    blk_ext [idx4 t, row, col]
  exact (congrArg (fun z : Pairs.Idx => up (xs m c) (ws m c) (z 0) (src (z 1))) e).symm

/-- The second output is the convolution, its columns in tiles. -/
theorem final5 (c : Dev nD) :
    (dats m 0 c).arrAt 5 cfg0.N = fun y : Pairs.Idx => conv (xs m c) (ws m c) (taps m c) (bias m c) (y 0) (src (y 1)) := by
  refine (dats m 0 c).arrAt_eq_of_covers 5 _ (by decide +kernel) fun t hf y => ?_
  blk_simp
  rw [after0_5, state]
  refine (congrArg (k0_pay2 _ _ _ _ _) (eq_ix2 y)).trans ((pay2_eq _ _ _ _ _ (y 0) (y 1)).trans ((point_conv m c t (y 0) (y 1)).trans ?_))
  have e : (win0_5.blk t).view.emb y = ix2 (row t (y 0)) (col t (y 1)) := by
    blk_ext [idx5 t, row, col]
  exact (congrArg (fun z : Pairs.Idx => conv (xs m c) (ws m c) (taps m c) (bias m c) (z 0) (src (z 1))) e).symm

/-- The third output is the gated activation. -/
theorem final6 (c : Dev nD) :
    (dats m 0 c).arrAt 6 cfg0.N = fun y : Acts.Idx => act (xs m c) (ws m c) (taps m c) (bias m c) (y 0) (y 1) := by
  refine (dats m 0 c).arrAt_eq_of_covers 6 _ (by decide +kernel) fun t hf y => ?_
  blk_simp
  rw [after0_6, state]
  refine (congrArg (k0_pay3 _ _ _ _ _) (eq_ix2 y)).trans ((point_act m c t (y 0) (y 1)).trans ?_)
  have e : (win0_6.blk t).view.emb y = ix2 (row t (y 0)) (acol t (y 1)) := by
    blk_ext [idx6 t, row, acol]
  exact (congrArg (fun z : Acts.Idx => act (xs m c) (ws m c) (taps m c) (bias m c) (z 0) (z 1)) e).symm

end Cert.UpConvKernel

end
-- ==== Proof.UpReference.lean ====
/- The reference's three results. -/
module

public import proofs.«01_k».proof.Proof.UpSum
public import proofs.«01_k».proof.Proof.Gen.UpConvRefIdeal.Run

@[expose] public section

set_option maxRecDepth 16384

noncomputable section

namespace Cert.UpConvReference

open Cert.UpConvRefIdeal Cert.UpConvRefIdeal.Gen Cert.UpConvSum Idealize.ShloMosaic Idealize.ShloMosaic.TcCoe Idealize.SL.Sem

variable (m : (ℓ : Loc nD τ sig) → Buf (Elt Ideal) ℓ)

abbrev xs (c : Dev nD) : Ins.Idx → EReal := m (c.tc.loc main_arg0)
abbrev ws (c : Dev nD) : Weight.Idx → EReal := m (c.tc.loc main_arg1)
abbrev taps (c : Dev nD) : Taps.Idx → EReal := m (c.tc.loc main_arg2)
abbrev bias (c : Dev nD) : Bias.Idx → EReal := m (c.tc.loc main_arg3)

/-- A matrix's columns in tiles. -/
abbrev tiled (D : Vec Ideal S16384x5632 .f32) : Vec Ideal S16384x5632 .f32 :=
  concatenate S16384x5632 1 [⟨S16384x1408, (extractStridedSlice S16384x1408 ![0, 0] D slices_S16384x5632_S16384x1408_0_0 : Vec Ideal S16384x1408 .f32)⟩, ⟨S16384x1408, (extractStridedSlice S16384x1408 ![0, 2816] D slices_S16384x5632_S16384x1408_0_2816 : Vec Ideal S16384x1408 .f32)⟩, ⟨S16384x1408, (extractStridedSlice S16384x1408 ![0, 1408] D slices_S16384x5632_S16384x1408_0_1408 : Vec Ideal S16384x1408 .f32)⟩, ⟨S16384x1408, (extractStridedSlice S16384x1408 ![0, 4224] D slices_S16384x5632_S16384x1408_0_4224 : Vec Ideal S16384x1408 .f32)⟩] concatenates_S16384x1408_S16384x1408_S16384x1408_S16384x1408_S16384x5632_d1

theorem tiled_eq (D : Vec Ideal S16384x5632 .f32) (r : Fin 16384) (n : Fin 5632) : tiled D (ix2 r n) = D (ix2 r (src n)) := by
  pointwise [tiled]
  by_cases h0 : n.val < 1408
  · rw [dif_pos h0]
    exact congrArg (fun a => D (ix2 r a)) (Fin.ext (src0 n h0).symm)
  rw [dif_neg h0]
  by_cases h1 : n.val - 1408 < 1408
  · rw [dif_pos h1]
    exact congrArg (fun a => D (ix2 r a)) (Fin.ext (src1 n h0 h1).symm)
  rw [dif_neg h1]
  by_cases h2 : n.val - 1408 - 1408 < 1408
  · rw [dif_pos h2]
    exact congrArg (fun a => D (ix2 r a)) (Fin.ext (src2 n h1 h2).symm)
  · rw [dif_neg h2]
    exact congrArg (fun a => D (ix2 r a)) (Fin.ext (src3 n h2).symm)

/-- The product of the rows by the weights. -/
abbrev product (x : Vec Ideal S16384x1024 .bf16) (w : Vec Ideal S1024x5632 .bf16) : Vec Ideal S16384x5632 .f32 :=
  Host.dotGeneral (F := Ideal) dot_S16384x1024_S1024x5632_S16384x5632_1_0_0_1_n_n none (extf .f32 x bitsLt_bf16_f32) (extf .f32 w bitsLt_bf16_f32)

theorem product_eq (x : Vec Ideal S16384x1024 .bf16) (w : Vec Ideal S1024x5632 .bf16) (r : Fin 16384) (n : Fin 5632) :
    product x w (ix2 r n) = ∑ k : Fin 1024, x (ix2 r k) * w (ix2 k n) := by
  pointwise [product]

/-- The rows' convolution, of any matrix `D`. -/
abbrev convolved (D : FVec Ideal S16384x5632 .f32) (s : FVec Ideal S3x5632 .f32) (b : FVec Ideal S1x5632 .f32) : FVec Ideal S16384x5632 .f32 :=
  addf (addf (addf (mulf (extractStridedSlice S16384x5632 ![0, 0] (concatenate S16386x5632 0 [⟨S2x5632, (broadcastInDim S2x5632 ![] bcast_S_S2x5632 (constant S_ .f32 0x00000000#32))⟩, ⟨S16384x5632, D⟩] concatenates_S2x5632_S16384x5632_S16386x5632_d0) slices_S16386x5632_S16384x5632_0_0) (broadcastInDim S16384x5632 ![0, 1] bcast_S1x5632_S16384x5632_0_1 (broadcastInDim S1x5632 ![1] bcast_S5632_S1x5632_1 (shapeCast _ (extractStridedSlice S1x5632 ![0, 0] s slices_S3x5632_S1x5632_0_0) shapeCasts_S1x5632_S5632)))) (mulf (extractStridedSlice S16384x5632 ![1, 0] (concatenate S16386x5632 0 [⟨S2x5632, (broadcastInDim S2x5632 ![] bcast_S_S2x5632 (constant S_ .f32 0x00000000#32))⟩, ⟨S16384x5632, D⟩] concatenates_S2x5632_S16384x5632_S16386x5632_d0) slices_S16386x5632_S16384x5632_1_0) (broadcastInDim S16384x5632 ![0, 1] bcast_S1x5632_S16384x5632_0_1 (broadcastInDim S1x5632 ![1] bcast_S5632_S1x5632_1 (shapeCast _ (extractStridedSlice S1x5632 ![1, 0] s slices_S3x5632_S1x5632_1_0) shapeCasts_S1x5632_S5632))))) (mulf (extractStridedSlice S16384x5632 ![2, 0] (concatenate S16386x5632 0 [⟨S2x5632, (broadcastInDim S2x5632 ![] bcast_S_S2x5632 (constant S_ .f32 0x00000000#32))⟩, ⟨S16384x5632, D⟩] concatenates_S2x5632_S16384x5632_S16386x5632_d0) slices_S16386x5632_S16384x5632_2_0) (broadcastInDim S16384x5632 ![0, 1] bcast_S1x5632_S16384x5632_0_1 (broadcastInDim S1x5632 ![1] bcast_S5632_S1x5632_1 (shapeCast _ (extractStridedSlice S1x5632 ![2, 0] s slices_S3x5632_S1x5632_2_0) shapeCasts_S1x5632_S5632))))) (broadcastInDim S16384x5632 ![0, 1] bcast_S1x5632_S16384x5632_0_1 b)

theorem convolved_eq (D : Vec Ideal S16384x5632 .f32) (s : Vec Ideal S3x5632 .f32) (b : Vec Ideal S1x5632 .f32) (r : Fin 16384) (n : Fin 5632) :
    convolved D s b (ix2 r n) = (if h : r.val < 2 then 0 else D (ix2 ⟨r.val - 2, by omega⟩ n)) * s (ix2 0 n)
        + (if h : 1 + r.val < 2 then 0 else D (ix2 ⟨1 + r.val - 2, by omega⟩ n)) * s (ix2 1 n) + D (ix2 r n) * s (ix2 2 n) + b (ix2 0 n) := by
  pointwise [convolved]

/-- The convolution of the product. -/
theorem product_convolved (x : Vec Ideal S16384x1024 .bf16) (w : Vec Ideal S1024x5632 .bf16) (s : Vec Ideal S3x5632 .f32) (b : Vec Ideal S1x5632 .f32)
    (r : Fin 16384) (n : Fin 5632) : convolved (product x w) s b (ix2 r n) = conv x w s b r n := by
  rw [convolved_eq]
  simp only [product_eq]
  exact conv_of x w s b r rfl

/-- The gated activation, of any convolution `L`. -/
abbrev acted (L : FVec Ideal S16384x5632 .f32) : FVec Ideal S16384x2816 .bf16 :=
  truncf .bf16 (mulf (mulf (extractStridedSlice S16384x2816 ![0, 0] L slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] L slices_S16384x5632_S16384x2816_0_0)))))) (extractStridedSlice S16384x2816 ![0, 2816] L slices_S16384x5632_S16384x2816_0_2816)) bitsLt_bf16_f32

theorem acted_eq (L : Vec Ideal S16384x5632 .f32) (r : Fin 16384) (p : Fin 2816) :
    acted L (ix2 r p) = gated (L (ix2 r ⟨p.val, by omega⟩)) (L (ix2 r ⟨2816 + p.val, by omega⟩)) := by
  pointwise [acted]
  rfl

/-- The second result: the convolution with its columns in tiles. -/
theorem result5 (c : Dev nD) : Cert.UpConvRefIdeal.Value.res_main_v40 m c
    = (fun y : Pairs.Idx => conv (xs m c) (ws m c) (taps m c) (bias m c) (y 0) (src (y 1))) := by
  funext y
  obtain ⟨r, n, rfl⟩ : ∃ (r : Fin 16384) (n : Fin 5632), y = ix2 r n := ⟨y 0, y 1, eq_ix2 y⟩
  exact (tiled_eq (convolved (product (xs m c) (ws m c)) (taps m c) (bias m c)) r n).trans (product_convolved _ _ _ _ r (src n))

/-- The third result: the gated activation. -/
theorem result6 (c : Dev nD) : Cert.UpConvRefIdeal.Value.res_main_v43 m c
    = (fun y : Acts.Idx => act (xs m c) (ws m c) (taps m c) (bias m c) (y 0) (y 1)) := by
  funext y
  obtain ⟨r, p, rfl⟩ : ∃ (r : Fin 16384) (p : Fin 2816), y = ix2 r p := ⟨y 0, y 1, eq_ix2 y⟩
  refine (acted_eq (convolved (product (xs m c) (ws m c)) (taps m c) (bias m c)) r p).trans ?_
  rw [product_convolved, product_convolved]
  rfl

/-- Every execution of the reference ends with the three results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v34) = (fun y : Pairs.Idx => up (xs m c) (ws m c) (y 0) (src (y 1)))
      ∧ r.2.mem ((c.tc : Thread nD τ).loc main_v40) = (fun y : Pairs.Idx => conv (xs m c) (ws m c) (taps m c) (bias m c) (y 0) (src (y 1)))
      ∧ r.2.mem ((c.tc : Thread nD τ).loc main_v43) = (fun y : Acts.Idx => act (xs m c) (ws m c) (taps m c) (bias m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans (result5 m c), (h c).2.2.1.trans (result6 m c), (h c).2.2.2⟩)
    (Cert.UpConvRefIdeal.Value.run m ρ)
  funext y
  obtain ⟨r, n, rfl⟩ : ∃ (r : Fin 16384) (n : Fin 5632), y = ix2 r n := ⟨y 0, y 1, eq_ix2 y⟩
  exact (tiled_eq _ r n).trans (product_eq (xs m c) (ws m c) r (src n))

end Cert.UpConvReference

end
-- ==== Proof.UpConv.lean ====
/- The up-projection, the convolution and the gated activation: the kernel's results are the reference's. -/
module

public import proofs.«01_k».proof.Proof.UpKernel
public import proofs.«01_k».proof.Proof.UpReference

@[expose] public section

set_option maxRecDepth 16384

noncomputable section

namespace Cert.UpConv

open Idealize.ShloMosaic Idealize.ShloMosaic.TcCoe

/-- The reference's run ends with its arguments unchanged and every counter at zero: it has none. -/
theorem reference_frame : Cert.quiescent_UpConvRefIdeal := fun m g _ =>
  θ_run_mono (Cert.UpConvReference.run m g) fun r h => ⟨fun c => (h c).2.2.2, sem_eq_zero_of_no_sems rfl r.2⟩

/-- The kernel's outputs are the reference's results, over the extended reals. -/
theorem algebraic : Cert.algebraic_UpConvIdeal_UpConvRefIdeal := by
  pair_intro
  · run_from Cert.UpConvIdeal.Gen.run_main m g
  · refine θ_run_mono (Cert.UpConvReference.run m' g') fun r h c => ⟨(h c).1.trans ?_, (h c).2.1.trans ?_, (h c).2.2.1.trans ?_, (h c).2.2.2⟩
    all_goals
      clear h
      obtain ⟨ex, ew, et, eb⟩ : Cert.UpConvReference.xs m' c = Cert.UpConvKernel.xs m c ∧ Cert.UpConvReference.ws m' c = Cert.UpConvKernel.ws m c
        ∧ Cert.UpConvReference.taps m' c = Cert.UpConvKernel.taps m c ∧ Cert.UpConvReference.bias m' c = Cert.UpConvKernel.bias m c := hagree c
    · refine Eq.trans ?_ (Cert.UpConvKernel.final4 m c).symm
      rw [ex, ew]
    · refine Eq.trans ?_ (Cert.UpConvKernel.final5 m c).symm
      rw [ex, ew, et, eb]
    · refine Eq.trans ?_ (Cert.UpConvKernel.final6 m c).symm
      rw [ex, ew, et, eb]

end Cert.UpConv

end
-- ==== Proof.Query.lean ====
/- The gradient of a query, key or value projection's weight: the input rows, transposed, times the cotangent.  The kernel
   sums it over runs of 1024 rows; the reference is one product. -/
module

public import proofs.«01_k».proof.Defs
public import proofs.«01_k».proof.Proof.Gen.QueryGradIdeal.Frame
public import proofs.«01_k».proof.Proof.Gen.QueryGradIdeal.Value
public import proofs.«01_k».proof.Proof.Gen.QueryGradRefIdeal.Run
public import Idealize.ShloMosaic.Lib.Pipeline.ValueKit
public import Idealize.ShloMosaic.Lib.Pointwise

@[expose] public section

set_option maxRecDepth 16384

noncomputable section

namespace Cert.QueryKernel

open Cert.QueryGradIdeal Cert.QueryGradIdeal.Gen Idealize.ShloMosaic Idealize.ShloMosaic.TcCoe

/-- The shapes of the input, of the cotangent and of the weight. -/
abbrev Rows : Shape := ⟨2, ![16384, 1024]⟩
abbrev Outs : Shape := ⟨2, ![16384, 1024]⟩
abbrev Weight : Shape := ⟨2, ![1024, 1024]⟩

/-- The weight's gradient at row `k`, column `n`. -/
def weightGrad (A : Rows.Idx → EReal) (D : Outs.Idx → EReal) (k : Fin 1024) (n : Fin 1024) : EReal :=
  ∑ r : Fin 16384, A (ix2 r k) * D (ix2 r n)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The two arguments, on device `c`. -/
abbrev xs (c : Dev nD) : Rows.Idx → EReal := m ((c.tc : Thread nD τ).loc main_arg0)
abbrev cts (c : Dev nD) : Outs.Idx → EReal := m ((c.tc : Thread nD τ).loc main_arg1)

/-- A point's row in the whole array. -/
def row (t : Fin cfg0.N) (r : Fin 1024) : Fin 16384 := ⟨t.val * 1024 + r.val, by have : t.val < 16 := t.isLt; omega⟩

theorem block0 (c : Dev nD) (t : Fin cfg0.N) (r : Fin 1024) (k : Fin 1024) :
    (iblk m c 0 t : Vec Ideal S1024x1024 .bf16) (ix2 r k) = xs m c (ix2 (row t r) k) := by
  blk_point [iblk, V, idx0 t, row]

theorem block1 (c : Dev nD) (t : Fin cfg0.N) (r : Fin 1024) (n : Fin 1024) :
    (iblk m c 1 t : Vec Ideal S1024x1024 .bf16) (ix2 r n) = cts m c (ix2 (row t r) n) := by
  blk_point [iblk, V, idx1 t, row]

/-- The rows of the points of the one run. -/
theorem run_row (t : Fin cfg0.N) (s : Fin 16) (h : 16 * (t.val / 16) + s.val < cfg0.N) (r : Fin 1024) (hl : s.val * 1024 + r.val < 16384) :
    row ⟨16 * (t.val / 16) + s.val, h⟩ r = ⟨s.val * 1024 + r.val, hl⟩ :=
  Fin.ext (by have : t.val < 16 := t.isLt; show (16 * (t.val / 16) + s.val) * 1024 + r.val = s.val * 1024 + r.val; omega)

/-- The product of a point's blocks: its rows' share of the gradient. -/
def part (c : Dev nD) (t : Fin cfg0.N) (y : Weight.Idx) : EReal :=
  ∑ r : Fin 1024, xs m c (ix2 (row t r) (y 0)) * cts m c (ix2 (row t r) (y 1))

/-- What a point adds to the block it accumulates. -/
theorem pay2 (c : Dev nD) (t : Fin cfg0.N) (prev : Vec Ideal S1024x1024 .f32) (y : Weight.Idx) :
    k0_pay2 prev (iblk m c 0 t) (iblk m c 1 t) y = prev y + part m c t y := by
  pointwise [k0_pay2]
  exact congrArg _ (Finset.sum_congr rfl fun r _ => congrArg₂ (· * ·) (block0 m c t r (y 0)) (block1 m c t r (y 1)))

theorem pay1 (y : Weight.Idx) : (k0_pay1 (F := Ideal)) y = 0 := by
  pointwise [k0_pay1]

/-- The kernel's output is the weight's gradient. -/
theorem final2 (c : Dev nD) : (dats m 0 c).arrAt 2 cfg0.N = fun y : Weight.Idx => weightGrad (xs m c) (cts m c) (y 0) (y 1) := by
  refine (dats m 0 c).arrAt_eq_of_covers 2 _ (by decide +kernel) fun t hf y => ?_
  blk_simp
  rw [after0_2, Pipeline.eq_sum_fin_of_reset_step_apply_of_flush (fun n h => outsAt0 m c n h) 16 (fun _ => (0 : EReal)) (part m c)
    (fun t h j => by rw [outsAt0_A m c t h]; frame_out; rw [pay2, pay1])
    (fun t h j => by rw [outsAt0_B m c t h]; frame_out; rw [pay2]) t ((flush0_2 t).mp hf) _, zero_add]
  refine Eq.trans ?_ (congrArg (fun z : Weight.Idx => weightGrad (xs m c) (cts m c) (z 0) (z 1)) (?_ : ix2 (y 0) (y 1) = _))
  · unfold part weightGrad
    refine Fin.sum_mul_add_congr fun s k hl => ?_
    exact congrArg (fun a : Fin 16384 => xs m c (ix2 a (y 0)) * cts m c (ix2 a (y 1))) (run_row t s _ k hl)
  · blk_ext [idx2 t]

end Cert.QueryKernel

namespace Cert.QueryReference

open Cert.QueryGradRefIdeal Cert.QueryKernel Idealize.ShloMosaic Idealize.ShloMosaic.TcCoe Idealize.SL.Sem

variable (m : (ℓ : Loc nD τ sig) → Buf (Elt Ideal) ℓ)

abbrev xs (c : Dev nD) : Rows.Idx → EReal := m (c.tc.loc main_arg0)
abbrev cts (c : Dev nD) : Outs.Idx → EReal := m (c.tc.loc main_arg1)

/-- Every execution of the reference ends with the weight's gradient in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = (fun y : Weight.Idx => weightGrad (xs m c) (cts m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.QueryGradRefIdeal.Value.run m ρ)
  funext y
  pointwise
  exact Finset.sum_congr rfl fun r _ => mul_comm _ _

end Cert.QueryReference

namespace Cert.Query

open Idealize.ShloMosaic Idealize.ShloMosaic.TcCoe

/-- The reference's run ends with its arguments unchanged and every counter at zero: it has none. -/
theorem reference_frame : Cert.quiescent_QueryGradRefIdeal := fun m g _ =>
  θ_run_mono (Cert.QueryReference.run m g) fun r h => ⟨fun c => (h c).2, sem_eq_zero_of_no_sems rfl r.2⟩

/-- The kernel's output is the reference's result, over the extended reals. -/
theorem algebraic : Cert.algebraic_QueryGradIdeal_QueryGradRefIdeal := by
  pair_intro
  · run_from Cert.QueryGradIdeal.Gen.run_main m g
  · refine θ_run_mono (Cert.QueryReference.run m' g') fun r h c => ⟨(h c).1.trans ?_, (h c).2⟩
    clear h
    obtain ⟨ea, ed⟩ : Cert.QueryReference.xs m' c = Cert.QueryKernel.xs m c ∧ Cert.QueryReference.cts m' c = Cert.QueryKernel.cts m c := hagree c
    refine Eq.trans ?_ (Cert.QueryKernel.final2 m c).symm
    rw [ea, ed]

end Cert.Query

end
-- ==== Proof.Out.lean ====
/- The gradient of an output projection's weight: the projection's input rows, transposed, times the cotangent.  The kernel
   sums it over runs of 1024 rows; the reference is one product. -/
module

public import proofs.«01_k».proof.Defs
public import proofs.«01_k».proof.Proof.Gen.OutGradIdeal.Frame
public import proofs.«01_k».proof.Proof.Gen.OutGradIdeal.Value
public import proofs.«01_k».proof.Proof.Gen.OutGradRefIdeal.Run
public import Idealize.ShloMosaic.Lib.Pipeline.ValueKit
public import Idealize.ShloMosaic.Lib.Pointwise

@[expose] public section

set_option maxRecDepth 16384

noncomputable section

namespace Cert.OutKernel

open Cert.OutGradIdeal Cert.OutGradIdeal.Gen Idealize.ShloMosaic Idealize.ShloMosaic.TcCoe

/-- The shapes of the input, of the cotangent and of the weight. -/
abbrev Rows : Shape := ⟨2, ![16384, 1024]⟩
abbrev Outs : Shape := ⟨2, ![16384, 1024]⟩
abbrev Weight : Shape := ⟨2, ![1024, 1024]⟩

/-- The weight's gradient at row `k`, column `n`. -/
def weightGrad (A : Rows.Idx → EReal) (D : Outs.Idx → EReal) (k : Fin 1024) (n : Fin 1024) : EReal :=
  ∑ r : Fin 16384, A (ix2 r k) * D (ix2 r n)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The two arguments, on device `c`. -/
abbrev xs (c : Dev nD) : Rows.Idx → EReal := m ((c.tc : Thread nD τ).loc main_arg0)
abbrev cts (c : Dev nD) : Outs.Idx → EReal := m ((c.tc : Thread nD τ).loc main_arg1)

/-- A point's row in the whole array. -/
def row (t : Fin cfg0.N) (r : Fin 1024) : Fin 16384 := ⟨t.val * 1024 + r.val, by have : t.val < 16 := t.isLt; omega⟩

theorem block0 (c : Dev nD) (t : Fin cfg0.N) (r : Fin 1024) (k : Fin 1024) :
    (iblk m c 0 t : Vec Ideal S1024x1024 .bf16) (ix2 r k) = xs m c (ix2 (row t r) k) := by
  blk_point [iblk, V, idx0 t, row]

theorem block1 (c : Dev nD) (t : Fin cfg0.N) (r : Fin 1024) (n : Fin 1024) :
    (iblk m c 1 t : Vec Ideal S1024x1024 .f32) (ix2 r n) = cts m c (ix2 (row t r) n) := by
  blk_point [iblk, V, idx1 t, row]

/-- The rows of the points of the one run. -/
theorem run_row (t : Fin cfg0.N) (s : Fin 16) (h : 16 * (t.val / 16) + s.val < cfg0.N) (r : Fin 1024) (hl : s.val * 1024 + r.val < 16384) :
    row ⟨16 * (t.val / 16) + s.val, h⟩ r = ⟨s.val * 1024 + r.val, hl⟩ :=
  Fin.ext (by have : t.val < 16 := t.isLt; show (16 * (t.val / 16) + s.val) * 1024 + r.val = s.val * 1024 + r.val; omega)

/-- The product of a point's blocks: its rows' share of the gradient. -/
def part (c : Dev nD) (t : Fin cfg0.N) (y : Weight.Idx) : EReal :=
  ∑ r : Fin 1024, xs m c (ix2 (row t r) (y 0)) * cts m c (ix2 (row t r) (y 1))

/-- What a point adds to the block it accumulates. -/
theorem pay2 (c : Dev nD) (t : Fin cfg0.N) (prev : Vec Ideal S1024x1024 .f32) (y : Weight.Idx) :
    k0_pay2 prev (iblk m c 0 t) (iblk m c 1 t) y = prev y + part m c t y := by
  pointwise [k0_pay2]
  exact congrArg _ (Finset.sum_congr rfl fun r _ => congrArg₂ (· * ·) (block0 m c t r (y 0)) (block1 m c t r (y 1)))

theorem pay1 (y : Weight.Idx) : (k0_pay1 (F := Ideal)) y = 0 := by
  pointwise [k0_pay1]

/-- The kernel's output is the weight's gradient. -/
theorem final2 (c : Dev nD) : (dats m 0 c).arrAt 2 cfg0.N = fun y : Weight.Idx => weightGrad (xs m c) (cts m c) (y 0) (y 1) := by
  refine (dats m 0 c).arrAt_eq_of_covers 2 _ (by decide +kernel) fun t hf y => ?_
  blk_simp
  rw [after0_2, Pipeline.eq_sum_fin_of_reset_step_apply_of_flush (fun n h => outsAt0 m c n h) 16 (fun _ => (0 : EReal)) (part m c)
    (fun t h j => by rw [outsAt0_A m c t h]; frame_out; rw [pay2, pay1])
    (fun t h j => by rw [outsAt0_B m c t h]; frame_out; rw [pay2]) t ((flush0_2 t).mp hf) _, zero_add]
  refine Eq.trans ?_ (congrArg (fun z : Weight.Idx => weightGrad (xs m c) (cts m c) (z 0) (z 1)) (?_ : ix2 (y 0) (y 1) = _))
  · unfold part weightGrad
    refine Fin.sum_mul_add_congr fun s k hl => ?_
    exact congrArg (fun a : Fin 16384 => xs m c (ix2 a (y 0)) * cts m c (ix2 a (y 1))) (run_row t s _ k hl)
  · blk_ext [idx2 t]

end Cert.OutKernel

namespace Cert.OutReference

open Cert.OutGradRefIdeal Cert.OutKernel Idealize.ShloMosaic Idealize.ShloMosaic.TcCoe Idealize.SL.Sem

variable (m : (ℓ : Loc nD τ sig) → Buf (Elt Ideal) ℓ)

abbrev xs (c : Dev nD) : Rows.Idx → EReal := m (c.tc.loc main_arg0)
abbrev cts (c : Dev nD) : Outs.Idx → EReal := m (c.tc.loc main_arg1)

/-- Every execution of the reference ends with the weight's gradient in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = (fun y : Weight.Idx => weightGrad (xs m c) (cts m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.OutGradRefIdeal.Value.run m ρ)
  funext y
  pointwise
  exact Finset.sum_congr rfl fun r _ => mul_comm _ _

end Cert.OutReference

namespace Cert.Out

open Idealize.ShloMosaic Idealize.ShloMosaic.TcCoe

/-- The reference's run ends with its arguments unchanged and every counter at zero: it has none. -/
theorem reference_frame : Cert.quiescent_OutGradRefIdeal := fun m g _ =>
  θ_run_mono (Cert.OutReference.run m g) fun r h => ⟨fun c => (h c).2, sem_eq_zero_of_no_sems rfl r.2⟩

/-- The kernel's output is the reference's result, over the extended reals. -/
theorem algebraic : Cert.algebraic_OutGradIdeal_OutGradRefIdeal := by
  pair_intro
  · run_from Cert.OutGradIdeal.Gen.run_main m g
  · refine θ_run_mono (Cert.OutReference.run m' g') fun r h c => ⟨(h c).1.trans ?_, (h c).2⟩
    clear h
    obtain ⟨ea, ed⟩ : Cert.OutReference.xs m' c = Cert.OutKernel.xs m c ∧ Cert.OutReference.cts m' c = Cert.OutKernel.cts m c := hagree c
    refine Eq.trans ?_ (Cert.OutKernel.final2 m c).symm
    rw [ea, ed]

end Cert.Out

end
-- ==== Proof.In.lean ====
/- The gradient of the input projection's weight, in the kernel's layout of 3328 columns: the input rows, transposed, times
   the cotangent.  The kernel works on two tiles of 1664 columns and sums each over runs of 1024 rows; the reference is one
   product. -/
module

public import proofs.«01_k».proof.Defs
public import proofs.«01_k».proof.Proof.Gen.InGradIdeal.Frame
public import proofs.«01_k».proof.Proof.Gen.InGradIdeal.Value
public import proofs.«01_k».proof.Proof.Gen.InGradRefIdeal.Run
public import Idealize.ShloMosaic.Lib.Pipeline.ValueKit
public import Idealize.ShloMosaic.Lib.Pointwise

@[expose] public section

set_option maxRecDepth 16384

noncomputable section

namespace Cert.InKernel

open Cert.InGradIdeal Cert.InGradIdeal.Gen Idealize.ShloMosaic Idealize.ShloMosaic.TcCoe

/-- The shapes of the input, of the cotangent and of the weight. -/
abbrev Rows : Shape := ⟨2, ![16384, 1024]⟩
abbrev Outs : Shape := ⟨2, ![16384, 3328]⟩
abbrev Weight : Shape := ⟨2, ![1024, 3328]⟩
abbrev Tile : Shape := ⟨2, ![1024, 1664]⟩

/-- The weight's gradient at row `k`, column `n`. -/
def weightGrad (A : Rows.Idx → EReal) (D : Outs.Idx → EReal) (k : Fin 1024) (n : Fin 3328) : EReal :=
  ∑ r : Fin 16384, A (ix2 r k) * D (ix2 r n)

variable (m : (ℓ : Loc nD τ sig) → Buf (Elt Ideal) ℓ)

theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)
theorem idx2 : ∀ t : Fin cfg0.N, win0_2.index t = ![0, t.val / 16] := (by decide +kernel : ∀ t : Fin grid0.N, _)

/-- The two arguments, on device `c`. -/
abbrev xs (c : Dev nD) : Rows.Idx → EReal := m ((c.tc : Thread nD τ).loc main_arg0)
abbrev cts (c : Dev nD) : Outs.Idx → EReal := m ((c.tc : Thread nD τ).loc main_arg1)

/-- A point's rows and columns in the whole arrays. -/
def row (t : Fin cfg0.N) (r : Fin 1024) : Fin 16384 := ⟨t.val % 16 * 1024 + r.val, by omega⟩
def col (t : Fin cfg0.N) (n : Fin 1664) : Fin 3328 := ⟨t.val / 16 * 1664 + n.val, by have : t.val < 32 := t.isLt; omega⟩

theorem block0 (c : Dev nD) (t : Fin cfg0.N) (r : Fin 1024) (k : Fin 1024) :
    (iblk m c 0 t : Vec Ideal S1024x1024 .bf16) (ix2 r k) = xs m c (ix2 (row t r) k) := by
  blk_point [iblk, V, idx0 t, row]

theorem block1 (c : Dev nD) (t : Fin cfg0.N) (r : Fin 1024) (n : Fin 1664) :
    (iblk m c 1 t : Vec Ideal S1024x1664 .bf16) (ix2 r n) = cts m c (ix2 (row t r) (col t n)) := by
  blk_point [iblk, V, idx1 t, row, col]

/-- The rows of the points of a run. -/
theorem run_row (t : Fin cfg0.N) (s : Fin 16) (h : 16 * (t.val / 16) + s.val < cfg0.N) (r : Fin 1024) (hl : s.val * 1024 + r.val < 16384) :
    row ⟨16 * (t.val / 16) + s.val, h⟩ r = ⟨s.val * 1024 + r.val, hl⟩ :=
  Fin.ext (by show (16 * (t.val / 16) + s.val) % 16 * 1024 + r.val = s.val * 1024 + r.val; omega)

theorem run_col (t : Fin cfg0.N) (s : Fin 16) (h : 16 * (t.val / 16) + s.val < cfg0.N) (n : Fin 1664) :
    col ⟨16 * (t.val / 16) + s.val, h⟩ n = col t n :=
  Fin.ext (by show (16 * (t.val / 16) + s.val) / 16 * 1664 + n.val = t.val / 16 * 1664 + n.val; omega)

/-- The product of a point's blocks: its rows' share of the gradient. -/
def part (c : Dev nD) (t : Fin cfg0.N) (y : Tile.Idx) : EReal :=
  ∑ r : Fin 1024, xs m c (ix2 (row t r) (y 0)) * cts m c (ix2 (row t r) (col t (y 1)))

/-- What a point adds to the block it accumulates. -/
theorem pay2 (c : Dev nD) (t : Fin cfg0.N) (prev : Vec Ideal S1024x1664 .f32) (y : Tile.Idx) :
    k0_pay2 prev (iblk m c 0 t) (iblk m c 1 t) y = prev y + part m c t y := by
  pointwise [k0_pay2]
  exact congrArg _ (Finset.sum_congr rfl fun r _ => congrArg₂ (· * ·) (block0 m c t r (y 0)) (block1 m c t r (y 1)))

theorem pay1 (y : Tile.Idx) : (k0_pay1 (F := Ideal)) y = 0 := by
  pointwise [k0_pay1]

/-- The kernel's output is the weight's gradient. -/
theorem final2 (c : Dev nD) : (dats m 0 c).arrAt 2 cfg0.N = fun y : Weight.Idx => weightGrad (xs m c) (cts m c) (y 0) (y 1) := by
  refine (dats m 0 c).arrAt_eq_of_covers 2 _ (by decide +kernel) fun t hf y => ?_
  blk_simp
  rw [after0_2, Pipeline.eq_sum_fin_of_reset_step_apply_of_flush (fun n h => outsAt0 m c n h) 16 (fun _ => (0 : EReal)) (part m c)
    (fun t h j => by rw [outsAt0_A m c t h]; frame_out; rw [pay2, pay1])
    (fun t h j => by rw [outsAt0_B m c t h]; frame_out; rw [pay2]) t ((flush0_2 t).mp hf) _, zero_add]
  refine Eq.trans ?_ (congrArg (fun z : Weight.Idx => weightGrad (xs m c) (cts m c) (z 0) (z 1)) (?_ : ix2 (y 0) (col t (y 1)) = _))
  · unfold part weightGrad
    refine Fin.sum_mul_add_congr fun s k hl => ?_
    exact congrArg₂ (fun (a : Fin 16384) (b : Fin 3328) => xs m c (ix2 a (y 0)) * cts m c (ix2 a b)) (run_row t s _ k hl) (run_col t s _ (y 1))
  · blk_ext [idx2 t, col]

end Cert.InKernel

namespace Cert.InReference

open Cert.InGradRefIdeal Cert.InKernel Idealize.ShloMosaic Idealize.ShloMosaic.TcCoe Idealize.SL.Sem

variable (m : (ℓ : Loc nD τ sig) → Buf (Elt Ideal) ℓ)

abbrev xs (c : Dev nD) : Rows.Idx → EReal := m (c.tc.loc main_arg0)
abbrev cts (c : Dev nD) : Outs.Idx → EReal := m (c.tc.loc main_arg1)

/-- Every execution of the reference ends with the weight's gradient in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = (fun y : Weight.Idx => weightGrad (xs m c) (cts m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.InGradRefIdeal.Value.run m ρ)
  funext y
  pointwise
  exact Finset.sum_congr rfl fun r _ => mul_comm _ _

end Cert.InReference

namespace Cert.In

open Idealize.ShloMosaic Idealize.ShloMosaic.TcCoe

/-- The reference's run ends with its arguments unchanged and every counter at zero: it has none. -/
theorem reference_frame : Cert.quiescent_InGradRefIdeal := fun m g _ =>
  θ_run_mono (Cert.InReference.run m g) fun r h => ⟨fun c => (h c).2, sem_eq_zero_of_no_sems rfl r.2⟩

/-- The kernel's output is the reference's result, over the extended reals. -/
theorem algebraic : Cert.algebraic_InGradIdeal_InGradRefIdeal := by
  pair_intro
  · run_from Cert.InGradIdeal.Gen.run_main m g
  · refine θ_run_mono (Cert.InReference.run m' g') fun r h c => ⟨(h c).1.trans ?_, (h c).2⟩
    clear h
    obtain ⟨ea, ed⟩ : Cert.InReference.xs m' c = Cert.InKernel.xs m c ∧ Cert.InReference.cts m' c = Cert.InKernel.cts m c := hagree c
    refine Eq.trans ?_ (Cert.InKernel.final2 m c).symm
    rw [ea, ed]

end Cert.In

end
-- ==== Proof.Kv.lean ====
/- The gradient of the rows the keys and values are made of: the six cotangents (three of keys, three of values), each times its
   columns of the weight.  The kernel sums six products; the reference is one product with the cotangents side by side. -/
module

public import proofs.«01_k».proof.Defs
public import proofs.«01_k».proof.Proof.Gen.KvGradIdeal.Frame
public import proofs.«01_k».proof.Proof.Gen.KvGradIdeal.Value
public import proofs.«01_k».proof.Proof.Gen.KvGradRefIdeal.Run
public import Idealize.ShloMosaic.Lib.Pipeline.ValueKit
public import Idealize.ShloMosaic.Lib.Pointwise

@[expose] public section

set_option maxRecDepth 16384

noncomputable section

namespace Cert.KvKernel

open Cert.KvGradIdeal Cert.KvGradIdeal.Gen Idealize.ShloMosaic Idealize.ShloMosaic.TcCoe

/-- The shapes of a cotangent, which is the gradient's, and of the weight. -/
abbrev Rows : Shape := ⟨2, ![16384, 1024]⟩
abbrev Weight : Shape := ⟨2, ![1024, 6144]⟩

/-- One cotangent's share of the gradient at row `r`, column `n`: with columns `i * 1024` and on of the weight. -/
def share (D : Rows.Idx → EReal) (W : Weight.Idx → EReal) (i : Fin 6) (r : Fin 16384) (n : Fin 1024) : EReal :=
  ∑ k : Fin 1024, D (ix2 r k) * W (ix2 n ⟨i.val * 1024 + k.val, by omega⟩)

/-- The gradient. -/
def grad (D0 D1 D2 D3 D4 D5 : Rows.Idx → EReal) (W : Weight.Idx → EReal) (r : Fin 16384) (n : Fin 1024) : EReal :=
  share D0 W 0 r n + share D1 W 1 r n + share D2 W 2 r n + share D3 W 3 r n + share D4 W 4 r n + share D5 W 5 r n

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val, 0] := (by decide +kernel : ∀ t : Fin grid0.N, _)

/-- The arguments, on device `c`. -/
abbrev ct0 (c : Dev nD) : Rows.Idx → EReal := m ((c.tc : Thread nD τ).loc main_arg0)
abbrev ct1 (c : Dev nD) : Rows.Idx → EReal := m ((c.tc : Thread nD τ).loc main_arg1)
abbrev ct2 (c : Dev nD) : Rows.Idx → EReal := m ((c.tc : Thread nD τ).loc main_arg2)
abbrev ct3 (c : Dev nD) : Rows.Idx → EReal := m ((c.tc : Thread nD τ).loc main_arg3)
abbrev ct4 (c : Dev nD) : Rows.Idx → EReal := m ((c.tc : Thread nD τ).loc main_arg4)
abbrev ct5 (c : Dev nD) : Rows.Idx → EReal := m ((c.tc : Thread nD τ).loc main_arg5)
abbrev ws (c : Dev nD) : Weight.Idx → EReal := m ((c.tc : Thread nD τ).loc main_arg6)

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 1024) :
    (iblk m c 0 t : Vec Ideal S512x1024 .bf16) (ix2 r k) = ct0 m c (ix2 (row t r) k) := by
  blk_point [iblk, V, idx0 t, row]
theorem block1 (c : Dev nD) (t : Fin cfg0.N) (r : Fin 512) (k : Fin 1024) :
    (iblk m c 1 t : Vec Ideal S512x1024 .bf16) (ix2 r k) = ct1 m c (ix2 (row t r) k) := by
  blk_point [iblk, V, idx1 t, row]
theorem block2 (c : Dev nD) (t : Fin cfg0.N) (r : Fin 512) (k : Fin 1024) :
    (iblk m c 2 t : Vec Ideal S512x1024 .bf16) (ix2 r k) = ct2 m c (ix2 (row t r) k) := by
  blk_point [iblk, V, idx2 t, row]
theorem block3 (c : Dev nD) (t : Fin cfg0.N) (r : Fin 512) (k : Fin 1024) :
    (iblk m c 3 t : Vec Ideal S512x1024 .bf16) (ix2 r k) = ct3 m c (ix2 (row t r) k) := by
  blk_point [iblk, V, idx3 t, row]
theorem block4 (c : Dev nD) (t : Fin cfg0.N) (r : Fin 512) (k : Fin 1024) :
    (iblk m c 4 t : Vec Ideal S512x1024 .bf16) (ix2 r k) = ct4 m c (ix2 (row t r) k) := by
  blk_point [iblk, V, idx4 t, row]
theorem block5 (c : Dev nD) (t : Fin cfg0.N) (r : Fin 512) (k : Fin 1024) :
    (iblk m c 5 t : Vec Ideal S512x1024 .bf16) (ix2 r k) = ct5 m c (ix2 (row t r) k) := by
  blk_point [iblk, V, idx5 t, row]

/-- What the host hands the kernel as weights: the weight, transposed, in six pieces of 1024 rows. -/
theorem entry6 (c : Dev nD) (k n : Fin 1024) :
    (V m c main_v1 : (⟨2, ![1024, 1024]⟩ : Shape).Idx → EReal) (ix2 k n) = ws m c (ix2 n ⟨(0 : Fin 6).val * 1024 + k.val, by omega⟩) := by
  entry_read
  pointwise

theorem block6 (c : Dev nD) (t : Fin cfg0.N) (k n : Fin 1024) :
    (iblk m c 6 t : Vec Ideal S1024x1024 .bf16) (ix2 k n) = ws m c (ix2 n ⟨(0 : Fin 6).val * 1024 + k.val, by omega⟩) := by
  have e : (win0_6.blk t).view.emb (ix2 k n) = ix2 k n := by
    blk_ext [idx6 t]
  exact (congrArg (V m c main_v1 : (⟨2, ![1024, 1024]⟩ : Shape).Idx → EReal) e).trans (entry6 m c k n)
theorem entry7 (c : Dev nD) (k n : Fin 1024) :
    (V m c main_v2 : (⟨2, ![1024, 1024]⟩ : Shape).Idx → EReal) (ix2 k n) = ws m c (ix2 n ⟨(1 : Fin 6).val * 1024 + k.val, by omega⟩) := by
  entry_read
  pointwise

theorem block7 (c : Dev nD) (t : Fin cfg0.N) (k n : Fin 1024) :
    (iblk m c 7 t : Vec Ideal S1024x1024 .bf16) (ix2 k n) = ws m c (ix2 n ⟨(1 : Fin 6).val * 1024 + k.val, by omega⟩) := by
  have e : (win0_7.blk t).view.emb (ix2 k n) = ix2 k n := by
    blk_ext [idx7 t]
  exact (congrArg (V m c main_v2 : (⟨2, ![1024, 1024]⟩ : Shape).Idx → EReal) e).trans (entry7 m c k n)
theorem entry8 (c : Dev nD) (k n : Fin 1024) :
    (V m c main_v3 : (⟨2, ![1024, 1024]⟩ : Shape).Idx → EReal) (ix2 k n) = ws m c (ix2 n ⟨(2 : Fin 6).val * 1024 + k.val, by omega⟩) := by
  entry_read
  pointwise

theorem block8 (c : Dev nD) (t : Fin cfg0.N) (k n : Fin 1024) :
    (iblk m c 8 t : Vec Ideal S1024x1024 .bf16) (ix2 k n) = ws m c (ix2 n ⟨(2 : Fin 6).val * 1024 + k.val, by omega⟩) := by
  have e : (win0_8.blk t).view.emb (ix2 k n) = ix2 k n := by
    blk_ext [idx8 t]
  exact (congrArg (V m c main_v3 : (⟨2, ![1024, 1024]⟩ : Shape).Idx → EReal) e).trans (entry8 m c k n)
theorem entry9 (c : Dev nD) (k n : Fin 1024) :
    (V m c main_v4 : (⟨2, ![1024, 1024]⟩ : Shape).Idx → EReal) (ix2 k n) = ws m c (ix2 n ⟨(3 : Fin 6).val * 1024 + k.val, by omega⟩) := by
  entry_read
  pointwise

theorem block9 (c : Dev nD) (t : Fin cfg0.N) (k n : Fin 1024) :
    (iblk m c 9 t : Vec Ideal S1024x1024 .bf16) (ix2 k n) = ws m c (ix2 n ⟨(3 : Fin 6).val * 1024 + k.val, by omega⟩) := by
  have e : (win0_9.blk t).view.emb (ix2 k n) = ix2 k n := by
    blk_ext [idx9 t]
  exact (congrArg (V m c main_v4 : (⟨2, ![1024, 1024]⟩ : Shape).Idx → EReal) e).trans (entry9 m c k n)
theorem entry10 (c : Dev nD) (k n : Fin 1024) :
    (V m c main_v5 : (⟨2, ![1024, 1024]⟩ : Shape).Idx → EReal) (ix2 k n) = ws m c (ix2 n ⟨(4 : Fin 6).val * 1024 + k.val, by omega⟩) := by
  entry_read
  pointwise

theorem block10 (c : Dev nD) (t : Fin cfg0.N) (k n : Fin 1024) :
    (iblk m c 10 t : Vec Ideal S1024x1024 .bf16) (ix2 k n) = ws m c (ix2 n ⟨(4 : Fin 6).val * 1024 + k.val, by omega⟩) := by
  have e : (win0_10.blk t).view.emb (ix2 k n) = ix2 k n := by
    blk_ext [idx10 t]
  exact (congrArg (V m c main_v5 : (⟨2, ![1024, 1024]⟩ : Shape).Idx → EReal) e).trans (entry10 m c k n)
theorem entry11 (c : Dev nD) (k n : Fin 1024) :
    (V m c main_v6 : (⟨2, ![1024, 1024]⟩ : Shape).Idx → EReal) (ix2 k n) = ws m c (ix2 n ⟨(5 : Fin 6).val * 1024 + k.val, by omega⟩) := by
  entry_read
  pointwise

theorem block11 (c : Dev nD) (t : Fin cfg0.N) (k n : Fin 1024) :
    (iblk m c 11 t : Vec Ideal S1024x1024 .bf16) (ix2 k n) = ws m c (ix2 n ⟨(5 : Fin 6).val * 1024 + k.val, by omega⟩) := by
  have e : (win0_11.blk t).view.emb (ix2 k n) = ix2 k n := by
    blk_ext [idx11 t]
  exact (congrArg (V m c main_v6 : (⟨2, ![1024, 1024]⟩ : Shape).Idx → EReal) e).trans (entry11 m c k n)

/-- The body's sum of products, at one entry. -/
theorem pay1 (x0 x1 x2 x3 x4 x5 : Vec Ideal S512x1024 .bf16) (w0 w1 w2 w3 w4 w5 : Vec Ideal S1024x1024 .bf16) (r : Fin 512) (n : Fin 1024) :
    k0_pay1 x0 w0 x1 w1 x2 w2 x3 w3 x4 w4 x5 w5 (ix2 r n) = (∑ k : Fin 1024, x0 (ix2 r k) * w0 (ix2 k n)) + (∑ k : Fin 1024, x1 (ix2 r k) * w1 (ix2 k n)) + (∑ k : Fin 1024, x2 (ix2 r k) * w2 (ix2 k n)) + (∑ k : Fin 1024, x3 (ix2 r k) * w3 (ix2 k n)) + (∑ k : Fin 1024, x4 (ix2 r k) * w4 (ix2 k n)) + (∑ k : Fin 1024, x5 (ix2 r k) * w5 (ix2 k n)) := by
  pointwise [k0_pay1]

/-- A point's block of the gradient. -/
theorem point_grad (c : Dev nD) (t : Fin cfg0.N) (r : Fin 512) (n : Fin 1024) :
    k0_pay1 (iblk m c 0 t) (iblk m c 6 t) (iblk m c 1 t) (iblk m c 7 t) (iblk m c 2 t) (iblk m c 8 t) (iblk m c 3 t) (iblk m c 9 t) (iblk m c 4 t) (iblk m c 10 t) (iblk m c 5 t) (iblk m c 11 t) (ix2 r n)
      = grad (ct0 m c) (ct1 m c) (ct2 m c) (ct3 m c) (ct4 m c) (ct5 m c) (ws m c) (row t r) n := by
  refine (pay1 _ _ _ _ _ _ _ _ _ _ _ _ r n).trans ?_
  unfold grad share
  exact congrArg₂ (· + ·) (congrArg₂ (· + ·) (congrArg₂ (· + ·) (congrArg₂ (· + ·) (congrArg₂ (· + ·) (Finset.sum_congr rfl fun k _ => congrArg₂ (· * ·) (block0 m c t r k) (block6 m c t k n)) (Finset.sum_congr rfl fun k _ => congrArg₂ (· * ·) (block1 m c t r k) (block7 m c t k n))) (Finset.sum_congr rfl fun k _ => congrArg₂ (· * ·) (block2 m c t r k) (block8 m c t k n))) (Finset.sum_congr rfl fun k _ => congrArg₂ (· * ·) (block3 m c t r k) (block9 m c t k n))) (Finset.sum_congr rfl fun k _ => congrArg₂ (· * ·) (block4 m c t r k) (block10 m c t k n))) (Finset.sum_congr rfl fun k _ => congrArg₂ (· * ·) (block5 m c t r k) (block11 m c t k n))

/-- The kernel's output is the gradient. -/
theorem final12 (c : Dev nD) : (dats m 0 c).arrAt 12 cfg0.N
    = fun y : Rows.Idx => grad (ct0 m c) (ct1 m c) (ct2 m c) (ct3 m c) (ct4 m c) (ct5 m c) (ws m c) (y 0) (y 1) := by
  refine (dats m 0 c).arrAt_eq_of_covers 12 _ (by decide +kernel) fun t hf y => ?_
  blk_simp
  rw [after0_12]
  frame_out
  refine (congrArg (k0_pay1 (iblk m c 0 t) (iblk m c 6 t) (iblk m c 1 t) (iblk m c 7 t) (iblk m c 2 t) (iblk m c 8 t) (iblk m c 3 t) (iblk m c 9 t) (iblk m c 4 t) (iblk m c 10 t) (iblk m c 5 t) (iblk m c 11 t)) (eq_ix2 y)).trans ((point_grad m c t (y 0) (y 1)).trans ?_)
  have e : (win0_12.blk t).view.emb y = ix2 (row t (y 0)) (y 1) := by
    blk_ext [idx12 t, row]
  exact (congrArg (fun z : Rows.Idx => grad (ct0 m c) (ct1 m c) (ct2 m c) (ct3 m c) (ct4 m c) (ct5 m c) (ws m c) (z 0) (z 1)) e).symm

end Cert.KvKernel

namespace Cert.KvReference

open Cert.KvGradRefIdeal Cert.KvGradRefIdeal.Gen Cert.KvKernel Idealize.ShloMosaic Idealize.ShloMosaic.TcCoe Idealize.SL.Sem

variable (m : (ℓ : Loc nD τ sig) → Buf (Elt Ideal) ℓ)

abbrev ct0 (c : Dev nD) : Rows.Idx → EReal := m (c.tc.loc main_arg0)
abbrev ct1 (c : Dev nD) : Rows.Idx → EReal := m (c.tc.loc main_arg1)
abbrev ct2 (c : Dev nD) : Rows.Idx → EReal := m (c.tc.loc main_arg2)
abbrev ct3 (c : Dev nD) : Rows.Idx → EReal := m (c.tc.loc main_arg3)
abbrev ct4 (c : Dev nD) : Rows.Idx → EReal := m (c.tc.loc main_arg4)
abbrev ct5 (c : Dev nD) : Rows.Idx → EReal := m (c.tc.loc main_arg5)
abbrev ws (c : Dev nD) : Weight.Idx → EReal := m (c.tc.loc main_arg6)

/-- The six cotangents, side by side. -/
abbrev side (D0 D1 D2 D3 D4 D5 : Vec Ideal S16384x1024 .bf16) : FVec Ideal S16384x6144 .bf16 :=
  concatenate S16384x6144 1 [⟨S16384x1024, (D0 : Vec Ideal S16384x1024 .bf16)⟩, ⟨S16384x1024, (D1 : Vec Ideal S16384x1024 .bf16)⟩, ⟨S16384x1024, (D2 : Vec Ideal S16384x1024 .bf16)⟩, ⟨S16384x1024, (D3 : Vec Ideal S16384x1024 .bf16)⟩, ⟨S16384x1024, (D4 : Vec Ideal S16384x1024 .bf16)⟩, ⟨S16384x1024, (D5 : Vec Ideal S16384x1024 .bf16)⟩] concatenates_S16384x1024_S16384x1024_S16384x1024_S16384x1024_S16384x1024_S16384x1024_S16384x6144_d1

theorem side0 (D0 D1 D2 D3 D4 D5 : Vec Ideal S16384x1024 .bf16) (r : Fin 16384) (k : Fin 1024) :
    side D0 D1 D2 D3 D4 D5 (ix2 r ⟨0 * 1024 + k.val, by omega⟩) = D0 (ix2 r k) := by
  pointwise [side]
theorem side1 (D0 D1 D2 D3 D4 D5 : Vec Ideal S16384x1024 .bf16) (r : Fin 16384) (k : Fin 1024) :
    side D0 D1 D2 D3 D4 D5 (ix2 r ⟨1 * 1024 + k.val, by omega⟩) = D1 (ix2 r k) := by
  pointwise [side]
theorem side2 (D0 D1 D2 D3 D4 D5 : Vec Ideal S16384x1024 .bf16) (r : Fin 16384) (k : Fin 1024) :
    side D0 D1 D2 D3 D4 D5 (ix2 r ⟨2 * 1024 + k.val, by omega⟩) = D2 (ix2 r k) := by
  pointwise [side]
  rw [dif_neg (show ¬2048 + k.val < 1024 by omega)]
  rw [dif_neg (show ¬2048 + k.val - 1024 < 1024 by omega)]
  rw [dif_pos (show 2048 + k.val - 1024 - 1024 < 1024 by omega)]
  exact congrArg (fun a => D2 (ix2 r a)) (Fin.ext (by show 2048 + k.val - 1024 - 1024 = k.val; omega))
theorem side3 (D0 D1 D2 D3 D4 D5 : Vec Ideal S16384x1024 .bf16) (r : Fin 16384) (k : Fin 1024) :
    side D0 D1 D2 D3 D4 D5 (ix2 r ⟨3 * 1024 + k.val, by omega⟩) = D3 (ix2 r k) := by
  pointwise [side]
  rw [dif_neg (show ¬3072 + k.val < 1024 by omega)]
  rw [dif_neg (show ¬3072 + k.val - 1024 < 1024 by omega)]
  rw [dif_neg (show ¬3072 + k.val - 1024 - 1024 < 1024 by omega)]
  rw [dif_pos (show 3072 + k.val - 1024 - 1024 - 1024 < 1024 by omega)]
  exact congrArg (fun a => D3 (ix2 r a)) (Fin.ext (by show 3072 + k.val - 1024 - 1024 - 1024 = k.val; omega))
theorem side4 (D0 D1 D2 D3 D4 D5 : Vec Ideal S16384x1024 .bf16) (r : Fin 16384) (k : Fin 1024) :
    side D0 D1 D2 D3 D4 D5 (ix2 r ⟨4 * 1024 + k.val, by omega⟩) = D4 (ix2 r k) := by
  pointwise [side]
  rw [dif_neg (show ¬4096 + k.val < 1024 by omega)]
  rw [dif_neg (show ¬4096 + k.val - 1024 < 1024 by omega)]
  rw [dif_neg (show ¬4096 + k.val - 1024 - 1024 < 1024 by omega)]
  rw [dif_neg (show ¬4096 + k.val - 1024 - 1024 - 1024 < 1024 by omega)]
  rw [dif_pos (show 4096 + k.val - 1024 - 1024 - 1024 - 1024 < 1024 by omega)]
  exact congrArg (fun a => D4 (ix2 r a)) (Fin.ext (by show 4096 + k.val - 1024 - 1024 - 1024 - 1024 = k.val; omega))
theorem side5 (D0 D1 D2 D3 D4 D5 : Vec Ideal S16384x1024 .bf16) (r : Fin 16384) (k : Fin 1024) :
    side D0 D1 D2 D3 D4 D5 (ix2 r ⟨5 * 1024 + k.val, by omega⟩) = D5 (ix2 r k) := by
  pointwise [side]
  rw [dif_neg (show ¬5120 + k.val < 1024 by omega)]
  rw [dif_neg (show ¬5120 + k.val - 1024 < 1024 by omega)]
  rw [dif_neg (show ¬5120 + k.val - 1024 - 1024 < 1024 by omega)]
  rw [dif_neg (show ¬5120 + k.val - 1024 - 1024 - 1024 < 1024 by omega)]
  rw [dif_neg (show ¬5120 + k.val - 1024 - 1024 - 1024 - 1024 < 1024 by omega)]
  exact congrArg (fun a => D5 (ix2 r a)) (Fin.ext (by show 5120 + k.val - 1024 - 1024 - 1024 - 1024 - 1024 = k.val; omega))

/-- A sum over 6144 columns, 1024 at a time. -/
theorem sum_six (f : Fin 6144 → EReal) :
    ∑ q, f q = (∑ k : Fin 1024, f ⟨0 * 1024 + k.val, by omega⟩) + (∑ k : Fin 1024, f ⟨1 * 1024 + k.val, by omega⟩) + (∑ k : Fin 1024, f ⟨2 * 1024 + k.val, by omega⟩) + (∑ k : Fin 1024, f ⟨3 * 1024 + k.val, by omega⟩) + (∑ k : Fin 1024, f ⟨4 * 1024 + k.val, by omega⟩) + (∑ k : Fin 1024, f ⟨5 * 1024 + k.val, by omega⟩) :=
  (Fin.sum_mul_add_congr (F := fun (s : Fin 6) (k : Fin 1024) => f ⟨s.val * 1024 + k.val, by omega⟩) fun s k hl => rfl).symm.trans (Fin.sum_univ_six _)

/-- The reference's product. -/
abbrev product (D : FVec Ideal S16384x6144 .bf16) (W : FVec Ideal S1024x6144 .bf16) : FVec Ideal S16384x1024 .f32 :=
  Host.dotGeneral dot_S16384x6144_S1024x6144_S16384x1024_1_1_0_0_n_n none (extf .f32 D bitsLt_bf16_f32) (extf .f32 W bitsLt_bf16_f32)

theorem product_eq (D : FVec Ideal S16384x6144 .bf16) (W : FVec Ideal S1024x6144 .bf16) (r : Fin 16384) (n : Fin 1024) :
    product D W (ix2 r n) = ∑ q : Fin 6144, D (ix2 r q) * W (ix2 n q) := by
  pointwise [product]

theorem grad_eq (D0 D1 D2 D3 D4 D5 : Vec Ideal S16384x1024 .bf16) (W : FVec Ideal S1024x6144 .bf16) (r : Fin 16384) (n : Fin 1024) :
    product (side D0 D1 D2 D3 D4 D5) W (ix2 r n) = grad D0 D1 D2 D3 D4 D5 W r n := by
  refine (product_eq _ W r n).trans ((sum_six _).trans ?_)
  unfold grad share
  exact congrArg₂ (· + ·) (congrArg₂ (· + ·) (congrArg₂ (· + ·) (congrArg₂ (· + ·) (congrArg₂ (· + ·) (Finset.sum_congr rfl fun k _ => congrArg (· * _) (side0 D0 D1 D2 D3 D4 D5 r k)) (Finset.sum_congr rfl fun k _ => congrArg (· * _) (side1 D0 D1 D2 D3 D4 D5 r k))) (Finset.sum_congr rfl fun k _ => congrArg (· * _) (side2 D0 D1 D2 D3 D4 D5 r k))) (Finset.sum_congr rfl fun k _ => congrArg (· * _) (side3 D0 D1 D2 D3 D4 D5 r k))) (Finset.sum_congr rfl fun k _ => congrArg (· * _) (side4 D0 D1 D2 D3 D4 D5 r k))) (Finset.sum_congr rfl fun k _ => congrArg (· * _) (side5 D0 D1 D2 D3 D4 D5 r k))

/-- Every execution of the reference ends with the gradient in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = (fun y : Rows.Idx => grad (ct0 m c) (ct1 m c) (ct2 m c) (ct3 m c) (ct4 m c) (ct5 m c) (ws m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Cert.KvGradRefIdeal.Value.run m ρ)
  funext y
  obtain ⟨r, n, rfl⟩ : ∃ (r : Fin 16384) (n : Fin 1024), y = ix2 r n := ⟨y 0, y 1, eq_ix2 y⟩
  exact grad_eq (ct0 m c) (ct1 m c) (ct2 m c) (ct3 m c) (ct4 m c) (ct5 m c) (ws m c) r n

end Cert.KvReference

namespace Cert.Kv

open Idealize.ShloMosaic Idealize.ShloMosaic.TcCoe

/-- The reference's run ends with its arguments unchanged and every counter at zero: it has none. -/
theorem reference_frame : Cert.quiescent_KvGradRefIdeal := fun m g _ =>
  θ_run_mono (Cert.KvReference.run m g) fun r h => ⟨fun c => (h c).2, sem_eq_zero_of_no_sems rfl r.2⟩

/-- The kernel's output is the reference's result, over the extended reals. -/
theorem algebraic : Cert.algebraic_KvGradIdeal_KvGradRefIdeal := by
  pair_intro
  · run_from Cert.KvGradIdeal.Gen.run_main m g
  · refine θ_run_mono (Cert.KvReference.run m' g') fun r h c => ⟨(h c).1.trans ?_, (h c).2⟩
    clear h
    obtain ⟨e0, e1, e2, e3, e4, e5, ew⟩ : Cert.KvReference.ct0 m' c = Cert.KvKernel.ct0 m c ∧ Cert.KvReference.ct1 m' c = Cert.KvKernel.ct1 m c ∧ Cert.KvReference.ct2 m' c = Cert.KvKernel.ct2 m c ∧ Cert.KvReference.ct3 m' c = Cert.KvKernel.ct3 m c ∧ Cert.KvReference.ct4 m' c = Cert.KvKernel.ct4 m c ∧ Cert.KvReference.ct5 m' c = Cert.KvKernel.ct5 m c ∧ Cert.KvReference.ws m' c = Cert.KvKernel.ws m c := hagree c
    refine Eq.trans ?_ (Cert.KvKernel.final12 m c).symm
    rw [e0, e1, e2, e3, e4, e5, ew]

end Cert.Kv

end
-- ==== Proof.Mix.lean ====
/- The gradient through the normalisation before the attention block: the cotangent of the queries' rows is three products with the
   queries' weight, and the keys' and values' rows, normalised the same with a gain of their own, bring a second cotangent.  The
   results are the rows' gradient, added to the one that comes past, and the two gains' gradients. -/
module

public import proofs.«01_k».proof.Defs
public import proofs.«01_k».proof.Proof.Gen.MixNormIdeal.Frame
public import proofs.«01_k».proof.Proof.Gen.MixNormIdeal.Value
public import proofs.«01_k».proof.Proof.Gen.MixNormRefIdeal.Run
public import proofs.«01_k».proof.Proof.Gen.Pre_mix_norm_finite
public import proofs.«01_k».proof.Proof.Norm
public import Idealize.ShloMosaic.Lib.Pipeline.ValueKit
public import Idealize.ShloMosaic.Lib.Pointwise

@[expose] public section

set_option maxRecDepth 16384

noncomputable section

namespace Cert.MixSum

open Idealize.ShloMosaic Cert.Reals
open Cert.NormSum (gradRow)

/-- The shapes of the rows, which is the cotangents', of the weight, and of a gain. -/
abbrev Rows : Shape := ⟨2, ![16384, 1024]⟩
abbrev Weight : Shape := ⟨2, ![1024, 3072]⟩
abbrev Gain : Shape := ⟨2, ![1, 1024]⟩

/-- One cotangent's share of the queries' rows' cotangent: with columns `i * 1024` and on of the weight. -/
def share (D : Rows.Idx → EReal) (W : Weight.Idx → EReal) (i : Fin 3) (r : Fin 16384) (n : Fin 1024) : EReal :=
  ∑ k : Fin 1024, D (ix2 r k) * W (ix2 n ⟨i.val * 1024 + k.val, by omega⟩)

/-- The cotangent of the queries' normalised row `r`, at column `n`. -/
def ct (D0 D1 D2 : Rows.Idx → EReal) (W : Weight.Idx → EReal) (r : Fin 16384) (n : Fin 1024) : EReal :=
  share D0 W 0 r n + share D1 W 1 r n + share D2 W 2 r n

/-- The gradient of the rows: `Y` and `K` are the two cotangents, `G` and `H` their gains, `P` comes past the normalisation. -/
def gradX (Y : Fin 16384 → Fin 1024 → EReal) (G : Gain.Idx → EReal) (X P K : Rows.Idx → EReal) (H : Gain.Idx → EReal)
    (r : Fin 16384) (n : Fin 1024) : EReal :=
  gradRow (gradRow (P (ix2 r n)) (fun j => X (ix2 r j)) (Y r) (fun j => G (ix2 0 j)) n)
    (fun j => X (ix2 r j)) (fun j => K (ix2 r j)) (fun j => H (ix2 0 j)) n

/-- The gradient of the gain of cotangent `Y`. -/
def gradG (Y : Fin 16384 → Fin 1024 → EReal) (X : Rows.Idx → EReal) (n : Fin 1024) : EReal :=
  ∑ r : Fin 16384, Y r n * (X (ix2 r n) * Ideal.rsqrt (meanSq fun j => X (ix2 r j)))

/-- The two shares of a row's gradient may be added in either order. -/
theorem gradRow_comm {n : ℕ} (d : EReal) (x y g z h : Fin n → EReal) (i : Fin n) :
    gradRow (gradRow d x y g i) x z h i = gradRow (gradRow d x z h i) x y g i := by
  unfold gradRow
  exact add_right_comm _ _ _

/-- The arguments are real numbers throughout; what comes past the normalisation may be anything. -/
structure Finite (D0 D1 D2 : Rows.Idx → EReal) (W : Weight.Idx → EReal) (G : Gain.Idx → EReal) (X K : Rows.Idx → EReal)
    (H : Gain.Idx → EReal) : Prop where
  d0 : ∀ i, IsReal (D0 i)
  d1 : ∀ i, IsReal (D1 i)
  d2 : ∀ i, IsReal (D2 i)
  w : ∀ i, IsReal (W i)
  g : ∀ i, IsReal (G i)
  x : ∀ i, IsReal (X i)
  k : ∀ i, IsReal (K i)
  h : ∀ i, IsReal (H i)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem ct_real {D0 D1 D2 : Rows.Idx → EReal} {W : Weight.Idx → EReal} {G : Gain.Idx → EReal} {X K : Rows.Idx → EReal}
    {H : Gain.Idx → EReal} (f : Finite D0 D1 D2 W G X K H) (r : Fin 16384) (n : Fin 1024) : IsReal (ct D0 D1 D2 W r n) :=
  IsReal.add (IsReal.add (.sum _ _ fun _ => .mul (f.d0 _) (f.w _)) (.sum _ _ fun _ => .mul (f.d1 _) (f.w _))) (.sum _ _ fun _ => .mul (f.d2 _) (f.w _))

end Cert.MixSum

namespace Cert.MixKernel

open Cert.NormSum (gradRow)
open Cert.MixNormIdeal Cert.MixNormIdeal.Gen Cert.MixSum Cert.Reals Idealize.ShloMosaic Idealize.ShloMosaic.TcCoe

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)

/-- The arguments, on device `c`. -/
abbrev d0 (c : Dev nD) : Rows.Idx → EReal := m ((c.tc : Thread nD τ).loc main_arg0)
abbrev d1 (c : Dev nD) : Rows.Idx → EReal := m ((c.tc : Thread nD τ).loc main_arg1)
abbrev d2 (c : Dev nD) : Rows.Idx → EReal := m ((c.tc : Thread nD τ).loc main_arg2)
abbrev ws (c : Dev nD) : Weight.Idx → EReal := m ((c.tc : Thread nD τ).loc main_arg3)
abbrev gain (c : Dev nD) : Gain.Idx → EReal := m ((c.tc : Thread nD τ).loc main_arg4)
abbrev rows (c : Dev nD) : Rows.Idx → EReal := m ((c.tc : Thread nD τ).loc main_arg5)
abbrev past (c : Dev nD) : Rows.Idx → EReal := m ((c.tc : Thread nD τ).loc main_arg6)
abbrev kv (c : Dev nD) : Rows.Idx → EReal := m ((c.tc : Thread nD τ).loc main_arg7)
abbrev kvGain (c : Dev nD) : Gain.Idx → EReal := m ((c.tc : Thread nD τ).loc main_arg8)

theorem finite (h : Cert.Pre_MixNormIdeal_mix_norm_finite m) (c : Dev nD) : Finite (d0 m c) (d1 m c) (d2 m c) (ws m c) (gain m c) (rows m c) (kv m c) (kvGain m c) := by
  have e := congrFun (h c) (fun a => a.elim0)
  revert e
  pointwise [Cert.Pre_mix_norm_finite.fn, Cert.Pre_mix_norm_finite.fn_part1, Cert.Pre_mix_norm_finite.fn_part2]
  intro e
  obtain ⟨e, e7⟩ := both_one _ _ e
  obtain ⟨e, e6⟩ := both_one _ _ e
  obtain ⟨e, e5⟩ := both_one _ _ e
  obtain ⟨e, e4⟩ := both_one _ _ e
  obtain ⟨e, e3⟩ := both_one _ _ e
  obtain ⟨e, e2⟩ := both_one _ _ e
  obtain ⟨e0, e1⟩ := both_one _ _ e
  exact ⟨fun i => by have := isReal_of_test (all_one _ e0 (i 0, i 1)); rwa [← eq_ix2 i] at this,
    fun i => by have := isReal_of_test (all_one _ e1 (i 0, i 1)); rwa [← eq_ix2 i] at this,
    fun i => by have := isReal_of_test (all_one _ e2 (i 0, i 1)); rwa [← eq_ix2 i] at this,
    fun i => by have := isReal_of_test (all_one _ e3 (i 0, i 1)); rwa [← eq_ix2 i] at this,
    fun i => by have := isReal_of_test (all_one _ e4 (i 0, i 1)); rwa [← eq_ix2 i] at this,
    fun i => by have := isReal_of_test (all_one _ e5 (i 0, i 1)); rwa [← eq_ix2 i] at this,
    fun i => by have := isReal_of_test (all_one _ e6 (i 0, i 1)); rwa [← eq_ix2 i] at this,
    fun i => by have := isReal_of_test (all_one _ e7 (i 0, i 1)); rwa [← eq_ix2 i] at this⟩

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 1024) :
    (iblk m c 0 t : Vec Ideal S512x1024 .bf16) (ix2 r k) = d0 m c (ix2 (row t r) k) := by
  blk_point [iblk, V, idx0 t, row]
theorem block1 (c : Dev nD) (t : Fin cfg0.N) (r : Fin 512) (k : Fin 1024) :
    (iblk m c 1 t : Vec Ideal S512x1024 .bf16) (ix2 r k) = d1 m c (ix2 (row t r) k) := by
  blk_point [iblk, V, idx1 t, row]
theorem block2 (c : Dev nD) (t : Fin cfg0.N) (r : Fin 512) (k : Fin 1024) :
    (iblk m c 2 t : Vec Ideal S512x1024 .bf16) (ix2 r k) = d2 m c (ix2 (row t r) k) := by
  blk_point [iblk, V, idx2 t, row]

/-- What the host hands the kernel as weights: the weight, transposed, in three pieces of 1024 rows. -/
theorem entry3 (c : Dev nD) (k n : Fin 1024) :
    (V m c main_v1 : (⟨2, ![1024, 1024]⟩ : Shape).Idx → EReal) (ix2 k n) = ws m c (ix2 n ⟨(0 : Fin 3).val * 1024 + k.val, by omega⟩) := by
  entry_read
  pointwise
theorem block3 (c : Dev nD) (t : Fin cfg0.N) (k n : Fin 1024) :
    (iblk m c 3 t : Vec Ideal S1024x1024 .bf16) (ix2 k n) = ws m c (ix2 n ⟨(0 : Fin 3).val * 1024 + k.val, by omega⟩) := by
  have e : (win0_3.blk t).view.emb (ix2 k n) = ix2 k n := by
    blk_ext [idx3 t]
  exact (congrArg (V m c main_v1 : (⟨2, ![1024, 1024]⟩ : Shape).Idx → EReal) e).trans (entry3 m c k n)
theorem entry4 (c : Dev nD) (k n : Fin 1024) :
    (V m c main_v2 : (⟨2, ![1024, 1024]⟩ : Shape).Idx → EReal) (ix2 k n) = ws m c (ix2 n ⟨(1 : Fin 3).val * 1024 + k.val, by omega⟩) := by
  entry_read
  pointwise
theorem block4 (c : Dev nD) (t : Fin cfg0.N) (k n : Fin 1024) :
    (iblk m c 4 t : Vec Ideal S1024x1024 .bf16) (ix2 k n) = ws m c (ix2 n ⟨(1 : Fin 3).val * 1024 + k.val, by omega⟩) := by
  have e : (win0_4.blk t).view.emb (ix2 k n) = ix2 k n := by
    blk_ext [idx4 t]
  exact (congrArg (V m c main_v2 : (⟨2, ![1024, 1024]⟩ : Shape).Idx → EReal) e).trans (entry4 m c k n)
theorem entry5 (c : Dev nD) (k n : Fin 1024) :
    (V m c main_v3 : (⟨2, ![1024, 1024]⟩ : Shape).Idx → EReal) (ix2 k n) = ws m c (ix2 n ⟨(2 : Fin 3).val * 1024 + k.val, by omega⟩) := by
  entry_read
  pointwise
theorem block5 (c : Dev nD) (t : Fin cfg0.N) (k n : Fin 1024) :
    (iblk m c 5 t : Vec Ideal S1024x1024 .bf16) (ix2 k n) = ws m c (ix2 n ⟨(2 : Fin 3).val * 1024 + k.val, by omega⟩) := by
  have e : (win0_5.blk t).view.emb (ix2 k n) = ix2 k n := by
    blk_ext [idx5 t]
  exact (congrArg (V m c main_v3 : (⟨2, ![1024, 1024]⟩ : Shape).Idx → EReal) e).trans (entry5 m c k n)

theorem block6 (c : Dev nD) (t : Fin cfg0.N) (k : Fin 1024) :
    (iblk m c 6 t : Vec Ideal S1x1024 .f32) (ix2 0 k) = gain m c (ix2 0 k) := by
  blk_point [iblk, V, idx6 t]
theorem block7 (c : Dev nD) (t : Fin cfg0.N) (r : Fin 512) (k : Fin 1024) :
    (iblk m c 7 t : Vec Ideal S512x1024 .f32) (ix2 r k) = rows m c (ix2 (row t r) k) := by
  blk_point [iblk, V, idx7 t, row]
theorem block8 (c : Dev nD) (t : Fin cfg0.N) (r : Fin 512) (k : Fin 1024) :
    (iblk m c 8 t : Vec Ideal S512x1024 .f32) (ix2 r k) = past m c (ix2 (row t r) k) := by
  blk_point [iblk, V, idx8 t, row]
theorem block9 (c : Dev nD) (t : Fin cfg0.N) (r : Fin 512) (k : Fin 1024) :
    (iblk m c 9 t : Vec Ideal S512x1024 .f32) (ix2 r k) = kv m c (ix2 (row t r) k) := by
  blk_point [iblk, V, idx9 t, row]
theorem block10 (c : Dev nD) (t : Fin cfg0.N) (k : Fin 1024) :
    (iblk m c 10 t : Vec Ideal S1x1024 .f32) (ix2 0 k) = kvGain m c (ix2 0 k) := by
  blk_point [iblk, V, idx10 t]

/-- The stores in terms of the blocks: the sum of products, the rows' gradient, and a gain's accumulated over the rows of a block. -/
theorem pay3_eq (x0 : Vec Ideal S512x1024 .bf16) (w0 : Vec Ideal S1024x1024 .bf16) (x1 : Vec Ideal S512x1024 .bf16) (w1 : Vec Ideal S1024x1024 .bf16)
    (x2 : Vec Ideal S512x1024 .bf16) (w2 : Vec Ideal S1024x1024 .bf16) (r : Fin 512) (n : Fin 1024) :
    k0_pay3 x0 w0 x1 w1 x2 w2 (ix2 r n) = (∑ k : Fin 1024, x0 (ix2 r k) * w0 (ix2 k n)) + (∑ k : Fin 1024, x1 (ix2 r k) * w1 (ix2 k n))
      + (∑ k : Fin 1024, x2 (ix2 r k) * w2 (ix2 k n)) := by
  pointwise [k0_pay3]
theorem pay5_eq (x : Vec Ideal S512x1024 .f32) (r : Fin 512) (n : Fin 1024) :
    k0_pay5 x (ix2 r n) = x (ix2 r n) * Ideal.rsqrt (meanSq fun j => x (ix2 r j)) := by
  pointwise [k0_pay5, k0_pay4]
  rfl
theorem pay8_eq (y : FVec Ideal S512x1024 .f32) (x p : Vec Ideal S512x1024 .f32) (g : Vec Ideal S1x1024 .f32) (z : Vec Ideal S512x1024 .f32)
    (h : Vec Ideal S1x1024 .f32) (r : Fin 512) (n : Fin 1024) :
    k0_pay8 y (k0_pay4 x) (k0_pay5 x) p g z h (ix2 r n)
      = gradRow (gradRow (p (ix2 r n)) (fun j => x (ix2 r j)) (fun j => y (ix2 r j)) (fun j => g (ix2 0 j)) n)
          (fun j => x (ix2 r j)) (fun j => z (ix2 r j)) (fun j => h (ix2 0 j)) n := by
  pointwise [k0_pay8, k0_pay5, k0_pay4]
  rfl
theorem pay6_eq (y v : FVec Ideal S512x1024 .f32) (prev : Vec Ideal S1x1024 .f32) (n : Fin 1024) :
    k0_pay6 y v prev (ix2 0 n) = prev (ix2 0 n) + ∑ r : Fin 512, y (ix2 r n) * v (ix2 r n) := by
  pointwise [k0_pay6]
theorem pay7_eq (v : FVec Ideal S512x1024 .f32) (z : Vec Ideal S512x1024 .f32) (prev : Vec Ideal S1x1024 .f32) (n : Fin 1024) :
    k0_pay7 v z prev (ix2 0 n) = prev (ix2 0 n) + ∑ r : Fin 512, z (ix2 r n) * v (ix2 r n) := by
  pointwise [k0_pay7]
theorem pay1_zero (y : Gain.Idx) : (k0_pay1 (F := Ideal)) y = 0 := by
  pointwise [k0_pay1]
theorem pay2_zero (y : Gain.Idx) : (k0_pay2 (F := Ideal)) y = 0 := by
  pointwise [k0_pay2]

/-- A point's sum of products is its rows' cotangent. -/
theorem ct_block (c : Dev nD) (t : Fin cfg0.N) (r : Fin 512) (n : Fin 1024) :
    k0_pay3 (iblk m c 0 t) (iblk m c 3 t) (iblk m c 1 t) (iblk m c 4 t) (iblk m c 2 t) (iblk m c 5 t) (ix2 r n) = ct (d0 m c) (d1 m c) (d2 m c) (ws m c) (row t r) n := by
  refine (pay3_eq _ _ _ _ _ _ r n).trans ?_
  unfold ct share
  exact congrArg₂ (· + ·) (congrArg₂ (· + ·)
    (Finset.sum_congr rfl fun k _ => congrArg₂ (· * ·) (block0 m c t r k) (block3 m c t k n))
    (Finset.sum_congr rfl fun k _ => congrArg₂ (· * ·) (block1 m c t r k) (block4 m c t k n)))
    (Finset.sum_congr rfl fun k _ => congrArg₂ (· * ·) (block2 m c t r k) (block5 m c t k n))

/-- What a point leaves in the buffer of the rows' gradient. -/
theorem out11 (c : Dev nD) (t : Fin cfg0.N) (r : Fin 512) (n : Fin 1024) :
    (outsAt0 m c t.val t.isLt).1 (ix2 r n) = gradX (ct (d0 m c) (d1 m c) (d2 m c) (ws m c)) (gain m c) (rows m c) (past m c) (kv m c) (kvGain m c) (row t r) n := by
  have e : k0_pay8 (k0_pay3 (iblk m c 0 t) (iblk m c 3 t) (iblk m c 1 t) (iblk m c 4 t) (iblk m c 2 t) (iblk m c 5 t)) (k0_pay4 (iblk m c 7 t)) (k0_pay5 (iblk m c 7 t)) (iblk m c 8 t) (iblk m c 6 t) (iblk m c 9 t) (iblk m c 10 t)
      (ix2 r n) = gradX (ct (d0 m c) (d1 m c) (d2 m c) (ws m c)) (gain m c) (rows m c) (past m c) (kv m c) (kvGain m c) (row t r) n := by
    refine (pay8_eq _ _ _ _ _ _ r n).trans ?_
    unfold gradX
    rw [block8, funext fun j => block7 m c t r j, funext fun j => ct_block m c t r j, funext fun j => block6 m c t j,
      funext fun j => block9 m c t r j, funext fun j => block10 m c t j]
  by_cases h : t.val % 32 = 0
  · rw [outsAt0_A m c t h]
    frame_out
    exact e
  · rw [outsAt0_B m c t h]
    frame_out
    exact e

/-- The kernel's first output is the rows' gradient. -/
theorem final11 (c : Dev nD) : (dats m 0 c).arrAt 11 cfg0.N = fun y : Rows.Idx => gradX (ct (d0 m c) (d1 m c) (d2 m c) (ws m c)) (gain m c) (rows m c) (past m c) (kv m c) (kvGain m c) (y 0) (y 1) := by
  refine (dats m 0 c).arrAt_eq_of_covers 11 _ (by decide +kernel) fun t hf y => ?_
  blk_simp
  rw [after0_11]
  refine (congrArg (outsAt0 m c t.val t.isLt).1 (eq_ix2 y)).trans ((out11 m c t (y 0) (y 1)).trans ?_)
  have e : (win0_11.blk t).view.emb y = ix2 (row t (y 0)) (y 1) := by
    blk_ext [idx11 t, row]
  exact (congrArg (fun z : Rows.Idx => gradX (ct (d0 m c) (d1 m c) (d2 m c) (ws m c)) (gain m c) (rows m c) (past m c) (kv m c) (kvGain m c) (z 0) (z 1)) e).symm

/-- The rows of the points of the one run. -/
theorem run_row (t : Fin cfg0.N) (s : Fin 32) (h : 32 * (t.val / 32) + s.val < cfg0.N) (r : Fin 512) (hl : s.val * 512 + r.val < 16384) :
    row ⟨32 * (t.val / 32) + s.val, h⟩ r = ⟨s.val * 512 + r.val, hl⟩ :=
  Fin.ext (by have : t.val < 32 := t.isLt; show (32 * (t.val / 32) + s.val) * 512 + r.val = s.val * 512 + r.val; omega)

/-- A point's rows' share of the gradient of the gain of cotangent `Y`. -/
def part (Y : Fin 16384 → Fin 1024 → EReal) (c : Dev nD) (t : Fin cfg0.N) (y : Gain.Idx) : EReal :=
  ∑ r : Fin 512, Y (row t r) (y 1) * (rows m c (ix2 (row t r) (y 1)) * Ideal.rsqrt (meanSq fun j => rows m c (ix2 (row t r) j)))

theorem at_gain (y : Gain.Idx) : y = ix2 0 (y 1) := by
  have h : y 0 = (0 : Fin 1) := Subsingleton.elim (α := Fin 1) _ _
  exact (eq_ix2 y).trans (congrArg (fun a : Fin 1 => ix2 a (y 1)) h)

/-- A point's normalised rows. -/
theorem norm_block (c : Dev nD) (t : Fin cfg0.N) (r : Fin 512) (n : Fin 1024) :
    k0_pay5 (iblk m c 7 t) (ix2 r n) = rows m c (ix2 (row t r) n) * Ideal.rsqrt (meanSq fun j => rows m c (ix2 (row t r) j)) :=
  (pay5_eq _ r n).trans (congrArg₂ (· * ·) (block7 m c t r n) (by rw [funext fun j => block7 m c t r j]))

theorem pay6 (c : Dev nD) (t : Fin cfg0.N) (prev : Vec Ideal S1x1024 .f32) (y : Gain.Idx) :
    k0_pay6 (k0_pay3 (iblk m c 0 t) (iblk m c 3 t) (iblk m c 1 t) (iblk m c 4 t) (iblk m c 2 t) (iblk m c 5 t)) (k0_pay5 (iblk m c 7 t)) prev y = prev y + part m (ct (d0 m c) (d1 m c) (d2 m c) (ws m c)) c t y := by
  rw [at_gain y]
  exact (pay6_eq _ _ _ _).trans (congrArg _ (Finset.sum_congr rfl fun r _ => congrArg₂ (· * ·) (ct_block m c t r _) (norm_block m c t r _)))

theorem pay7 (c : Dev nD) (t : Fin cfg0.N) (prev : Vec Ideal S1x1024 .f32) (y : Gain.Idx) :
    k0_pay7 (k0_pay5 (iblk m c 7 t)) (iblk m c 9 t) prev y = prev y + part m (fun r n => kv m c (ix2 r n)) c t y := by
  rw [at_gain y]
  exact (pay7_eq _ _ _ _).trans (congrArg _ (Finset.sum_congr rfl fun r _ => congrArg₂ (· * ·) (block9 m c t r _) (norm_block m c t r _)))

/-- The points' shares add up to the gain's gradient. -/
theorem sum_part (Y : Fin 16384 → Fin 1024 → EReal) (c : Dev nD) (t : Fin cfg0.N) (h : ∀ s : Fin 32, 32 * (t.val / 32) + s.val < cfg0.N)
    (y : Gain.Idx) : ∑ s : Fin 32, part m Y c ⟨32 * (t.val / 32) + s.val, h s⟩ y = gradG Y (rows m c) (y 1) := by
  unfold part gradG
  refine Fin.sum_mul_add_congr fun s k hl => ?_
  exact congrArg (fun a : Fin 16384 => Y a (y 1) * (rows m c (ix2 a (y 1)) * Ideal.rsqrt (meanSq fun j => rows m c (ix2 a j))))
    (run_row t s _ k hl)

/-- The kernel's second output is the gradient of the queries' gain. -/
theorem final12 (c : Dev nD) : (dats m 0 c).arrAt 12 cfg0.N = fun y : Gain.Idx => gradG (ct (d0 m c) (d1 m c) (d2 m c) (ws m c)) (rows m c) (y 1) := by
  refine (dats m 0 c).arrAt_eq_of_covers 12 _ (by decide +kernel) fun t hf y => ?_
  blk_simp
  rw [after0_12, Pipeline.eq_sum_fin_of_reset_step_apply_of_flush (fun n h => (outsAt0 m c n h).2.1) 32 (fun _ => (0 : EReal)) (part m (ct (d0 m c) (d1 m c) (d2 m c) (ws m c)) c)
    (fun t h j => by rw [outsAt0_A m c t h]; frame_out; rw [pay6, pay1_zero])
    (fun t h j => by rw [outsAt0_B m c t h]; frame_out; rw [pay6]) t ((flush0_12 t).mp hf) _, zero_add]
  refine Eq.trans ?_ (congrArg (fun z : Gain.Idx => gradG (ct (d0 m c) (d1 m c) (d2 m c) (ws m c)) (rows m c) (z 1)) (?_ : ix2 (y 0) (y 1) = _))
  · exact sum_part m _ c t _ y
  · blk_ext [idx12 t]

/-- The kernel's third output is the gradient of the keys' and values' gain. -/
theorem final13 (c : Dev nD) : (dats m 0 c).arrAt 13 cfg0.N = fun y : Gain.Idx => gradG (fun r n => kv m c (ix2 r n)) (rows m c) (y 1) := by
  refine (dats m 0 c).arrAt_eq_of_covers 13 _ (by decide +kernel) fun t hf y => ?_
  blk_simp
  rw [after0_13, Pipeline.eq_sum_fin_of_reset_step_apply_of_flush (fun n h => (outsAt0 m c n h).2.2) 32 (fun _ => (0 : EReal)) (part m (fun r n => kv m c (ix2 r n)) c)
    (fun t h j => by rw [outsAt0_A m c t h]; frame_out; rw [pay7, pay2_zero])
    (fun t h j => by rw [outsAt0_B m c t h]; frame_out; rw [pay7]) t ((flush0_13 t).mp hf) _, zero_add]
  refine Eq.trans ?_ (congrArg (fun z : Gain.Idx => gradG (fun r n => kv m c (ix2 r n)) (rows m c) (z 1)) (?_ : ix2 (y 0) (y 1) = _))
  · exact sum_part m _ c t _ y
  · blk_ext [idx13 t]

end Cert.MixKernel

namespace Cert.MixReference

open Cert.NormSum (gradRow)
open Cert.MixNormRefIdeal Cert.MixNormRefIdeal.Gen Cert.MixSum Cert.Reals Idealize.ShloMosaic Idealize.ShloMosaic.TcCoe Idealize.SL.Sem

variable (m : (ℓ : Loc nD τ sig) → Buf (Elt Ideal) ℓ)

abbrev d0 (c : Dev nD) : Rows.Idx → EReal := m ((c.tc : Thread nD τ).loc main_arg0)
abbrev d1 (c : Dev nD) : Rows.Idx → EReal := m ((c.tc : Thread nD τ).loc main_arg1)
abbrev d2 (c : Dev nD) : Rows.Idx → EReal := m ((c.tc : Thread nD τ).loc main_arg2)
abbrev ws (c : Dev nD) : Weight.Idx → EReal := m ((c.tc : Thread nD τ).loc main_arg3)
abbrev gain (c : Dev nD) : Gain.Idx → EReal := m ((c.tc : Thread nD τ).loc main_arg4)
abbrev rows (c : Dev nD) : Rows.Idx → EReal := m ((c.tc : Thread nD τ).loc main_arg5)
abbrev past (c : Dev nD) : Rows.Idx → EReal := m ((c.tc : Thread nD τ).loc main_arg6)
abbrev kv (c : Dev nD) : Rows.Idx → EReal := m ((c.tc : Thread nD τ).loc main_arg7)
abbrev kvGain (c : Dev nD) : Gain.Idx → EReal := m ((c.tc : Thread nD τ).loc main_arg8)

/-- The three cotangents, side by side. -/
abbrev side (D0 D1 D2 : Vec Ideal S16384x1024 .bf16) : FVec Ideal S16384x3072 .bf16 :=
  concatenate S16384x3072 1 [⟨S16384x1024, (D0 : Vec Ideal S16384x1024 .bf16)⟩, ⟨S16384x1024, (D1 : Vec Ideal S16384x1024 .bf16)⟩, ⟨S16384x1024, (D2 : Vec Ideal S16384x1024 .bf16)⟩] concatenates_S16384x1024_S16384x1024_S16384x1024_S16384x3072_d1

theorem side0 (D0 D1 D2 : Vec Ideal S16384x1024 .bf16) (r : Fin 16384) (k : Fin 1024) : side D0 D1 D2 (ix2 r ⟨0 * 1024 + k.val, by omega⟩) = D0 (ix2 r k) := by
  pointwise [side]
theorem side1 (D0 D1 D2 : Vec Ideal S16384x1024 .bf16) (r : Fin 16384) (k : Fin 1024) : side D0 D1 D2 (ix2 r ⟨1 * 1024 + k.val, by omega⟩) = D1 (ix2 r k) := by
  pointwise [side]
theorem side2 (D0 D1 D2 : Vec Ideal S16384x1024 .bf16) (r : Fin 16384) (k : Fin 1024) : side D0 D1 D2 (ix2 r ⟨2 * 1024 + k.val, by omega⟩) = D2 (ix2 r k) := by
  pointwise [side]
  rw [dif_neg (show ¬2048 + k.val < 1024 by omega)]
  rw [dif_neg (show ¬2048 + k.val - 1024 < 1024 by omega)]
  exact congrArg (fun a => D2 (ix2 r a)) (Fin.ext (by show 2048 + k.val - 1024 - 1024 = k.val; omega))

/-- A sum over 3072 columns, 1024 at a time. -/
theorem sum_three (f : Fin 3072 → EReal) :
    ∑ q, f q = (∑ k : Fin 1024, f ⟨0 * 1024 + k.val, by omega⟩) + (∑ k : Fin 1024, f ⟨1 * 1024 + k.val, by omega⟩)
      + (∑ k : Fin 1024, f ⟨2 * 1024 + k.val, by omega⟩) :=
  (Fin.sum_mul_add_congr (F := fun (s : Fin 3) (k : Fin 1024) => f ⟨s.val * 1024 + k.val, by omega⟩) fun s k hl => rfl).symm.trans (Fin.sum_univ_three _)

/-- The reference's cotangent of the queries' rows. -/
abbrev product (D : FVec Ideal S16384x3072 .bf16) (W : FVec Ideal S1024x3072 .bf16) : FVec Ideal S16384x1024 .f32 :=
  Host.dotGeneral dot_S16384x3072_S1024x3072_S16384x1024_1_1_0_0_n_n none (extf .f32 D bitsLt_bf16_f32) (extf .f32 W bitsLt_bf16_f32)

theorem product_eq (D : FVec Ideal S16384x3072 .bf16) (W : FVec Ideal S1024x3072 .bf16) (r : Fin 16384) (n : Fin 1024) :
    product D W (ix2 r n) = ∑ q : Fin 3072, D (ix2 r q) * W (ix2 n q) := by
  pointwise [product]

theorem ct_eq (D0 D1 D2 : Vec Ideal S16384x1024 .bf16) (W : FVec Ideal S1024x3072 .bf16) (r : Fin 16384) (n : Fin 1024) :
    product (side D0 D1 D2) W (ix2 r n) = ct D0 D1 D2 W r n := by
  refine (product_eq _ W r n).trans ((sum_three _).trans ?_)
  unfold ct share
  exact congrArg₂ (· + ·) (congrArg₂ (· + ·) (Finset.sum_congr rfl fun k _ => congrArg (· * _) (side0 D0 D1 D2 r k))
    (Finset.sum_congr rfl fun k _ => congrArg (· * _) (side1 D0 D1 D2 r k))) (Finset.sum_congr rfl fun k _ => congrArg (· * _) (side2 D0 D1 D2 r k))

/-- The reference's rows' gradient, from one cotangent of normalised rows. -/
abbrev rowBack (Y : FVec Ideal S16384x1024 .f32) (G : FVec Ideal S1x1024 .f32) (X P : FVec Ideal S16384x1024 .f32) : FVec Ideal S16384x1024 .f32 :=
  addf (addf (addf P (mulf (mulf Y (broadcastInDim S16384x1024 ![0, 1] bcast_S1x1024_S16384x1024_0_1 G)) (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))) (mulf X (broadcastInDim S16384x1024 ![0] bcast_S16384_S16384x1024_0 (Host.reduceAdd (Host.divf (mulf (shapeCast S16384x1 (Host.reduceAdd (mulf X (mulf Y (broadcastInDim S16384x1024 ![0, 1] bcast_S1x1024_S16384x1024_0_1 G))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast S16384x1 (Host.reduceAdd (mulf X (mulf Y (broadcastInDim S16384x1024 ![0, 1] bcast_S1x1024_S16384x1024_0_1 G))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) X)

/-- The reference's gradient of that cotangent's gain. -/
abbrev gainBack (Y X : FVec Ideal S16384x1024 .f32) : FVec Ideal S1x1024 .f32 :=
  shapeCast S1x1024 (Host.reduceAdd (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) Y) (constant S_ .f32 0x00000000#32) reducesTo_S16384x1024_S1024_d0 h_S_) shapeCasts_S1024_S1x1024

set_option maxHeartbeats 4000000 in
theorem rowBack_eq (Y : FVec Ideal S16384x1024 .f32) (G : FVec Ideal S1x1024 .f32) (X P : FVec Ideal S16384x1024 .f32)
    (hX : ∀ i, IsReal (X i)) (hY : ∀ i, IsReal (Y i)) (hG : ∀ i, IsReal (G i)) (r : Fin 16384) (n : Fin 1024) :
    rowBack Y G X P (ix2 r n) = gradRow (P (ix2 r n)) (fun j => X (ix2 r j)) (fun j => Y (ix2 r j)) (fun j => G (ix2 0 j)) n := by
  pointwise [rowBack]
  refine Eq.trans ?_ (norm_grad_row (P (ix2 r n)) (fun j => X (ix2 r j)) (fun j => Y (ix2 r j)) (fun j => G (ix2 0 j))
    (fun _ => hX _) (fun _ => hY _) (fun _ => hG _) n)
  simp only [Fin.sum_univ_one]
  rfl

set_option maxHeartbeats 4000000 in
theorem gainBack_eq (Y X : FVec Ideal S16384x1024 .f32) (n : Fin 1024) :
    gainBack Y X (ix2 0 n) = ∑ r : Fin 16384, Y (ix2 r n) * (X (ix2 r n) * Ideal.rsqrt (meanSq fun j => X (ix2 r j))) := by
  pointwise [gainBack]
  exact Finset.sum_congr rfl fun r _ => mul_comm _ _

/-- The first result, where the arguments are real numbers. -/
theorem result (c : Dev nD) (hr : Finite (d0 m c) (d1 m c) (d2 m c) (ws m c) (gain m c) (rows m c) (kv m c) (kvGain m c)) :
    Cert.MixNormRefIdeal.Value.res_main_v74 m c = (fun y : Rows.Idx => gradX (ct (d0 m c) (d1 m c) (d2 m c) (ws m c)) (gain m c) (rows m c) (past m c) (kv m c) (kvGain m c) (y 0) (y 1)) := by
  funext y
  obtain ⟨r, n, rfl⟩ : ∃ (r : Fin 16384) (n : Fin 1024), y = ix2 r n := ⟨y 0, y 1, eq_ix2 y⟩
  have hY : ∀ i : Rows.Idx, IsReal (product (side (d0 m c) (d1 m c) (d2 m c)) (ws m c) i) := fun i => by
    rw [eq_ix2 i]
    exact (congrArg IsReal (ct_eq (d0 m c) (d1 m c) (d2 m c) (ws m c) (i 0) (i 1))).mpr (ct_real hr _ _)
  refine (rowBack_eq (product (side (d0 m c) (d1 m c) (d2 m c)) (ws m c)) (gain m c) (rows m c)
    (rowBack (kv m c) (kvGain m c) (rows m c) (past m c)) hr.x hY hr.g r n).trans ?_
  rw [rowBack_eq (kv m c) (kvGain m c) (rows m c) (past m c) hr.x hr.k hr.h r n, funext fun j => ct_eq (d0 m c) (d1 m c) (d2 m c) (ws m c) r j]
  exact gradRow_comm _ _ _ _ _ _ _

theorem at_gain (y : Gain.Idx) : y = ix2 0 (y 1) := by
  have h : y 0 = (0 : Fin 1) := Subsingleton.elim (α := Fin 1) _ _
  exact (eq_ix2 y).trans (congrArg (fun a : Fin 1 => ix2 a (y 1)) h)

theorem result_gain (Y X : FVec Ideal S16384x1024 .f32) :
    gainBack Y X = (fun y : Gain.Idx => gradG (fun r n => Y (ix2 r n)) X (y 1)) := by
  funext y
  exact (congrArg (gainBack Y X) (at_gain y)).trans (gainBack_eq Y X (y 1))

set_option maxHeartbeats 4000000 in
/-- Every execution of the reference ends with its results those of the arguments, which it leaves unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v74) = Cert.MixNormRefIdeal.Value.res_main_v74 m c
      ∧ r.2.mem ((c.tc : Thread nD τ).loc main_v57) = (fun y : Gain.Idx => gradG (ct (d0 m c) (d1 m c) (d2 m c) (ws m c)) (rows m c) (y 1))
      ∧ r.2.mem ((c.tc : Thread nD τ).loc main_v36) = (fun y : Gain.Idx => gradG (fun r n => kv m c (ix2 r n)) (rows m c) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1, (h c).2.1.trans ?_, (h c).2.2.1.trans ?_, (h c).2.2.2⟩) (Cert.MixNormRefIdeal.Value.run m ρ)
  · refine (result_gain (product (side (d0 m c) (d1 m c) (d2 m c)) (ws m c)) (rows m c)).trans ?_
    exact congrArg (fun Y : Fin 16384 → Fin 1024 → EReal => fun y : Gain.Idx => gradG Y (rows m c) (y 1))
      (funext fun r => funext fun n => ct_eq (d0 m c) (d1 m c) (d2 m c) (ws m c) r n)
  · exact result_gain (kv m c) (rows m c)

end Cert.MixReference

namespace Cert.Mix

open Idealize.ShloMosaic Idealize.ShloMosaic.TcCoe

/-- The reference's run ends with its arguments unchanged and every counter at zero: it has none. -/
theorem reference_frame : Cert.quiescent_MixNormRefIdeal := fun m g _ =>
  θ_run_mono (Cert.MixReference.run m g) fun r h => ⟨fun c => (h c).2.2.2, sem_eq_zero_of_no_sems rfl r.2⟩
theorem reference_frame_pre : Cert.quiescent_MixNormRefIdeal_pre_mix_norm_finite := fun m g _ =>
  θ_run_mono (Cert.MixReference.run m g) fun r h => ⟨fun c => (h c).2.2.2, sem_eq_zero_of_no_sems rfl r.2⟩

set_option maxHeartbeats 4000000 in
/-- The kernel's outputs are the reference's results, over the extended reals, where the arguments are real numbers. -/
theorem algebraic : Cert.algebraic_MixNormIdeal_MixNormRefIdeal_pre_mix_norm_finite := by
  pair_intro
  · run_from Cert.MixNormIdeal.Gen.run_main m g
  · refine θ_run_mono (Cert.MixReference.run m' g') fun r h c => ⟨(h c).1.trans ?_, (h c).2.1.trans ?_, (h c).2.2.1.trans ?_, (h c).2.2.2⟩
    all_goals
      clear h
      obtain ⟨e0, e1, e2, ew, eg, ex, ep, ek, eh⟩ : Cert.MixReference.d0 m' c = Cert.MixKernel.d0 m c ∧ Cert.MixReference.d1 m' c = Cert.MixKernel.d1 m c ∧ Cert.MixReference.d2 m' c = Cert.MixKernel.d2 m c ∧ Cert.MixReference.ws m' c = Cert.MixKernel.ws m c ∧ Cert.MixReference.gain m' c = Cert.MixKernel.gain m c ∧ Cert.MixReference.rows m' c = Cert.MixKernel.rows m c ∧ Cert.MixReference.past m' c = Cert.MixKernel.past m c ∧ Cert.MixReference.kv m' c = Cert.MixKernel.kv m c ∧ Cert.MixReference.kvGain m' c = Cert.MixKernel.kvGain m c := hagree c
    · refine (Cert.MixReference.result m' c (by rw [e0, e1, e2, ew, eg, ex, ek, eh]; exact Cert.MixKernel.finite m hpre c)).trans ?_
      refine Eq.trans ?_ (Cert.MixKernel.final11 m c).symm
      rw [e0, e1, e2, ew, eg, ex, ep, ek, eh]
    · refine Eq.trans ?_ (Cert.MixKernel.final12 m c).symm
      rw [e0, e1, e2, ew, ex]
    · refine Eq.trans ?_ (Cert.MixKernel.final13 m c).symm
      rw [ek, ex]

end Cert.Mix

end
-- ==== Proof.Columns.lean ====
/- The kernel's layout of the input projection's columns: of 3080 columns the first 3076, 124 empty ones, the last four, 124
   empty ones. -/
module

public import Idealize.ShloMosaic.Lib.Pipeline.ValueKit
public import Idealize.ShloMosaic.Lib.Pointwise

@[expose] public section

noncomputable section

namespace Cert.Columns

/-- A row of 3080 in the layout of 3328. -/
def laid (w : Fin 3080 → EReal) (n : Fin 3328) : EReal :=
  if h : n.val < 3076 then w ⟨n.val, by omega⟩
  else if n.val < 3200 then 0
  else if h : n.val < 3204 then w ⟨n.val - 124, by omega⟩
  else 0

/-- Where a column lies in the layout. -/
def place (j : Fin 3080) : Fin 3328 := if j.val < 3076 then ⟨j.val, by omega⟩ else ⟨j.val + 124, by omega⟩

theorem laid_first (w : Fin 3080 → EReal) (n : Fin 3328) (h : n.val < 3076) : laid w n = w ⟨n.val, by omega⟩ := dif_pos h
theorem laid_gap (w : Fin 3080 → EReal) (n : Fin 3328) (h : ¬n.val < 3076) (h1 : n.val - 3076 < 124) : laid w n = 0 := by
  rw [laid, dif_neg h, if_pos (by omega)]
theorem laid_last (w : Fin 3080 → EReal) (n : Fin 3328) (h1 : ¬n.val < 3076) (h2 : ¬n.val - 3076 < 124) (h3 : n.val - 3076 - 124 < 4) :
    laid w n = w ⟨n.val - 124, by omega⟩ := by
  rw [laid, dif_neg h1, if_neg (by omega), dif_pos (by omega)]
theorem laid_end (w : Fin 3080 → EReal) (n : Fin 3328) (h2 : ¬n.val - 3076 < 124) (h3 : ¬n.val - 3076 - 124 < 4) : laid w n = 0 := by
  rw [laid, dif_neg (by omega), if_neg (by omega), dif_neg (by omega)]

theorem place_injective : Function.Injective place := by
  intro a b h
  have e : (place a).val = (place b).val := congrArg Fin.val h
  unfold place at e
  refine Fin.ext ?_
  by_cases ha : a.val < 3076 <;> by_cases hb : b.val < 3076
  · rw [if_pos ha, if_pos hb] at e; exact e
  · rw [if_pos ha, if_neg hb] at e; have e : a.val = b.val + 124 := e; omega
  · rw [if_neg ha, if_pos hb] at e; have e : a.val + 124 = b.val := e; omega
  · rw [if_neg ha, if_neg hb] at e; have e : a.val + 124 = b.val + 124 := e; omega

theorem laid_place (w : Fin 3080 → EReal) (j : Fin 3080) : laid w (place j) = w j := by
  unfold place
  by_cases h : j.val < 3076
  · rw [if_pos h]
    exact laid_first w _ h
  · have hj := j.isLt
    rw [if_neg h, laid_last w _ (by show ¬j.val + 124 < 3076; omega) (by show ¬j.val + 124 - 3076 < 124; omega)
      (by show j.val + 124 - 3076 - 124 < 4; omega)]
    exact congrArg w (Fin.ext (by show j.val + 124 - 124 = j.val; omega))

/-- Off its columns' places the layout is empty. -/
theorem laid_off (w : Fin 3080 → EReal) (n : Fin 3328) (h : ∀ j, place j ≠ n) : laid w n = 0 := by
  by_cases h0 : n.val < 3076
  · exact absurd (by unfold place; rw [if_pos h0]) (h ⟨n.val, by omega⟩)
  by_cases h1 : n.val - 3076 < 124
  · exact laid_gap w n h0 h1
  by_cases h2 : n.val - 3076 - 124 < 4
  · refine absurd ?_ (h ⟨n.val - 124, by omega⟩)
    unfold place
    rw [if_neg (by show ¬n.val - 124 < 3076; omega)]
    exact Fin.ext (by show n.val - 124 + 124 = n.val; omega)
  · exact laid_end w n h1 h2

/-- A sum over the layout's columns is a sum over the columns it holds. -/
theorem sum_laid (d : Fin 3328 → EReal) (w : Fin 3080 → EReal) : ∑ n, d n * laid w n = ∑ j, d (place j) * w j := by
  have e : ∑ j, d (place j) * w j = ∑ n ∈ Finset.univ.map ⟨place, place_injective⟩, d n * laid w n := by
    rw [Finset.sum_map]
    exact Finset.sum_congr rfl fun j _ => congrArg (d (place j) * ·) (laid_place w j).symm
  rw [e]
  refine (Finset.sum_subset (Finset.subset_univ _) fun n _ hn => ?_).symm
  rw [laid_off w n fun j hj => hn (Finset.mem_map.mpr ⟨j, Finset.mem_univ _, hj⟩), mul_zero]

end Cert.Columns

end
-- ==== Proof.InRms.lean ====
/- The gradient through the input projection of the recurrent block and the row normalisation before it, added to the gradient
   that comes past them; and the gradient of the gain.  The cotangent comes in the kernel's layout of the projection's columns. -/
module

public import proofs.«01_k».proof.Defs
public import proofs.«01_k».proof.Proof.Columns
public import proofs.«01_k».proof.Proof.Norm
public import proofs.«01_k».proof.Proof.Gen.InNormIdeal.Frame
public import proofs.«01_k».proof.Proof.Gen.InNormIdeal.Value
public import proofs.«01_k».proof.Proof.Gen.InNormRefIdeal.Run
public import proofs.«01_k».proof.Proof.Gen.Pre_in_norm_finite

@[expose] public section

set_option maxRecDepth 16384

noncomputable section

namespace Cert.InRmsSum

open Idealize.ShloMosaic Cert.Reals Cert.Columns
open Cert.NormSum (gradRow)

/-- The shapes of the product's cotangent, of its weight, of the gain, and of the rows. -/
abbrev Cts : Shape := ⟨2, ![16384, 3328]⟩
abbrev Weight : Shape := ⟨2, ![1024, 3080]⟩
abbrev Gain : Shape := ⟨2, ![1, 1024]⟩
abbrev Rows : Shape := ⟨2, ![16384, 1024]⟩

variable (D : Cts.Idx → EReal) (W : Weight.Idx → EReal) (G : Gain.Idx → EReal) (X : Rows.Idx → EReal) (P : Rows.Idx → EReal)

/-- The cotangent of the normalised row `r`, at column `n`. -/
def ct (r : Fin 16384) (n : Fin 1024) : EReal := ∑ j : Fin 3080, D (ix2 r (place j)) * W (ix2 n j)

/-- The gradient of the rows. -/
def gradX (r : Fin 16384) (n : Fin 1024) : EReal :=
  gradRow (P (ix2 r n)) (fun j => X (ix2 r j)) (ct D W r) (fun j => G (ix2 0 j)) n

/-- The gradient of the gain. -/
def gradG (n : Fin 1024) : EReal := ∑ r : Fin 16384, ct D W r n * (X (ix2 r n) * Ideal.rsqrt (meanSq fun j => X (ix2 r j)))

/-- The arguments are real numbers throughout; what comes past the normalisation may be anything. -/
def Finite : Prop := (∀ i, IsReal (D i)) ∧ (∀ i, IsReal (W i)) ∧ (∀ i, IsReal (G i)) ∧ ∀ i, IsReal (X i)

end Cert.InRmsSum

namespace Cert.InRmsKernel

open Cert.NormSum (gradRow)
open Cert.InNormIdeal Cert.InNormIdeal.Gen Cert.InRmsSum Cert.Reals Cert.Columns Idealize.ShloMosaic Idealize.ShloMosaic.TcCoe

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The five arguments, on device `c`. -/
abbrev cts (c : Dev nD) : Cts.Idx → EReal := m ((c.tc : Thread nD τ).loc main_arg0)
abbrev ws (c : Dev nD) : Weight.Idx → EReal := m ((c.tc : Thread nD τ).loc main_arg1)
abbrev gain (c : Dev nD) : Gain.Idx → EReal := m ((c.tc : Thread nD τ).loc main_arg2)
abbrev rows (c : Dev nD) : Rows.Idx → EReal := m ((c.tc : Thread nD τ).loc main_arg3)
abbrev past (c : Dev nD) : Rows.Idx → EReal := m ((c.tc : Thread nD τ).loc main_arg4)

/-- The precondition's meaning. -/
theorem finite (h : Cert.Pre_InNormIdeal_in_norm_finite m) (c : Dev nD) : Finite (cts m c) (ws m c) (gain m c) (rows m c) := by
  have e := congrFun (h c) (fun a => a.elim0)
  revert e
  pointwise [Cert.Pre_in_norm_finite.fn, Cert.Pre_in_norm_finite.fn_part1]
  intro e
  obtain ⟨e, e3⟩ := both_one _ _ e
  obtain ⟨e, e2⟩ := both_one _ _ e
  obtain ⟨e0, e1⟩ := both_one _ _ e
  exact ⟨fun i => by have := isReal_of_test (all_one _ e0 (i 0, i 1)); rwa [← eq_ix2 i] at this,
    fun i => by have := isReal_of_test (all_one _ e1 (i 0, i 1)); rwa [← eq_ix2 i] at this,
    fun i => by have := isReal_of_test (all_one _ e2 (i 0, i 1)); rwa [← eq_ix2 i] at this,
    fun i => by have := isReal_of_test (all_one _ e3 (i 0, i 1)); rwa [← eq_ix2 i] at this⟩

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 3328) :
    (iblk m c 0 t : Vec Ideal S512x3328 .bf16) (ix2 r k) = cts m c (ix2 (row t r) k) := by
  blk_point [iblk, V, idx0 t, row]

/-- The weight, laid out. -/
abbrev spread (D : FVec Ideal S1024x3080 .bf16) : FVec Ideal S1024x3328 .bf16 :=
  concatenate S1024x3328 1 [⟨S1024x3076, (extractStridedSlice S1024x3076 ![0, 0] D slices_S1024x3080_S1024x3076_0_0 : Vec Ideal S1024x3076 .bf16)⟩, ⟨S1024x124, (broadcastInDim S1024x124 ![] bcast_S_S1024x124 (constant S_ .bf16 0x0000#16 : FVec Ideal S_ .bf16) : Vec Ideal S1024x124 .bf16)⟩, ⟨S1024x4, (extractStridedSlice S1024x4 ![0, 3076] D slices_S1024x3080_S1024x4_0_3076 : Vec Ideal S1024x4 .bf16)⟩, ⟨S1024x124, (broadcastInDim S1024x124 ![] bcast_S_S1024x124 (constant S_ .bf16 0x0000#16 : FVec Ideal S_ .bf16) : Vec Ideal S1024x124 .bf16)⟩] concatenates_S1024x3076_S1024x124_S1024x4_S1024x124_S1024x3328_d1

theorem spread_eq (D : FVec Ideal S1024x3080 .bf16) (r : Fin 1024) (n : Fin 3328) : spread D (ix2 r n) = laid (fun j => D (ix2 r j)) n := by
  pointwise [spread]
  by_cases h0 : n.val < 3076
  · rw [dif_pos h0, laid_first _ _ h0]
  rw [dif_neg h0]
  by_cases h1 : n.val - 3076 < 124
  · rw [dif_pos h1, laid_gap _ _ h0 h1]
  rw [dif_neg h1]
  by_cases h2 : n.val - 3076 - 124 < 4
  · rw [dif_pos h2, laid_last _ _ h0 h1 h2]
    exact congrArg (fun a => D (ix2 r a)) (Fin.ext (by show 3076 + (n.val - 3076 - 124) = n.val - 124; omega))
  · rw [dif_neg h2, laid_end _ _ h1 h2]

/-- The weight, laid out and transposed: what the host hands the kernel. -/
abbrev turned (D : FVec Ideal S1024x3080 .bf16) : FVec Ideal S3328x1024 .bf16 :=
  transpose S3328x1024 [1, 0] (spread D) transposes_S1024x3328_S3328x1024_1_0

theorem swap_eq (E : FVec Ideal S1024x3328 .bf16) (k : Fin 3328) (n : Fin 1024) :
    transpose S3328x1024 [1, 0] E transposes_S1024x3328_S3328x1024_1_0 (ix2 k n) = E (ix2 n k) := by
  pointwise

theorem entry1 (c : Dev nD) : (V m c main_v4 : (⟨2, ![3328, 1024]⟩ : Shape).Idx → EReal) = turned (ws m c) := rfl

theorem block1 (c : Dev nD) (t : Fin cfg0.N) (k : Fin 3328) (n : Fin 1024) :
    (iblk m c 1 t : Vec Ideal S3328x1024 .bf16) (ix2 k n) = laid (fun j => ws m c (ix2 n j)) k := by
  have e : (win0_1.blk t).view.emb (ix2 k n) = ix2 k n := by
    blk_ext [idx1 t]
  exact (congrArg (V m c main_v4 : (⟨2, ![3328, 1024]⟩ : Shape).Idx → EReal) e).trans ((congrFun (entry1 m c) _).trans
    ((swap_eq (spread (ws m c)) k n).trans (spread_eq (ws m c) n k)))

theorem block2 (c : Dev nD) (t : Fin cfg0.N) (n : Fin 1024) : (iblk m c 2 t : Vec Ideal S1x1024 .f32) (ix2 0 n) = gain m c (ix2 0 n) := by
  blk_point [iblk, V, idx2 t]

theorem block3 (c : Dev nD) (t : Fin cfg0.N) (r : Fin 512) (n : Fin 1024) :
    (iblk m c 3 t : Vec Ideal S512x1024 .f32) (ix2 r n) = rows m c (ix2 (row t r) n) := by
  blk_point [iblk, V, idx3 t, row]

theorem block4 (c : Dev nD) (t : Fin cfg0.N) (r : Fin 512) (n : Fin 1024) :
    (iblk m c 4 t : Vec Ideal S512x1024 .f32) (ix2 r n) = past m c (ix2 (row t r) n) := by
  blk_point [iblk, V, idx4 t, row]

/-- The product of two blocks. -/
abbrev prod (d : Vec Ideal S512x3328 .bf16) (w : Vec Ideal S3328x1024 .bf16) (r : Fin 512) (n : Fin 1024) : EReal :=
  ∑ k : Fin 3328, d (ix2 r k) * w (ix2 k n)

/-- The stores in terms of the blocks: the rows' gradient, and the gain's accumulated over the rows of a block. -/
theorem pay1_eq (d : Vec Ideal S512x3328 .bf16) (w : Vec Ideal S3328x1024 .bf16) (g : Vec Ideal S1x1024 .f32) (x p : Vec Ideal S512x1024 .f32)
    (r : Fin 512) (n : Fin 1024) :
    k0_pay1 (k0_pay4 x) (k0_pay5 x) p (k0_pay7 d w g) (k0_pay8 d w x g) (ix2 r n)
      = gradRow (p (ix2 r n)) (fun j => x (ix2 r j)) (prod d w r) (fun j => g (ix2 0 j)) n := by
  pointwise [k0_pay1, k0_pay8, k0_pay7, k0_pay5, k0_pay4, k0_pay3]
  rfl
theorem pay6_eq (d : Vec Ideal S512x3328 .bf16) (w : Vec Ideal S3328x1024 .bf16) (x : Vec Ideal S512x1024 .f32) (prev : Vec Ideal S1x1024 .f32)
    (n : Fin 1024) :
    k0_pay6 d w x prev (ix2 0 n)
      = prev (ix2 0 n) + ∑ r : Fin 512, prod d w r n * (x (ix2 r n) * Ideal.rsqrt (meanSq fun j => x (ix2 r j))) := by
  pointwise [k0_pay6, k0_pay5, k0_pay4, k0_pay3]
  rfl

/-- A point's product is its rows' cotangent. -/
theorem ct_block (c : Dev nD) (t : Fin cfg0.N) (r : Fin 512) (n : Fin 1024) :
    prod (iblk m c 0 t) (iblk m c 1 t) r n = ct (cts m c) (ws m c) (row t r) n :=
  Eq.trans (b := ∑ k : Fin 3328, cts m c (ix2 (row t r) k) * laid (fun j => ws m c (ix2 n j)) k)
    (Finset.sum_congr rfl fun k _ => congrArg₂ (· * ·) (block0 m c t r k) (block1 m c t k n))
    (sum_laid (fun k => cts m c (ix2 (row t r) k)) (fun j => ws m c (ix2 n j)))

/-- What a point leaves in the buffer of the rows' gradient. -/
theorem out5 (c : Dev nD) (t : Fin cfg0.N) (r : Fin 512) (n : Fin 1024) :
    (outsAt0 m c t.val t.isLt).1 (ix2 r n) = gradX (cts m c) (ws m c) (gain m c) (rows m c) (past m c) (row t r) n := by
  have e : k0_pay1 (k0_pay4 (iblk m c 3 t)) (k0_pay5 (iblk m c 3 t)) (iblk m c 4 t) (k0_pay7 (iblk m c 0 t) (iblk m c 1 t) (iblk m c 2 t))
      (k0_pay8 (iblk m c 0 t) (iblk m c 1 t) (iblk m c 3 t) (iblk m c 2 t)) (ix2 r n)
      = gradX (cts m c) (ws m c) (gain m c) (rows m c) (past m c) (row t r) n := by
    refine (pay1_eq _ _ _ _ _ r n).trans ?_
    unfold gradX
    rw [block4, funext fun j => block3 m c t r j, show prod (iblk m c 0 t) (iblk m c 1 t) r = ct (cts m c) (ws m c) (row t r) from funext fun j => ct_block m c t r j, funext fun j => block2 m c t j]
  by_cases h : t.val % 32 = 0
  · rw [outsAt0_A m c t h]
    frame_out
    exact e
  · rw [outsAt0_B m c t h]
    frame_out
    exact e

/-- The kernel's first output is the rows' gradient. -/
theorem final5 (c : Dev nD) :
    (dats m 0 c).arrAt 5 cfg0.N = fun y : Rows.Idx => gradX (cts m c) (ws m c) (gain m c) (rows m c) (past m c) (y 0) (y 1) := by
  refine (dats m 0 c).arrAt_eq_of_covers 5 _ (by decide +kernel) fun t hf y => ?_
  blk_simp
  rw [after0_5]
  refine (congrArg (outsAt0 m c t.val t.isLt).1 (eq_ix2 y)).trans ((out5 m c t (y 0) (y 1)).trans ?_)
  have e : (win0_5.blk t).view.emb y = ix2 (row t (y 0)) (y 1) := by
    blk_ext [idx5 t, row]
  exact (congrArg (fun z : Rows.Idx => gradX (cts m c) (ws m c) (gain m c) (rows m c) (past m c) (z 0) (z 1)) e).symm

/-- The rows of the points of the one run. -/
theorem run_row (t : Fin cfg0.N) (s : Fin 32) (h : 32 * (t.val / 32) + s.val < cfg0.N) (r : Fin 512) (hl : s.val * 512 + r.val < 16384) :
    row ⟨32 * (t.val / 32) + s.val, h⟩ r = ⟨s.val * 512 + r.val, hl⟩ :=
  Fin.ext (by have : t.val < 32 := t.isLt; show (32 * (t.val / 32) + s.val) * 512 + r.val = s.val * 512 + r.val; omega)

/-- A point's rows' share of the gain's gradient. -/
def part (c : Dev nD) (t : Fin cfg0.N) (y : Gain.Idx) : EReal :=
  ∑ r : Fin 512, ct (cts m c) (ws m c) (row t r) (y 1)
    * (rows m c (ix2 (row t r) (y 1)) * Ideal.rsqrt (meanSq fun j => rows m c (ix2 (row t r) j)))

theorem at_gain (y : Gain.Idx) : y = ix2 0 (y 1) := by
  have h : y 0 = (0 : Fin 1) := Subsingleton.elim (α := Fin 1) _ _
  exact (eq_ix2 y).trans (congrArg (fun a : Fin 1 => ix2 a (y 1)) h)

theorem pay6 (c : Dev nD) (t : Fin cfg0.N) (prev : Vec Ideal S1x1024 .f32) (y : Gain.Idx) :
    k0_pay6 (iblk m c 0 t) (iblk m c 1 t) (iblk m c 3 t) prev y = prev y + part m c t y := by
  rw [at_gain y]
  refine (pay6_eq _ _ _ _ _).trans (congrArg _ (Finset.sum_congr rfl fun r _ => ?_))
  exact congrArg₂ (· * ·) (ct_block m c t r _) (congrArg₂ (· * ·) (block3 m c t r _) (by rw [funext fun j => block3 m c t r j]))

theorem pay2 (y : Gain.Idx) : (k0_pay2 (F := Ideal)) y = 0 := by
  pointwise [k0_pay2]

/-- The kernel's second output is the gain's gradient. -/
theorem final6 (c : Dev nD) :
    (dats m 0 c).arrAt 6 cfg0.N = fun y : Gain.Idx => gradG (cts m c) (ws m c) (rows m c) (y 1) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => (0 : EReal)) (part m c)
    (fun t h j => by rw [outsAt0_A m c t h]; frame_out; rw [pay6, pay2])
    (fun t h j => by rw [outsAt0_B m c t h]; frame_out; rw [pay6]) t ((flush0_6 t).mp hf) _, zero_add]
  refine Eq.trans ?_ (congrArg (fun z : Gain.Idx => gradG (cts m c) (ws m c) (rows m c) (z 1)) (?_ : ix2 (y 0) (y 1) = _))
  · unfold part gradG
    refine Fin.sum_mul_add_congr fun s k hl => ?_
    exact congrArg (fun a : Fin 16384 => ct (cts m c) (ws m c) a (y 1) * (rows m c (ix2 a (y 1)) * Ideal.rsqrt (meanSq fun j => rows m c (ix2 a j))))
      (run_row t s _ k hl)
  · blk_ext [idx6 t]

end Cert.InRmsKernel

namespace Cert.InRmsReference

open Cert.NormSum (gradRow)
open Cert.InNormRefIdeal Cert.InNormRefIdeal.Gen Cert.InRmsSum Cert.Reals Cert.Columns Idealize.ShloMosaic Idealize.ShloMosaic.TcCoe Idealize.SL.Sem

variable (m : (ℓ : Loc nD τ sig) → Buf (Elt Ideal) ℓ)

abbrev cts (c : Dev nD) : Cts.Idx → EReal := m (c.tc.loc main_arg0)
abbrev ws (c : Dev nD) : Weight.Idx → EReal := m (c.tc.loc main_arg1)
abbrev gain (c : Dev nD) : Gain.Idx → EReal := m (c.tc.loc main_arg2)
abbrev rows (c : Dev nD) : Rows.Idx → EReal := m (c.tc.loc main_arg3)
abbrev past (c : Dev nD) : Rows.Idx → EReal := m (c.tc.loc main_arg4)

/-- The cotangent without the layout's empty columns. -/
abbrev joined (D : FVec Ideal S16384x3328 .bf16) : FVec Ideal S16384x3080 .bf16 :=
  concatenate S16384x3080 1 [⟨S16384x3076, (extractStridedSlice S16384x3076 ![0, 0] D slices_S16384x3328_S16384x3076_0_0 : Vec Ideal S16384x3076 .bf16)⟩, ⟨S16384x4, (extractStridedSlice S16384x4 ![0, 3200] D slices_S16384x3328_S16384x4_0_3200 : Vec Ideal S16384x4 .bf16)⟩] concatenates_S16384x3076_S16384x4_S16384x3080_d1

theorem joined_eq (D : FVec Ideal S16384x3328 .bf16) (r : Fin 16384) (j : Fin 3080) : joined D (ix2 r j) = D (ix2 r (place j)) := by
  pointwise [joined]
  unfold place
  by_cases h : j.val < 3076
  · rw [dif_pos h, if_pos h]
  · rw [dif_neg h, if_neg h]
    exact congrArg (fun a => D (ix2 r a)) (Fin.ext (by show 3200 + (j.val - 3076) = j.val + 124; omega))

/-- The reference's cotangent of the normalised rows. -/
abbrev product (D : FVec Ideal S16384x3080 .bf16) (W : FVec Ideal S1024x3080 .bf16) : FVec Ideal S16384x1024 .f32 :=
  Host.dotGeneral dot_S16384x3080_S1024x3080_S16384x1024_1_1_0_0_n_n none (extf .f32 D bitsLt_bf16_f32) (extf .f32 W bitsLt_bf16_f32)

theorem product_eq (D : FVec Ideal S16384x3080 .bf16) (W : FVec Ideal S1024x3080 .bf16) (r : Fin 16384) (n : Fin 1024) :
    product D W (ix2 r n) = ∑ j : Fin 3080, D (ix2 r j) * W (ix2 n j) := by
  pointwise [product]

theorem ct_eq (D : FVec Ideal S16384x3328 .bf16) (W : FVec Ideal S1024x3080 .bf16) (r : Fin 16384) (n : Fin 1024) :
    product (joined D) W (ix2 r n) = ct D W r n :=
  (product_eq _ W r n).trans (Finset.sum_congr rfl fun j _ => congrArg (· * _) (joined_eq D r j))

/-- The reference's rows' gradient, from the normalised rows' cotangent. -/
abbrev rowBack (Y : FVec Ideal S16384x1024 .f32) (G : FVec Ideal S1x1024 .f32) (X P : FVec Ideal S16384x1024 .f32) : FVec Ideal S16384x1024 .f32 :=
  addf (addf (addf P (mulf (mulf Y (broadcastInDim S16384x1024 ![0, 1] bcast_S1x1024_S16384x1024_0_1 G)) (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))) (mulf X (broadcastInDim S16384x1024 ![0] bcast_S16384_S16384x1024_0 (Host.reduceAdd (Host.divf (mulf (shapeCast S16384x1 (Host.reduceAdd (mulf X (mulf Y (broadcastInDim S16384x1024 ![0, 1] bcast_S1x1024_S16384x1024_0_1 G))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast S16384x1 (Host.reduceAdd (mulf X (mulf Y (broadcastInDim S16384x1024 ![0, 1] bcast_S1x1024_S16384x1024_0_1 G))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) X)

/-- The reference's gain's gradient, from the normalised rows' cotangent. -/
abbrev gainBack (Y X : FVec Ideal S16384x1024 .f32) : FVec Ideal S1x1024 .f32 :=
  shapeCast S1x1024 (Host.reduceAdd (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) Y) (constant S_ .f32 0x00000000#32) reducesTo_S16384x1024_S1024_d0 h_S_) shapeCasts_S1024_S1x1024

set_option maxHeartbeats 4000000 in
theorem rowBack_eq (Y : FVec Ideal S16384x1024 .f32) (G : FVec Ideal S1x1024 .f32) (X P : FVec Ideal S16384x1024 .f32)
    (hX : ∀ i, IsReal (X i)) (hY : ∀ i, IsReal (Y i)) (hG : ∀ i, IsReal (G i)) (r : Fin 16384) (n : Fin 1024) :
    rowBack Y G X P (ix2 r n) = gradRow (P (ix2 r n)) (fun j => X (ix2 r j)) (fun j => Y (ix2 r j)) (fun j => G (ix2 0 j)) n := by
  pointwise [rowBack]
  refine Eq.trans ?_ (norm_grad_row (P (ix2 r n)) (fun j => X (ix2 r j)) (fun j => Y (ix2 r j)) (fun j => G (ix2 0 j))
    (fun _ => hX _) (fun _ => hY _) (fun _ => hG _) n)
  simp only [Fin.sum_univ_one]
  rfl

set_option maxHeartbeats 4000000 in
theorem gainBack_eq (Y X : FVec Ideal S16384x1024 .f32) (n : Fin 1024) :
    gainBack Y X (ix2 0 n) = ∑ r : Fin 16384, Y (ix2 r n) * (X (ix2 r n) * Ideal.rsqrt (meanSq fun j => X (ix2 r j))) := by
  pointwise [gainBack]
  exact Finset.sum_congr rfl fun r _ => mul_comm _ _

/-- The first result, where the arguments are real numbers. -/
theorem result (c : Dev nD) (hr : Finite (cts m c) (ws m c) (gain m c) (rows m c)) :
    Cert.InNormRefIdeal.Value.res_main_v41 m c
      = (fun y : Rows.Idx => gradX (cts m c) (ws m c) (gain m c) (rows m c) (past m c) (y 0) (y 1)) := by
  funext y
  obtain ⟨r, n, rfl⟩ : ∃ (r : Fin 16384) (n : Fin 1024), y = ix2 r n := ⟨y 0, y 1, eq_ix2 y⟩
  have hY : ∀ i : Rows.Idx, IsReal (product (joined (cts m c)) (ws m c) i) := fun i => by
    rw [eq_ix2 i]
    exact (congrArg IsReal (ct_eq (cts m c) (ws m c) (i 0) (i 1))).mpr (.sum _ _ fun _ => .mul (hr.1 _) (hr.2.1 _))
  refine (rowBack_eq (product (joined (cts m c)) (ws m c)) (gain m c) (rows m c) (past m c) hr.2.2.2 hY hr.2.2.1 r n).trans ?_
  exact congrArg (fun f => gradRow (past m c (ix2 r n)) (fun j => rows m c (ix2 r j)) f (fun j => gain m c (ix2 0 j)) n)
    (funext fun j => ct_eq (cts m c) (ws m c) r j)

theorem at_gain (y : Gain.Idx) : y = ix2 0 (y 1) := by
  have h : y 0 = (0 : Fin 1) := Subsingleton.elim (α := Fin 1) _ _
  exact (eq_ix2 y).trans (congrArg (fun a : Fin 1 => ix2 a (y 1)) h)

theorem result_gain (D : FVec Ideal S16384x3328 .bf16) (W : FVec Ideal S1024x3080 .bf16) (X : FVec Ideal S16384x1024 .f32) :
    gainBack (product (joined D) W) X = (fun y : Gain.Idx => gradG D W X (y 1)) := by
  funext y
  refine (congrArg (gainBack (product (joined D) W) X) (at_gain y)).trans ((gainBack_eq _ X (y 1)).trans ?_)
  exact Finset.sum_congr rfl fun r _ => congrArg (· * _) (ct_eq D W r (y 1))

set_option maxHeartbeats 4000000 in
/-- Every execution of the reference ends with its results those of the arguments, which it leaves unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v41) = Cert.InNormRefIdeal.Value.res_main_v41 m c
      ∧ r.2.mem ((c.tc : Thread nD τ).loc main_v24) = (fun y : Gain.Idx => gradG (cts m c) (ws m c) (rows m c) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1, (h c).2.1.trans ?_, (h c).2.2⟩) (Cert.InNormRefIdeal.Value.run m ρ)
  exact result_gain (cts m c) (ws m c) (rows m c)

end Cert.InRmsReference

namespace Cert.InRms

open Idealize.ShloMosaic Idealize.ShloMosaic.TcCoe

/-- The reference's run ends with its arguments unchanged and every counter at zero: it has none. -/
theorem reference_frame : Cert.quiescent_InNormRefIdeal := fun m g _ =>
  θ_run_mono (Cert.InRmsReference.run m g) fun r h => ⟨fun c => (h c).2.2, sem_eq_zero_of_no_sems rfl r.2⟩
theorem reference_frame_pre : Cert.quiescent_InNormRefIdeal_pre_in_norm_finite := fun m g _ =>
  θ_run_mono (Cert.InRmsReference.run m g) fun r h => ⟨fun c => (h c).2.2, sem_eq_zero_of_no_sems rfl r.2⟩

/-- The kernel's outputs are the reference's results, over the extended reals, where the arguments are real numbers. -/
theorem algebraic : Cert.algebraic_InNormIdeal_InNormRefIdeal_pre_in_norm_finite := by
  pair_intro
  · run_from Cert.InNormIdeal.Gen.run_main m g
  · refine θ_run_mono (Cert.InRmsReference.run m' g') fun r h c => ⟨(h c).1.trans ?_, (h c).2.1.trans ?_, (h c).2.2⟩
    all_goals
      clear h
      obtain ⟨ed, ew, eg, ex, ep⟩ : Cert.InRmsReference.cts m' c = Cert.InRmsKernel.cts m c ∧ Cert.InRmsReference.ws m' c = Cert.InRmsKernel.ws m c
        ∧ Cert.InRmsReference.gain m' c = Cert.InRmsKernel.gain m c ∧ Cert.InRmsReference.rows m' c = Cert.InRmsKernel.rows m c
        ∧ Cert.InRmsReference.past m' c = Cert.InRmsKernel.past m c := hagree c
    · refine (Cert.InRmsReference.result m' c (by rw [ed, ew, eg, ex]; exact Cert.InRmsKernel.finite m hpre c)).trans ?_
      refine Eq.trans ?_ (Cert.InRmsKernel.final5 m c).symm
      rw [ed, ew, eg, ex, ep]
    · refine Eq.trans ?_ (Cert.InRmsKernel.final6 m c).symm
      rw [ed, ew, ex]

end Cert.InRms

end
-- ==== Proof.InFwd.lean ====
/- The input projection of the recurrent block: the product of the normalised rows with the weight, its columns in the kernel's
   layout.  The kernel works on two tiles of 1664 columns; the reference is one product, laid out afterwards. -/
module

public import proofs.«01_k».proof.Defs
public import proofs.«01_k».proof.Proof.Columns
public import proofs.«01_k».proof.Proof.Gen.InProjIdeal.Frame
public import proofs.«01_k».proof.Proof.Gen.InProjIdeal.Value
public import proofs.«01_k».proof.Proof.Gen.InProjRefIdeal.Run
public import Idealize.ShloMosaic.Lib.Pipeline.ValueKit
public import Idealize.ShloMosaic.Lib.Pointwise

@[expose] public section

set_option maxRecDepth 16384

noncomputable section

namespace Cert.InFwdKernel

open Cert.InProjIdeal Cert.InProjIdeal.Gen Cert.Columns Idealize.ShloMosaic Idealize.ShloMosaic.TcCoe

/-- The shapes of the input, of the weight and of the result. -/
abbrev Rows : Shape := ⟨2, ![16384, 1024]⟩
abbrev Weight : Shape := ⟨2, ![1024, 3080]⟩
abbrev Laid : Shape := ⟨2, ![1024, 3328]⟩
abbrev Outs : Shape := ⟨2, ![16384, 3328]⟩

/-- The projection of row `r`, at column `j`. -/
def proj (X : Rows.Idx → EReal) (W : Weight.Idx → EReal) (r : Fin 16384) (j : Fin 3080) : EReal :=
  ∑ k : Fin 1024, X (ix2 r k) * W (ix2 k j)

/-- A sum of products with a laid-out weight is the sum, laid out. -/
theorem sum_mul_laid (x : Fin 1024 → EReal) (w : Fin 1024 → Fin 3080 → EReal) (n : Fin 3328) :
    ∑ k, x k * laid (w k) n = laid (fun j => ∑ k, x k * w k j) n := by
  by_cases h0 : n.val < 3076
  · rw [laid_first _ _ h0]
    exact Finset.sum_congr rfl fun k _ => congrArg (x k * ·) (laid_first _ _ h0)
  by_cases h1 : n.val - 3076 < 124
  · rw [laid_gap _ _ h0 h1]
    exact Finset.sum_eq_zero fun k _ => by rw [laid_gap _ _ h0 h1, mul_zero]
  by_cases h2 : n.val - 3076 - 124 < 4
  · rw [laid_last _ _ h0 h1 h2]
    exact Finset.sum_congr rfl fun k _ => congrArg (x k * ·) (laid_last _ _ h0 h1 h2)
  · rw [laid_end _ _ h1 h2]
    exact Finset.sum_eq_zero fun k _ => by rw [laid_end _ _ h1 h2, mul_zero]

variable (m : (ℓ : Loc nD τ sig) → Buf (Elt Ideal) ℓ)

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![t.val % 16, t.val / 16] := (by decide +kernel : ∀ t : Fin grid0.N, _)

/-- The two arguments, on device `c`. -/
abbrev xs (c : Dev nD) : Rows.Idx → EReal := m ((c.tc : Thread nD τ).loc main_arg0)
abbrev ws (c : Dev nD) : Weight.Idx → EReal := m ((c.tc : Thread nD τ).loc main_arg1)

/-- A point's rows and columns in the whole result. -/
def row (t : Fin cfg0.N) (r : Fin 1024) : Fin 16384 := ⟨t.val % 16 * 1024 + r.val, by omega⟩
def col (t : Fin cfg0.N) (n : Fin 1664) : Fin 3328 := ⟨t.val / 16 * 1664 + n.val, by have : t.val < 32 := t.isLt; omega⟩

theorem block0 (c : Dev nD) (t : Fin cfg0.N) (r : Fin 1024) (k : Fin 1024) :
    (iblk m c 0 t : Vec Ideal S1024x1024 .bf16) (ix2 r k) = xs m c (ix2 (row t r) k) := by
  blk_point [iblk, V, idx0 t, row]

/-- The weight, laid out. -/
abbrev spread (D : FVec Ideal S1024x3080 .bf16) : FVec Ideal S1024x3328 .bf16 :=
  concatenate S1024x3328 1 [⟨S1024x3076, (extractStridedSlice S1024x3076 ![0, 0] D slices_S1024x3080_S1024x3076_0_0 : Vec Ideal S1024x3076 .bf16)⟩, ⟨S1024x124, (broadcastInDim S1024x124 ![] bcast_S_S1024x124 (constant S_ .bf16 0x0000#16 : FVec Ideal S_ .bf16) : Vec Ideal S1024x124 .bf16)⟩, ⟨S1024x4, (extractStridedSlice S1024x4 ![0, 3076] D slices_S1024x3080_S1024x4_0_3076 : Vec Ideal S1024x4 .bf16)⟩, ⟨S1024x124, (broadcastInDim S1024x124 ![] bcast_S_S1024x124 (constant S_ .bf16 0x0000#16 : FVec Ideal S_ .bf16) : Vec Ideal S1024x124 .bf16)⟩] concatenates_S1024x3076_S1024x124_S1024x4_S1024x124_S1024x3328_d1

theorem spread_eq (D : FVec Ideal S1024x3080 .bf16) (r : Fin 1024) (n : Fin 3328) : spread D (ix2 r n) = laid (fun j => D (ix2 r j)) n := by
  pointwise [spread]
  by_cases h0 : n.val < 3076
  · rw [dif_pos h0, laid_first _ _ h0]
  rw [dif_neg h0]
  by_cases h1 : n.val - 3076 < 124
  · rw [dif_pos h1, laid_gap _ _ h0 h1]
  rw [dif_neg h1]
  by_cases h2 : n.val - 3076 - 124 < 4
  · rw [dif_pos h2, laid_last _ _ h0 h1 h2]
    exact congrArg (fun a => D (ix2 r a)) (Fin.ext (by show 3076 + (n.val - 3076 - 124) = n.val - 124; omega))
  · rw [dif_neg h2, laid_end _ _ h1 h2]

/-- What the host hands the kernel in window 1: the weight, laid out. -/
theorem entry1 (c : Dev nD) : (V m c main_v3 : Laid.Idx → EReal) = spread (ws m c) := rfl

theorem block1 (c : Dev nD) (t : Fin cfg0.N) (k : Fin 1024) (n : Fin 1664) :
    (iblk m c 1 t : Vec Ideal S1024x1664 .bf16) (ix2 k n) = laid (fun j => ws m c (ix2 k j)) (col t n) := by
  have e : (win0_1.blk t).view.emb (ix2 k n) = ix2 k (col t n) := by
    blk_ext [idx1 t, col]
  exact (congrArg (V m c main_v3 : Laid.Idx → EReal) e).trans ((congrFun (entry1 m c) _).trans (spread_eq (ws m c) k (col t n)))

/-- The body's product, at one entry. -/
theorem pay1 (x : Vec Ideal S1024x1024 .bf16) (w : Vec Ideal S1024x1664 .bf16) (r : Fin 1024) (n : Fin 1664) :
    k0_pay1 x w (ix2 r n) = ∑ k : Fin 1024, x (ix2 r k) * w (ix2 k n) := by
  pointwise [k0_pay1]

/-- A point's block of the result. -/
theorem point_proj (c : Dev nD) (t : Fin cfg0.N) (r : Fin 1024) (n : Fin 1664) :
    k0_pay1 (iblk m c 0 t) (iblk m c 1 t) (ix2 r n) = laid (proj (xs m c) (ws m c) (row t r)) (col t n) := by
  refine (pay1 _ _ r n).trans (Eq.trans ?_ (sum_mul_laid _ _ _))
  exact Finset.sum_congr rfl fun k _ => congrArg₂ (· * ·) (block0 m c t r k) (block1 m c t k n)

/-- The kernel's output is the projection, laid out. -/
theorem final2 (c : Dev nD) : (dats m 0 c).arrAt 2 cfg0.N = fun y : Outs.Idx => laid (proj (xs m c) (ws m c) (y 0)) (y 1) := by
  refine (dats m 0 c).arrAt_eq_of_covers 2 _ (by decide +kernel) fun t hf y => ?_
  blk_simp
  rw [after0_2]
  frame_out
  refine (congrArg (k0_pay1 (iblk m c 0 t) (iblk m c 1 t)) (eq_ix2 y)).trans ((point_proj m c t (y 0) (y 1)).trans ?_)
  have e : (win0_2.blk t).view.emb y = ix2 (row t (y 0)) (col t (y 1)) := by
    blk_ext [idx2 t, row, col]
  exact (congrArg (fun z : Outs.Idx => laid (proj (xs m c) (ws m c) (z 0)) (z 1)) e).symm

end Cert.InFwdKernel

namespace Cert.InFwdReference

open Cert.InProjRefIdeal Cert.InProjRefIdeal.Gen Cert.InFwdKernel Cert.Columns Idealize.ShloMosaic Idealize.ShloMosaic.TcCoe Idealize.SL.Sem

variable (m : (ℓ : Loc nD τ sig) → Buf (Elt Ideal) ℓ)

abbrev xs (c : Dev nD) : Rows.Idx → EReal := m (c.tc.loc main_arg0)
abbrev ws (c : Dev nD) : Weight.Idx → EReal := m (c.tc.loc main_arg1)

/-- The product, laid out. -/
abbrev spread (D : FVec Ideal S16384x3080 .f32) : FVec Ideal S16384x3328 .f32 :=
  concatenate S16384x3328 1 [⟨S16384x3076, (extractStridedSlice S16384x3076 ![0, 0] D slices_S16384x3080_S16384x3076_0_0 : Vec Ideal S16384x3076 .f32)⟩, ⟨S16384x124, (broadcastInDim S16384x124 ![] bcast_S_S16384x124 (constant S_ .f32 0x00000000#32 : FVec Ideal S_ .f32) : Vec Ideal S16384x124 .f32)⟩, ⟨S16384x4, (extractStridedSlice S16384x4 ![0, 3076] D slices_S16384x3080_S16384x4_0_3076 : Vec Ideal S16384x4 .f32)⟩, ⟨S16384x124, (broadcastInDim S16384x124 ![] bcast_S_S16384x124 (constant S_ .f32 0x00000000#32 : FVec Ideal S_ .f32) : Vec Ideal S16384x124 .f32)⟩] concatenates_S16384x3076_S16384x124_S16384x4_S16384x124_S16384x3328_d1

theorem spread_eq (D : FVec Ideal S16384x3080 .f32) (r : Fin 16384) (n : Fin 3328) : spread D (ix2 r n) = laid (fun j => D (ix2 r j)) n := by
  pointwise [spread]
  by_cases h0 : n.val < 3076
  · rw [dif_pos h0, laid_first _ _ h0]
  rw [dif_neg h0]
  by_cases h1 : n.val - 3076 < 124
  · rw [dif_pos h1, laid_gap _ _ h0 h1]
  rw [dif_neg h1]
  by_cases h2 : n.val - 3076 - 124 < 4
  · rw [dif_pos h2, laid_last _ _ h0 h1 h2]
    exact congrArg (fun a => D (ix2 r a)) (Fin.ext (by show 3076 + (n.val - 3076 - 124) = n.val - 124; omega))
  · rw [dif_neg h2, laid_end _ _ h1 h2]

/-- The reference's product. -/
abbrev product (X : FVec Ideal S16384x1024 .bf16) (W : FVec Ideal S1024x3080 .bf16) : FVec Ideal S16384x3080 .f32 :=
  Host.dotGeneral dot_S16384x1024_S1024x3080_S16384x3080_1_0_0_1_n_n none (extf .f32 X bitsLt_bf16_f32) (extf .f32 W bitsLt_bf16_f32)

theorem product_eq (X : FVec Ideal S16384x1024 .bf16) (W : FVec Ideal S1024x3080 .bf16) (r : Fin 16384) (j : Fin 3080) :
    product X W (ix2 r j) = proj X W r j := by
  pointwise [product]
  rfl

/-- Every execution of the reference ends with the projection, laid out, in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6) = (fun y : Outs.Idx => laid (proj (xs m c) (ws m c) (y 0)) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.InProjRefIdeal.Value.run m ρ)
  funext y
  obtain ⟨r, n, rfl⟩ : ∃ (r : Fin 16384) (n : Fin 3328), y = ix2 r n := ⟨y 0, y 1, eq_ix2 y⟩
  exact (spread_eq (product (xs m c) (ws m c)) r n).trans (congrArg (fun f => laid f n) (funext fun j => product_eq (xs m c) (ws m c) r j))

end Cert.InFwdReference

namespace Cert.InFwd

open Idealize.ShloMosaic Idealize.ShloMosaic.TcCoe

/-- The reference's run ends with its arguments unchanged and every counter at zero: it has none. -/
theorem reference_frame : Cert.quiescent_InProjRefIdeal := fun m g _ =>
  θ_run_mono (Cert.InFwdReference.run m g) fun r h => ⟨fun c => (h c).2, sem_eq_zero_of_no_sems rfl r.2⟩

/-- The kernel's output is the reference's result, over the extended reals. -/
theorem algebraic : Cert.algebraic_InProjIdeal_InProjRefIdeal := by
  pair_intro
  · run_from Cert.InProjIdeal.Gen.run_main m g
  · refine θ_run_mono (Cert.InFwdReference.run m' g') fun r h c => ⟨(h c).1.trans ?_, (h c).2⟩
    clear h
    obtain ⟨ex, ew⟩ : Cert.InFwdReference.xs m' c = Cert.InFwdKernel.xs m c ∧ Cert.InFwdReference.ws m' c = Cert.InFwdKernel.ws m c := hagree c
    refine Eq.trans ?_ (Cert.InFwdKernel.final2 m c).symm
    rw [ex, ew]

end Cert.InFwd

end
-- ==== Proof.View1.lean ====
/- A projection onto the heads, for the positions taken 1 at a time: the product of the input rows with a weight.
   The kernel works on blocks of 1024 by 1024; the reference is one product. -/
module

public import proofs.«01_k».proof.Defs
public import proofs.«01_k».proof.Proof.Gen.Heads1Ideal.Frame
public import proofs.«01_k».proof.Proof.Gen.Heads1Ideal.Value
public import proofs.«01_k».proof.Proof.Gen.Heads1RefIdeal.Run
public import Idealize.ShloMosaic.Lib.Pipeline.ValueKit
public import Idealize.ShloMosaic.Lib.Pointwise

@[expose] public section

set_option maxRecDepth 16384

noncomputable section

namespace Cert.View1Kernel

open Cert.Heads1Ideal Cert.Heads1Ideal.Gen Idealize.ShloMosaic Idealize.ShloMosaic.TcCoe

/-- The shapes of the input, of the weight and of the result. -/
abbrev Rows : Shape := ⟨2, ![16384, 1024]⟩
abbrev Weight : Shape := ⟨2, ![1024, 1024]⟩
abbrev Outs : Shape := ⟨2, ![16384, 1024]⟩

/-- The projection of row `r`, at column `n`. -/
def proj (X : Rows.Idx → EReal) (W : Weight.Idx → EReal) (r : Fin 16384) (n : Fin 1024) : EReal :=
  ∑ k : Fin 1024, X (ix2 r k) * W (ix2 k n)

/-- The result at row `r`, column `n`: 1 projected row in each row. -/
def view (X : Rows.Idx → EReal) (W : Weight.Idx → EReal) (r : Fin 16384) (n : Fin 1024) : EReal :=
  proj X W ⟨r.val * 1 + n.val / 1024, by omega⟩ ⟨n.val % 1024, by omega⟩

variable (m : (ℓ : Loc nD τ sig) → Buf (Elt Ideal) ℓ)

theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 16, 0] := (by decide +kernel : ∀ t : Fin grid0.N, _)

/-- The two arguments, on device `c`. -/
abbrev xs (c : Dev nD) : Rows.Idx → EReal := m ((c.tc : Thread nD τ).loc main_arg0)
abbrev ws (c : Dev nD) : Weight.Idx → EReal := m ((c.tc : Thread nD τ).loc main_arg1)

/-- A point's rows and columns in the whole result. -/
def row (t : Fin cfg0.N) (r : Fin 1024) : Fin 16384 := ⟨t.val % 16 * 1024 + r.val, by omega⟩
def col (t : Fin cfg0.N) (n : Fin 1024) : Fin 1024 := ⟨0 * 1024 + n.val, by have : t.val < 16 := t.isLt; omega⟩

/-- The input row of row `r` at a point. -/
def src (t : Fin cfg0.N) (r : Fin 1024) : Fin 16384 := ⟨(row t r).val * 1 + 0, by have : t.val < 16 := t.isLt; have := (row t r).isLt; omega⟩

theorem block0 (c : Dev nD) (t : Fin cfg0.N) (r : Fin 1024) (k : Fin 1024) :
    (iblk m c 0 t : Vec Ideal S1024x1024 .bf16) (ix2 r k) = xs m c (ix2 (src t r) k) := by
  blk_point [iblk, V, idx0 t, row, src]

theorem block1 (c : Dev nD) (t : Fin cfg0.N) (k : Fin 1024) (n : Fin 1024) :
    (iblk m c 1 t : Vec Ideal S1024x1024 .bf16) (ix2 k n) = ws m c (ix2 k n) := by
  blk_point [iblk, V, idx1 t]

/-- The body's product, at one entry. -/
theorem pay1 (x w : Vec Ideal S1024x1024 .bf16) (r : Fin 1024) (n : Fin 1024) :
    k0_pay1 x w (ix2 r n) = ∑ k : Fin 1024, x (ix2 r k) * w (ix2 k n) := by
  pointwise [k0_pay1]

/-- A point's block of the result. -/
theorem point_view (c : Dev nD) (t : Fin cfg0.N) (r : Fin 1024) (n : Fin 1024) :
    k0_pay1 (iblk m c 0 t) (iblk m c 1 t) (ix2 r n) = view (xs m c) (ws m c) (row t r) (col t n) := by
  refine (pay1 _ _ r n).trans ?_
  have es : src t r = ⟨(row t r).val * 1 + (col t n).val / 1024, by have := (row t r).isLt; have := (col t n).isLt; omega⟩ :=
    Fin.ext (by show (row t r).val * 1 + 0 = (row t r).val * 1 + (0 * 1024 + n.val) / 1024; omega)
  have en : n = ⟨(col t n).val % 1024, by omega⟩ := Fin.ext (by show n.val = (0 * 1024 + n.val) % 1024; omega)
  refine Eq.trans ?_ (congrArg₂ (proj (xs m c) (ws m c)) es en)
  exact Finset.sum_congr rfl fun k _ => congrArg₂ (· * ·) (block0 m c t r k) (block1 m c t k n)

/-- The kernel's output is the view of the projection. -/
theorem final2 (c : Dev nD) : (dats m 0 c).arrAt 2 cfg0.N = fun y : Outs.Idx => view (xs m c) (ws m c) (y 0) (y 1) := by
  refine (dats m 0 c).arrAt_eq_of_covers 2 _ (by decide +kernel) fun t hf y => ?_
  blk_simp
  rw [after0_2]
  frame_out
  refine (congrArg (k0_pay1 (iblk m c 0 t) (iblk m c 1 t)) (eq_ix2 y)).trans ((point_view m c t (y 0) (y 1)).trans ?_)
  have e : (win0_2.blk t).view.emb y = ix2 (row t (y 0)) (col t (y 1)) := by
    blk_ext [idx2 t, row, col]
  exact (congrArg (fun z : Outs.Idx => view (xs m c) (ws m c) (z 0) (z 1)) e).symm

end Cert.View1Kernel

namespace Cert.View1Reference

open Cert.Heads1RefIdeal Cert.View1Kernel Idealize.ShloMosaic Idealize.ShloMosaic.TcCoe Idealize.SL.Sem

variable (m : (ℓ : Loc nD τ sig) → Buf (Elt Ideal) ℓ)

abbrev xs (c : Dev nD) : Rows.Idx → EReal := m (c.tc.loc main_arg0)
abbrev ws (c : Dev nD) : Weight.Idx → EReal := m (c.tc.loc main_arg1)

/-- Every execution of the reference ends with the view of the projection in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = (fun y : Outs.Idx => view (xs m c) (ws m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.Heads1RefIdeal.Value.run m ρ)
  funext y
  obtain ⟨r, n, rfl⟩ : ∃ (r : Fin 16384) (n : Fin 1024), y = ix2 r n := ⟨y 0, y 1, eq_ix2 y⟩
  pointwise
  exact congrArg₂ (proj (xs m c) (ws m c)) (Fin.ext (by show r.val = r.val * 1 + n.val / 1024; omega))
    (Fin.ext (by show n.val = n.val % 1024; omega))

end Cert.View1Reference

namespace Cert.View1

open Idealize.ShloMosaic Idealize.ShloMosaic.TcCoe

/-- The reference's run ends with its arguments unchanged and every counter at zero: it has none. -/
theorem reference_frame : Cert.quiescent_Heads1RefIdeal := fun m g _ =>
  θ_run_mono (Cert.View1Reference.run m g) fun r h => ⟨fun c => (h c).2, sem_eq_zero_of_no_sems rfl r.2⟩

/-- The kernel's output is the reference's result, over the extended reals. -/
theorem algebraic : Cert.algebraic_Heads1Ideal_Heads1RefIdeal := by
  pair_intro
  · run_from Cert.Heads1Ideal.Gen.run_main m g
  · refine θ_run_mono (Cert.View1Reference.run m' g') fun r h c => ⟨(h c).1.trans ?_, (h c).2⟩
    clear h
    obtain ⟨ex, ew⟩ : Cert.View1Reference.xs m' c = Cert.View1Kernel.xs m c ∧ Cert.View1Reference.ws m' c = Cert.View1Kernel.ws m c := hagree c
    refine Eq.trans ?_ (Cert.View1Kernel.final2 m c).symm
    rw [ex, ew]

end Cert.View1

end
-- ==== Proof.View4.lean ====
/- A projection onto the heads, for the positions taken 4 at a time: the product of the input rows with a weight, 4 rows' results in a row.
   The kernel works on blocks of 1024 by 1024; the reference is one product, reshaped. -/
module

public import proofs.«01_k».proof.Defs
public import proofs.«01_k».proof.Proof.Gen.Heads4Ideal.Frame
public import proofs.«01_k».proof.Proof.Gen.Heads4Ideal.Value
public import proofs.«01_k».proof.Proof.Gen.Heads4RefIdeal.Run
public import Idealize.ShloMosaic.Lib.Pipeline.ValueKit
public import Idealize.ShloMosaic.Lib.Pointwise

@[expose] public section

set_option maxRecDepth 16384

noncomputable section

namespace Cert.View4Kernel

open Cert.Heads4Ideal Cert.Heads4Ideal.Gen Idealize.ShloMosaic Idealize.ShloMosaic.TcCoe

/-- The shapes of the input, of the weight and of the result. -/
abbrev Rows : Shape := ⟨2, ![16384, 1024]⟩
abbrev Weight : Shape := ⟨2, ![1024, 1024]⟩
abbrev Outs : Shape := ⟨2, ![4096, 4096]⟩

/-- The projection of row `r`, at column `n`. -/
def proj (X : Rows.Idx → EReal) (W : Weight.Idx → EReal) (r : Fin 16384) (n : Fin 1024) : EReal :=
  ∑ k : Fin 1024, X (ix2 r k) * W (ix2 k n)

/-- The result at row `r`, column `n`: 4 projected rows in each row. -/
def view (X : Rows.Idx → EReal) (W : Weight.Idx → EReal) (r : Fin 4096) (n : Fin 4096) : EReal :=
  proj X W ⟨r.val * 4 + n.val / 1024, by omega⟩ ⟨n.val % 1024, by omega⟩

variable (m : (ℓ : Loc nD τ sig) → Buf (Elt Ideal) ℓ)

theorem idx0 : ∀ t : Fin cfg0.N, win0_0.index t = ![t.val % 4, t.val / 4] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 4, t.val / 4] := (by decide +kernel : ∀ t : Fin grid0.N, _)

/-- The two arguments, on device `c`. -/
abbrev xs (c : Dev nD) : Rows.Idx → EReal := m ((c.tc : Thread nD τ).loc main_arg0)
abbrev ws (c : Dev nD) : Weight.Idx → EReal := m ((c.tc : Thread nD τ).loc main_arg1)

/-- A point's rows and columns in the whole result. -/
def row (t : Fin cfg0.N) (r : Fin 1024) : Fin 4096 := ⟨t.val % 4 * 1024 + r.val, by omega⟩
def col (t : Fin cfg0.N) (n : Fin 1024) : Fin 4096 := ⟨t.val / 4 * 1024 + n.val, by have : t.val < 16 := t.isLt; omega⟩

/-- The input row of row `r` at a point. -/
def src (t : Fin cfg0.N) (r : Fin 1024) : Fin 16384 := ⟨(row t r).val * 4 + t.val / 4, by have : t.val < 16 := t.isLt; have := (row t r).isLt; omega⟩

/-- What the host hands the kernel in window 0: 4 input rows in a row. -/
theorem entry0 (c : Dev nD) (r : Fin 4096) (n : Fin 4096) :
    (V m c main_v0 : Outs.Idx → EReal) (ix2 r n) = xs m c (ix2 ⟨r.val * 4 + n.val / 1024, by omega⟩ ⟨n.val % 1024, by omega⟩) := by
  entry_read
  pointwise

theorem block0 (c : Dev nD) (t : Fin cfg0.N) (r : Fin 1024) (k : Fin 1024) :
    (iblk m c 0 t : Vec Ideal S1024x1024 .bf16) (ix2 r k) = xs m c (ix2 (src t r) k) := by
  have e : (win0_0.blk t).view.emb (ix2 r k) = ix2 (row t r) (col t k) := by
    blk_ext [idx0 t, row, col]
  refine (congrArg (V m c main_v0 : Outs.Idx → EReal) e).trans ((entry0 m c (row t r) (col t k)).trans ?_)
  exact congrArg₂ (fun a b => xs m c (ix2 a b))
    (Fin.ext (by show (row t r).val * 4 + (t.val / 4 * 1024 + k.val) / 1024 = (row t r).val * 4 + t.val / 4; omega))
    (Fin.ext (by show (t.val / 4 * 1024 + k.val) % 1024 = k.val; omega))

theorem block1 (c : Dev nD) (t : Fin cfg0.N) (k : Fin 1024) (n : Fin 1024) :
    (iblk m c 1 t : Vec Ideal S1024x1024 .bf16) (ix2 k n) = ws m c (ix2 k n) := by
  blk_point [iblk, V, idx1 t]

/-- The body's product, at one entry. -/
theorem pay1 (x w : Vec Ideal S1024x1024 .bf16) (r : Fin 1024) (n : Fin 1024) :
    k0_pay1 x w (ix2 r n) = ∑ k : Fin 1024, x (ix2 r k) * w (ix2 k n) := by
  pointwise [k0_pay1]

/-- A point's block of the result. -/
theorem point_view (c : Dev nD) (t : Fin cfg0.N) (r : Fin 1024) (n : Fin 1024) :
    k0_pay1 (iblk m c 0 t) (iblk m c 1 t) (ix2 r n) = view (xs m c) (ws m c) (row t r) (col t n) := by
  refine (pay1 _ _ r n).trans ?_
  have es : src t r = ⟨(row t r).val * 4 + (col t n).val / 1024, by have := (row t r).isLt; have := (col t n).isLt; omega⟩ :=
    Fin.ext (by show (row t r).val * 4 + t.val / 4 = (row t r).val * 4 + (t.val / 4 * 1024 + n.val) / 1024; omega)
  have en : n = ⟨(col t n).val % 1024, by omega⟩ := Fin.ext (by show n.val = (t.val / 4 * 1024 + n.val) % 1024; omega)
  refine Eq.trans ?_ (congrArg₂ (proj (xs m c) (ws m c)) es en)
  exact Finset.sum_congr rfl fun k _ => congrArg₂ (· * ·) (block0 m c t r k) (block1 m c t k n)

/-- The kernel's output is the view of the projection. -/
theorem final2 (c : Dev nD) : (dats m 0 c).arrAt 2 cfg0.N = fun y : Outs.Idx => view (xs m c) (ws m c) (y 0) (y 1) := by
  refine (dats m 0 c).arrAt_eq_of_covers 2 _ (by decide +kernel) fun t hf y => ?_
  blk_simp
  rw [after0_2]
  frame_out
  refine (congrArg (k0_pay1 (iblk m c 0 t) (iblk m c 1 t)) (eq_ix2 y)).trans ((point_view m c t (y 0) (y 1)).trans ?_)
  have e : (win0_2.blk t).view.emb y = ix2 (row t (y 0)) (col t (y 1)) := by
    blk_ext [idx2 t, row, col]
  exact (congrArg (fun z : Outs.Idx => view (xs m c) (ws m c) (z 0) (z 1)) e).symm

end Cert.View4Kernel

namespace Cert.View4Reference

open Cert.Heads4RefIdeal Cert.View4Kernel Idealize.ShloMosaic Idealize.ShloMosaic.TcCoe Idealize.SL.Sem

variable (m : (ℓ : Loc nD τ sig) → Buf (Elt Ideal) ℓ)

abbrev xs (c : Dev nD) : Rows.Idx → EReal := m (c.tc.loc main_arg0)
abbrev ws (c : Dev nD) : Weight.Idx → EReal := m (c.tc.loc main_arg1)

/-- Every execution of the reference ends with the view of the projection in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = (fun y : Outs.Idx => view (xs m c) (ws m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.Heads4RefIdeal.Value.run m ρ)
  funext y
  obtain ⟨r, n, rfl⟩ : ∃ (r : Fin 4096) (n : Fin 4096), y = ix2 r n := ⟨y 0, y 1, eq_ix2 y⟩
  pointwise
  rfl

end Cert.View4Reference

namespace Cert.View4

open Idealize.ShloMosaic Idealize.ShloMosaic.TcCoe

/-- The reference's run ends with its arguments unchanged and every counter at zero: it has none. -/
theorem reference_frame : Cert.quiescent_Heads4RefIdeal := fun m g _ =>
  θ_run_mono (Cert.View4Reference.run m g) fun r h => ⟨fun c => (h c).2, sem_eq_zero_of_no_sems rfl r.2⟩

/-- The kernel's output is the reference's result, over the extended reals. -/
theorem algebraic : Cert.algebraic_Heads4Ideal_Heads4RefIdeal := by
  pair_intro
  · run_from Cert.Heads4Ideal.Gen.run_main m g
  · refine θ_run_mono (Cert.View4Reference.run m' g') fun r h c => ⟨(h c).1.trans ?_, (h c).2⟩
    clear h
    obtain ⟨ex, ew⟩ : Cert.View4Reference.xs m' c = Cert.View4Kernel.xs m c ∧ Cert.View4Reference.ws m' c = Cert.View4Kernel.ws m c := hagree c
    refine Eq.trans ?_ (Cert.View4Kernel.final2 m c).symm
    rw [ex, ew]

end Cert.View4

end
-- ==== Proof.View16.lean ====
/- A projection onto the heads, for the positions taken 16 at a time: the product of the input rows with a weight, 16 rows' results in a row.
   The kernel works on blocks of 1024 by 1024; the reference is one product, reshaped. -/
module

public import proofs.«01_k».proof.Defs
public import proofs.«01_k».proof.Proof.Gen.Heads16Ideal.Frame
public import proofs.«01_k».proof.Proof.Gen.Heads16Ideal.Value
public import proofs.«01_k».proof.Proof.Gen.Heads16RefIdeal.Run
public import Idealize.ShloMosaic.Lib.Pipeline.ValueKit
public import Idealize.ShloMosaic.Lib.Pointwise

@[expose] public section

set_option maxRecDepth 16384

noncomputable section

namespace Cert.View16Kernel

open Cert.Heads16Ideal Cert.Heads16Ideal.Gen Idealize.ShloMosaic Idealize.ShloMosaic.TcCoe

/-- The shapes of the input, of the weight and of the result. -/
abbrev Rows : Shape := ⟨2, ![16384, 1024]⟩
abbrev Weight : Shape := ⟨2, ![1024, 1024]⟩
abbrev Outs : Shape := ⟨2, ![1024, 16384]⟩

/-- The projection of row `r`, at column `n`. -/
def proj (X : Rows.Idx → EReal) (W : Weight.Idx → EReal) (r : Fin 16384) (n : Fin 1024) : EReal :=
  ∑ k : Fin 1024, X (ix2 r k) * W (ix2 k n)

/-- The result at row `r`, column `n`: 16 projected rows in each row. -/
def view (X : Rows.Idx → EReal) (W : Weight.Idx → EReal) (r : Fin 1024) (n : Fin 16384) : EReal :=
  proj X W ⟨r.val * 16 + n.val / 1024, by omega⟩ ⟨n.val % 1024, by omega⟩

variable (m : (ℓ : Loc nD τ sig) → Buf (Elt Ideal) ℓ)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)

/-- The two arguments, on device `c`. -/
abbrev xs (c : Dev nD) : Rows.Idx → EReal := m ((c.tc : Thread nD τ).loc main_arg0)
abbrev ws (c : Dev nD) : Weight.Idx → EReal := m ((c.tc : Thread nD τ).loc main_arg1)

/-- A point's rows and columns in the whole result. -/
def row (t : Fin cfg0.N) (r : Fin 1024) : Fin 1024 := ⟨r.val, by omega⟩
def col (t : Fin cfg0.N) (n : Fin 1024) : Fin 16384 := ⟨t.val * 1024 + n.val, by have : t.val < 16 := t.isLt; omega⟩

/-- The input row of row `r` at a point. -/
def src (t : Fin cfg0.N) (r : Fin 1024) : Fin 16384 := ⟨(row t r).val * 16 + t.val, by have : t.val < 16 := t.isLt; have := (row t r).isLt; omega⟩

/-- What the host hands the kernel in window 0: 16 input rows in a row. -/
theorem entry0 (c : Dev nD) (r : Fin 1024) (n : Fin 16384) :
    (V m c main_v0 : Outs.Idx → EReal) (ix2 r n) = xs m c (ix2 ⟨r.val * 16 + n.val / 1024, by omega⟩ ⟨n.val % 1024, by omega⟩) := by
  entry_read
  pointwise

theorem block0 (c : Dev nD) (t : Fin cfg0.N) (r : Fin 1024) (k : Fin 1024) :
    (iblk m c 0 t : Vec Ideal S1024x1024 .bf16) (ix2 r k) = xs m c (ix2 (src t r) k) := by
  have e : (win0_0.blk t).view.emb (ix2 r k) = ix2 (row t r) (col t k) := by
    blk_ext [idx0 t, row, col]
  refine (congrArg (V m c main_v0 : Outs.Idx → EReal) e).trans ((entry0 m c (row t r) (col t k)).trans ?_)
  exact congrArg₂ (fun a b => xs m c (ix2 a b))
    (Fin.ext (by show (row t r).val * 16 + (t.val * 1024 + k.val) / 1024 = (row t r).val * 16 + t.val; omega))
    (Fin.ext (by show (t.val * 1024 + k.val) % 1024 = k.val; omega))

theorem block1 (c : Dev nD) (t : Fin cfg0.N) (k : Fin 1024) (n : Fin 1024) :
    (iblk m c 1 t : Vec Ideal S1024x1024 .bf16) (ix2 k n) = ws m c (ix2 k n) := by
  blk_point [iblk, V, idx1 t]

/-- The body's product, at one entry. -/
theorem pay1 (x w : Vec Ideal S1024x1024 .bf16) (r : Fin 1024) (n : Fin 1024) :
    k0_pay1 x w (ix2 r n) = ∑ k : Fin 1024, x (ix2 r k) * w (ix2 k n) := by
  pointwise [k0_pay1]

/-- A point's block of the result. -/
theorem point_view (c : Dev nD) (t : Fin cfg0.N) (r : Fin 1024) (n : Fin 1024) :
    k0_pay1 (iblk m c 0 t) (iblk m c 1 t) (ix2 r n) = view (xs m c) (ws m c) (row t r) (col t n) := by
  refine (pay1 _ _ r n).trans ?_
  have es : src t r = ⟨(row t r).val * 16 + (col t n).val / 1024, by have := (row t r).isLt; have := (col t n).isLt; omega⟩ :=
    Fin.ext (by show (row t r).val * 16 + t.val = (row t r).val * 16 + (t.val * 1024 + n.val) / 1024; omega)
  have en : n = ⟨(col t n).val % 1024, by omega⟩ := Fin.ext (by show n.val = (t.val * 1024 + n.val) % 1024; omega)
  refine Eq.trans ?_ (congrArg₂ (proj (xs m c) (ws m c)) es en)
  exact Finset.sum_congr rfl fun k _ => congrArg₂ (· * ·) (block0 m c t r k) (block1 m c t k n)

/-- The kernel's output is the view of the projection. -/
theorem final2 (c : Dev nD) : (dats m 0 c).arrAt 2 cfg0.N = fun y : Outs.Idx => view (xs m c) (ws m c) (y 0) (y 1) := by
  refine (dats m 0 c).arrAt_eq_of_covers 2 _ (by decide +kernel) fun t hf y => ?_
  blk_simp
  rw [after0_2]
  frame_out
  refine (congrArg (k0_pay1 (iblk m c 0 t) (iblk m c 1 t)) (eq_ix2 y)).trans ((point_view m c t (y 0) (y 1)).trans ?_)
  have e : (win0_2.blk t).view.emb y = ix2 (row t (y 0)) (col t (y 1)) := by
    blk_ext [idx2 t, row, col]
  exact (congrArg (fun z : Outs.Idx => view (xs m c) (ws m c) (z 0) (z 1)) e).symm

end Cert.View16Kernel

namespace Cert.View16Reference

open Cert.Heads16RefIdeal Cert.View16Kernel Idealize.ShloMosaic Idealize.ShloMosaic.TcCoe Idealize.SL.Sem

variable (m : (ℓ : Loc nD τ sig) → Buf (Elt Ideal) ℓ)

abbrev xs (c : Dev nD) : Rows.Idx → EReal := m (c.tc.loc main_arg0)
abbrev ws (c : Dev nD) : Weight.Idx → EReal := m (c.tc.loc main_arg1)

/-- Every execution of the reference ends with the view of the projection in its result and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = (fun y : Outs.Idx => view (xs m c) (ws m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.Heads16RefIdeal.Value.run m ρ)
  funext y
  obtain ⟨r, n, rfl⟩ : ∃ (r : Fin 1024) (n : Fin 16384), y = ix2 r n := ⟨y 0, y 1, eq_ix2 y⟩
  pointwise
  rfl

end Cert.View16Reference

namespace Cert.View16

open Idealize.ShloMosaic Idealize.ShloMosaic.TcCoe

/-- The reference's run ends with its arguments unchanged and every counter at zero: it has none. -/
theorem reference_frame : Cert.quiescent_Heads16RefIdeal := fun m g _ =>
  θ_run_mono (Cert.View16Reference.run m g) fun r h => ⟨fun c => (h c).2, sem_eq_zero_of_no_sems rfl r.2⟩

/-- The kernel's output is the reference's result, over the extended reals. -/
theorem algebraic : Cert.algebraic_Heads16Ideal_Heads16RefIdeal := by
  pair_intro
  · run_from Cert.Heads16Ideal.Gen.run_main m g
  · refine θ_run_mono (Cert.View16Reference.run m' g') fun r h c => ⟨(h c).1.trans ?_, (h c).2⟩
    clear h
    obtain ⟨ex, ew⟩ : Cert.View16Reference.xs m' c = Cert.View16Kernel.xs m c ∧ Cert.View16Reference.ws m' c = Cert.View16Kernel.ws m c := hagree c
    refine Eq.trans ?_ (Cert.View16Kernel.final2 m c).symm
    rw [ex, ew]

end Cert.View16

end
-- ==== Proof.DownFwd.lean ====
/- The down-projection of a feed-forward block, added to what came past the block, and the sum's rows normalised with two
   gains. -/
module

public import proofs.«01_k».proof.Defs
public import proofs.«01_k».proof.Proof.Reals
public import proofs.«01_k».proof.Proof.Gen.DownProjIdeal.Frame
public import proofs.«01_k».proof.Proof.Gen.DownProjIdeal.Value
public import proofs.«01_k».proof.Proof.Gen.DownProjRefIdeal.Run
public import Idealize.ShloMosaic.Lib.Pipeline.ValueKit
public import Idealize.ShloMosaic.Lib.Pointwise

@[expose] public section

set_option maxRecDepth 16384

noncomputable section

namespace Cert.DownFwdKernel

open Cert.DownProjIdeal Cert.DownProjIdeal.Gen Cert.Reals Idealize.ShloMosaic Idealize.ShloMosaic.TcCoe

/-- The shapes of the input, of the weight, of the rows and of a gain. -/
abbrev Ins : Shape := ⟨2, ![16384, 2816]⟩
abbrev Weight : Shape := ⟨2, ![2816, 1024]⟩
abbrev Rows : Shape := ⟨2, ![16384, 1024]⟩
abbrev Gain : Shape := ⟨2, ![1, 1024]⟩

/-- The projection added to what came past it, at row `r`, column `n`. -/
def sum (A : Ins.Idx → EReal) (W : Weight.Idx → EReal) (X : Rows.Idx → EReal) (r : Fin 16384) (n : Fin 1024) : EReal :=
  X (ix2 r n) + ∑ k : Fin 2816, A (ix2 r k) * W (ix2 k n)

/-- A row over the root of its mean square, times a gain. -/
def scaled (x : Fin 1024 → EReal) (g : Fin 1024 → EReal) (n : Fin 1024) : EReal := x n * Ideal.rsqrt (meanSq x) * g n

/-- The sum's rows, normalised with the gain `G`. -/
def normed (A : Ins.Idx → EReal) (W : Weight.Idx → EReal) (X : Rows.Idx → EReal) (G : Gain.Idx → EReal) (r : Fin 16384) (n : Fin 1024) : EReal :=
  scaled (sum A W X r) (fun j => G (ix2 0 j)) n

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The arguments, on device `c`. -/
abbrev ins (c : Dev nD) : Ins.Idx → EReal := m ((c.tc : Thread nD τ).loc main_arg0)
abbrev ws (c : Dev nD) : Weight.Idx → EReal := m ((c.tc : Thread nD τ).loc main_arg1)
abbrev past (c : Dev nD) : Rows.Idx → EReal := m ((c.tc : Thread nD τ).loc main_arg2)
abbrev kvGain (c : Dev nD) : Gain.Idx → EReal := m ((c.tc : Thread nD τ).loc main_arg3)
abbrev gain (c : Dev nD) : Gain.Idx → EReal := m ((c.tc : Thread nD τ).loc main_arg4)

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 2816) :
    (iblk m c 0 t : Vec Ideal S512x2816 .bf16) (ix2 r k) = ins m c (ix2 (row t r) k) := by
  blk_point [iblk, V, idx0 t, row]
theorem block1 (c : Dev nD) (t : Fin cfg0.N) (k : Fin 2816) (n : Fin 1024) :
    (iblk m c 1 t : Vec Ideal S2816x1024 .bf16) (ix2 k n) = ws m c (ix2 k n) := by
  blk_point [iblk, V, idx1 t]
theorem block2 (c : Dev nD) (t : Fin cfg0.N) (r : Fin 512) (n : Fin 1024) :
    (iblk m c 2 t : Vec Ideal S512x1024 .f32) (ix2 r n) = past m c (ix2 (row t r) n) := by
  blk_point [iblk, V, idx2 t, row]
theorem block3 (c : Dev nD) (t : Fin cfg0.N) (n : Fin 1024) : (iblk m c 3 t : Vec Ideal S1x1024 .f32) (ix2 0 n) = kvGain m c (ix2 0 n) := by
  blk_point [iblk, V, idx3 t]
theorem block4 (c : Dev nD) (t : Fin cfg0.N) (n : Fin 1024) : (iblk m c 4 t : Vec Ideal S1x1024 .f32) (ix2 0 n) = gain m c (ix2 0 n) := by
  blk_point [iblk, V, idx4 t]

/-- The first store, at one entry. -/
theorem pay1_eq (a : Vec Ideal S512x2816 .bf16) (w : Vec Ideal S2816x1024 .bf16) (x : Vec Ideal S512x1024 .f32) (r : Fin 512) (n : Fin 1024) :
    k0_pay1 a w x (ix2 r n) = (∑ k : Fin 2816, a (ix2 r k) * w (ix2 k n)) + x (ix2 r n) := by
  pointwise [k0_pay1]

theorem pay3_eq (a : Vec Ideal S512x2816 .bf16) (w : Vec Ideal S2816x1024 .bf16) (x : Vec Ideal S512x1024 .f32) (g : Vec Ideal S1x1024 .f32)
    (r : Fin 512) (n : Fin 1024) :
    k0_pay3 a w x g (ix2 r n) = scaled (fun j => k0_pay1 a w x (ix2 r j)) (fun j => g (ix2 0 j)) n := by
  pointwise [k0_pay3, k0_pay2]
  rfl

theorem pay4_eq (a : Vec Ideal S512x2816 .bf16) (w : Vec Ideal S2816x1024 .bf16) (x : Vec Ideal S512x1024 .f32) (g : Vec Ideal S1x1024 .f32)
    (r : Fin 512) (n : Fin 1024) :
    k0_pay4 a w x g (ix2 r n) = scaled (fun j => k0_pay1 a w x (ix2 r j)) (fun j => g (ix2 0 j)) n := by
  pointwise [k0_pay4, k0_pay2]
  rfl

/-- A point's sum. -/
theorem point_sum (c : Dev nD) (t : Fin cfg0.N) (r : Fin 512) (n : Fin 1024) :
    k0_pay1 (iblk m c 0 t) (iblk m c 1 t) (iblk m c 2 t) (ix2 r n) = sum (ins m c) (ws m c) (past m c) (row t r) n := by
  refine (pay1_eq _ _ _ r n).trans ((add_comm _ _).trans ?_)
  exact congrArg₂ (· + ·) (block2 m c t r n) (Finset.sum_congr rfl fun k _ => congrArg₂ (· * ·) (block0 m c t r k) (block1 m c t k n))

/-- A point's normalised rows. -/
theorem point_kvGain (c : Dev nD) (t : Fin cfg0.N) (r : Fin 512) (n : Fin 1024) :
    k0_pay3 (iblk m c 0 t) (iblk m c 1 t) (iblk m c 2 t) (iblk m c 3 t) (ix2 r n)
      = normed (ins m c) (ws m c) (past m c) (kvGain m c) (row t r) n :=
  (pay3_eq _ _ _ _ r n).trans (congrArg₂ (fun x g => scaled x g n) (funext fun j => point_sum m c t r j) (funext fun j => block3 m c t j))

/-- A point's normalised rows. -/
theorem point_gain (c : Dev nD) (t : Fin cfg0.N) (r : Fin 512) (n : Fin 1024) :
    k0_pay4 (iblk m c 0 t) (iblk m c 1 t) (iblk m c 2 t) (iblk m c 4 t) (ix2 r n)
      = normed (ins m c) (ws m c) (past m c) (gain m c) (row t r) n :=
  (pay4_eq _ _ _ _ r n).trans (congrArg₂ (fun x g => scaled x g n) (funext fun j => point_sum m c t r j) (funext fun j => block4 m c t j))

/-- The first output is the sum. -/
theorem final5 (c : Dev nD) : (dats m 0 c).arrAt 5 cfg0.N = fun y : Rows.Idx => sum (ins m c) (ws m c) (past m c) (y 0) (y 1) := by
  refine (dats m 0 c).arrAt_eq_of_covers 5 _ (by decide +kernel) fun t hf y => ?_
  blk_simp
  rw [after0_5]
  frame_out
  refine (congrArg (k0_pay1 (iblk m c 0 t) (iblk m c 1 t) (iblk m c 2 t)) (eq_ix2 y)).trans ((point_sum m c t (y 0) (y 1)).trans ?_)
  have e : (win0_5.blk t).view.emb y = ix2 (row t (y 0)) (y 1) := by
    blk_ext [idx5 t, row]
  exact (congrArg (fun z : Rows.Idx => sum (ins m c) (ws m c) (past m c) (z 0) (z 1)) e).symm

/-- The next output is its rows, normalised. -/
theorem final6 (c : Dev nD) : (dats m 0 c).arrAt 6 cfg0.N = fun y : Rows.Idx => normed (ins m c) (ws m c) (past m c) (kvGain m c) (y 0) (y 1) := by
  refine (dats m 0 c).arrAt_eq_of_covers 6 _ (by decide +kernel) fun t hf y => ?_
  blk_simp
  rw [after0_6]
  frame_out
  refine (congrArg (k0_pay3 (iblk m c 0 t) (iblk m c 1 t) (iblk m c 2 t) (iblk m c 3 t)) (eq_ix2 y)).trans ((point_kvGain m c t (y 0) (y 1)).trans ?_)
  have e : (win0_6.blk t).view.emb y = ix2 (row t (y 0)) (y 1) := by
    blk_ext [idx6 t, row]
  exact (congrArg (fun z : Rows.Idx => normed (ins m c) (ws m c) (past m c) (kvGain m c) (z 0) (z 1)) e).symm

/-- The next output is its rows, normalised. -/
theorem final7 (c : Dev nD) : (dats m 0 c).arrAt 7 cfg0.N = fun y : Rows.Idx => normed (ins m c) (ws m c) (past m c) (gain m c) (y 0) (y 1) := by
  refine (dats m 0 c).arrAt_eq_of_covers 7 _ (by decide +kernel) fun t hf y => ?_
  blk_simp
  rw [after0_7]
  frame_out
  refine (congrArg (k0_pay4 (iblk m c 0 t) (iblk m c 1 t) (iblk m c 2 t) (iblk m c 4 t)) (eq_ix2 y)).trans ((point_gain m c t (y 0) (y 1)).trans ?_)
  have e : (win0_7.blk t).view.emb y = ix2 (row t (y 0)) (y 1) := by
    blk_ext [idx7 t, row]
  exact (congrArg (fun z : Rows.Idx => normed (ins m c) (ws m c) (past m c) (gain m c) (z 0) (z 1)) e).symm

end Cert.DownFwdKernel

namespace Cert.DownFwdReference

open Cert.DownProjRefIdeal Cert.DownFwdKernel Cert.Reals Idealize.ShloMosaic Idealize.ShloMosaic.TcCoe Idealize.SL.Sem

variable (m : (ℓ : Loc nD τ sig) → Buf (Elt Ideal) ℓ)

abbrev ins (c : Dev nD) : Ins.Idx → EReal := m (c.tc.loc main_arg0)
abbrev ws (c : Dev nD) : Weight.Idx → EReal := m (c.tc.loc main_arg1)
abbrev past (c : Dev nD) : Rows.Idx → EReal := m (c.tc.loc main_arg2)
abbrev kvGain (c : Dev nD) : Gain.Idx → EReal := m (c.tc.loc main_arg3)
abbrev gain (c : Dev nD) : Gain.Idx → EReal := m (c.tc.loc main_arg4)

set_option maxHeartbeats 4000000 in
/-- Every execution of the reference ends with the sum and its normalised rows in its results and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = (fun y : Rows.Idx => sum (ins m c) (ws m c) (past m c) (y 0) (y 1))
      ∧ r.2.mem ((c.tc : Thread nD τ).loc main_v16) = (fun y : Rows.Idx => normed (ins m c) (ws m c) (past m c) (kvGain m c) (y 0) (y 1))
      ∧ r.2.mem ((c.tc : Thread nD τ).loc main_v29) = (fun y : Rows.Idx => normed (ins m c) (ws m c) (past m c) (gain m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2⟩) (Cert.DownProjRefIdeal.Value.run m ρ)
  all_goals
    funext y
    obtain ⟨r, n, rfl⟩ : ∃ (r : Fin 16384) (n : Fin 1024), y = ix2 r n := ⟨y 0, y 1, eq_ix2 y⟩
    pointwise
    rfl

end Cert.DownFwdReference

namespace Cert.DownFwd

open Idealize.ShloMosaic Idealize.ShloMosaic.TcCoe

/-- The reference's run ends with its arguments unchanged and every counter at zero: it has none. -/
theorem reference_frame : Cert.quiescent_DownProjRefIdeal := fun m g _ =>
  θ_run_mono (Cert.DownFwdReference.run m g) fun r h => ⟨fun c => (h c).2.2.2, sem_eq_zero_of_no_sems rfl r.2⟩

/-- The kernel's outputs are the reference's results, over the extended reals. -/
theorem algebraic : Cert.algebraic_DownProjIdeal_DownProjRefIdeal := by
  pair_intro
  · run_from Cert.DownProjIdeal.Gen.run_main m g
  · refine θ_run_mono (Cert.DownFwdReference.run m' g') fun r h c => ⟨(h c).1.trans ?_, (h c).2.1.trans ?_, (h c).2.2.1.trans ?_, (h c).2.2.2⟩
    all_goals
      clear h
      obtain ⟨ea, ew, ep, e0, e1⟩ : Cert.DownFwdReference.ins m' c = Cert.DownFwdKernel.ins m c ∧ Cert.DownFwdReference.ws m' c = Cert.DownFwdKernel.ws m c ∧ Cert.DownFwdReference.past m' c = Cert.DownFwdKernel.past m c ∧ Cert.DownFwdReference.kvGain m' c = Cert.DownFwdKernel.kvGain m c ∧ Cert.DownFwdReference.gain m' c = Cert.DownFwdKernel.gain m c := hagree c
    · refine Eq.trans ?_ (Cert.DownFwdKernel.final5 m c).symm
      rw [ea, ew, ep]
    · refine Eq.trans ?_ (Cert.DownFwdKernel.final6 m c).symm
      rw [ea, ew, ep, e0]
    · refine Eq.trans ?_ (Cert.DownFwdKernel.final7 m c).symm
      rw [ea, ew, ep, e1]

end Cert.DownFwd

end
-- ==== Proof.Loss.lean ====
/- The last block's output projection, the loss on its normalised rows, and the gradient of that loss, the whole of a device's rows:
   the results are the cotangent of the rows, the gradient of the gain, and the device's share of the loss. -/
module

public import proofs.«01_k».proof.Defs
public import proofs.«01_k».proof.Proof.Gen.LossGradIdeal.Frame
public import proofs.«01_k».proof.Proof.Gen.LossGradIdeal.Value
public import proofs.«01_k».proof.Proof.Gen.LossGradRefIdeal.Run
public import proofs.«01_k».proof.Proof.Gen.Pre_loss_finite
public import proofs.«01_k».proof.Proof.Mix
public import Idealize.ShloMosaic.Lib.Pipeline.ValueKit
public import Idealize.ShloMosaic.Lib.Pointwise

@[expose] public section

set_option maxRecDepth 16384

noncomputable section

namespace Cert.LossSum

open Idealize.ShloMosaic Cert.Reals
open Cert.NormSum (gradRow)
open Cert.MixSum (IsReal.add)

/-- The shapes: the rows in, the projection's weight, the rows out, which is the targets', a gain, and the loss. -/
abbrev Ins : Shape := ⟨2, ![16384, 2816]⟩
abbrev Weight : Shape := ⟨2, ![2816, 1024]⟩
abbrev Rows : Shape := ⟨2, ![16384, 1024]⟩
abbrev Gain : Shape := ⟨2, ![1, 1024]⟩
abbrev Lanes : Shape := ⟨2, ![1, 128]⟩

/-- The rows out: the projection added to what comes past it. -/
def sum (A : Ins.Idx → EReal) (W : Weight.Idx → EReal) (P : Rows.Idx → EReal) (r : Fin 16384) (n : Fin 1024) : EReal :=
  P (ix2 r n) + ∑ k : Fin 2816, A (ix2 r k) * W (ix2 k n)

/-- A row, normalised, and its distance from its target after the gain. -/
def scaled (x : Fin 1024 → EReal) (n : Fin 1024) : EReal := x n * Ideal.rsqrt (meanSq x)
def miss (x g t : Fin 1024 → EReal) (n : Fin 1024) : EReal := scaled x n * g n - t n

/-- The mean square of that distance. -/
def mean (x g t : Fin 1024 → EReal) : EReal := Ideal.div (∑ n, miss x g t n * miss x g t n) (Ideal.ofBits FTy.f32 1149239296#32)

/-- The cotangent of a row after the gain. -/
def ct (x g t : Fin 1024 → EReal) (n : Fin 1024) : EReal := miss x g t n * Ideal.ofBits FTy.f32 981467136#32

/-- The results, of rows `X`: the rows' cotangent, the gain's gradient, the loss. -/
def gradX (X : Fin 16384 → Fin 1024 → EReal) (T : Rows.Idx → EReal) (G : Gain.Idx → EReal) (r : Fin 16384) (n : Fin 1024) : EReal :=
  gradRow 0 (X r) (ct (X r) (fun j => G (ix2 0 j)) (fun j => T (ix2 r j))) (fun j => G (ix2 0 j)) n
def gradG (X : Fin 16384 → Fin 1024 → EReal) (T : Rows.Idx → EReal) (G : Gain.Idx → EReal) (n : Fin 1024) : EReal :=
  ∑ r : Fin 16384, ct (X r) (fun j => G (ix2 0 j)) (fun j => T (ix2 r j)) n * scaled (X r) n
def loss (X : Fin 16384 → Fin 1024 → EReal) (T : Rows.Idx → EReal) (G : Gain.Idx → EReal) : EReal :=
  Ideal.ofBits FTy.f32 1056964608#32 * ∑ r : Fin 16384, mean (X r) (fun j => G (ix2 0 j)) (fun j => T (ix2 r j))

/-- The arguments are real numbers throughout. -/
structure Finite (A : Ins.Idx → EReal) (W : Weight.Idx → EReal) (P T : Rows.Idx → EReal) (G : Gain.Idx → EReal) : Prop where
  a : ∀ i, IsReal (A i)
  w : ∀ i, IsReal (W i)
  p : ∀ i, IsReal (P i)
  t : ∀ i, IsReal (T i)
  g : ∀ i, IsReal (G i)

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem sum_real {A : Ins.Idx → EReal} {W : Weight.Idx → EReal} {P T : Rows.Idx → EReal} {G : Gain.Idx → EReal} (f : Finite A W P T G)
    (r : Fin 16384) (n : Fin 1024) : IsReal (sum A W P r n) :=
  IsReal.add (f.p _) (.sum _ _ fun _ => .mul (f.a _) (f.w _))

/-- The constants: a half, one, two, and the inverse of the width. -/
theorem ofBits_half : Ideal.ofBits FTy.f32 1056964608#32 = ((1 / 2 : ℝ) : EReal) := by
  simp [Ideal.ofBits, Ideal.ieee]
  norm_num
  rw [← EReal.coe_mul]
  exact congrArg _ (by norm_num)
theorem ofBits_two : Ideal.ofBits FTy.f32 1073741824#32 = ((2 : ℝ) : EReal) := by
  simp [Ideal.ofBits, Ideal.ieee]
  norm_num
  rw [← EReal.coe_mul]
  exact congrArg _ (by norm_num)
theorem ofBits_one : Ideal.ofBits FTy.f32 1065353216#32 = ((1 : ℝ) : EReal) := by
  simp [Ideal.ofBits, Ideal.ieee]
  norm_num
  rw [← EReal.coe_mul]
  exact congrArg _ (by norm_num)
theorem ofBits_inv : Ideal.ofBits FTy.f32 981467136#32 = ((1 / 1024 : ℝ) : EReal) := by
  simp [Ideal.ofBits, Ideal.ieee]
  norm_num
  rw [← EReal.coe_mul]
  exact congrArg _ (by norm_num)

/-- The reference's cotangent, a half over the width times twice the distance, is the distance over the width. -/
theorem half_twice (e : EReal) :
    Ideal.div (Ideal.ofBits FTy.f32 1056964608#32 * Ideal.ofBits FTy.f32 1065353216#32) (Ideal.ofBits FTy.f32 1149239296#32)
        * (Ideal.ofBits FTy.f32 1073741824#32 * e) = e * Ideal.ofBits FTy.f32 981467136#32 := by
  rw [ofBits_half, ofBits_one, ofBits_width, ofBits_two, ofBits_inv, ← EReal.coe_mul, div_coe _ _ (by norm_num), ← mul_assoc, ← EReal.coe_mul, mul_comm e]
  exact congrArg (· * e) (congrArg _ (by norm_num))

/-- The root's inverse, of a row of real numbers, is a real number. -/
theorem rsqrt_real {n : ℕ} {x : Fin n → EReal} (hx : ∀ j, IsReal (x j)) : IsReal (Ideal.rsqrt (meanSq x)) := by
  choose x' hx using hx
  obtain ⟨e, he, hb⟩ := ofBits_eps
  have hq : meanSq x = (((∑ j, x' j * x' j) * 1024⁻¹ + e : ℝ) : EReal) := by
    unfold meanSq
    simp only [hx, ← EReal.coe_mul, coe_sum]
    rw [ofBits_width, hb, div_coe _ _ (by norm_num), EReal.coe_add]
  have hpos : 0 < (∑ j, x' j * x' j) * 1024⁻¹ + e := by
    have : 0 ≤ ∑ j, x' j * x' j := Finset.sum_nonneg fun j _ => mul_self_nonneg _
    positivity
  exact ⟨_, by rw [hq, rsqrt_coe _ hpos]⟩

theorem miss_real {x g t : Fin 1024 → EReal} (hx : ∀ j, IsReal (x j)) (hg : ∀ j, IsReal (g j)) (ht : ∀ j, IsReal (t j)) (n : Fin 1024) :
    IsReal (miss x g t n) :=
  IsReal.sub (.mul (.mul (hx n) (rsqrt_real hx)) (hg n)) (ht n)

theorem ct_real {x g t : Fin 1024 → EReal} (hx : ∀ j, IsReal (x j)) (hg : ∀ j, IsReal (g j)) (ht : ∀ j, IsReal (t j)) (n : Fin 1024) :
    IsReal (ct x g t n) :=
  .mul (miss_real hx hg ht n) ⟨_, ofBits_inv⟩

theorem mean_real {x g t : Fin 1024 → EReal} (hx : ∀ j, IsReal (x j)) (hg : ∀ j, IsReal (g j)) (ht : ∀ j, IsReal (t j)) :
    IsReal (mean x g t) := by
  obtain ⟨a, ha⟩ := IsReal.sum Finset.univ (fun n => miss x g t n * miss x g t n) fun n => .mul (miss_real hx hg ht n) (miss_real hx hg ht n)
  exact ⟨_, by unfold mean; rw [ha, ofBits_width, div_coe _ _ (by norm_num)]⟩

/-- Half of a sum of real numbers is the sum of the halves. -/
theorem half_sum {ι : Type} (s : Finset ι) (f : ι → EReal) (h : ∀ i, IsReal (f i)) :
    ∑ i ∈ s, Ideal.ofBits FTy.f32 1056964608#32 * f i = Ideal.ofBits FTy.f32 1056964608#32 * ∑ i ∈ s, f i := by
  choose g hg using h
  rw [ofBits_half]
  simp only [hg, ← EReal.coe_mul, coe_sum]
  exact congrArg _ (Finset.mul_sum s g _).symm

end Cert.LossSum

namespace Cert.LossKernel

open Cert.NormSum (gradRow)
open Cert.LossGradIdeal Cert.LossGradIdeal.Gen Cert.LossSum Cert.Reals Idealize.ShloMosaic Idealize.ShloMosaic.TcCoe

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- The arguments, on device `c`. -/
abbrev ins (c : Dev nD) : Ins.Idx → EReal := m ((c.tc : Thread nD τ).loc main_arg0)
abbrev ws (c : Dev nD) : Weight.Idx → EReal := m ((c.tc : Thread nD τ).loc main_arg1)
abbrev past (c : Dev nD) : Rows.Idx → EReal := m ((c.tc : Thread nD τ).loc main_arg2)
abbrev target (c : Dev nD) : Rows.Idx → EReal := m ((c.tc : Thread nD τ).loc main_arg3)
abbrev gain (c : Dev nD) : Gain.Idx → EReal := m ((c.tc : Thread nD τ).loc main_arg4)

theorem finite (h : Cert.Pre_LossGradIdeal_loss_finite m) (c : Dev nD) : Finite (ins m c) (ws m c) (past m c) (target m c) (gain m c) := by
  have e := congrFun (h c) (fun a => a.elim0)
  revert e
  pointwise [Cert.Pre_loss_finite.fn, Cert.Pre_loss_finite.fn_part1]
  intro e
  obtain ⟨e, e4⟩ := both_one _ _ e
  obtain ⟨e, e3⟩ := both_one _ _ e
  obtain ⟨e, e2⟩ := both_one _ _ e
  obtain ⟨e0, e1⟩ := both_one _ _ e
  exact ⟨fun i => by have := isReal_of_test (all_one _ e0 (i 0, i 1)); rwa [← eq_ix2 i] at this,
    fun i => by have := isReal_of_test (all_one _ e1 (i 0, i 1)); rwa [← eq_ix2 i] at this,
    fun i => by have := isReal_of_test (all_one _ e2 (i 0, i 1)); rwa [← eq_ix2 i] at this,
    fun i => by have := isReal_of_test (all_one _ e3 (i 0, i 1)); rwa [← eq_ix2 i] at this,
    fun i => by have := isReal_of_test (all_one _ e4 (i 0, i 1)); rwa [← eq_ix2 i] at this⟩

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 2816) :
    (iblk m c 0 t : Vec Ideal S512x2816 .bf16) (ix2 r k) = ins m c (ix2 (row t r) k) := by
  blk_point [iblk, V, idx0 t, row]
theorem block1 (c : Dev nD) (t : Fin cfg0.N) (k : Fin 2816) (n : Fin 1024) :
    (iblk m c 1 t : Vec Ideal S2816x1024 .bf16) (ix2 k n) = ws m c (ix2 k n) := by
  blk_point [iblk, V, idx1 t]
theorem block2 (c : Dev nD) (t : Fin cfg0.N) (r : Fin 512) (k : Fin 1024) :
    (iblk m c 2 t : Vec Ideal S512x1024 .f32) (ix2 r k) = past m c (ix2 (row t r) k) := by
  blk_point [iblk, V, idx2 t, row]
theorem block3 (c : Dev nD) (t : Fin cfg0.N) (r : Fin 512) (k : Fin 1024) :
    (iblk m c 3 t : Vec Ideal S512x1024 .f32) (ix2 r k) = target m c (ix2 (row t r) k) := by
  blk_point [iblk, V, idx3 t, row]
theorem block4 (c : Dev nD) (t : Fin cfg0.N) (k : Fin 1024) :
    (iblk m c 4 t : Vec Ideal S1x1024 .f32) (ix2 0 k) = gain m c (ix2 0 k) := by
  blk_point [iblk, V, idx4 t]

/-- The kernel's values in terms of its blocks: the rows out, their normalised form, the distance from the target, and the stores. -/
theorem pay6_eq (p : Vec Ideal S512x1024 .f32) (a : Vec Ideal S512x2816 .bf16) (w : Vec Ideal S2816x1024 .bf16) (r : Fin 512) (n : Fin 1024) :
    k0_pay6 p a w (ix2 r n) = p (ix2 r n) + ∑ k : Fin 2816, a (ix2 r k) * w (ix2 k n) := by
  pointwise [k0_pay6]
theorem pay8_eq (p : Vec Ideal S512x1024 .f32) (a : Vec Ideal S512x2816 .bf16) (w : Vec Ideal S2816x1024 .bf16) (r : Fin 512) (n : Fin 1024) :
    k0_pay8 p a w (ix2 r n) = scaled (fun j => k0_pay6 p a w (ix2 r j)) n := by
  pointwise [k0_pay8, k0_pay7]
  rfl
theorem pay9_eq (p : Vec Ideal S512x1024 .f32) (a : Vec Ideal S512x2816 .bf16) (w : Vec Ideal S2816x1024 .bf16) (g : Vec Ideal S1x1024 .f32)
    (t : Vec Ideal S512x1024 .f32) (r : Fin 512) (n : Fin 1024) :
    k0_pay9 p a w g t (ix2 r n) = miss (fun j => k0_pay6 p a w (ix2 r j)) (fun j => g (ix2 0 j)) (fun j => t (ix2 r j)) n := by
  pointwise [k0_pay9]
  unfold miss
  rw [pay8_eq]
theorem pay3_eq (p : Vec Ideal S512x1024 .f32) (a : Vec Ideal S512x2816 .bf16) (w : Vec Ideal S2816x1024 .bf16) (g : Vec Ideal S1x1024 .f32)
    (e : FVec Ideal S512x1024 .f32) (r : Fin 512) (n : Fin 1024) :
    k0_pay3 g (k0_pay7 p a w) (k0_pay8 p a w) e (ix2 r n)
      = gradRow 0 (fun j => k0_pay6 p a w (ix2 r j)) (fun j => e (ix2 r j) * Ideal.ofBits FTy.f32 981467136#32) (fun j => g (ix2 0 j)) n := by
  pointwise [k0_pay3, k0_pay1, k0_pay8, k0_pay7]
  exact (zero_add _).symm
theorem pay2_eq (v e : FVec Ideal S512x1024 .f32) (prev : Vec Ideal S1x1024 .f32) (n : Fin 1024) :
    k0_pay2 v e prev (ix2 0 n) = prev (ix2 0 n) + ∑ r : Fin 512, e (ix2 r n) * Ideal.ofBits FTy.f32 981467136#32 * v (ix2 r n) := by
  pointwise [k0_pay2, k0_pay1]
theorem pay10_eq (p : Vec Ideal S512x1024 .f32) (a : Vec Ideal S512x2816 .bf16) (w : Vec Ideal S2816x1024 .bf16) (g : Vec Ideal S1x1024 .f32)
    (t : Vec Ideal S512x1024 .f32) (prev : Vec Ideal S1x128 .f32) (n : Fin 128) :
    k0_pay10 p a w g t prev (ix2 0 n) = prev (ix2 0 n) + Ideal.ofBits FTy.f32 1056964608#32 * ∑ r : Fin 512,
      Ideal.div (∑ j : Fin 1024, k0_pay9 p a w g t (ix2 r j) * k0_pay9 p a w g t (ix2 r j)) (Ideal.ofBits FTy.f32 1149239296#32) := by
  pointwise [k0_pay10]
theorem pay4_zero (y : Gain.Idx) : (k0_pay4 (F := Ideal)) y = 0 := by
  pointwise [k0_pay4]
theorem pay5_zero (y : Lanes.Idx) : (k0_pay5 (F := Ideal)) y = 0 := by
  pointwise [k0_pay5]

/-- The rows out, on device `c`; a point's are its rows of them. -/
abbrev outs (c : Dev nD) : Fin 16384 → Fin 1024 → EReal := sum (ins m c) (ws m c) (past m c)
theorem sum_block (c : Dev nD) (t : Fin cfg0.N) (r : Fin 512) (n : Fin 1024) :
    k0_pay6 (iblk m c 2 t) (iblk m c 0 t) (iblk m c 1 t) (ix2 r n) = outs m c (row t r) n := by
  refine (pay6_eq _ _ _ r n).trans ?_
  exact congrArg₂ (· + ·) (block2 m c t r n) (Finset.sum_congr rfl fun k _ => congrArg₂ (· * ·) (block0 m c t r k) (block1 m c t k n))

theorem miss_block (c : Dev nD) (t : Fin cfg0.N) (r : Fin 512) (n : Fin 1024) :
    k0_pay9 (iblk m c 2 t) (iblk m c 0 t) (iblk m c 1 t) (iblk m c 4 t) (iblk m c 3 t) (ix2 r n)
      = miss (outs m c (row t r)) (fun j => gain m c (ix2 0 j)) (fun j => target m c (ix2 (row t r) j)) n := by
  refine (pay9_eq _ _ _ _ _ r n).trans ?_
  rw [funext fun j => sum_block m c t r j, funext fun j => block4 m c t j, funext fun j => block3 m c t r j]

theorem scaled_block (c : Dev nD) (t : Fin cfg0.N) (r : Fin 512) (n : Fin 1024) :
    k0_pay8 (iblk m c 2 t) (iblk m c 0 t) (iblk m c 1 t) (ix2 r n) = scaled (outs m c (row t r)) n := by
  refine (pay8_eq _ _ _ r n).trans ?_
  rw [funext fun j => sum_block m c t r j]

/-- What a point leaves in the buffer of the rows' cotangent. -/
theorem out5 (c : Dev nD) (t : Fin cfg0.N) (r : Fin 512) (n : Fin 1024) :
    (outsAt0 m c t.val t.isLt).1 (ix2 r n) = gradX (outs m c) (target m c) (gain m c) (row t r) n := by
  have e : k0_pay3 (iblk m c 4 t) (k0_pay7 (iblk m c 2 t) (iblk m c 0 t) (iblk m c 1 t)) (k0_pay8 (iblk m c 2 t) (iblk m c 0 t) (iblk m c 1 t))
      (k0_pay9 (iblk m c 2 t) (iblk m c 0 t) (iblk m c 1 t) (iblk m c 4 t) (iblk m c 3 t)) (ix2 r n)
        = gradX (outs m c) (target m c) (gain m c) (row t r) n := by
    refine (pay3_eq _ _ _ _ _ r n).trans ?_
    unfold gradX ct
    rw [funext fun j => sum_block m c t r j, funext fun j => block4 m c t j]
    exact congrArg (fun y => gradRow 0 (outs m c (row t r)) y (fun j => gain m c (ix2 0 j)) n)
      (funext fun j => congrArg (· * Ideal.ofBits FTy.f32 981467136#32) (miss_block m c t r j))
  by_cases h : t.val % 32 = 0
  · rw [outsAt0_A m c t h]
    frame_out
    exact e
  · rw [outsAt0_B m c t h]
    frame_out
    exact e

/-- The kernel's first output is the rows' cotangent. -/
theorem final5 (c : Dev nD) : (dats m 0 c).arrAt 5 cfg0.N = fun y : Rows.Idx => gradX (outs m c) (target m c) (gain m c) (y 0) (y 1) := by
  refine (dats m 0 c).arrAt_eq_of_covers 5 _ (by decide +kernel) fun t hf y => ?_
  blk_simp
  rw [after0_5]
  refine (congrArg (outsAt0 m c t.val t.isLt).1 (eq_ix2 y)).trans ((out5 m c t (y 0) (y 1)).trans ?_)
  have e : (win0_5.blk t).view.emb y = ix2 (row t (y 0)) (y 1) := by
    blk_ext [idx5 t, row]
  exact (congrArg (fun z : Rows.Idx => gradX (outs m c) (target m c) (gain m c) (z 0) (z 1)) e).symm

/-- The rows of the points of the one run. -/
theorem run_row (t : Fin cfg0.N) (s : Fin 32) (h : 32 * (t.val / 32) + s.val < cfg0.N) (r : Fin 512) (hl : s.val * 512 + r.val < 16384) :
    row ⟨32 * (t.val / 32) + s.val, h⟩ r = ⟨s.val * 512 + r.val, hl⟩ :=
  Fin.ext (by have : t.val < 32 := t.isLt; show (32 * (t.val / 32) + s.val) * 512 + r.val = s.val * 512 + r.val; omega)

/-- A point's rows' shares: of the gain's gradient, and of the loss. -/
def part (c : Dev nD) (t : Fin cfg0.N) (y : Gain.Idx) : EReal :=
  ∑ r : Fin 512, ct (outs m c (row t r)) (fun j => gain m c (ix2 0 j)) (fun j => target m c (ix2 (row t r) j)) (y 1) * scaled (outs m c (row t r)) (y 1)
def share (c : Dev nD) (t : Fin cfg0.N) (_ : Lanes.Idx) : EReal :=
  Ideal.ofBits FTy.f32 1056964608#32 * ∑ r : Fin 512, mean (outs m c (row t r)) (fun j => gain m c (ix2 0 j)) (fun j => target m c (ix2 (row t r) j))

theorem at_gain (y : Gain.Idx) : y = ix2 0 (y 1) := by
  have h : y 0 = (0 : Fin 1) := Subsingleton.elim (α := Fin 1) _ _
  exact (eq_ix2 y).trans (congrArg (fun a : Fin 1 => ix2 a (y 1)) h)
theorem at_lane (y : Lanes.Idx) : y = ix2 0 (y 1) := by
  have h : y 0 = (0 : Fin 1) := Subsingleton.elim (α := Fin 1) _ _
  exact (eq_ix2 y).trans (congrArg (fun a : Fin 1 => ix2 a (y 1)) h)

theorem pay2 (c : Dev nD) (t : Fin cfg0.N) (prev : Vec Ideal S1x1024 .f32) (y : Gain.Idx) :
    k0_pay2 (k0_pay8 (iblk m c 2 t) (iblk m c 0 t) (iblk m c 1 t)) (k0_pay9 (iblk m c 2 t) (iblk m c 0 t) (iblk m c 1 t) (iblk m c 4 t) (iblk m c 3 t)) prev y
      = prev y + part m c t y := by
  rw [at_gain y]
  exact (pay2_eq _ _ _ _).trans (congrArg _ (Finset.sum_congr rfl fun r _ =>
    congrArg₂ (· * ·) (congrArg (· * Ideal.ofBits FTy.f32 981467136#32) (miss_block m c t r _)) (scaled_block m c t r _)))

theorem pay10 (c : Dev nD) (t : Fin cfg0.N) (prev : Vec Ideal S1x128 .f32) (y : Lanes.Idx) :
    k0_pay10 (iblk m c 2 t) (iblk m c 0 t) (iblk m c 1 t) (iblk m c 4 t) (iblk m c 3 t) prev y = prev y + share m c t y := by
  rw [at_lane y]
  refine (pay10_eq _ _ _ _ _ _ _).trans (congrArg _ ?_)
  unfold share
  refine congrArg _ (Finset.sum_congr rfl fun r _ => ?_)
  rw [Finset.sum_congr rfl fun j _ => congrArg₂ (· * ·) (miss_block m c t r j) (miss_block m c t r j)]
  rfl

/-- The kernel's second output is the gain's gradient. -/
theorem final6 (c : Dev nD) : (dats m 0 c).arrAt 6 cfg0.N = fun y : Gain.Idx => gradG (outs m c) (target m c) (gain m c) (y 1) := by
  refine (dats m 0 c).arrAt_eq_of_covers 6 _ (by decide +kernel) fun t hf y => ?_
  blk_simp
  rw [after0_6, Pipeline.eq_sum_fin_of_reset_step_apply_of_flush (fun n h => (outsAt0 m c n h).2.1) 32 (fun _ => (0 : EReal)) (part m c)
    (fun t h j => by rw [outsAt0_A m c t h]; frame_out; rw [pay2, pay4_zero])
    (fun t h j => by rw [outsAt0_B m c t h]; frame_out; rw [pay2]) t ((flush0_6 t).mp hf) _, zero_add]
  refine Eq.trans ?_ (congrArg (fun z : Gain.Idx => gradG (outs m c) (target m c) (gain m c) (z 1)) (?_ : ix2 (y 0) (y 1) = _))
  · unfold part gradG
    refine Fin.sum_mul_add_congr fun s k hl => ?_
    exact congrArg (fun a : Fin 16384 => ct (outs m c a) (fun j => gain m c (ix2 0 j)) (fun j => target m c (ix2 a j)) (y 1) * scaled (outs m c a) (y 1))
      (run_row t s _ k hl)
  · blk_ext [idx6 t]

/-- The kernel's third output is the loss, in every lane. -/
theorem final7 (c : Dev nD) (hr : Finite (ins m c) (ws m c) (past m c) (target m c) (gain m c)) :
    (dats m 0 c).arrAt 7 cfg0.N = fun _ : Lanes.Idx => loss (outs m c) (target m c) (gain m c) := by
  refine (dats m 0 c).arrAt_eq_of_covers 7 _ (by decide +kernel) fun t hf y => ?_
  blk_simp
  rw [after0_7, Pipeline.eq_sum_fin_of_reset_step_apply_of_flush (fun n h => (outsAt0 m c n h).2.2) 32 (fun _ => (0 : EReal)) (share m c)
    (fun t h j => by rw [outsAt0_A m c t h]; frame_out; rw [pay10, pay5_zero])
    (fun t h j => by rw [outsAt0_B m c t h]; frame_out; rw [pay10]) t ((flush0_7 t).mp hf) _, zero_add]
  unfold share loss
  refine (half_sum _ _ fun s => .sum _ _ fun r => mean_real (fun j => sum_real hr _ j) (fun j => hr.g _) (fun j => hr.t _)).trans (congrArg _ ?_)
  refine Fin.sum_mul_add_congr fun s k hl => ?_
  exact congrArg (fun a : Fin 16384 => mean (outs m c a) (fun j => gain m c (ix2 0 j)) (fun j => target m c (ix2 a j))) (run_row t s _ k hl)

end Cert.LossKernel

namespace Cert.LossReference

open Cert.NormSum (gradRow)
open Cert.LossGradRefIdeal Cert.LossGradRefIdeal.Gen Cert.LossSum Cert.Reals Idealize.ShloMosaic Idealize.ShloMosaic.TcCoe Idealize.SL.Sem

variable (m : (ℓ : Loc nD τ sig) → Buf (Elt Ideal) ℓ)

abbrev ins (c : Dev nD) : Ins.Idx → EReal := m ((c.tc : Thread nD τ).loc main_arg0)
abbrev ws (c : Dev nD) : Weight.Idx → EReal := m ((c.tc : Thread nD τ).loc main_arg1)
abbrev past (c : Dev nD) : Rows.Idx → EReal := m ((c.tc : Thread nD τ).loc main_arg2)
abbrev target (c : Dev nD) : Rows.Idx → EReal := m ((c.tc : Thread nD τ).loc main_arg3)
abbrev gain (c : Dev nD) : Gain.Idx → EReal := m ((c.tc : Thread nD τ).loc main_arg4)

/-- The reference's rows out. -/
abbrev rowsOut (A : FVec Ideal S16384x2816 .bf16) (W : FVec Ideal S2816x1024 .bf16) (P : FVec Ideal S16384x1024 .f32) : FVec Ideal S16384x1024 .f32 :=
  addf P (Host.dotGeneral dot_S16384x2816_S2816x1024_S16384x1024_1_0_0_1_n_n none (extf .f32 A bitsLt_bf16_f32) (extf .f32 W bitsLt_bf16_f32))

theorem rowsOut_eq (A : FVec Ideal S16384x2816 .bf16) (W : FVec Ideal S2816x1024 .bf16) (P : FVec Ideal S16384x1024 .f32) (r : Fin 16384) (n : Fin 1024) :
    rowsOut A W P (ix2 r n) = sum A W P r n := by
  pointwise [rowsOut]
  rfl

/-- Its distance from the targets, of rows `X`. -/
abbrev away (X : FVec Ideal S16384x1024 .f32) (G : FVec Ideal S1x1024 .f32) (T : FVec Ideal S16384x1024 .f32) : FVec Ideal S16384x1024 .f32 :=
  subf (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 G)) T

theorem away_eq (X : FVec Ideal S16384x1024 .f32) (G : FVec Ideal S1x1024 .f32) (T : FVec Ideal S16384x1024 .f32) (r : Fin 16384) (n : Fin 1024) :
    away X G T (ix2 r n) = miss (fun j => X (ix2 r j)) (fun j => G (ix2 0 j)) (fun j => T (ix2 r j)) n := by
  pointwise [away]
  rfl

/-- The cotangent after the gain, of distances `E`. -/
abbrev cotangent (E : FVec Ideal S16384x1024 .f32) : FVec Ideal S16384x1024 .f32 :=
  mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) E)

theorem cotangent_eq (E : FVec Ideal S16384x1024 .f32) (r : Fin 16384) (n : Fin 1024) :
    cotangent E (ix2 r n) = E (ix2 r n) * Ideal.ofBits FTy.f32 981467136#32 := by
  refine Eq.trans ?_ (half_twice (E (ix2 r n)))
  pointwise [cotangent]

/-- The three results, of rows `X` and the cotangents `Y` or the distances `E`. -/
abbrev rowBack (Y : FVec Ideal S16384x1024 .f32) (G : FVec Ideal S1x1024 .f32) (X : FVec Ideal S16384x1024 .f32) : FVec Ideal S16384x1024 .f32 :=
  addf (addf (mulf (mulf Y (broadcastInDim S16384x1024 ![0, 1] bcast_S1x1024_S16384x1024_0_1 G)) (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf X (broadcastInDim S16384x1024 ![0] bcast_S16384_S16384x1024_0 (Host.reduceAdd (Host.divf (mulf (shapeCast S16384x1 (Host.reduceAdd (mulf X (mulf Y (broadcastInDim S16384x1024 ![0, 1] bcast_S1x1024_S16384x1024_0_1 G))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast S16384x1 (Host.reduceAdd (mulf X (mulf Y (broadcastInDim S16384x1024 ![0, 1] bcast_S1x1024_S16384x1024_0_1 G))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) X)
abbrev gainBack (Y X : FVec Ideal S16384x1024 .f32) : FVec Ideal S1x1024 .f32 :=
  shapeCast S1x1024 (Host.reduceAdd (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) Y) (constant S_ .f32 0x00000000#32) reducesTo_S16384x1024_S1024_d0 h_S_) shapeCasts_S1024_S1x1024
abbrev total (E : FVec Ideal S16384x1024 .f32) : FVec Ideal S1x128 .f32 :=
  broadcastInDim S1x128 ![] bcast_S_S1x128 (mulf (constant S_ .f32 0x3F000000#32) (Host.reduceAdd (Host.divf (Host.reduceAdd (mulf E E) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_))

set_option maxHeartbeats 4000000 in
theorem rowBack_eq (Y : FVec Ideal S16384x1024 .f32) (G : FVec Ideal S1x1024 .f32) (X : FVec Ideal S16384x1024 .f32)
    (hX : ∀ i, IsReal (X i)) (hY : ∀ i, IsReal (Y i)) (hG : ∀ i, IsReal (G i)) (r : Fin 16384) (n : Fin 1024) :
    rowBack Y G X (ix2 r n) = gradRow 0 (fun j => X (ix2 r j)) (fun j => Y (ix2 r j)) (fun j => G (ix2 0 j)) n := by
  refine Eq.trans ?_ (norm_grad_row 0 (fun j => X (ix2 r j)) (fun j => Y (ix2 r j)) (fun j => G (ix2 0 j))
    (fun _ => hX _) (fun _ => hY _) (fun _ => hG _) n)
  pointwise [rowBack]
  simp only [Fin.sum_univ_one, zero_add]
  rfl

set_option maxHeartbeats 4000000 in
theorem gainBack_eq (Y X : FVec Ideal S16384x1024 .f32) (n : Fin 1024) :
    gainBack Y X (ix2 0 n) = ∑ r : Fin 16384, Y (ix2 r n) * scaled (fun j => X (ix2 r j)) n := by
  pointwise [gainBack]
  exact Finset.sum_congr rfl fun r _ => mul_comm _ _

theorem total_eq (E : FVec Ideal S16384x1024 .f32) (n : Fin 128) :
    total E (ix2 0 n) = Ideal.ofBits FTy.f32 1056964608#32 * ∑ r : Fin 16384,
      Ideal.div (∑ j : Fin 1024, E (ix2 r j) * E (ix2 r j)) (Ideal.ofBits FTy.f32 1149239296#32) := by
  pointwise [total]

/-- The rows out, and the reference's distances, on device `c`. -/
abbrev outs (c : Dev nD) : FVec Ideal S16384x1024 .f32 := rowsOut (ins m c) (ws m c) (past m c)
abbrev dist (c : Dev nD) : FVec Ideal S16384x1024 .f32 := away (outs m c) (gain m c) (target m c)

theorem outs_row (c : Dev nD) (r : Fin 16384) : (fun j => outs m c (ix2 r j)) = sum (ins m c) (ws m c) (past m c) r :=
  funext fun j => rowsOut_eq (ins m c) (ws m c) (past m c) r j

theorem dist_row (c : Dev nD) (r : Fin 16384) (n : Fin 1024) :
    dist m c (ix2 r n) = miss (sum (ins m c) (ws m c) (past m c) r) (fun j => gain m c (ix2 0 j)) (fun j => target m c (ix2 r j)) n :=
  (away_eq (outs m c) (gain m c) (target m c) r n).trans (by rw [outs_row m c r])

theorem ct_row (c : Dev nD) (r : Fin 16384) (n : Fin 1024) :
    cotangent (dist m c) (ix2 r n) = ct (sum (ins m c) (ws m c) (past m c) r) (fun j => gain m c (ix2 0 j)) (fun j => target m c (ix2 r j)) n :=
  (cotangent_eq (dist m c) r n).trans (congrArg (· * Ideal.ofBits FTy.f32 981467136#32) (dist_row m c r n))

/-- The first result, where the arguments are real numbers. -/
theorem result (c : Dev nD) (hr : Finite (ins m c) (ws m c) (past m c) (target m c) (gain m c)) :
    Cert.LossGradRefIdeal.Value.res_main_v52 m c
      = (fun y : Rows.Idx => gradX (sum (ins m c) (ws m c) (past m c)) (target m c) (gain m c) (y 0) (y 1)) := by
  funext y
  obtain ⟨r, n, rfl⟩ : ∃ (r : Fin 16384) (n : Fin 1024), y = ix2 r n := ⟨y 0, y 1, eq_ix2 y⟩
  have hX : ∀ i : Rows.Idx, IsReal (outs m c i) := fun i => by
    rw [eq_ix2 i]
    exact (congrArg IsReal (rowsOut_eq (ins m c) (ws m c) (past m c) (i 0) (i 1))).mpr (sum_real hr _ _)
  have hY : ∀ i : Rows.Idx, IsReal (cotangent (dist m c) i) := fun i => by
    rw [eq_ix2 i]
    exact (congrArg IsReal (ct_row m c (i 0) (i 1))).mpr (ct_real (fun j => sum_real hr _ j) (fun j => hr.g _) (fun j => hr.t _) _)
  refine (rowBack_eq (cotangent (dist m c)) (gain m c) (outs m c) hX hY hr.g r n).trans ?_
  rw [outs_row m c r, funext fun j => ct_row m c r j]
  rfl

theorem at_gain (y : Gain.Idx) : y = ix2 0 (y 1) := by
  have h : y 0 = (0 : Fin 1) := Subsingleton.elim (α := Fin 1) _ _
  exact (eq_ix2 y).trans (congrArg (fun a : Fin 1 => ix2 a (y 1)) h)
theorem at_lane (y : Lanes.Idx) : y = ix2 0 (y 1) := by
  have h : y 0 = (0 : Fin 1) := Subsingleton.elim (α := Fin 1) _ _
  exact (eq_ix2 y).trans (congrArg (fun a : Fin 1 => ix2 a (y 1)) h)

/-- The second result, and the third. -/
theorem result_gain (c : Dev nD) : gainBack (cotangent (dist m c)) (outs m c)
    = (fun y : Gain.Idx => gradG (sum (ins m c) (ws m c) (past m c)) (target m c) (gain m c) (y 1)) := by
  funext y
  refine (congrArg (gainBack (cotangent (dist m c)) (outs m c)) (at_gain y)).trans ((gainBack_eq _ _ (y 1)).trans ?_)
  exact Finset.sum_congr rfl fun r _ => congrArg₂ (· * ·) (ct_row m c r (y 1)) (congrArg (fun x => scaled x (y 1)) (outs_row m c r))

theorem result_loss (c : Dev nD) : total (dist m c)
    = (fun _ : Lanes.Idx => loss (sum (ins m c) (ws m c) (past m c)) (target m c) (gain m c)) := by
  funext y
  refine (congrArg (total (dist m c)) (at_lane y)).trans ((total_eq _ (y 1)).trans (congrArg _ ?_))
  refine Finset.sum_congr rfl fun r _ => ?_
  rw [Finset.sum_congr rfl fun j _ => congrArg₂ (· * ·) (dist_row m c r j) (dist_row m c r j)]
  rfl

set_option maxHeartbeats 4000000 in
/-- Every execution of the reference ends with its results those of the arguments, which it leaves unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v52) = Cert.LossGradRefIdeal.Value.res_main_v52 m c
      ∧ r.2.mem ((c.tc : Thread nD τ).loc main_v36) = (fun y : Gain.Idx => gradG (sum (ins m c) (ws m c) (past m c)) (target m c) (gain m c) (y 1))
      ∧ r.2.mem ((c.tc : Thread nD τ).loc main_v53) = (fun _ : Lanes.Idx => loss (sum (ins m c) (ws m c) (past m c)) (target m c) (gain m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1, (h c).2.1.trans (result_gain m c), (h c).2.2.1.trans (result_loss m c), (h c).2.2.2⟩)
    (Cert.LossGradRefIdeal.Value.run m ρ)

end Cert.LossReference

namespace Cert.Loss

open Idealize.ShloMosaic Idealize.ShloMosaic.TcCoe

/-- The reference's run ends with its arguments unchanged and every counter at zero: it has none. -/
theorem reference_frame : Cert.quiescent_LossGradRefIdeal := fun m g _ =>
  θ_run_mono (Cert.LossReference.run m g) fun r h => ⟨fun c => (h c).2.2.2, sem_eq_zero_of_no_sems rfl r.2⟩
theorem reference_frame_pre : Cert.quiescent_LossGradRefIdeal_pre_loss_finite := fun m g _ =>
  θ_run_mono (Cert.LossReference.run m g) fun r h => ⟨fun c => (h c).2.2.2, sem_eq_zero_of_no_sems rfl r.2⟩

set_option maxHeartbeats 4000000 in
/-- The kernel's outputs are the reference's results, over the extended reals, where the arguments are real numbers. -/
theorem algebraic : Cert.algebraic_LossGradIdeal_LossGradRefIdeal_pre_loss_finite := by
  pair_intro
  · run_from Cert.LossGradIdeal.Gen.run_main m g
  · refine θ_run_mono (Cert.LossReference.run m' g') fun r h c => ⟨(h c).1.trans ?_, (h c).2.1.trans ?_, (h c).2.2.1.trans ?_, (h c).2.2.2⟩
    all_goals
      clear h
      obtain ⟨ea, ew, ep, et, eg⟩ : Cert.LossReference.ins m' c = Cert.LossKernel.ins m c ∧ Cert.LossReference.ws m' c = Cert.LossKernel.ws m c
        ∧ Cert.LossReference.past m' c = Cert.LossKernel.past m c ∧ Cert.LossReference.target m' c = Cert.LossKernel.target m c
        ∧ Cert.LossReference.gain m' c = Cert.LossKernel.gain m c := hagree c
    · refine (Cert.LossReference.result m' c (by rw [ea, ew, ep, et, eg]; exact Cert.LossKernel.finite m hpre c)).trans ?_
      refine Eq.trans ?_ (Cert.LossKernel.final5 m c).symm
      rw [ea, ew, ep, et, eg]
    · refine Eq.trans ?_ (Cert.LossKernel.final6 m c).symm
      rw [ea, ew, ep, et, eg]
    · refine Eq.trans ?_ (Cert.LossKernel.final7 m c (Cert.LossKernel.finite m hpre c)).symm
      rw [ea, ew, ep, et, eg]

end Cert.Loss

end
-- ==== Proof.HeadFwd.lean ====
/- The gate of the mixed rows, head by head, their projection added to what came past the block, and the sum's rows normalised. -/
module

public import proofs.«01_k».proof.Defs
public import proofs.«01_k».proof.Proof.Reals
public import proofs.«01_k».proof.Proof.Gen.HeadOutIdeal.Frame
public import proofs.«01_k».proof.Proof.Gen.HeadOutIdeal.Value
public import proofs.«01_k».proof.Proof.Gen.HeadOutRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HeadGate

open Idealize.ShloMosaic Cert.Reals

/-- The shapes: the rows, the projections the gate's columns come from, the weight, and a gain. -/
abbrev Rows : Shape := ⟨2, ![16384, 1024]⟩
abbrev Wide : Shape := ⟨2, ![16384, 3328]⟩
abbrev Weight : Shape := ⟨2, ![1024, 1024]⟩
abbrev Gain : Shape := ⟨2, ![1, 1024]⟩

/-- Column `j` of the head that column `n` lies in, and the gate's column for column `n`. -/
def head (n : Fin 1024) (j : Fin 256) : Fin 1024 := ⟨n.val / 256 * 256 + j.val, by omega⟩
def gateCol (n : Fin 1024) : Fin 3328 := ⟨2048 + n.val, by omega⟩

/-- The mean square of a head's row, and the logistic function. -/
def headSq (x : Fin 256 → EReal) : EReal :=
  Ideal.div (∑ j, x j * x j) (Ideal.ofBits FTy.f32 1132462080#32) + Ideal.ofBits FTy.f32 897988541#32
def logistic (z : EReal) : EReal := Ideal.div 1 (1 + Ideal.exp (-z))

/-- An entry `v` of a head's row `x`, normalised, with its gain `g`, and gated by `z`. -/
def gated1 (v : EReal) (x : Fin 256 → EReal) (g z : EReal) : EReal := v * Ideal.rsqrt (headSq x) * g * logistic z

theorem gated1_congr {v v' : EReal} {x x' : Fin 256 → EReal} {g g' z z' : EReal} (hv : v = v') (hx : x = x') (hg : g = g') (hz : z = z') :
    gated1 v x g z = gated1 v' x' g' z' := by
  rw [hv, hx, hg, hz]

/-- The gated rows. -/
def gated (H : Rows.Idx → EReal) (Z : Wide.Idx → EReal) (G : Gain.Idx → EReal) (r : Fin 16384) (n : Fin 1024) : EReal :=
  gated1 (H (ix2 r n)) (fun j => H (ix2 r (head n j))) (G (ix2 0 n)) (Z (ix2 r (gateCol n)))

/-- Their projection added to what came past it. -/
def sum (H : Rows.Idx → EReal) (Z : Wide.Idx → EReal) (G : Gain.Idx → EReal) (W : Weight.Idx → EReal) (P : Rows.Idx → EReal)
    (r : Fin 16384) (n : Fin 1024) : EReal :=
  P (ix2 r n) + ∑ k : Fin 1024, gated H Z G r k * W (ix2 k n)

/-- A row over the root of its mean square, times a gain. -/
def scaled (x : Fin 1024 → EReal) (g : Fin 1024 → EReal) (n : Fin 1024) : EReal := x n * Ideal.rsqrt (meanSq x) * g n

/-- Where the newest store is the 256 columns from `a` on, a column reads that store or, elsewhere, the older ones. -/
theorem canon_cols {e : EltTy} (a : ℕ) (inb : ∀ x, (![0, a] : Fin 2 → ℕ) x + (![512, 256] : Fin 2 → ℕ) x ≤ (⟨2, ![512, 1024]⟩ : Shape).size x)
    (w : (⟨2, ![512, 256]⟩ : Shape).Idx → Elt Ideal e) (L : List (View.Piece (Elt Ideal) ⟨2, ![512, 1024]⟩ e)) (i : Fin 512) (n : Fin 1024) :
    View.canon (⟨Rect.unit ![0, a] ![512, 256] inb, w⟩ :: L) (ix2 i n)
      = if h : a ≤ n.val ∧ n.val < a + 256 then w (ix2 i ⟨n.val - a, by omega⟩) else View.canon L (ix2 i n) := by
  split
  · next h =>
    have e : (Rect.unit (s := (⟨2, ![512, 1024]⟩ : Shape)) ![0, a] ![512, 256] inb).emb (ix2 i (⟨n.val - a, by omega⟩ : Fin 256)) = ix2 i n := by
      funext x; apply Fin.ext
      fin_cases x
      · show 0 + 1 * i.val = i.val; omega
      · show a + 1 * (n.val - a) = n.val; omega
    rw [← e]
    exact View.canon_cons_emb (Rect.unit (s := (⟨2, ![512, 1024]⟩ : Shape)) ![0, a] ![512, 256] inb) w L _
  · next h =>
    refine View.canon_cons_of_not_mem _ L fun hm => h ?_
    obtain ⟨j, hj, he⟩ := (LoadRect.mem_set _).mp hm (1 : Fin 2)
    have hj1 : j < 256 := hj
    have he' : n.val = a + 1 * j := he
    omega

/-- A load of the 256 columns from `a` on, of rows and of a gain. -/
theorem ld_cols {e : EltTy} (a : ℕ) (ha : a + 256 ≤ 1024) (inb : ∀ x, (![0, a] : Fin 2 → ℕ) x + (![512, 256] : Fin 2 → ℕ) x ≤ (⟨2, ![512, 1024]⟩ : Shape).size x)
    (X : Vec Ideal ⟨2, ![512, 1024]⟩ e) (r : Fin 512) (n : Fin 256) :
    View.ld X (Rect.unit ![0, a] ![512, 256] inb) (ix2 r n) = X (ix2 r ⟨a + n.val, by omega⟩) := by
  refine congrArg X (funext fun x => Fin.ext ?_)
  fin_cases x
  · show 0 + 1 * r.val = r.val; omega
  · show a + 1 * n.val = a + n.val; omega
theorem ld_gain {e : EltTy} (a : ℕ) (ha : a + 256 ≤ 1024) (inb : ∀ x, (![0, a] : Fin 2 → ℕ) x + (![1, 256] : Fin 2 → ℕ) x ≤ (⟨2, ![1, 1024]⟩ : Shape).size x)
    (X : Vec Ideal ⟨2, ![1, 1024]⟩ e) (n : Fin 256) :
    View.ld X (Rect.unit ![0, a] ![1, 256] inb) (ix2 0 n) = X (ix2 0 ⟨a + n.val, by omega⟩) := by
  refine congrArg X (funext fun x => Fin.ext ?_)
  fin_cases x
  · show 0 + 1 * 0 = 0; omega
  · show a + 1 * n.val = a + n.val; omega

end Cert.HeadGate

namespace Cert.HeadFwdKernel

open Cert.HeadOutIdeal Cert.HeadOutIdeal.Gen Cert.HeadGate Cert.Reals Idealize.ShloMosaic Idealize.ShloMosaic.TcCoe

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 2] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The arguments, on device `c`: the mixed rows, the projections, the heads' gain, the weight, what came past, the next gain. -/
abbrev mixed (c : Dev nD) : Rows.Idx → EReal := m ((c.tc : Thread nD τ).loc main_arg0)
abbrev proj (c : Dev nD) : Wide.Idx → EReal := m ((c.tc : Thread nD τ).loc main_arg1)
abbrev gain (c : Dev nD) : Gain.Idx → EReal := m ((c.tc : Thread nD τ).loc main_arg2)
abbrev ws (c : Dev nD) : Weight.Idx → EReal := m ((c.tc : Thread nD τ).loc main_arg3)
abbrev past (c : Dev nD) : Rows.Idx → EReal := m ((c.tc : Thread nD τ).loc main_arg4)
abbrev next (c : Dev nD) : Gain.Idx → EReal := m ((c.tc : Thread nD τ).loc main_arg5)

/-- A point's row in the whole array. -/
def row (t : Fin cfg0.N) (r : Fin 512) : Fin 16384 := ⟨t.val * 512 + r.val, by have : t.val < 32 := t.isLt; omega⟩

theorem block0 (c : Dev nD) (t : Fin cfg0.N) (r : Fin 512) (k : Fin 1024) :
    (iblk m c 0 t : Vec Ideal S512x1024 .f32) (ix2 r k) = mixed m c (ix2 (row t r) k) := by
  blk_point [iblk, V, idx0 t, row]
theorem block1 (c : Dev nD) (t : Fin cfg0.N) (r : Fin 512) (k : Fin 1024) :
    (X0_1 m c t : Vec Ideal S512x1024 .f32) (ix2 r k) = proj m c (ix2 (row t r) (gateCol k)) := by
  unfold X0_1 Pipeline.Window.fill
  rw [dif_pos (moved0_1 t _)]
  blk_point [iblk, V, idx1 t, row, gateCol]
theorem block2 (c : Dev nD) (t : Fin cfg0.N) (k : Fin 1024) : (iblk m c 2 t : Vec Ideal S1x1024 .f32) (ix2 0 k) = gain m c (ix2 0 k) := by
  blk_point [iblk, V, idx2 t]
theorem block3 (c : Dev nD) (t : Fin cfg0.N) (k : Fin 1024) (n : Fin 1024) :
    (iblk m c 3 t : Vec Ideal S1024x1024 .bf16) (ix2 k n) = ws m c (ix2 k n) := by
  blk_point [iblk, V, idx3 t]
theorem block4 (c : Dev nD) (t : Fin cfg0.N) (r : Fin 512) (k : Fin 1024) :
    (iblk m c 4 t : Vec Ideal S512x1024 .f32) (ix2 r k) = past m c (ix2 (row t r) k) := by
  blk_point [iblk, V, idx4 t, row]
theorem block5 (c : Dev nD) (t : Fin cfg0.N) (k : Fin 1024) : (iblk m c 5 t : Vec Ideal S1x1024 .f32) (ix2 0 k) = next m c (ix2 0 k) := by
  blk_point [iblk, V, idx5 t]

/-- The kernel's gate of each of the four heads, at one entry. -/
theorem pay2_eq (h : Vec Ideal S512x256 .f32) (g : Vec Ideal S1x256 .f32) (z : Vec Ideal S512x256 .f32) (r : Fin 512) (n : Fin 256) :
    k0_pay2 h g z (ix2 r n) = gated1 (h (ix2 r n)) (fun j => h (ix2 r j)) (g (ix2 0 n)) (z (ix2 r n)) := by
  pointwise [k0_pay2]
  simp only [zero_sub]
  rfl
theorem pay4_eq (h : Vec Ideal S512x256 .f32) (g : Vec Ideal S1x256 .f32) (z : Vec Ideal S512x256 .f32) (r : Fin 512) (n : Fin 256) :
    k0_pay4 (k0_pay3 h) g z (ix2 r n) = gated1 (h (ix2 r n)) (fun j => h (ix2 r j)) (g (ix2 0 n)) (z (ix2 r n)) := by
  pointwise [k0_pay4, k0_pay3]
  simp only [zero_sub]
  rfl
theorem pay5_eq (h : Vec Ideal S512x256 .f32) (g : Vec Ideal S1x256 .f32) (z : Vec Ideal S512x256 .f32) (r : Fin 512) (n : Fin 256) :
    k0_pay5 h g z (ix2 r n) = gated1 (h (ix2 r n)) (fun j => h (ix2 r j)) (g (ix2 0 n)) (z (ix2 r n)) := by
  pointwise [k0_pay5]
  simp only [zero_sub]
  rfl
theorem pay6_eq (h : Vec Ideal S512x256 .f32) (g : Vec Ideal S1x256 .f32) (z : Vec Ideal S512x256 .f32) (r : Fin 512) (n : Fin 256) :
    k0_pay6 h g z (ix2 r n) = gated1 (h (ix2 r n)) (fun j => h (ix2 r j)) (g (ix2 0 n)) (z (ix2 r n)) := by
  pointwise [k0_pay6]
  simp only [zero_sub]
  rfl

/-- A head's gate, of the 256 columns from `a` on of a point's blocks, is those columns of the gated rows. -/
theorem gate_cols (c : Dev nD) (t : Fin cfg0.N) (r : Fin 512) (n : Fin 1024) (a : ℕ) (ha : a + 256 ≤ 1024) (hd : a % 256 = 0) (h : a ≤ n.val ∧ n.val < a + 256)
    (inb : ∀ x, (![0, a] : Fin 2 → ℕ) x + (![512, 256] : Fin 2 → ℕ) x ≤ (⟨2, ![512, 1024]⟩ : Shape).size x)
    (inb' : ∀ x, (![0, a] : Fin 2 → ℕ) x + (![1, 256] : Fin 2 → ℕ) x ≤ (⟨2, ![1, 1024]⟩ : Shape).size x) :
    gated1 (View.ld (iblk m c 0 t : Vec Ideal S512x1024 .f32) (Rect.unit ![0, a] ![512, 256] inb) (ix2 r (⟨n.val - a, by omega⟩ : Fin 256)))
        (fun j => View.ld (iblk m c 0 t : Vec Ideal S512x1024 .f32) (Rect.unit ![0, a] ![512, 256] inb) (ix2 r j))
        (View.ld (iblk m c 2 t : Vec Ideal S1x1024 .f32) (Rect.unit ![0, a] ![1, 256] inb') (ix2 0 (⟨n.val - a, by omega⟩ : Fin 256)))
        (View.ld (X0_1 m c t : Vec Ideal S512x1024 .f32) (Rect.unit ![0, a] ![512, 256] inb) (ix2 r (⟨n.val - a, by omega⟩ : Fin 256)))
      = gated (mixed m c) (proj m c) (gain m c) (row t r) n := by
  have e : (⟨a + (⟨n.val - a, by omega⟩ : Fin 256).val, by show a + (n.val - a) < 1024; omega⟩ : Fin 1024) = n := Fin.ext (by show a + (n.val - a) = n.val; omega)
  have e' : ∀ j : Fin 256, (⟨a + j.val, by omega⟩ : Fin 1024) = head n j := fun j => Fin.ext (by show a + j.val = n.val / 256 * 256 + j.val; omega)
  refine gated1_congr ?_ (funext fun j => ?_) ?_ ?_
  · exact (ld_cols a ha inb _ r _).trans ((congrArg (fun k => (iblk m c 0 t : Vec Ideal S512x1024 .f32) (ix2 r k)) e).trans (block0 m c t r n))
  · exact (ld_cols a ha inb _ r _).trans ((congrArg (fun k => (iblk m c 0 t : Vec Ideal S512x1024 .f32) (ix2 r k)) (e' j)).trans (block0 m c t r _))
  · exact (ld_gain a ha inb' _ _).trans ((congrArg (fun k => (iblk m c 2 t : Vec Ideal S1x1024 .f32) (ix2 0 k)) e).trans (block2 m c t n))
  · exact (ld_cols a ha inb _ r _).trans ((congrArg (fun k => (X0_1 m c t : Vec Ideal S512x1024 .f32) (ix2 r k)) e).trans (block1 m c t r n))

/-- The gated rows that a point stores, a head at a time. -/
abbrev stores (c : Dev nD) (t : Fin cfg0.N) : List (View.Piece (Elt Ideal) S512x1024 .bf16) :=
  [⟨Rect.unit ![0, 768] ![512, 256] inb_S512x1024_S512x256_0_768,
      k0_pay6 (View.ld (iblk m c 0 t) (Rect.unit ![0, 768] ![512, 256] inb_S512x1024_S512x256_0_768))
        (View.ld (iblk m c 2 t) (Rect.unit ![0, 768] ![1, 256] inb_S1x1024_S1x256_0_768))
        (View.ld (X0_1 m c t) (Rect.unit ![0, 768] ![512, 256] inb_S512x1024_S512x256_0_768))⟩,
    ⟨Rect.unit ![0, 512] ![512, 256] inb_S512x1024_S512x256_0_512,
      k0_pay5 (View.ld (iblk m c 0 t) (Rect.unit ![0, 512] ![512, 256] inb_S512x1024_S512x256_0_512))
        (View.ld (iblk m c 2 t) (Rect.unit ![0, 512] ![1, 256] inb_S1x1024_S1x256_0_512))
        (View.ld (X0_1 m c t) (Rect.unit ![0, 512] ![512, 256] inb_S512x1024_S512x256_0_512))⟩,
    ⟨Rect.unit ![0, 256] ![512, 256] inb_S512x1024_S512x256_0_256,
      k0_pay4 (k0_pay3 (View.ld (iblk m c 0 t) (Rect.unit ![0, 256] ![512, 256] inb_S512x1024_S512x256_0_256)))
        (View.ld (iblk m c 2 t) (Rect.unit ![0, 256] ![1, 256] inb_S1x1024_S1x256_0_256))
        (View.ld (X0_1 m c t) (Rect.unit ![0, 256] ![512, 256] inb_S512x1024_S512x256_0_256))⟩,
    ⟨Rect.unit ![0, 0] ![512, 256] inb_S512x1024_S512x256_0_0,
      k0_pay2 (View.ld (iblk m c 0 t) (Rect.unit ![0, 0] ![512, 256] inb_S512x1024_S512x256_0_0))
        (View.ld (iblk m c 2 t) (Rect.unit ![0, 0] ![1, 256] inb_S1x1024_S1x256_0_0))
        (View.ld (X0_1 m c t) (Rect.unit ![0, 0] ![512, 256] inb_S512x1024_S512x256_0_0))⟩]

theorem stores_eq (c : Dev nD) (t : Fin cfg0.N) (r : Fin 512) (n : Fin 1024) :
    View.canon (stores m c t) (ix2 r n) = gated (mixed m c) (proj m c) (gain m c) (row t r) n := by
  have hn := n.isLt
  refine (canon_cols 768 _ _ _ r n).trans ?_
  by_cases h3 : 768 ≤ n.val ∧ n.val < 768 + 256
  · rw [dif_pos h3]
    exact (pay6_eq _ _ _ _ _).trans (gate_cols m c t r n 768 (by decide) (by decide) h3 _ _)
  rw [dif_neg h3]
  refine (canon_cols 512 _ _ _ r n).trans ?_
  by_cases h2 : 512 ≤ n.val ∧ n.val < 512 + 256
  · rw [dif_pos h2]
    exact (pay5_eq _ _ _ _ _).trans (gate_cols m c t r n 512 (by decide) (by decide) h2 _ _)
  rw [dif_neg h2]
  refine (canon_cols 256 _ _ _ r n).trans ?_
  by_cases h1 : 256 ≤ n.val ∧ n.val < 256 + 256
  · rw [dif_pos h1]
    exact (pay4_eq _ _ _ _ _).trans (gate_cols m c t r n 256 (by decide) (by decide) h1 _ _)
  rw [dif_neg h1]
  refine (canon_cols 0 _ _ _ r n).trans ?_
  have h0 : 0 ≤ n.val ∧ n.val < 0 + 256 := by omega
  rw [dif_pos h0]
  exact (pay2_eq _ _ _ _ _).trans (gate_cols m c t r n 0 (by decide) (by decide) h0 _ _)

/-- The projection of gated rows added to what came past, and its rows normalised. -/
theorem pay7_eq (p : Vec Ideal S512x1024 .f32) (a : Vec Ideal S512x1024 .bf16) (w : Vec Ideal S1024x1024 .bf16) (r : Fin 512) (n : Fin 1024) :
    k0_pay7 p a w (ix2 r n) = p (ix2 r n) + ∑ k : Fin 1024, a (ix2 r k) * w (ix2 k n) := by
  pointwise [k0_pay7]
theorem pay1_eq (p : Vec Ideal S512x1024 .f32) (a : Vec Ideal S512x1024 .bf16) (w : Vec Ideal S1024x1024 .bf16) (g : Vec Ideal S1x1024 .f32)
    (r : Fin 512) (n : Fin 1024) :
    k0_pay1 (k0_pay7 p a w) (k0_pay8 p a w) g (ix2 r n) = scaled (fun j => k0_pay7 p a w (ix2 r j)) (fun j => g (ix2 0 j)) n := by
  pointwise [k0_pay1, k0_pay8]
  rfl

/-- The gated rows read back whole. -/
abbrev whole : Rect S512x1024 := Rect.unit ![0, 0] ![512, 1024] inb_S512x1024_S512x1024_0_0
abbrev back (c : Dev nD) (t : Fin cfg0.N) : whole.toLoadRect.shape.Idx → Elt Ideal .bf16 := (ms0_7 t).view.readCov (stores m c t) whole.toLoadRect

theorem back_eq (c : Dev nD) (t : Fin cfg0.N) (r : Fin 512) (n : Fin 1024) :
    (back m c t : Vec Ideal S512x1024 .bf16) (ix2 r n) = gated (mixed m c) (proj m c) (gain m c) (row t r) n := by
  refine Eq.trans ?_ (stores_eq m c t r n)
  have h := View.readCov_eq_canon' (Val := Elt Ideal) (ms0_7 t).view (stores m c t) whole.toLoadRect
  refine (congrFun h _).trans ?_
  refine congrArg (View.canon (stores m c t)) (funext fun x => Fin.ext ?_)
  fin_cases x
  · show 0 + 1 * r.val = r.val; omega
  · show 0 + 1 * n.val = n.val; omega

theorem point_sum (c : Dev nD) (t : Fin cfg0.N) (r : Fin 512) (n : Fin 1024) :
    k0_pay7 (iblk m c 4 t) (back m c t) (iblk m c 3 t) (ix2 r n) = sum (mixed m c) (proj m c) (gain m c) (ws m c) (past m c) (row t r) n :=
  (pay7_eq _ _ _ r n).trans (congrArg₂ (· + ·) (block4 m c t r n)
    (Finset.sum_congr rfl fun k _ => congrArg₂ (· * ·) (back_eq m c t r k) (block3 m c t k n)))

/-- The normalised rows, of a sum `S`. -/
abbrev normed (S : Fin 16384 → Fin 1024 → EReal) (N : Gain.Idx → EReal) (r : Fin 16384) (n : Fin 1024) : EReal := scaled (S r) (fun j => N (ix2 0 j)) n

theorem point_normed (c : Dev nD) (t : Fin cfg0.N) (r : Fin 512) (n : Fin 1024) :
    k0_pay1 (k0_pay7 (iblk m c 4 t) (back m c t) (iblk m c 3 t)) (k0_pay8 (iblk m c 4 t) (back m c t) (iblk m c 3 t)) (iblk m c 5 t) (ix2 r n)
      = normed (sum (mixed m c) (proj m c) (gain m c) (ws m c) (past m c)) (next m c) (row t r) n :=
  (pay1_eq _ _ _ _ r n).trans (congrArg₂ (fun x g => scaled x g n) (funext fun j => point_sum m c t r j) (funext fun j => block5 m c t j))

/-- What a point leaves in each output's buffer. -/
theorem out6 (c : Dev nD) (t : Fin cfg0.N) (r : Fin 512) (n : Fin 1024) :
    (outsAt0 m c t).1 (ix2 r n) = sum (mixed m c) (proj m c) (gain m c) (ws m c) (past m c) (row t r) n := by
  unfold outsAt0
  frame_out
  exact point_sum m c t r n
theorem out7 (c : Dev nD) (t : Fin cfg0.N) (r : Fin 512) (n : Fin 1024) :
    (outsAt0 m c t).2.1 (ix2 r n) = gated (mixed m c) (proj m c) (gain m c) (row t r) n := by
  unfold outsAt0
  frame_out
  exact stores_eq m c t r n
theorem out8 (c : Dev nD) (t : Fin cfg0.N) (r : Fin 512) (n : Fin 1024) :
    (outsAt0 m c t).2.2 (ix2 r n) = normed (sum (mixed m c) (proj m c) (gain m c) (ws m c) (past m c)) (next m c) (row t r) n := by
  unfold outsAt0
  frame_out
  exact point_normed m c t r n

/-- The kernel's three outputs: the sum, the gated rows, the sum's rows normalised. -/
theorem final6 (c : Dev nD) :
    (dats m 0 c).arrAt 6 cfg0.N = fun y : Rows.Idx => sum (mixed m c) (proj m c) (gain m c) (ws m c) (past m c) (y 0) (y 1) := by
  refine (dats m 0 c).arrAt_eq_of_covers 6 _ (by decide +kernel) fun t hf y => ?_
  blk_simp
  rw [after0_6]
  refine (congrArg (outsAt0 m c t).1 (eq_ix2 y)).trans ((out6 m c t (y 0) (y 1)).trans ?_)
  have e : (win0_6.blk t).view.emb y = ix2 (row t (y 0)) (y 1) := by
    blk_ext [idx6 t, row]
  exact (congrArg (fun z : Rows.Idx => sum (mixed m c) (proj m c) (gain m c) (ws m c) (past m c) (z 0) (z 1)) e).symm
theorem final7 (c : Dev nD) : (dats m 0 c).arrAt 7 cfg0.N = fun y : Rows.Idx => gated (mixed m c) (proj m c) (gain m c) (y 0) (y 1) := by
  refine (dats m 0 c).arrAt_eq_of_covers 7 _ (by decide +kernel) fun t hf y => ?_
  blk_simp
  rw [after0_7]
  refine (congrArg (outsAt0 m c t).2.1 (eq_ix2 y)).trans ((out7 m c t (y 0) (y 1)).trans ?_)
  have e : (win0_7.blk t).view.emb y = ix2 (row t (y 0)) (y 1) := by
    blk_ext [idx7 t, row]
  exact (congrArg (fun z : Rows.Idx => gated (mixed m c) (proj m c) (gain m c) (z 0) (z 1)) e).symm
theorem final8 (c : Dev nD) : (dats m 0 c).arrAt 8 cfg0.N
    = fun y : Rows.Idx => normed (sum (mixed m c) (proj m c) (gain m c) (ws m c) (past m c)) (next m c) (y 0) (y 1) := by
  refine (dats m 0 c).arrAt_eq_of_covers 8 _ (by decide +kernel) fun t hf y => ?_
  blk_simp
  rw [after0_8]
  refine (congrArg (outsAt0 m c t).2.2 (eq_ix2 y)).trans ((out8 m c t (y 0) (y 1)).trans ?_)
  have e : (win0_8.blk t).view.emb y = ix2 (row t (y 0)) (y 1) := by
    blk_ext [idx8 t, row]
  exact (congrArg (fun z : Rows.Idx => normed (sum (mixed m c) (proj m c) (gain m c) (ws m c) (past m c)) (next m c) (z 0) (z 1)) e).symm

end Cert.HeadFwdKernel

namespace Cert.HeadFwdReference

open Cert.HeadOutRefIdeal Cert.HeadOutRefIdeal.Gen Cert.HeadGate Cert.Reals Idealize.ShloMosaic Idealize.ShloMosaic.TcCoe Idealize.SL.Sem
open Cert.HeadFwdKernel (normed)

variable (m : (ℓ : Loc nD τ sig) → Buf (Elt Ideal) ℓ)

abbrev mixed (c : Dev nD) : Rows.Idx → EReal := m ((c.tc : Thread nD τ).loc main_arg0)
abbrev proj (c : Dev nD) : Wide.Idx → EReal := m ((c.tc : Thread nD τ).loc main_arg1)
abbrev gain (c : Dev nD) : Gain.Idx → EReal := m ((c.tc : Thread nD τ).loc main_arg2)
abbrev ws (c : Dev nD) : Weight.Idx → EReal := m ((c.tc : Thread nD τ).loc main_arg3)
abbrev past (c : Dev nD) : Rows.Idx → EReal := m ((c.tc : Thread nD τ).loc main_arg4)
abbrev next (c : Dev nD) : Gain.Idx → EReal := m ((c.tc : Thread nD τ).loc main_arg5)

/-- The reference's gated rows. -/
abbrev gateOf (H : FVec Ideal S16384x1024 .f32) (Z : FVec Ideal S16384x3328 .f32) (G : FVec Ideal S1x1024 .f32) : FVec Ideal S16384x1024 .f32 :=
  shapeCast S16384x1024 (mulf (mulf (mulf (shapeCast S16384x4x256 H shapeCasts_S16384x1024_S16384x4x256) (broadcastInDim S16384x4x256 ![0, 1, 2] bcast_S16384x4x1_S16384x4x256_0_1_2 (Host.rsqrt (addf (Host.divf (broadcastInDim S16384x4x1 ![0, 1] bcast_S16384x4_S16384x4x1_0_1 (Host.reduceAdd (mulf (shapeCast S16384x4x256 H shapeCasts_S16384x1024_S16384x4x256) (shapeCast S16384x4x256 H shapeCasts_S16384x1024_S16384x4x256)) (constant S_ .f32 0x00000000#32) reducesTo_S16384x4x256_S16384x4_d2 h_S_)) (broadcastInDim S16384x4x1 ![] bcast_S_S16384x4x1 (constant S_ .f32 0x43800000#32))) (broadcastInDim S16384x4x1 ![] bcast_S_S16384x4x1 (constant S_ .f32 0x358637BD#32)))))) (broadcastInDim S16384x4x256 ![0, 1, 2] bcast_S1x4x256_S16384x4x256_0_1_2 (broadcastInDim S1x4x256 ![1, 2] bcast_S4x256_S1x4x256_1_2 (shapeCast S4x256 G shapeCasts_S1x1024_S4x256)))) (Host.divf (broadcastInDim S16384x4x256 ![] bcast_S_S16384x4x256 (constant S_ .f32 0x3F800000#32)) (addf (broadcastInDim S16384x4x256 ![] bcast_S_S16384x4x256 (constant S_ .f32 0x3F800000#32)) (Host.exp (Host.negf (shapeCast S16384x4x256 (extractStridedSlice S16384x1024 ![0, 2048] Z slices_S16384x3328_S16384x1024_0_2048) shapeCasts_S16384x1024_S16384x4x256)))))) shapeCasts_S16384x4x256_S16384x1024

set_option maxHeartbeats 4000000 in
theorem gateOf_eq (H : FVec Ideal S16384x1024 .f32) (Z : FVec Ideal S16384x3328 .f32) (G : FVec Ideal S1x1024 .f32) (r : Fin 16384) (n : Fin 1024) :
    gateOf H Z G (ix2 r n) = gated H Z G r n := by
  pointwise [gateOf]
  rfl

/-- Its sum, of gated rows `HG`, and the normalised rows of a sum `Y`. -/
abbrev sumOf (HG : FVec Ideal S16384x1024 .f32) (W : FVec Ideal S1024x1024 .bf16) (P : FVec Ideal S16384x1024 .f32) : FVec Ideal S16384x1024 .f32 :=
  addf P (Host.dotGeneral dot_S16384x1024_S1024x1024_S16384x1024_1_0_0_1_n_n none HG (extf .f32 W bitsLt_bf16_f32))
abbrev normOf (Y : FVec Ideal S16384x1024 .f32) (N : FVec Ideal S1x1024 .f32) : FVec Ideal S16384x1024 .bf16 :=
  truncf .bf16 (mulf (mulf Y (broadcastInDim S16384x1024 ![0, 1] bcast_S16384x1_S16384x1024_0_1 (Host.rsqrt (addf (Host.divf (broadcastInDim S16384x1 ![0] bcast_S16384_S16384x1_0 (Host.reduceAdd (mulf Y Y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 N)) bitsLt_bf16_f32

theorem sumOf_eq (HG : FVec Ideal S16384x1024 .f32) (W : FVec Ideal S1024x1024 .bf16) (P : FVec Ideal S16384x1024 .f32) (r : Fin 16384) (n : Fin 1024) :
    sumOf HG W P (ix2 r n) = P (ix2 r n) + ∑ k : Fin 1024, HG (ix2 r k) * W (ix2 k n) := by
  pointwise [sumOf]
theorem normOf_eq (Y : FVec Ideal S16384x1024 .f32) (N : FVec Ideal S1x1024 .f32) (r : Fin 16384) (n : Fin 1024) :
    normOf Y N (ix2 r n) = scaled (fun j => Y (ix2 r j)) (fun j => N (ix2 0 j)) n := by
  pointwise [normOf]
  rfl

/-- The three results on device `c`. -/
abbrev gates (c : Dev nD) : FVec Ideal S16384x1024 .f32 := gateOf (mixed m c) (proj m c) (gain m c)
abbrev sums (c : Dev nD) : FVec Ideal S16384x1024 .f32 := sumOf (gates m c) (ws m c) (past m c)

theorem sums_eq (c : Dev nD) (r : Fin 16384) (n : Fin 1024) :
    sums m c (ix2 r n) = sum (mixed m c) (proj m c) (gain m c) (ws m c) (past m c) r n :=
  (sumOf_eq _ _ _ r n).trans (congrArg _ (Finset.sum_congr rfl fun k _ => congrArg (· * _) (gateOf_eq _ _ _ r k)))

theorem result0 (c : Dev nD) : sums m c = (fun y : Rows.Idx => sum (mixed m c) (proj m c) (gain m c) (ws m c) (past m c) (y 0) (y 1)) := by
  funext y
  exact (congrArg (sums m c) (eq_ix2 y)).trans (sums_eq m c (y 0) (y 1))
theorem result1 (c : Dev nD) : truncf .bf16 (gates m c) bitsLt_bf16_f32 = (fun y : Rows.Idx => gated (mixed m c) (proj m c) (gain m c) (y 0) (y 1)) := by
  funext y
  exact (congrArg (gates m c) (eq_ix2 y)).trans (gateOf_eq _ _ _ (y 0) (y 1))
theorem result2 (c : Dev nD) : Cert.HeadOutRefIdeal.Value.res_main_v41 m c
    = (fun y : Rows.Idx => normed (sum (mixed m c) (proj m c) (gain m c) (ws m c) (past m c)) (next m c) (y 0) (y 1)) := by
  funext y
  refine (congrArg (normOf (sums m c) (next m c)) (eq_ix2 y)).trans ((normOf_eq _ _ (y 0) (y 1)).trans ?_)
  exact congrArg (fun x => scaled x (fun j => next m c (ix2 0 j)) (y 1)) (funext fun j => sums_eq m c (y 0) j)

set_option maxHeartbeats 4000000 in
/-- Every execution of the reference ends with the three arrays in its results and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v27) = (fun y : Rows.Idx => sum (mixed m c) (proj m c) (gain m c) (ws m c) (past m c) (y 0) (y 1))
      ∧ r.2.mem ((c.tc : Thread nD τ).loc main_v28) = (fun y : Rows.Idx => gated (mixed m c) (proj m c) (gain m c) (y 0) (y 1))
      ∧ r.2.mem ((c.tc : Thread nD τ).loc main_v41) = (fun y : Rows.Idx => normed (sum (mixed m c) (proj m c) (gain m c) (ws m c) (past m c)) (next m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans (result0 m c), (h c).2.1.trans (result1 m c), (h c).2.2.1.trans (result2 m c), (h c).2.2.2⟩)
    (Cert.HeadOutRefIdeal.Value.run m ρ)

end Cert.HeadFwdReference

namespace Cert.HeadFwd

open Idealize.ShloMosaic Idealize.ShloMosaic.TcCoe

/-- The reference's run ends with its arguments unchanged and every counter at zero: it has none. -/
theorem reference_frame : Cert.quiescent_HeadOutRefIdeal := fun m g _ =>
  θ_run_mono (Cert.HeadFwdReference.run m g) fun r h => ⟨fun c => (h c).2.2.2, sem_eq_zero_of_no_sems rfl r.2⟩

set_option maxHeartbeats 4000000 in
/-- The kernel's outputs are the reference's results, over the extended reals. -/
theorem algebraic : Cert.algebraic_HeadOutIdeal_HeadOutRefIdeal := by
  pair_intro
  · run_from Cert.HeadOutIdeal.Gen.run_main m g
  · refine θ_run_mono (Cert.HeadFwdReference.run m' g') fun r h c => ⟨(h c).1.trans ?_, (h c).2.1.trans ?_, (h c).2.2.1.trans ?_, (h c).2.2.2⟩
    all_goals
      clear h
      obtain ⟨eh, ez, eg, ew, ep, en⟩ : Cert.HeadFwdReference.mixed m' c = Cert.HeadFwdKernel.mixed m c ∧ Cert.HeadFwdReference.proj m' c = Cert.HeadFwdKernel.proj m c
        ∧ Cert.HeadFwdReference.gain m' c = Cert.HeadFwdKernel.gain m c ∧ Cert.HeadFwdReference.ws m' c = Cert.HeadFwdKernel.ws m c
        ∧ Cert.HeadFwdReference.past m' c = Cert.HeadFwdKernel.past m c ∧ Cert.HeadFwdReference.next m' c = Cert.HeadFwdKernel.next m c := hagree c
    · refine Eq.trans ?_ (Cert.HeadFwdKernel.final6 m c).symm
      rw [eh, ez, eg, ew, ep]
    · refine Eq.trans ?_ (Cert.HeadFwdKernel.final7 m c).symm
      rw [eh, ez, eg]
    · refine Eq.trans ?_ (Cert.HeadFwdKernel.final8 m c).symm
      rw [eh, ez, eg, ew, ep, en]

end Cert.HeadFwd

end
-- ==== Proof.AdamBig.lean ====
/- The reduction of a shard's gradients over the four devices that hold a part of it, and the optimiser's step on the shard. -/
module

public import proofs.«01_k».proof.Defs
public import proofs.«01_k».proof.Proof.Gen.AdamShardsIdeal.Frame
public import proofs.«01_k».proof.Proof.Gen.AdamShardsIdeal.Value
public import proofs.«01_k».proof.Proof.Gen.AdamShardsRefIdeal.Run
public import Idealize.ShloMosaic.Lib.Pipeline.ValueKit
public import Idealize.ShloMosaic.Lib.Pointwise

@[expose] public section

set_option maxRecDepth 16384

noncomputable section

namespace Cert.Adam

open Idealize.ShloMosaic

/-- The first and the second moment after a gradient `g`, and the parameter's change from both. -/
def first (m g : EReal) : EReal := Ideal.ofBits FTy.f32 0x3F666666#32 * m + Ideal.ofBits FTy.f32 0x3DCCCCCD#32 * g
def second (v g : EReal) : EReal := Ideal.ofBits FTy.f32 0x3F7FBE77#32 * v + Ideal.ofBits FTy.f32 0x3A83126F#32 * (g * g)
def change (w m v : EReal) : EReal :=
  Ideal.ofBits FTy.f32 0xBA83126F#32 * (Ideal.div (Ideal.div m (Ideal.ofBits FTy.f32 0x3F26BD02#32))
    (Ideal.sqrt (Ideal.div v (Ideal.ofBits FTy.f32 0x3C231ACC#32)) + Ideal.ofBits FTy.f32 0x322BCC77#32)
    + Ideal.ofBits FTy.f32 0x3C23D70A#32 * w)

/-- A stack of gradients and its shape; the gradient is the sum of the stack. -/
abbrev Grid (a : ℕ) : Shape := ⟨2, ![a, 1024]⟩
abbrev Stack (n a : ℕ) : Shape := ⟨3, ![n, a, 1024]⟩
def grad {n a : ℕ} (p : (Stack n a).Idx → EReal) : (Grid a).Idx → EReal := fun y => ∑ i : Fin n, p (ix3 i (y 0) (y 1))

/-- The four results: the gradient, the change, and the two moments. -/
def newFirst {n a : ℕ} (p : (Stack n a).Idx → EReal) (m : (Grid a).Idx → EReal) : (Grid a).Idx → EReal := fun y => first (m y) (grad p y)
def newSecond {n a : ℕ} (p : (Stack n a).Idx → EReal) (v : (Grid a).Idx → EReal) : (Grid a).Idx → EReal := fun y => second (v y) (grad p y)
def delta {n a : ℕ} (p : (Stack n a).Idx → EReal) (w m v : (Grid a).Idx → EReal) : (Grid a).Idx → EReal :=
  fun y => change (w y) (newFirst p m y) (newSecond p v y)

end Cert.Adam

namespace Cert.AdamBigKernel

open Cert.AdamShardsIdeal Cert.AdamShardsIdeal.Gen Cert.Adam Idealize.ShloMosaic Idealize.ShloMosaic.TcCoe

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The stack, the parameters and the two moments, on device `c`. -/
abbrev parts (c : Dev nD) : (Stack 4 3968).Idx → EReal := m ((c.tc : Thread nD τ).loc main_arg0)
abbrev weight (c : Dev nD) : (Grid 3968).Idx → EReal := m ((c.tc : Thread nD τ).loc main_arg1)
abbrev mean (c : Dev nD) : (Grid 3968).Idx → EReal := m ((c.tc : Thread nD τ).loc main_arg2)
abbrev square (c : Dev nD) : (Grid 3968).Idx → EReal := m ((c.tc : Thread nD τ).loc main_arg3)

/-- A point's row in the whole array. -/
def row (t : Fin cfg0.N) (r : Fin 496) : Fin 3968 := ⟨t.val * 496 + r.val, by have : t.val < 8 := t.isLt; omega⟩

theorem block0 (c : Dev nD) (t : Fin cfg0.N) (i : Fin 4) (r : Fin 496) (n : Fin 1024) :
    (iblk m c 0 t : Vec Ideal S4x496x1024 .bf16) (ix3 i r n) = parts m c (ix3 i (row t r) n) := by
  blk_point [iblk, V, idx0 t, row]
theorem block1 (c : Dev nD) (t : Fin cfg0.N) (r : Fin 496) (n : Fin 1024) :
    (iblk m c 1 t : Vec Ideal S496x1024 .f32) (ix2 r n) = weight m c (ix2 (row t r) n) := by
  blk_point [iblk, V, idx1 t, row]
theorem block2 (c : Dev nD) (t : Fin cfg0.N) (r : Fin 496) (n : Fin 1024) :
    (iblk m c 2 t : Vec Ideal S496x1024 .f32) (ix2 r n) = mean m c (ix2 (row t r) n) := by
  blk_point [iblk, V, idx2 t, row]
theorem block3 (c : Dev nD) (t : Fin cfg0.N) (r : Fin 496) (n : Fin 1024) :
    (iblk m c 3 t : Vec Ideal S496x1024 .f32) (ix2 r n) = square m c (ix2 (row t r) n) := by
  blk_point [iblk, V, idx3 t, row]

/-- A load of one member of a stack's block reads it. -/
theorem slab0 (p : Vec Ideal S4x496x1024 .bf16) (r : Fin 496) (n : Fin 1024) : View.ld p r0_0 (ix3 0 r n) = p (ix3 0 r n) := by
  pointwise [r0_0]
theorem slab1 (p : Vec Ideal S4x496x1024 .bf16) (r : Fin 496) (n : Fin 1024) : View.ld p r0_1 (ix3 0 r n) = p (ix3 1 r n) := by
  pointwise [r0_1]
theorem slab2 (p : Vec Ideal S4x496x1024 .bf16) (r : Fin 496) (n : Fin 1024) : View.ld p r0_2 (ix3 0 r n) = p (ix3 2 r n) := by
  pointwise [r0_2]
theorem slab3 (p : Vec Ideal S4x496x1024 .bf16) (r : Fin 496) (n : Fin 1024) : View.ld p r0_3 (ix3 0 r n) = p (ix3 3 r n) := by
  pointwise [r0_3]

/-- The stores, at one entry. -/
theorem pay_sum (p0 : Vec Ideal S1x496x1024 .bf16) (p1 : Vec Ideal S1x496x1024 .bf16) (p2 : Vec Ideal S1x496x1024 .bf16) (p3 : Vec Ideal S1x496x1024 .bf16) (r : Fin 496) (n : Fin 1024) : k0_pay2 p0 p1 p2 p3 (ix2 r n) = p0 (ix3 0 r n) + p1 (ix3 0 r n) + p2 (ix3 0 r n) + p3 (ix3 0 r n) := by
  pointwise [k0_pay2]
theorem pay3_eq (p0 : Vec Ideal S1x496x1024 .bf16) (p1 : Vec Ideal S1x496x1024 .bf16) (p2 : Vec Ideal S1x496x1024 .bf16) (p3 : Vec Ideal S1x496x1024 .bf16) (v : Vec Ideal S496x1024 .f32) (r : Fin 496) (n : Fin 1024) :
    k0_pay3 p0 p1 p2 p3 v (ix2 r n) = first (v (ix2 r n)) (k0_pay2 p0 p1 p2 p3 (ix2 r n)) := by
  pointwise [k0_pay3, k0_pay2]
  rfl
theorem pay4_eq (p0 : Vec Ideal S1x496x1024 .bf16) (p1 : Vec Ideal S1x496x1024 .bf16) (p2 : Vec Ideal S1x496x1024 .bf16) (p3 : Vec Ideal S1x496x1024 .bf16) (v : Vec Ideal S496x1024 .f32) (r : Fin 496) (n : Fin 1024) :
    k0_pay4 p0 p1 p2 p3 v (ix2 r n) = second (v (ix2 r n)) (k0_pay2 p0 p1 p2 p3 (ix2 r n)) := by
  pointwise [k0_pay4, k0_pay2]
  rfl
theorem pay1_eq (f g : FVec Ideal S496x1024 .f32) (w : Vec Ideal S496x1024 .f32) (r : Fin 496) (n : Fin 1024) :
    k0_pay1 f g w (ix2 r n) = change (w (ix2 r n)) (f (ix2 r n)) (g (ix2 r n)) := by
  pointwise [k0_pay1]
  rfl

/-- What a point stores is what the results say of its rows. -/
theorem grad_point (c : Dev nD) (t : Fin cfg0.N) (r : Fin 496) (n : Fin 1024) :
    k0_pay2 (View.ld (iblk m c 0 t) r0_0) (View.ld (iblk m c 0 t) r0_1) (View.ld (iblk m c 0 t) r0_2) (View.ld (iblk m c 0 t) r0_3) (ix2 r n) = grad (parts m c) (ix2 (row t r) n) := by
  refine (pay_sum _ _ _ _ r n).trans ?_
  unfold grad
  rw [Fin.sum_univ_four]
  rw [slab0, slab1, slab2, slab3]
  rw [block0 m c t 0, block0 m c t 1, block0 m c t 2, block0 m c t 3]
  rfl
theorem first_point (c : Dev nD) (t : Fin cfg0.N) (r : Fin 496) (n : Fin 1024) :
    k0_pay3 (View.ld (iblk m c 0 t) r0_0) (View.ld (iblk m c 0 t) r0_1) (View.ld (iblk m c 0 t) r0_2) (View.ld (iblk m c 0 t) r0_3) (iblk m c 2 t) (ix2 r n) = newFirst (parts m c) (mean m c) (ix2 (row t r) n) :=
  (pay3_eq _ _ _ _ _ r n).trans (congrArg₂ first (block2 m c t r n) (grad_point m c t r n))
theorem second_point (c : Dev nD) (t : Fin cfg0.N) (r : Fin 496) (n : Fin 1024) :
    k0_pay4 (View.ld (iblk m c 0 t) r0_0) (View.ld (iblk m c 0 t) r0_1) (View.ld (iblk m c 0 t) r0_2) (View.ld (iblk m c 0 t) r0_3) (iblk m c 3 t) (ix2 r n) = newSecond (parts m c) (square m c) (ix2 (row t r) n) :=
  (pay4_eq _ _ _ _ _ r n).trans (congrArg₂ second (block3 m c t r n) (grad_point m c t r n))
theorem change_point (c : Dev nD) (t : Fin cfg0.N) (r : Fin 496) (n : Fin 1024) :
    k0_pay1 (k0_pay3 (View.ld (iblk m c 0 t) r0_0) (View.ld (iblk m c 0 t) r0_1) (View.ld (iblk m c 0 t) r0_2) (View.ld (iblk m c 0 t) r0_3) (iblk m c 2 t)) (k0_pay4 (View.ld (iblk m c 0 t) r0_0) (View.ld (iblk m c 0 t) r0_1) (View.ld (iblk m c 0 t) r0_2) (View.ld (iblk m c 0 t) r0_3) (iblk m c 3 t)) (iblk m c 1 t) (ix2 r n) = delta (parts m c) (weight m c) (mean m c) (square m c) (ix2 (row t r) n) := by
  refine (pay1_eq _ _ _ r n).trans ?_
  unfold delta
  rw [first_point m c t r n, second_point m c t r n, block1 m c t r n]

/-- The first output is the sum of the stack. -/
theorem result4 (c : Dev nD) : (dats m 0 c).arrAt 4 cfg0.N = grad (parts m c) := by
  refine (dats m 0 c).arrAt_eq_of_covers 4 _ (by decide +kernel) fun t hf y => ?_
  blk_simp
  rw [after0_4]
  unfold_out out0_4
  frame_out
  refine (congrArg (k0_pay2 (View.ld (iblk m c 0 t) r0_0) (View.ld (iblk m c 0 t) r0_1) (View.ld (iblk m c 0 t) r0_2) (View.ld (iblk m c 0 t) r0_3)) (eq_ix2 y)).trans ((grad_point m c t (y 0) (y 1)).trans ?_)
  have e : (win0_4.blk t).view.emb y = ix2 (row t (y 0)) (y 1) := by
    blk_ext [idx4 t, row]
  exact (congrArg (grad (parts m c)) e).symm

/-- The second is the parameters' change. -/
theorem result5 (c : Dev nD) : (dats m 0 c).arrAt 5 cfg0.N = delta (parts m c) (weight m c) (mean m c) (square m c) := by
  refine (dats m 0 c).arrAt_eq_of_covers 5 _ (by decide +kernel) fun t hf y => ?_
  blk_simp
  rw [after0_5]
  unfold_out out0_5
  frame_out
  refine (congrArg (k0_pay1 (k0_pay3 (View.ld (iblk m c 0 t) r0_0) (View.ld (iblk m c 0 t) r0_1) (View.ld (iblk m c 0 t) r0_2) (View.ld (iblk m c 0 t) r0_3) (iblk m c 2 t)) (k0_pay4 (View.ld (iblk m c 0 t) r0_0) (View.ld (iblk m c 0 t) r0_1) (View.ld (iblk m c 0 t) r0_2) (View.ld (iblk m c 0 t) r0_3) (iblk m c 3 t)) (iblk m c 1 t)) (eq_ix2 y)).trans ((change_point m c t (y 0) (y 1)).trans ?_)
  have e : (win0_5.blk t).view.emb y = ix2 (row t (y 0)) (y 1) := by
    blk_ext [idx5 t, row]
  exact (congrArg (delta (parts m c) (weight m c) (mean m c) (square m c)) e).symm

/-- The third is the first moment. -/
theorem result6 (c : Dev nD) : (dats m 0 c).arrAt 6 cfg0.N = newFirst (parts m c) (mean m c) := by
  refine (dats m 0 c).arrAt_eq_of_covers 6 _ (by decide +kernel) fun t hf y => ?_
  blk_simp
  rw [after0_6]
  unfold_out out0_6
  frame_out
  refine (congrArg (k0_pay3 (View.ld (iblk m c 0 t) r0_0) (View.ld (iblk m c 0 t) r0_1) (View.ld (iblk m c 0 t) r0_2) (View.ld (iblk m c 0 t) r0_3) (iblk m c 2 t)) (eq_ix2 y)).trans ((first_point m c t (y 0) (y 1)).trans ?_)
  have e : (win0_6.blk t).view.emb y = ix2 (row t (y 0)) (y 1) := by
    blk_ext [idx6 t, row]
  exact (congrArg (newFirst (parts m c) (mean m c)) e).symm

/-- The fourth is the second moment. -/
theorem result7 (c : Dev nD) : (dats m 0 c).arrAt 7 cfg0.N = newSecond (parts m c) (square m c) := by
  refine (dats m 0 c).arrAt_eq_of_covers 7 _ (by decide +kernel) fun t hf y => ?_
  blk_simp
  rw [after0_7]
  unfold_out out0_7
  frame_out
  refine (congrArg (k0_pay4 (View.ld (iblk m c 0 t) r0_0) (View.ld (iblk m c 0 t) r0_1) (View.ld (iblk m c 0 t) r0_2) (View.ld (iblk m c 0 t) r0_3) (iblk m c 3 t)) (eq_ix2 y)).trans ((second_point m c t (y 0) (y 1)).trans ?_)
  have e : (win0_7.blk t).view.emb y = ix2 (row t (y 0)) (y 1) := by
    blk_ext [idx7 t, row]
  exact (congrArg (newSecond (parts m c) (square m c)) e).symm

end Cert.AdamBigKernel

namespace Cert.AdamBigReference

open Cert.AdamShardsRefIdeal Cert.Adam Idealize.ShloMosaic Idealize.ShloMosaic.TcCoe Idealize.SL.Sem

variable (m : (ℓ : Loc nD τ sig) → Buf (Elt Ideal) ℓ)

abbrev parts (c : Dev nD) : (Stack 4 3968).Idx → EReal := m ((c.tc : Thread nD τ).loc main_arg0)
abbrev weight (c : Dev nD) : (Grid 3968).Idx → EReal := m ((c.tc : Thread nD τ).loc main_arg1)
abbrev mean (c : Dev nD) : (Grid 3968).Idx → EReal := m ((c.tc : Thread nD τ).loc main_arg2)
abbrev square (c : Dev nD) : (Grid 3968).Idx → EReal := m ((c.tc : Thread nD τ).loc main_arg3)

set_option maxHeartbeats 4000000 in
/-- Every execution of the reference ends with the four results and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1) = grad (parts m c)
      ∧ r.2.mem ((c.tc : Thread nD τ).loc main_v25) = delta (parts m c) (weight m c) (mean m c) (square m c)
      ∧ r.2.mem ((c.tc : Thread nD τ).loc main_v6) = newFirst (parts m c) (mean m c)
      ∧ r.2.mem ((c.tc : Thread nD τ).loc main_v12) = newSecond (parts m c) (square m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2.1.trans ?_, (h c).2.2.2.2⟩)
    (Cert.AdamShardsRefIdeal.Value.run m ρ)
  all_goals
    funext y
    obtain ⟨r, n, rfl⟩ : ∃ (r : Fin 3968) (n : Fin 1024), y = ix2 r n := ⟨y 0, y 1, eq_ix2 y⟩
    pointwise
    rfl

end Cert.AdamBigReference

namespace Cert.AdamBig

open Idealize.ShloMosaic Idealize.ShloMosaic.TcCoe

/-- The reference's run ends with its arguments unchanged and every counter at zero: it has none. -/
theorem reference_frame : Cert.quiescent_AdamShardsRefIdeal := fun m g _ =>
  θ_run_mono (Cert.AdamBigReference.run m g) fun r h => ⟨fun c => (h c).2.2.2.2, sem_eq_zero_of_no_sems rfl r.2⟩

set_option maxHeartbeats 4000000 in
/-- The kernel's outputs are the reference's results, over the extended reals, whatever the arguments. -/
theorem algebraic : Cert.algebraic_AdamShardsIdeal_AdamShardsRefIdeal := by
  pair_intro
  · run_from Cert.AdamShardsIdeal.Gen.run_main m g
  · refine θ_run_mono (Cert.AdamBigReference.run m' g') fun r h c => ⟨(h c).1.trans ?_, (h c).2.1.trans ?_, (h c).2.2.1.trans ?_, (h c).2.2.2.1.trans ?_, (h c).2.2.2.2⟩
    all_goals
      clear h
      obtain ⟨ep, ew, em, es⟩ : Cert.AdamBigReference.parts m' c = Cert.AdamBigKernel.parts m c ∧ Cert.AdamBigReference.weight m' c = Cert.AdamBigKernel.weight m c
        ∧ Cert.AdamBigReference.mean m' c = Cert.AdamBigKernel.mean m c ∧ Cert.AdamBigReference.square m' c = Cert.AdamBigKernel.square m c := hagree c
    · refine Eq.trans ?_ (Cert.AdamBigKernel.result4 m c).symm
      rw [ep]
    · refine Eq.trans ?_ (Cert.AdamBigKernel.result5 m c).symm
      rw [ep, ew, em, es]
    · refine Eq.trans ?_ (Cert.AdamBigKernel.result6 m c).symm
      rw [ep, em]
    · refine Eq.trans ?_ (Cert.AdamBigKernel.result7 m c).symm
      rw [ep, es]

end Cert.AdamBig

end
-- ==== Proof.AdamSmall.lean ====
/- The reduction of the small parameters' gradients over eight devices and the optimiser's step on them. -/
module

public import proofs.«01_k».proof.Defs
public import proofs.«01_k».proof.Proof.Gen.AdamWholeIdeal.Frame
public import proofs.«01_k».proof.Proof.Gen.AdamWholeIdeal.Value
public import proofs.«01_k».proof.Proof.Gen.AdamWholeRefIdeal.Run
public import proofs.«01_k».proof.Proof.AdamBig
public import Idealize.ShloMosaic.Lib.Pipeline.ValueKit
public import Idealize.ShloMosaic.Lib.Pointwise

@[expose] public section

set_option maxRecDepth 16384

noncomputable section

namespace Cert.AdamSmallKernel

open Cert.AdamWholeIdeal Cert.AdamWholeIdeal.Gen Cert.Adam Idealize.ShloMosaic Idealize.ShloMosaic.TcCoe

variable (m : (ℓ : Loc nD τ sig) → Buf (Elt Ideal) ℓ)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- The stack, the parameters and the two moments, on device `c`. -/
abbrev parts (c : Dev nD) : (Stack 8 24).Idx → EReal := m ((c.tc : Thread nD τ).loc main_arg0)
abbrev weight (c : Dev nD) : (Grid 24).Idx → EReal := m ((c.tc : Thread nD τ).loc main_arg1)
abbrev mean (c : Dev nD) : (Grid 24).Idx → EReal := m ((c.tc : Thread nD τ).loc main_arg2)
abbrev square (c : Dev nD) : (Grid 24).Idx → EReal := m ((c.tc : Thread nD τ).loc main_arg3)

theorem block0 (c : Dev nD) (t : Fin cfg0.N) (i : Fin 8) (r : Fin 24) (n : Fin 1024) :
    (iblk m c 0 t : Vec Ideal S8x24x1024 .f32) (ix3 i r n) = parts m c (ix3 i r n) := by
  blk_point [iblk, V, idx0 t]
theorem block1 (c : Dev nD) (t : Fin cfg0.N) (r : Fin 24) (n : Fin 1024) :
    (iblk m c 1 t : Vec Ideal S24x1024 .f32) (ix2 r n) = weight m c (ix2 r n) := by
  blk_point [iblk, V, idx1 t]
theorem block2 (c : Dev nD) (t : Fin cfg0.N) (r : Fin 24) (n : Fin 1024) :
    (iblk m c 2 t : Vec Ideal S24x1024 .f32) (ix2 r n) = mean m c (ix2 r n) := by
  blk_point [iblk, V, idx2 t]
theorem block3 (c : Dev nD) (t : Fin cfg0.N) (r : Fin 24) (n : Fin 1024) :
    (iblk m c 3 t : Vec Ideal S24x1024 .f32) (ix2 r n) = square m c (ix2 r n) := by
  blk_point [iblk, V, idx3 t]

/-- A load of one member of a stack's block reads it. -/
theorem slab0 (p : Vec Ideal S8x24x1024 .f32) (r : Fin 24) (n : Fin 1024) : View.ld p r0_0 (ix3 0 r n) = p (ix3 0 r n) := by
  pointwise [r0_0]
theorem slab1 (p : Vec Ideal S8x24x1024 .f32) (r : Fin 24) (n : Fin 1024) : View.ld p r0_1 (ix3 0 r n) = p (ix3 1 r n) := by
  pointwise [r0_1]
theorem slab2 (p : Vec Ideal S8x24x1024 .f32) (r : Fin 24) (n : Fin 1024) : View.ld p r0_2 (ix3 0 r n) = p (ix3 2 r n) := by
  pointwise [r0_2]
theorem slab3 (p : Vec Ideal S8x24x1024 .f32) (r : Fin 24) (n : Fin 1024) : View.ld p r0_3 (ix3 0 r n) = p (ix3 3 r n) := by
  pointwise [r0_3]
theorem slab4 (p : Vec Ideal S8x24x1024 .f32) (r : Fin 24) (n : Fin 1024) : View.ld p r0_4 (ix3 0 r n) = p (ix3 4 r n) := by
  pointwise [r0_4]
theorem slab5 (p : Vec Ideal S8x24x1024 .f32) (r : Fin 24) (n : Fin 1024) : View.ld p r0_5 (ix3 0 r n) = p (ix3 5 r n) := by
  pointwise [r0_5]
theorem slab6 (p : Vec Ideal S8x24x1024 .f32) (r : Fin 24) (n : Fin 1024) : View.ld p r0_6 (ix3 0 r n) = p (ix3 6 r n) := by
  pointwise [r0_6]
theorem slab7 (p : Vec Ideal S8x24x1024 .f32) (r : Fin 24) (n : Fin 1024) : View.ld p r0_7 (ix3 0 r n) = p (ix3 7 r n) := by
  pointwise [r0_7]

/-- The stores, at one entry. -/
theorem pay_sum (p0 : Vec Ideal S1x24x1024 .f32) (p1 : Vec Ideal S1x24x1024 .f32) (p2 : Vec Ideal S1x24x1024 .f32) (p3 : Vec Ideal S1x24x1024 .f32) (p4 : Vec Ideal S1x24x1024 .f32) (p5 : Vec Ideal S1x24x1024 .f32) (p6 : Vec Ideal S1x24x1024 .f32) (p7 : Vec Ideal S1x24x1024 .f32) (r : Fin 24) (n : Fin 1024) : k0_pay3 p0 p1 p2 p3 p4 p5 p6 p7 (ix2 r n) = p0 (ix3 0 r n) + p1 (ix3 0 r n) + p2 (ix3 0 r n) + p3 (ix3 0 r n) + p4 (ix3 0 r n) + p5 (ix3 0 r n) + p6 (ix3 0 r n) + p7 (ix3 0 r n) := by
  pointwise [k0_pay3]
theorem pay4_eq (p0 : Vec Ideal S1x24x1024 .f32) (p1 : Vec Ideal S1x24x1024 .f32) (p2 : Vec Ideal S1x24x1024 .f32) (p3 : Vec Ideal S1x24x1024 .f32) (p4 : Vec Ideal S1x24x1024 .f32) (p5 : Vec Ideal S1x24x1024 .f32) (p6 : Vec Ideal S1x24x1024 .f32) (p7 : Vec Ideal S1x24x1024 .f32) (v : Vec Ideal S24x1024 .f32) (r : Fin 24) (n : Fin 1024) :
    k0_pay4 p0 p1 p2 p3 p4 p5 p6 p7 v (ix2 r n) = first (v (ix2 r n)) (k0_pay3 p0 p1 p2 p3 p4 p5 p6 p7 (ix2 r n)) := by
  pointwise [k0_pay4]
  rfl
theorem pay1_eq (g : FVec Ideal S24x1024 .f32) (v : Vec Ideal S24x1024 .f32) (r : Fin 24) (n : Fin 1024) :
    k0_pay1 g v (ix2 r n) = second (v (ix2 r n)) (g (ix2 r n)) := by
  pointwise [k0_pay1]
  rfl
theorem pay2_eq (g f : FVec Ideal S24x1024 .f32) (v w : Vec Ideal S24x1024 .f32) (r : Fin 24) (n : Fin 1024) :
    k0_pay2 g f v w (ix2 r n) = change (w (ix2 r n)) (f (ix2 r n)) (k0_pay1 g v (ix2 r n)) := by
  pointwise [k0_pay2]
  rfl

/-- What a point stores is what the results say of its rows. -/
theorem grad_point (c : Dev nD) (t : Fin cfg0.N) (r : Fin 24) (n : Fin 1024) :
    k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 r n) = grad (parts m c) (ix2 r n) := by
  refine (pay_sum _ _ _ _ _ _ _ _ r n).trans ?_
  unfold grad
  rw [Fin.sum_univ_eight]
  rw [slab0, slab1, slab2, slab3, slab4, slab5, slab6, slab7]
  rw [block0 m c t 0, block0 m c t 1, block0 m c t 2, block0 m c t 3, block0 m c t 4, block0 m c t 5, block0 m c t 6, block0 m c t 7]
  rfl
theorem first_point (c : Dev nD) (t : Fin cfg0.N) (r : Fin 24) (n : Fin 1024) :
    k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (iblk m c 2 t) (ix2 r n) = newFirst (parts m c) (mean m c) (ix2 r n) :=
  (pay4_eq _ _ _ _ _ _ _ _ _ r n).trans (congrArg₂ first (block2 m c t r n) (grad_point m c t r n))
theorem second_point (c : Dev nD) (t : Fin cfg0.N) (r : Fin 24) (n : Fin 1024) :
    k0_pay1 (k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) (ix2 r n) = newSecond (parts m c) (square m c) (ix2 r n) :=
  (pay1_eq _ _ r n).trans (congrArg₂ second (block3 m c t r n) (grad_point m c t r n))
theorem change_point (c : Dev nD) (t : Fin cfg0.N) (r : Fin 24) (n : Fin 1024) :
    k0_pay2 (k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (iblk m c 2 t)) (iblk m c 3 t) (iblk m c 1 t) (ix2 r n) = delta (parts m c) (weight m c) (mean m c) (square m c) (ix2 r n) := by
  refine (pay2_eq _ _ _ _ r n).trans ?_
  unfold delta
  rw [first_point m c t r n, second_point m c t r n, block1 m c t r n]

/-- The first output is the sum of the stack. -/
theorem result4 (c : Dev nD) : (dats m 0 c).arrAt 4 cfg0.N = grad (parts m c) := by
  refine (dats m 0 c).arrAt_eq_of_covers 4 _ (by decide +kernel) fun t hf y => ?_
  blk_simp
  rw [after0_4]
  unfold_out out0_4
  frame_out
  refine (congrArg (k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (eq_ix2 y)).trans ((grad_point m c t (y 0) (y 1)).trans ?_)
  have e : (win0_4.blk t).view.emb y = ix2 (y 0) (y 1) := by
    blk_ext [idx4 t]
  exact (congrArg (grad (parts m c)) e).symm

/-- The second is the parameters' change. -/
theorem result5 (c : Dev nD) : (dats m 0 c).arrAt 5 cfg0.N = delta (parts m c) (weight m c) (mean m c) (square m c) := by
  refine (dats m 0 c).arrAt_eq_of_covers 5 _ (by decide +kernel) fun t hf y => ?_
  blk_simp
  rw [after0_5]
  unfold_out out0_5
  frame_out
  refine (congrArg (k0_pay2 (k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (iblk m c 2 t)) (iblk m c 3 t) (iblk m c 1 t)) (eq_ix2 y)).trans ((change_point m c t (y 0) (y 1)).trans ?_)
  have e : (win0_5.blk t).view.emb y = ix2 (y 0) (y 1) := by
    blk_ext [idx5 t]
  exact (congrArg (delta (parts m c) (weight m c) (mean m c) (square m c)) e).symm

/-- The third is the first moment. -/
theorem result6 (c : Dev nD) : (dats m 0 c).arrAt 6 cfg0.N = newFirst (parts m c) (mean m c) := by
  refine (dats m 0 c).arrAt_eq_of_covers 6 _ (by decide +kernel) fun t hf y => ?_
  blk_simp
  rw [after0_6]
  unfold_out out0_6
  frame_out
  refine (congrArg (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (iblk m c 2 t)) (eq_ix2 y)).trans ((first_point m c t (y 0) (y 1)).trans ?_)
  have e : (win0_6.blk t).view.emb y = ix2 (y 0) (y 1) := by
    blk_ext [idx6 t]
  exact (congrArg (newFirst (parts m c) (mean m c)) e).symm

/-- The fourth is the second moment. -/
theorem result7 (c : Dev nD) : (dats m 0 c).arrAt 7 cfg0.N = newSecond (parts m c) (square m c) := by
  refine (dats m 0 c).arrAt_eq_of_covers 7 _ (by decide +kernel) fun t hf y => ?_
  blk_simp
  rw [after0_7]
  unfold_out out0_7
  frame_out
  refine (congrArg (k0_pay1 (k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t)) (eq_ix2 y)).trans ((second_point m c t (y 0) (y 1)).trans ?_)
  have e : (win0_7.blk t).view.emb y = ix2 (y 0) (y 1) := by
    blk_ext [idx7 t]
  exact (congrArg (newSecond (parts m c) (square m c)) e).symm

end Cert.AdamSmallKernel

namespace Cert.AdamSmallReference

open Cert.AdamWholeRefIdeal Cert.Adam Idealize.ShloMosaic Idealize.ShloMosaic.TcCoe Idealize.SL.Sem

variable (m : (ℓ : Loc nD τ sig) → Buf (Elt Ideal) ℓ)

abbrev parts (c : Dev nD) : (Stack 8 24).Idx → EReal := m ((c.tc : Thread nD τ).loc main_arg0)
abbrev weight (c : Dev nD) : (Grid 24).Idx → EReal := m ((c.tc : Thread nD τ).loc main_arg1)
abbrev mean (c : Dev nD) : (Grid 24).Idx → EReal := m ((c.tc : Thread nD τ).loc main_arg2)
abbrev square (c : Dev nD) : (Grid 24).Idx → EReal := m ((c.tc : Thread nD τ).loc main_arg3)

set_option maxHeartbeats 4000000 in
/-- Every execution of the reference ends with the four results and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0) = grad (parts m c)
      ∧ r.2.mem ((c.tc : Thread nD τ).loc main_v24) = delta (parts m c) (weight m c) (mean m c) (square m c)
      ∧ r.2.mem ((c.tc : Thread nD τ).loc main_v5) = newFirst (parts m c) (mean m c)
      ∧ r.2.mem ((c.tc : Thread nD τ).loc main_v11) = newSecond (parts m c) (square m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2.1.trans ?_, (h c).2.2.2.2⟩)
    (Cert.AdamWholeRefIdeal.Value.run m ρ)
  all_goals
    funext y
    obtain ⟨r, n, rfl⟩ : ∃ (r : Fin 24) (n : Fin 1024), y = ix2 r n := ⟨y 0, y 1, eq_ix2 y⟩
    pointwise
    rfl

end Cert.AdamSmallReference

namespace Cert.AdamSmall

open Idealize.ShloMosaic Idealize.ShloMosaic.TcCoe

/-- The reference's run ends with its arguments unchanged and every counter at zero: it has none. -/
theorem reference_frame : Cert.quiescent_AdamWholeRefIdeal := fun m g _ =>
  θ_run_mono (Cert.AdamSmallReference.run m g) fun r h => ⟨fun c => (h c).2.2.2.2, sem_eq_zero_of_no_sems rfl r.2⟩

set_option maxHeartbeats 4000000 in
/-- The kernel's outputs are the reference's results, over the extended reals, whatever the arguments. -/
theorem algebraic : Cert.algebraic_AdamWholeIdeal_AdamWholeRefIdeal := by
  pair_intro
  · run_from Cert.AdamWholeIdeal.Gen.run_main m g
  · refine θ_run_mono (Cert.AdamSmallReference.run m' g') fun r h c => ⟨(h c).1.trans ?_, (h c).2.1.trans ?_, (h c).2.2.1.trans ?_, (h c).2.2.2.1.trans ?_, (h c).2.2.2.2⟩
    all_goals
      clear h
      obtain ⟨ep, ew, em, es⟩ : Cert.AdamSmallReference.parts m' c = Cert.AdamSmallKernel.parts m c ∧ Cert.AdamSmallReference.weight m' c = Cert.AdamSmallKernel.weight m c
        ∧ Cert.AdamSmallReference.mean m' c = Cert.AdamSmallKernel.mean m c ∧ Cert.AdamSmallReference.square m' c = Cert.AdamSmallKernel.square m c := hagree c
    · refine Eq.trans ?_ (Cert.AdamSmallKernel.result4 m c).symm
      rw [ep]
    · refine Eq.trans ?_ (Cert.AdamSmallKernel.result5 m c).symm
      rw [ep, ew, em, es]
    · refine Eq.trans ?_ (Cert.AdamSmallKernel.result6 m c).symm
      rw [ep, em]
    · refine Eq.trans ?_ (Cert.AdamSmallKernel.result7 m c).symm
      rw [ep, es]

end Cert.AdamSmall

end
-- ==== Proof.OutFwd.lean ====
/- The output projection of the mixing block, added to what came past the block, and the sum's rows normalised. -/
module

public import proofs.«01_k».proof.Defs
public import proofs.«01_k».proof.Proof.Reals
public import proofs.«01_k».proof.Proof.Gen.OutProjIdeal.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.OutFwdKernel

open Cert.OutProjIdeal Cert.OutProjIdeal.Gen Cert.Reals Idealize.ShloMosaic Idealize.ShloMosaic.TcCoe

/-- The shapes of the input, of the weight, of the rows and of a gain. -/
abbrev Ins : Shape := ⟨2, ![16384, 1024]⟩
abbrev Weight : Shape := ⟨2, ![1024, 1024]⟩
abbrev Rows : Shape := ⟨2, ![16384, 1024]⟩
abbrev Gain : Shape := ⟨2, ![1, 1024]⟩

/-- The projection added to what came past it, at row `r`, column `n`. -/
def sum (A : Ins.Idx → EReal) (W : Weight.Idx → EReal) (X : Rows.Idx → EReal) (r : Fin 16384) (n : Fin 1024) : EReal :=
  X (ix2 r n) + ∑ k : Fin 1024, A (ix2 r k) * W (ix2 k n)

/-- A row over the root of its mean square, times a gain. -/
def scaled (x : Fin 1024 → EReal) (g : Fin 1024 → EReal) (n : Fin 1024) : EReal := x n * Ideal.rsqrt (meanSq x) * g n

/-- The sum's rows, normalised with the gain `G`. -/
def normed (A : Ins.Idx → EReal) (W : Weight.Idx → EReal) (X : Rows.Idx → EReal) (G : Gain.Idx → EReal) (r : Fin 16384) (n : Fin 1024) : EReal :=
  scaled (sum A W X r) (fun j => G (ix2 0 j)) n

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- The arguments, on device `c`. -/
abbrev ins (c : Dev nD) : Ins.Idx → EReal := m ((c.tc : Thread nD τ).loc main_arg0)
abbrev ws (c : Dev nD) : Weight.Idx → EReal := m ((c.tc : Thread nD τ).loc main_arg1)
abbrev past (c : Dev nD) : Rows.Idx → EReal := m ((c.tc : Thread nD τ).loc main_arg2)
abbrev gain (c : Dev nD) : Gain.Idx → EReal := m ((c.tc : Thread nD τ).loc main_arg3)

/-- A point's row in the whole array. -/
def row (t : Fin cfg0.N) (r : Fin 1024) : Fin 16384 := ⟨t.val * 1024 + r.val, by have : t.val < 16 := t.isLt; omega⟩

theorem block0 (c : Dev nD) (t : Fin cfg0.N) (r : Fin 1024) (k : Fin 1024) :
    (iblk m c 0 t : Vec Ideal S1024x1024 .bf16) (ix2 r k) = ins m c (ix2 (row t r) k) := by
  blk_point [iblk, V, idx0 t, row]
theorem block1 (c : Dev nD) (t : Fin cfg0.N) (k : Fin 1024) (n : Fin 1024) :
    (iblk m c 1 t : Vec Ideal S1024x1024 .bf16) (ix2 k n) = ws m c (ix2 k n) := by
  blk_point [iblk, V, idx1 t]
theorem block2 (c : Dev nD) (t : Fin cfg0.N) (r : Fin 1024) (n : Fin 1024) :
    (iblk m c 2 t : Vec Ideal S1024x1024 .f32) (ix2 r n) = past m c (ix2 (row t r) n) := by
  blk_point [iblk, V, idx2 t, row]
theorem block3 (c : Dev nD) (t : Fin cfg0.N) (n : Fin 1024) : (iblk m c 3 t : Vec Ideal S1x1024 .f32) (ix2 0 n) = gain m c (ix2 0 n) := by
  blk_point [iblk, V, idx3 t]

/-- The first store, at one entry. -/
theorem pay1_eq (a : Vec Ideal S1024x1024 .bf16) (w : Vec Ideal S1024x1024 .bf16) (x : Vec Ideal S1024x1024 .f32) (r : Fin 1024) (n : Fin 1024) :
    k0_pay1 a w x (ix2 r n) = (∑ k : Fin 1024, a (ix2 r k) * w (ix2 k n)) + x (ix2 r n) := by
  pointwise [k0_pay1]

theorem pay2_eq (a : Vec Ideal S1024x1024 .bf16) (w : Vec Ideal S1024x1024 .bf16) (x : Vec Ideal S1024x1024 .f32) (g : Vec Ideal S1x1024 .f32)
    (r : Fin 1024) (n : Fin 1024) :
    k0_pay2 a w x g (ix2 r n) = scaled (fun j => k0_pay1 a w x (ix2 r j)) (fun j => g (ix2 0 j)) n := by
  pointwise [k0_pay2]
  rfl

/-- A point's sum. -/
theorem point_sum (c : Dev nD) (t : Fin cfg0.N) (r : Fin 1024) (n : Fin 1024) :
    k0_pay1 (iblk m c 0 t) (iblk m c 1 t) (iblk m c 2 t) (ix2 r n) = sum (ins m c) (ws m c) (past m c) (row t r) n := by
  refine (pay1_eq _ _ _ r n).trans ((add_comm _ _).trans ?_)
  exact congrArg₂ (· + ·) (block2 m c t r n) (Finset.sum_congr rfl fun k _ => congrArg₂ (· * ·) (block0 m c t r k) (block1 m c t k n))

/-- A point's normalised rows. -/
theorem point_gain (c : Dev nD) (t : Fin cfg0.N) (r : Fin 1024) (n : Fin 1024) :
    k0_pay2 (iblk m c 0 t) (iblk m c 1 t) (iblk m c 2 t) (iblk m c 3 t) (ix2 r n)
      = normed (ins m c) (ws m c) (past m c) (gain m c) (row t r) n :=
  (pay2_eq _ _ _ _ r n).trans (congrArg₂ (fun x g => scaled x g n) (funext fun j => point_sum m c t r j) (funext fun j => block3 m c t j))

/-- The first output is the sum. -/
theorem final4 (c : Dev nD) : (dats m 0 c).arrAt 4 cfg0.N = fun y : Rows.Idx => sum (ins m c) (ws m c) (past m c) (y 0) (y 1) := by
  refine (dats m 0 c).arrAt_eq_of_covers 4 _ (by decide +kernel) fun t hf y => ?_
  blk_simp
  rw [after0_4]
  frame_out
  refine (congrArg (k0_pay1 (iblk m c 0 t) (iblk m c 1 t) (iblk m c 2 t)) (eq_ix2 y)).trans ((point_sum m c t (y 0) (y 1)).trans ?_)
  have e : (win0_4.blk t).view.emb y = ix2 (row t (y 0)) (y 1) := by
    blk_ext [idx4 t, row]
  exact (congrArg (fun z : Rows.Idx => sum (ins m c) (ws m c) (past m c) (z 0) (z 1)) e).symm

/-- The next output is its rows, normalised. -/
theorem final5 (c : Dev nD) : (dats m 0 c).arrAt 5 cfg0.N = fun y : Rows.Idx => normed (ins m c) (ws m c) (past m c) (gain m c) (y 0) (y 1) := by
  refine (dats m 0 c).arrAt_eq_of_covers 5 _ (by decide +kernel) fun t hf y => ?_
  blk_simp
  rw [after0_5]
  frame_out
  refine (congrArg (k0_pay2 (iblk m c 0 t) (iblk m c 1 t) (iblk m c 2 t) (iblk m c 3 t)) (eq_ix2 y)).trans ((point_gain m c t (y 0) (y 1)).trans ?_)
  have e : (win0_5.blk t).view.emb y = ix2 (row t (y 0)) (y 1) := by
    blk_ext [idx5 t, row]
  exact (congrArg (fun z : Rows.Idx => normed (ins m c) (ws m c) (past m c) (gain m c) (z 0) (z 1)) e).symm

end Cert.OutFwdKernel

namespace Cert.OutFwdReference

open Cert.OutProjRefIdeal Cert.OutFwdKernel Cert.Reals Idealize.ShloMosaic Idealize.ShloMosaic.TcCoe Idealize.SL.Sem

variable (m : (ℓ : Loc nD τ sig) → Buf (Elt Ideal) ℓ)

abbrev ins (c : Dev nD) : Ins.Idx → EReal := m (c.tc.loc main_arg0)
abbrev ws (c : Dev nD) : Weight.Idx → EReal := m (c.tc.loc main_arg1)
abbrev past (c : Dev nD) : Rows.Idx → EReal := m (c.tc.loc main_arg2)
abbrev gain (c : Dev nD) : Gain.Idx → EReal := m (c.tc.loc main_arg3)

set_option maxHeartbeats 4000000 in
/-- Every execution of the reference ends with the sum and its normalised rows in its results and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = (fun y : Rows.Idx => sum (ins m c) (ws m c) (past m c) (y 0) (y 1))
      ∧ r.2.mem ((c.tc : Thread nD τ).loc main_v16) = (fun y : Rows.Idx => normed (ins m c) (ws m c) (past m c) (gain m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩) (Cert.OutProjRefIdeal.Value.run m ρ)
  all_goals
    funext y
    obtain ⟨r, n, rfl⟩ : ∃ (r : Fin 16384) (n : Fin 1024), y = ix2 r n := ⟨y 0, y 1, eq_ix2 y⟩
    pointwise
    rfl

end Cert.OutFwdReference

namespace Cert.OutFwd

open Idealize.ShloMosaic Idealize.ShloMosaic.TcCoe

/-- The reference's run ends with its arguments unchanged and every counter at zero: it has none. -/
theorem reference_frame : Cert.quiescent_OutProjRefIdeal := fun m g _ =>
  θ_run_mono (Cert.OutFwdReference.run m g) fun r h => ⟨fun c => (h c).2.2, sem_eq_zero_of_no_sems rfl r.2⟩

/-- The kernel's outputs are the reference's results, over the extended reals. -/
theorem algebraic : Cert.algebraic_OutProjIdeal_OutProjRefIdeal := by
  pair_intro
  · run_from Cert.OutProjIdeal.Gen.run_main m g
  · refine θ_run_mono (Cert.OutFwdReference.run m' g') fun r h c => ⟨(h c).1.trans ?_, (h c).2.1.trans ?_, (h c).2.2⟩
    all_goals
      clear h
      obtain ⟨ea, ew, ep, e0⟩ : Cert.OutFwdReference.ins m' c = Cert.OutFwdKernel.ins m c ∧ Cert.OutFwdReference.ws m' c = Cert.OutFwdKernel.ws m c ∧ Cert.OutFwdReference.past m' c = Cert.OutFwdKernel.past m c ∧ Cert.OutFwdReference.gain m' c = Cert.OutFwdKernel.gain m c := hagree c
    · refine Eq.trans ?_ (Cert.OutFwdKernel.final4 m c).symm
      rw [ea, ew, ep]
    · refine Eq.trans ?_ (Cert.OutFwdKernel.final5 m c).symm
      rw [ea, ew, ep, e0]

end Cert.OutFwd

end
-- ==== Proof.lean ====
/- The claim: each kernel and its reference run to the end with their arguments unchanged, and over the extended reals each
   kernel's outputs are its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.GateGrad
public import proofs.«01_k».proof.Proof.Gen.GateGrad.Skeleton
public import proofs.«01_k».proof.Proof.Gen.GateGrad.Launch
public import proofs.«01_k».proof.Proof.Gen.GateGrad.Points
public import proofs.«01_k».proof.Proof.Gen.GateGrad.Frame
public import proofs.«01_k».proof.Proof.Gen.GateGradIdeal
public import proofs.«01_k».proof.Proof.Gen.GateGradIdeal.Skeleton
public import proofs.«01_k».proof.Proof.Gen.GateGradIdeal.Launch
public import proofs.«01_k».proof.Proof.Gen.GateGradIdeal.Points
public import proofs.«01_k».proof.Proof.Gen.GateGradIdeal.Frame
public import proofs.«01_k».proof.Proof.Gen.GateGradIdeal.Value
public import proofs.«01_k».proof.Proof.Gen.GateGradRefIdeal
public import proofs.«01_k».proof.Proof.Gen.GateGradRefIdeal.Run
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.DownGrad
public import proofs.«01_k».proof.Proof.Gen.DownGrad.Skeleton
public import proofs.«01_k».proof.Proof.Gen.DownGrad.Launch
public import proofs.«01_k».proof.Proof.Gen.DownGrad.Points
public import proofs.«01_k».proof.Proof.Gen.DownGrad.Frame
public import proofs.«01_k».proof.Proof.Gen.DownGradIdeal
public import proofs.«01_k».proof.Proof.Gen.DownGradIdeal.Skeleton
public import proofs.«01_k».proof.Proof.Gen.DownGradIdeal.Launch
public import proofs.«01_k».proof.Proof.Gen.DownGradIdeal.Points
public import proofs.«01_k».proof.Proof.Gen.DownGradIdeal.Frame
public import proofs.«01_k».proof.Proof.Gen.DownGradIdeal.Value
public import proofs.«01_k».proof.Proof.Gen.DownGradRefIdeal
public import proofs.«01_k».proof.Proof.Gen.DownGradRefIdeal.Run
public import proofs.«01_k».proof.Proof.Gen.UpConv
public import proofs.«01_k».proof.Proof.Gen.UpConv.Skeleton
public import proofs.«01_k».proof.Proof.Gen.UpConv.Launch
public import proofs.«01_k».proof.Proof.Gen.UpConv.Points
public import proofs.«01_k».proof.Proof.Gen.UpConv.Frame
public import proofs.«01_k».proof.Proof.Gen.UpConvIdeal
public import proofs.«01_k».proof.Proof.Gen.UpConvIdeal.Skeleton
public import proofs.«01_k».proof.Proof.Gen.UpConvIdeal.Launch
public import proofs.«01_k».proof.Proof.Gen.UpConvIdeal.Points
public import proofs.«01_k».proof.Proof.Gen.UpConvIdeal.Frame
public import proofs.«01_k».proof.Proof.Gen.UpConvIdeal.Value
public import proofs.«01_k».proof.Proof.Gen.UpConvRefIdeal
public import proofs.«01_k».proof.Proof.Gen.UpConvRefIdeal.Run
public import proofs.«01_k».proof.Proof.Gen.QueryGrad
public import proofs.«01_k».proof.Proof.Gen.QueryGrad.Skeleton
public import proofs.«01_k».proof.Proof.Gen.QueryGrad.Launch
public import proofs.«01_k».proof.Proof.Gen.QueryGrad.Points
public import proofs.«01_k».proof.Proof.Gen.QueryGrad.Frame
public import proofs.«01_k».proof.Proof.Gen.QueryGradIdeal
public import proofs.«01_k».proof.Proof.Gen.QueryGradIdeal.Skeleton
public import proofs.«01_k».proof.Proof.Gen.QueryGradIdeal.Launch
public import proofs.«01_k».proof.Proof.Gen.QueryGradIdeal.Points
public import proofs.«01_k».proof.Proof.Gen.QueryGradIdeal.Frame
public import proofs.«01_k».proof.Proof.Gen.QueryGradIdeal.Value
public import proofs.«01_k».proof.Proof.Gen.QueryGradRefIdeal
public import proofs.«01_k».proof.Proof.Gen.QueryGradRefIdeal.Run
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.KvGrad
public import proofs.«01_k».proof.Proof.Gen.KvGrad.Skeleton
public import proofs.«01_k».proof.Proof.Gen.KvGrad.Launch
public import proofs.«01_k».proof.Proof.Gen.KvGrad.Points
public import proofs.«01_k».proof.Proof.Gen.KvGrad.Frame
public import proofs.«01_k».proof.Proof.Gen.KvGradIdeal
public import proofs.«01_k».proof.Proof.Gen.KvGradIdeal.Skeleton
public import proofs.«01_k».proof.Proof.Gen.KvGradIdeal.Launch
public import proofs.«01_k».proof.Proof.Gen.KvGradIdeal.Points
public import proofs.«01_k».proof.Proof.Gen.KvGradIdeal.Frame
public import proofs.«01_k».proof.Proof.Gen.KvGradIdeal.Value
public import proofs.«01_k».proof.Proof.Gen.KvGradRefIdeal
public import proofs.«01_k».proof.Proof.Gen.KvGradRefIdeal.Run
public import proofs.«01_k».proof.Proof.Gen.MixNorm
public import proofs.«01_k».proof.Proof.Gen.MixNorm.Skeleton
public import proofs.«01_k».proof.Proof.Gen.MixNorm.Launch
public import proofs.«01_k».proof.Proof.Gen.MixNorm.Points
public import proofs.«01_k».proof.Proof.Gen.MixNorm.Frame
public import proofs.«01_k».proof.Proof.Gen.MixNormIdeal
public import proofs.«01_k».proof.Proof.Gen.MixNormIdeal.Skeleton
public import proofs.«01_k».proof.Proof.Gen.MixNormIdeal.Launch
public import proofs.«01_k».proof.Proof.Gen.MixNormIdeal.Points
public import proofs.«01_k».proof.Proof.Gen.MixNormIdeal.Frame
public import proofs.«01_k».proof.Proof.Gen.MixNormIdeal.Value
public import proofs.«01_k».proof.Proof.Gen.MixNormRefIdeal
public import proofs.«01_k».proof.Proof.Gen.MixNormRefIdeal.Run
public import proofs.«01_k».proof.Proof.Gen.InNorm
public import proofs.«01_k».proof.Proof.Gen.InNorm.Skeleton
public import proofs.«01_k».proof.Proof.Gen.InNorm.Launch
public import proofs.«01_k».proof.Proof.Gen.InNorm.Points
public import proofs.«01_k».proof.Proof.Gen.InNorm.Frame
public import proofs.«01_k».proof.Proof.Gen.InNormIdeal
public import proofs.«01_k».proof.Proof.Gen.InNormIdeal.Skeleton
public import proofs.«01_k».proof.Proof.Gen.InNormIdeal.Launch
public import proofs.«01_k».proof.Proof.Gen.InNormIdeal.Points
public import proofs.«01_k».proof.Proof.Gen.InNormIdeal.Frame
public import proofs.«01_k».proof.Proof.Gen.InNormIdeal.Value
public import proofs.«01_k».proof.Proof.Gen.InNormRefIdeal
public import proofs.«01_k».proof.Proof.Gen.InNormRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Heads1
public import proofs.«01_k».proof.Proof.Gen.Heads1.Skeleton
public import proofs.«01_k».proof.Proof.Gen.Heads1.Launch
public import proofs.«01_k».proof.Proof.Gen.Heads1.Points
public import proofs.«01_k».proof.Proof.Gen.Heads1.Frame
public import proofs.«01_k».proof.Proof.Gen.Heads1Ideal
public import proofs.«01_k».proof.Proof.Gen.Heads1Ideal.Skeleton
public import proofs.«01_k».proof.Proof.Gen.Heads1Ideal.Launch
public import proofs.«01_k».proof.Proof.Gen.Heads1Ideal.Points
public import proofs.«01_k».proof.Proof.Gen.Heads1Ideal.Frame
public import proofs.«01_k».proof.Proof.Gen.Heads1Ideal.Value
public import proofs.«01_k».proof.Proof.Gen.Heads1RefIdeal
public import proofs.«01_k».proof.Proof.Gen.Heads1RefIdeal.Run
public import proofs.«01_k».proof.Proof.Gen.Heads4
public import proofs.«01_k».proof.Proof.Gen.Heads4.Skeleton
public import proofs.«01_k».proof.Proof.Gen.Heads4.Launch
public import proofs.«01_k».proof.Proof.Gen.Heads4.Points
public import proofs.«01_k».proof.Proof.Gen.Heads4.Frame
public import proofs.«01_k».proof.Proof.Gen.Heads4Ideal
public import proofs.«01_k».proof.Proof.Gen.Heads4Ideal.Skeleton
public import proofs.«01_k».proof.Proof.Gen.Heads4Ideal.Launch
public import proofs.«01_k».proof.Proof.Gen.Heads4Ideal.Points
public import proofs.«01_k».proof.Proof.Gen.Heads4Ideal.Frame
public import proofs.«01_k».proof.Proof.Gen.Heads4Ideal.Value
public import proofs.«01_k».proof.Proof.Gen.Heads4RefIdeal
public import proofs.«01_k».proof.Proof.Gen.Heads4RefIdeal.Run
public import proofs.«01_k».proof.Proof.Gen.Heads16
public import proofs.«01_k».proof.Proof.Gen.Heads16.Skeleton
public import proofs.«01_k».proof.Proof.Gen.Heads16.Launch
public import proofs.«01_k».proof.Proof.Gen.Heads16.Points
public import proofs.«01_k».proof.Proof.Gen.Heads16.Frame
public import proofs.«01_k».proof.Proof.Gen.Heads16Ideal
public import proofs.«01_k».proof.Proof.Gen.Heads16Ideal.Skeleton
public import proofs.«01_k».proof.Proof.Gen.Heads16Ideal.Launch
public import proofs.«01_k».proof.Proof.Gen.Heads16Ideal.Points
public import proofs.«01_k».proof.Proof.Gen.Heads16Ideal.Frame
public import proofs.«01_k».proof.Proof.Gen.Heads16Ideal.Value
public import proofs.«01_k».proof.Proof.Gen.Heads16RefIdeal
public import proofs.«01_k».proof.Proof.Gen.Heads16RefIdeal.Run
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjIdeal.Value
public import proofs.«01_k».proof.Proof.Gen.DownProjRefIdeal
public import proofs.«01_k».proof.Proof.Gen.DownProjRefIdeal.Run
public import proofs.«01_k».proof.Proof.Gen.LossGrad
public import proofs.«01_k».proof.Proof.Gen.LossGrad.Skeleton
public import proofs.«01_k».proof.Proof.Gen.LossGrad.Launch
public import proofs.«01_k».proof.Proof.Gen.LossGrad.Points
public import proofs.«01_k».proof.Proof.Gen.LossGrad.Frame
public import proofs.«01_k».proof.Proof.Gen.LossGradIdeal
public import proofs.«01_k».proof.Proof.Gen.LossGradIdeal.Skeleton
public import proofs.«01_k».proof.Proof.Gen.LossGradIdeal.Launch
public import proofs.«01_k».proof.Proof.Gen.LossGradIdeal.Points
public import proofs.«01_k».proof.Proof.Gen.LossGradIdeal.Frame
public import proofs.«01_k».proof.Proof.Gen.LossGradIdeal.Value
public import proofs.«01_k».proof.Proof.Gen.LossGradRefIdeal
public import proofs.«01_k».proof.Proof.Gen.LossGradRefIdeal.Run
public import proofs.«01_k».proof.Proof.Gen.HeadOut
public import proofs.«01_k».proof.Proof.Gen.HeadOut.Skeleton
public import proofs.«01_k».proof.Proof.Gen.HeadOut.Launch
public import proofs.«01_k».proof.Proof.Gen.HeadOut.Points
public import proofs.«01_k».proof.Proof.Gen.HeadOut.Frame
public import proofs.«01_k».proof.Proof.Gen.HeadOutIdeal
public import proofs.«01_k».proof.Proof.Gen.HeadOutIdeal.Skeleton
public import proofs.«01_k».proof.Proof.Gen.HeadOutIdeal.Launch
public import proofs.«01_k».proof.Proof.Gen.HeadOutIdeal.Points
public import proofs.«01_k».proof.Proof.Gen.HeadOutIdeal.Frame
public import proofs.«01_k».proof.Proof.Gen.HeadOutIdeal.Value
public import proofs.«01_k».proof.Proof.Gen.HeadOutRefIdeal
public import proofs.«01_k».proof.Proof.Gen.HeadOutRefIdeal.Run
public import proofs.«01_k».proof.Proof.Gen.AdamShards
public import proofs.«01_k».proof.Proof.Gen.AdamShards.Skeleton
public import proofs.«01_k».proof.Proof.Gen.AdamShards.Launch
public import proofs.«01_k».proof.Proof.Gen.AdamShards.Points
public import proofs.«01_k».proof.Proof.Gen.AdamShards.Frame
public import proofs.«01_k».proof.Proof.Gen.AdamShardsIdeal
public import proofs.«01_k».proof.Proof.Gen.AdamShardsIdeal.Skeleton
public import proofs.«01_k».proof.Proof.Gen.AdamShardsIdeal.Launch
public import proofs.«01_k».proof.Proof.Gen.AdamShardsIdeal.Points
public import proofs.«01_k».proof.Proof.Gen.AdamShardsIdeal.Frame
public import proofs.«01_k».proof.Proof.Gen.AdamShardsIdeal.Value
public import proofs.«01_k».proof.Proof.Gen.AdamShardsRefIdeal
public import proofs.«01_k».proof.Proof.Gen.AdamShardsRefIdeal.Run
public import proofs.«01_k».proof.Proof.Gen.AdamWhole
public import proofs.«01_k».proof.Proof.Gen.AdamWhole.Skeleton
public import proofs.«01_k».proof.Proof.Gen.AdamWhole.Launch
public import proofs.«01_k».proof.Proof.Gen.AdamWhole.Points
public import proofs.«01_k».proof.Proof.Gen.AdamWhole.Frame
public import proofs.«01_k».proof.Proof.Gen.AdamWholeIdeal
public import proofs.«01_k».proof.Proof.Gen.AdamWholeIdeal.Skeleton
public import proofs.«01_k».proof.Proof.Gen.AdamWholeIdeal.Launch
public import proofs.«01_k».proof.Proof.Gen.AdamWholeIdeal.Points
public import proofs.«01_k».proof.Proof.Gen.AdamWholeIdeal.Frame
public import proofs.«01_k».proof.Proof.Gen.AdamWholeIdeal.Value
public import proofs.«01_k».proof.Proof.Gen.AdamWholeRefIdeal
public import proofs.«01_k».proof.Proof.Gen.AdamWholeRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.Pre_gate_finite
public import proofs.«01_k».proof.Proof.Gen.Pre_norm_finite
public import proofs.«01_k».proof.Proof.Gen.Pre_mix_norm_finite
public import proofs.«01_k».proof.Proof.Gen.Pre_in_norm_finite
public import proofs.«01_k».proof.Proof.Gen.Pre_loss_finite
public import proofs.«01_k».proof.Proof.Conv
public import proofs.«01_k».proof.Proof.Gate
public import proofs.«01_k».proof.Proof.Norm
public import proofs.«01_k».proof.Proof.Down
public import proofs.«01_k».proof.Proof.UpConv
public import proofs.«01_k».proof.Proof.Query
public import proofs.«01_k».proof.Proof.Out
public import proofs.«01_k».proof.Proof.In
public import proofs.«01_k».proof.Proof.Kv
public import proofs.«01_k».proof.Proof.Mix
public import proofs.«01_k».proof.Proof.InRms
public import proofs.«01_k».proof.Proof.InFwd
public import proofs.«01_k».proof.Proof.View1
public import proofs.«01_k».proof.Proof.View4
public import proofs.«01_k».proof.Proof.View16
public import proofs.«01_k».proof.Proof.DownFwd
public import proofs.«01_k».proof.Proof.Loss
public import proofs.«01_k».proof.Proof.HeadFwd
public import proofs.«01_k».proof.Proof.AdamBig
public import proofs.«01_k».proof.Proof.AdamSmall
public import proofs.«01_k».proof.Proof.OutFwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.GateGrad.Gen.facts, Cert.GateGradIdeal.Gen.facts, Cert.GateGradRefIdeal.Gen.facts, Cert.NormGrad.Gen.facts, Cert.NormGradIdeal.Gen.facts, Cert.NormGradRefIdeal.Gen.facts, Cert.DownGrad.Gen.facts, Cert.DownGradIdeal.Gen.facts, Cert.DownGradRefIdeal.Gen.facts, Cert.UpConv.Gen.facts, Cert.UpConvIdeal.Gen.facts, Cert.UpConvRefIdeal.Gen.facts, Cert.QueryGrad.Gen.facts, Cert.QueryGradIdeal.Gen.facts, Cert.QueryGradRefIdeal.Gen.facts, Cert.OutGrad.Gen.facts, Cert.OutGradIdeal.Gen.facts, Cert.OutGradRefIdeal.Gen.facts, Cert.InGrad.Gen.facts, Cert.InGradIdeal.Gen.facts, Cert.InGradRefIdeal.Gen.facts, Cert.KvGrad.Gen.facts, Cert.KvGradIdeal.Gen.facts, Cert.KvGradRefIdeal.Gen.facts, Cert.MixNorm.Gen.facts, Cert.MixNormIdeal.Gen.facts, Cert.MixNormRefIdeal.Gen.facts, Cert.InNorm.Gen.facts, Cert.InNormIdeal.Gen.facts, Cert.InNormRefIdeal.Gen.facts, Cert.InProj.Gen.facts, Cert.InProjIdeal.Gen.facts, Cert.InProjRefIdeal.Gen.facts, Cert.Heads1.Gen.facts, Cert.Heads1Ideal.Gen.facts, Cert.Heads1RefIdeal.Gen.facts, Cert.Heads4.Gen.facts, Cert.Heads4Ideal.Gen.facts, Cert.Heads4RefIdeal.Gen.facts, Cert.Heads16.Gen.facts, Cert.Heads16Ideal.Gen.facts, Cert.Heads16RefIdeal.Gen.facts, Cert.DownProj.Gen.facts, Cert.DownProjIdeal.Gen.facts, Cert.DownProjRefIdeal.Gen.facts, Cert.LossGrad.Gen.facts, Cert.LossGradIdeal.Gen.facts, Cert.LossGradRefIdeal.Gen.facts, Cert.HeadOut.Gen.facts, Cert.HeadOutIdeal.Gen.facts, Cert.HeadOutRefIdeal.Gen.facts, Cert.AdamShards.Gen.facts, Cert.AdamShardsIdeal.Gen.facts, Cert.AdamShardsRefIdeal.Gen.facts, Cert.AdamWhole.Gen.facts, Cert.AdamWholeIdeal.Gen.facts, Cert.AdamWholeRefIdeal.Gen.facts, Cert.OutProj.Gen.facts, Cert.OutProjIdeal.Gen.facts, Cert.OutProjRefIdeal.Gen.facts, Cert.Pre_gate_finite.Gen.facts, Cert.Pre_norm_finite.Gen.facts, Cert.Pre_mix_norm_finite.Gen.facts, Cert.Pre_in_norm_finite.Gen.facts, Cert.Pre_loss_finite.Gen.facts,
  fun m ρ _ => Cert.Kernel.Gen.frame m ρ,
  fun m ρ _ => Cert.KernelIdeal.Gen.frame m ρ,
  Cert.Conv.reference_frame,
  fun m ρ _ => Cert.GateGrad.Gen.frame m ρ,
  fun m ρ _ => Cert.GateGradIdeal.Gen.frame m ρ,
  fun m ρ _ => Cert.GateGradIdeal.Gen.frame m ρ,
  Cert.Gate.reference_frame,
  Cert.Gate.reference_frame_pre,
  fun m ρ _ => Cert.NormGrad.Gen.frame m ρ,
  fun m ρ _ => Cert.NormGradIdeal.Gen.frame m ρ,
  fun m ρ _ => Cert.NormGradIdeal.Gen.frame m ρ,
  Cert.Norm.reference_frame,
  Cert.Norm.reference_frame_pre,
  fun m ρ _ => Cert.DownGrad.Gen.frame m ρ,
  fun m ρ _ => Cert.DownGradIdeal.Gen.frame m ρ,
  Cert.Down.reference_frame,
  fun m ρ _ => Cert.UpConv.Gen.frame m ρ,
  fun m ρ _ => Cert.UpConvIdeal.Gen.frame m ρ,
  Cert.UpConv.reference_frame,
  fun m ρ _ => Cert.QueryGrad.Gen.frame m ρ,
  fun m ρ _ => Cert.QueryGradIdeal.Gen.frame m ρ,
  Cert.Query.reference_frame,
  fun m ρ _ => Cert.OutGrad.Gen.frame m ρ,
  fun m ρ _ => Cert.OutGradIdeal.Gen.frame m ρ,
  Cert.Out.reference_frame,
  fun m ρ _ => Cert.InGrad.Gen.frame m ρ,
  fun m ρ _ => Cert.InGradIdeal.Gen.frame m ρ,
  Cert.In.reference_frame,
  fun m ρ _ => Cert.KvGrad.Gen.frame m ρ,
  fun m ρ _ => Cert.KvGradIdeal.Gen.frame m ρ,
  Cert.Kv.reference_frame,
  fun m ρ _ => Cert.MixNorm.Gen.frame m ρ,
  fun m ρ _ => Cert.MixNormIdeal.Gen.frame m ρ,
  fun m ρ _ => Cert.MixNormIdeal.Gen.frame m ρ,
  Cert.Mix.reference_frame,
  Cert.Mix.reference_frame_pre,
  fun m ρ _ => Cert.InNorm.Gen.frame m ρ,
  fun m ρ _ => Cert.InNormIdeal.Gen.frame m ρ,
  fun m ρ _ => Cert.InNormIdeal.Gen.frame m ρ,
  Cert.InRms.reference_frame,
  Cert.InRms.reference_frame_pre,
  fun m ρ _ => Cert.InProj.Gen.frame m ρ,
  fun m ρ _ => Cert.InProjIdeal.Gen.frame m ρ,
  Cert.InFwd.reference_frame,
  fun m ρ _ => Cert.Heads1.Gen.frame m ρ,
  fun m ρ _ => Cert.Heads1Ideal.Gen.frame m ρ,
  Cert.View1.reference_frame,
  fun m ρ _ => Cert.Heads4.Gen.frame m ρ,
  fun m ρ _ => Cert.Heads4Ideal.Gen.frame m ρ,
  Cert.View4.reference_frame,
  fun m ρ _ => Cert.Heads16.Gen.frame m ρ,
  fun m ρ _ => Cert.Heads16Ideal.Gen.frame m ρ,
  Cert.View16.reference_frame,
  fun m ρ _ => Cert.DownProj.Gen.frame m ρ,
  fun m ρ _ => Cert.DownProjIdeal.Gen.frame m ρ,
  Cert.DownFwd.reference_frame,
  fun m ρ _ => Cert.LossGrad.Gen.frame m ρ,
  fun m ρ _ => Cert.LossGradIdeal.Gen.frame m ρ,
  fun m ρ _ => Cert.LossGradIdeal.Gen.frame m ρ,
  Cert.Loss.reference_frame,
  Cert.Loss.reference_frame_pre,
  fun m ρ _ => Cert.HeadOut.Gen.frame m ρ,
  fun m ρ _ => Cert.HeadOutIdeal.Gen.frame m ρ,
  Cert.HeadFwd.reference_frame,
  fun m ρ _ => Cert.AdamShards.Gen.frame m ρ,
  fun m ρ _ => Cert.AdamShardsIdeal.Gen.frame m ρ,
  Cert.AdamBig.reference_frame,
  fun m ρ _ => Cert.AdamWhole.Gen.frame m ρ,
  fun m ρ _ => Cert.AdamWholeIdeal.Gen.frame m ρ,
  Cert.AdamSmall.reference_frame,
  fun m ρ _ => Cert.OutProj.Gen.frame m ρ,
  fun m ρ _ => Cert.OutProjIdeal.Gen.frame m ρ,
  Cert.OutFwd.reference_frame,
  trivial,
  Cert.Conv.algebraic,
  trivial,
  Cert.Gate.algebraic,
  trivial,
  Cert.Norm.algebraic,
  trivial,
  Cert.Down.algebraic,
  trivial,
  Cert.UpConv.algebraic,
  trivial,
  Cert.Query.algebraic,
  trivial,
  Cert.Out.algebraic,
  trivial,
  Cert.In.algebraic,
  trivial,
  Cert.Kv.algebraic,
  trivial,
  Cert.Mix.algebraic,
  trivial,
  Cert.InRms.algebraic,
  trivial,
  Cert.InFwd.algebraic,
  trivial,
  Cert.View1.algebraic,
  trivial,
  Cert.View4.algebraic,
  trivial,
  Cert.View16.algebraic,
  trivial,
  Cert.DownFwd.algebraic,
  trivial,
  Cert.Loss.algebraic,
  trivial,
  Cert.HeadFwd.algebraic,
  trivial,
  Cert.AdamBig.algebraic,
  trivial,
  Cert.AdamSmall.algebraic,
  trivial,
  Cert.OutFwd.algebraic⟩

end Cert.Proof

end
